-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_KernelEvenIdeal_finite_even [hPre_finite_even : Cert.Pre_finite_even.Facts] (m : (ℓ : Loc Cert.KernelEvenIdeal.nD Cert.KernelEvenIdeal.τ Cert.KernelEvenIdeal.sig) → Buf (Elt Ideal) ℓ) : Prop :=
  ∀ c : Dev Cert.KernelEvenIdeal.nD,
    (Cert.Pre_finite_even.fn (F := Ideal) (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1)) (m ((c.tc : Thread Cert.KernelEvenIdeal.nD Cert.KernelEvenIdeal.τ).loc Cert.KernelEvenIdeal.main_arg2)) (m ((c.tc : Thread Cert.KernelEvenIdeal.nD Cert.KernelEvenIdeal.τ).loc Cert.KernelEvenIdeal.main_arg3)) (m ((c.tc : Thread Cert.KernelEvenIdeal.nD Cert.KernelEvenIdeal.τ).loc Cert.KernelEvenIdeal.main_arg4)) (m ((c.tc : Thread Cert.KernelEvenIdeal.nD Cert.KernelEvenIdeal.τ).loc Cert.KernelEvenIdeal.main_arg5)) (m ((c.tc : Thread Cert.KernelEvenIdeal.nD Cert.KernelEvenIdeal.τ).loc Cert.KernelEvenIdeal.main_arg6)) (m ((c.tc : Thread Cert.KernelEvenIdeal.nD Cert.KernelEvenIdeal.τ).loc Cert.KernelEvenIdeal.main_arg7)) (m ((c.tc : Thread Cert.KernelEvenIdeal.nD Cert.KernelEvenIdeal.τ).loc Cert.KernelEvenIdeal.main_arg8)) (m ((c.tc : Thread Cert.KernelEvenIdeal.nD Cert.KernelEvenIdeal.τ).loc Cert.KernelEvenIdeal.main_arg9))) = (fun _ => 1#1)

def Pre_ReferenceEvenIdeal (m : (ℓ : Loc Cert.ReferenceEvenIdeal.nD Cert.ReferenceEvenIdeal.τ Cert.ReferenceEvenIdeal.sig) → Buf (Elt Ideal) ℓ) : Prop :=
  True

def Pre_ReferenceEvenIdeal_finite_even [hPre_finite_even : Cert.Pre_finite_even.Facts] (m : (ℓ : Loc Cert.ReferenceEvenIdeal.nD Cert.ReferenceEvenIdeal.τ Cert.ReferenceEvenIdeal.sig) → Buf (Elt Ideal) ℓ) : Prop :=
  ∀ c : Dev Cert.ReferenceEvenIdeal.nD,
    (Cert.Pre_finite_even.fn (F := Ideal) (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)) (m ((c.tc : Thread Cert.ReferenceEvenIdeal.nD Cert.ReferenceEvenIdeal.τ).loc Cert.ReferenceEvenIdeal.main_arg2)) (m ((c.tc : Thread Cert.ReferenceEvenIdeal.nD Cert.ReferenceEvenIdeal.τ).loc Cert.ReferenceEvenIdeal.main_arg3)) (m ((c.tc : Thread Cert.ReferenceEvenIdeal.nD Cert.ReferenceEvenIdeal.τ).loc Cert.ReferenceEvenIdeal.main_arg4)) (m ((c.tc : Thread Cert.ReferenceEvenIdeal.nD Cert.ReferenceEvenIdeal.τ).loc Cert.ReferenceEvenIdeal.main_arg5)) (m ((c.tc : Thread Cert.ReferenceEvenIdeal.nD Cert.ReferenceEvenIdeal.τ).loc Cert.ReferenceEvenIdeal.main_arg6)) (m ((c.tc : Thread Cert.ReferenceEvenIdeal.nD Cert.ReferenceEvenIdeal.τ).loc Cert.ReferenceEvenIdeal.main_arg7)) (m ((c.tc : Thread Cert.ReferenceEvenIdeal.nD Cert.ReferenceEvenIdeal.τ).loc Cert.ReferenceEvenIdeal.main_arg8)) (m ((c.tc : Thread Cert.ReferenceEvenIdeal.nD Cert.ReferenceEvenIdeal.τ).loc Cert.ReferenceEvenIdeal.main_arg9))) = (fun _ => 1#1)

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_KernelOddIdeal_finite_odd [hPre_finite_odd : Cert.Pre_finite_odd.Facts] (m : (ℓ : Loc Cert.KernelOddIdeal.nD Cert.KernelOddIdeal.τ Cert.KernelOddIdeal.sig) → Buf (Elt Ideal) ℓ) : Prop :=
  ∀ c : Dev Cert.KernelOddIdeal.nD,
    (Cert.Pre_finite_odd.fn (F := Ideal) (m ((c.tc : Thread Cert.KernelOddIdeal.nD Cert.KernelOddIdeal.τ).loc Cert.KernelOddIdeal.main_arg0)) (m ((c.tc : Thread Cert.KernelOddIdeal.nD Cert.KernelOddIdeal.τ).loc Cert.KernelOddIdeal.main_arg1)) (m ((c.tc : Thread Cert.KernelOddIdeal.nD Cert.KernelOddIdeal.τ).loc Cert.KernelOddIdeal.main_arg2)) (m ((c.tc : Thread Cert.KernelOddIdeal.nD Cert.KernelOddIdeal.τ).loc Cert.KernelOddIdeal.main_arg3)) (m ((c.tc : Thread Cert.KernelOddIdeal.nD Cert.KernelOddIdeal.τ).loc Cert.KernelOddIdeal.main_arg4)) (m ((c.tc : Thread Cert.KernelOddIdeal.nD Cert.KernelOddIdeal.τ).loc Cert.KernelOddIdeal.main_arg5)) (m ((c.tc : Thread Cert.KernelOddIdeal.nD Cert.KernelOddIdeal.τ).loc Cert.KernelOddIdeal.main_arg6)) (m ((c.tc : Thread Cert.KernelOddIdeal.nD Cert.KernelOddIdeal.τ).loc Cert.KernelOddIdeal.main_arg7))) = (fun _ => 1#1)

def Pre_ReferenceOddIdeal (m : (ℓ : Loc Cert.ReferenceOddIdeal.nD Cert.ReferenceOddIdeal.τ Cert.ReferenceOddIdeal.sig) → Buf (Elt Ideal) ℓ) : Prop :=
  True

def Pre_ReferenceOddIdeal_finite_odd [hPre_finite_odd : Cert.Pre_finite_odd.Facts] (m : (ℓ : Loc Cert.ReferenceOddIdeal.nD Cert.ReferenceOddIdeal.τ Cert.ReferenceOddIdeal.sig) → Buf (Elt Ideal) ℓ) : Prop :=
  ∀ c : Dev Cert.ReferenceOddIdeal.nD,
    (Cert.Pre_finite_odd.fn (F := Ideal) (m ((c.tc : Thread Cert.ReferenceOddIdeal.nD Cert.ReferenceOddIdeal.τ).loc Cert.ReferenceOddIdeal.main_arg0)) (m ((c.tc : Thread Cert.ReferenceOddIdeal.nD Cert.ReferenceOddIdeal.τ).loc Cert.ReferenceOddIdeal.main_arg1)) (m ((c.tc : Thread Cert.ReferenceOddIdeal.nD Cert.ReferenceOddIdeal.τ).loc Cert.ReferenceOddIdeal.main_arg2)) (m ((c.tc : Thread Cert.ReferenceOddIdeal.nD Cert.ReferenceOddIdeal.τ).loc Cert.ReferenceOddIdeal.main_arg3)) (m ((c.tc : Thread Cert.ReferenceOddIdeal.nD Cert.ReferenceOddIdeal.τ).loc Cert.ReferenceOddIdeal.main_arg4)) (m ((c.tc : Thread Cert.ReferenceOddIdeal.nD Cert.ReferenceOddIdeal.τ).loc Cert.ReferenceOddIdeal.main_arg5)) (m ((c.tc : Thread Cert.ReferenceOddIdeal.nD Cert.ReferenceOddIdeal.τ).loc Cert.ReferenceOddIdeal.main_arg6)) (m ((c.tc : Thread Cert.ReferenceOddIdeal.nD Cert.ReferenceOddIdeal.τ).loc Cert.ReferenceOddIdeal.main_arg7))) = (fun _ => 1#1)

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_KernelFinalIdeal_finite_final [hPre_finite_final : Cert.Pre_finite_final.Facts] (m : (ℓ : Loc Cert.KernelFinalIdeal.nD Cert.KernelFinalIdeal.τ Cert.KernelFinalIdeal.sig) → Buf (Elt Ideal) ℓ) : Prop :=
  ∀ c : Dev Cert.KernelFinalIdeal.nD,
    (Cert.Pre_finite_final.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2)) (m ((c.tc : Thread Cert.KernelFinalIdeal.nD Cert.KernelFinalIdeal.τ).loc Cert.KernelFinalIdeal.main_arg3)) (m ((c.tc : Thread Cert.KernelFinalIdeal.nD Cert.KernelFinalIdeal.τ).loc Cert.KernelFinalIdeal.main_arg4)) (m ((c.tc : Thread Cert.KernelFinalIdeal.nD Cert.KernelFinalIdeal.τ).loc Cert.KernelFinalIdeal.main_arg5)) (m ((c.tc : Thread Cert.KernelFinalIdeal.nD Cert.KernelFinalIdeal.τ).loc Cert.KernelFinalIdeal.main_arg6)) (m ((c.tc : Thread Cert.KernelFinalIdeal.nD Cert.KernelFinalIdeal.τ).loc Cert.KernelFinalIdeal.main_arg7)) (m ((c.tc : Thread Cert.KernelFinalIdeal.nD Cert.KernelFinalIdeal.τ).loc Cert.KernelFinalIdeal.main_arg8))) = (fun _ => 1#1)

def Pre_ReferenceFinalIdeal (m : (ℓ : Loc Cert.ReferenceFinalIdeal.nD Cert.ReferenceFinalIdeal.τ Cert.ReferenceFinalIdeal.sig) → Buf (Elt Ideal) ℓ) : Prop :=
  True

def Pre_ReferenceFinalIdeal_finite_final [hPre_finite_final : Cert.Pre_finite_final.Facts] (m : (ℓ : Loc Cert.ReferenceFinalIdeal.nD Cert.ReferenceFinalIdeal.τ Cert.ReferenceFinalIdeal.sig) → Buf (Elt Ideal) ℓ) : Prop :=
  ∀ c : Dev Cert.ReferenceFinalIdeal.nD,
    (Cert.Pre_finite_final.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2)) (m ((c.tc : Thread Cert.ReferenceFinalIdeal.nD Cert.ReferenceFinalIdeal.τ).loc Cert.ReferenceFinalIdeal.main_arg3)) (m ((c.tc : Thread Cert.ReferenceFinalIdeal.nD Cert.ReferenceFinalIdeal.τ).loc Cert.ReferenceFinalIdeal.main_arg4)) (m ((c.tc : Thread Cert.ReferenceFinalIdeal.nD Cert.ReferenceFinalIdeal.τ).loc Cert.ReferenceFinalIdeal.main_arg5)) (m ((c.tc : Thread Cert.ReferenceFinalIdeal.nD Cert.ReferenceFinalIdeal.τ).loc Cert.ReferenceFinalIdeal.main_arg6)) (m ((c.tc : Thread Cert.ReferenceFinalIdeal.nD Cert.ReferenceFinalIdeal.τ).loc Cert.ReferenceFinalIdeal.main_arg7)) (m ((c.tc : Thread Cert.ReferenceFinalIdeal.nD Cert.ReferenceFinalIdeal.τ).loc Cert.ReferenceFinalIdeal.main_arg8))) = (fun _ => 1#1)

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_KernelFirstIdeal_finite_first [hPre_finite_first : Cert.Pre_finite_first.Facts] (m : (ℓ : Loc Cert.KernelFirstIdeal.nD Cert.KernelFirstIdeal.τ Cert.KernelFirstIdeal.sig) → Buf (Elt Ideal) ℓ) : Prop :=
  ∀ c : Dev Cert.KernelFirstIdeal.nD,
    (Cert.Pre_finite_first.fn (F := Ideal) (m ((c.tc : Thread Cert.KernelFirstIdeal.nD Cert.KernelFirstIdeal.τ).loc Cert.KernelFirstIdeal.main_arg0)) (m ((c.tc : Thread Cert.KernelFirstIdeal.nD Cert.KernelFirstIdeal.τ).loc Cert.KernelFirstIdeal.main_arg1)) (m ((c.tc : Thread Cert.KernelFirstIdeal.nD Cert.KernelFirstIdeal.τ).loc Cert.KernelFirstIdeal.main_arg2)) (m ((c.tc : Thread Cert.KernelFirstIdeal.nD Cert.KernelFirstIdeal.τ).loc Cert.KernelFirstIdeal.main_arg3)) (m ((c.tc : Thread Cert.KernelFirstIdeal.nD Cert.KernelFirstIdeal.τ).loc Cert.KernelFirstIdeal.main_arg4)) (m ((c.tc : Thread Cert.KernelFirstIdeal.nD Cert.KernelFirstIdeal.τ).loc Cert.KernelFirstIdeal.main_arg5)) (m ((c.tc : Thread Cert.KernelFirstIdeal.nD Cert.KernelFirstIdeal.τ).loc Cert.KernelFirstIdeal.main_arg6)) (m ((c.tc : Thread Cert.KernelFirstIdeal.nD Cert.KernelFirstIdeal.τ).loc Cert.KernelFirstIdeal.main_arg7))) = (fun _ => 1#1)

def Pre_ReferenceFirstIdeal (m : (ℓ : Loc Cert.ReferenceFirstIdeal.nD Cert.ReferenceFirstIdeal.τ Cert.ReferenceFirstIdeal.sig) → Buf (Elt Ideal) ℓ) : Prop :=
  True

def Pre_ReferenceFirstIdeal_finite_first [hPre_finite_first : Cert.Pre_finite_first.Facts] (m : (ℓ : Loc Cert.ReferenceFirstIdeal.nD Cert.ReferenceFirstIdeal.τ Cert.ReferenceFirstIdeal.sig) → Buf (Elt Ideal) ℓ) : Prop :=
  ∀ c : Dev Cert.ReferenceFirstIdeal.nD,
    (Cert.Pre_finite_first.fn (F := Ideal) (m ((c.tc : Thread Cert.ReferenceFirstIdeal.nD Cert.ReferenceFirstIdeal.τ).loc Cert.ReferenceFirstIdeal.main_arg0)) (m ((c.tc : Thread Cert.ReferenceFirstIdeal.nD Cert.ReferenceFirstIdeal.τ).loc Cert.ReferenceFirstIdeal.main_arg1)) (m ((c.tc : Thread Cert.ReferenceFirstIdeal.nD Cert.ReferenceFirstIdeal.τ).loc Cert.ReferenceFirstIdeal.main_arg2)) (m ((c.tc : Thread Cert.ReferenceFirstIdeal.nD Cert.ReferenceFirstIdeal.τ).loc Cert.ReferenceFirstIdeal.main_arg3)) (m ((c.tc : Thread Cert.ReferenceFirstIdeal.nD Cert.ReferenceFirstIdeal.τ).loc Cert.ReferenceFirstIdeal.main_arg4)) (m ((c.tc : Thread Cert.ReferenceFirstIdeal.nD Cert.ReferenceFirstIdeal.τ).loc Cert.ReferenceFirstIdeal.main_arg5)) (m ((c.tc : Thread Cert.ReferenceFirstIdeal.nD Cert.ReferenceFirstIdeal.τ).loc Cert.ReferenceFirstIdeal.main_arg6)) (m ((c.tc : Thread Cert.ReferenceFirstIdeal.nD Cert.ReferenceFirstIdeal.τ).loc Cert.ReferenceFirstIdeal.main_arg7))) = (fun _ => 1#1)

def Pre_KernelProjectEven (m : (ℓ : Loc Cert.KernelProjectEven.nD Cert.KernelProjectEven.τ Cert.KernelProjectEven.sig) → Buf (Elt Bits) ℓ) : Prop :=
  True

def Pre_KernelProjectEvenIdeal (m : (ℓ : Loc Cert.KernelProjectEvenIdeal.nD Cert.KernelProjectEvenIdeal.τ Cert.KernelProjectEvenIdeal.sig) → Buf (Elt Ideal) ℓ) : Prop :=
  True

def Pre_ReferenceProjectEvenIdeal (m : (ℓ : Loc Cert.ReferenceProjectEvenIdeal.nD Cert.ReferenceProjectEvenIdeal.τ Cert.ReferenceProjectEvenIdeal.sig) → Buf (Elt Ideal) ℓ) : Prop :=
  True

def Pre_KernelProjectOdd (m : (ℓ : Loc Cert.KernelProjectOdd.nD Cert.KernelProjectOdd.τ Cert.KernelProjectOdd.sig) → Buf (Elt Bits) ℓ) : Prop :=
  True

def Pre_KernelProjectOddIdeal (m : (ℓ : Loc Cert.KernelProjectOddIdeal.nD Cert.KernelProjectOddIdeal.τ Cert.KernelProjectOddIdeal.sig) → Buf (Elt Ideal) ℓ) : Prop :=
  True

def Pre_ReferenceProjectOddIdeal (m : (ℓ : Loc Cert.ReferenceProjectOddIdeal.nD Cert.ReferenceProjectOddIdeal.τ Cert.ReferenceProjectOddIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2)
      ∧ r.2.mem ((c.tc : Thread Cert.KernelEven.nD Cert.KernelEven.τ).loc Cert.KernelEven.main_arg3) = m ((c.tc : Thread Cert.KernelEven.nD Cert.KernelEven.τ).loc Cert.KernelEven.main_arg3)
      ∧ r.2.mem ((c.tc : Thread Cert.KernelEven.nD Cert.KernelEven.τ).loc Cert.KernelEven.main_arg4) = m ((c.tc : Thread Cert.KernelEven.nD Cert.KernelEven.τ).loc Cert.KernelEven.main_arg4)
      ∧ r.2.mem ((c.tc : Thread Cert.KernelEven.nD Cert.KernelEven.τ).loc Cert.KernelEven.main_arg5) = m ((c.tc : Thread Cert.KernelEven.nD Cert.KernelEven.τ).loc Cert.KernelEven.main_arg5)
      ∧ r.2.mem ((c.tc : Thread Cert.KernelEven.nD Cert.KernelEven.τ).loc Cert.KernelEven.main_arg6) = m ((c.tc : Thread Cert.KernelEven.nD Cert.KernelEven.τ).loc Cert.KernelEven.main_arg6)
      ∧ r.2.mem ((c.tc : Thread Cert.KernelEven.nD Cert.KernelEven.τ).loc Cert.KernelEven.main_arg7) = m ((c.tc : Thread Cert.KernelEven.nD Cert.KernelEven.τ).loc Cert.KernelEven.main_arg7)
      ∧ r.2.mem ((c.tc : Thread Cert.KernelEven.nD Cert.KernelEven.τ).loc Cert.KernelEven.main_arg8) = m ((c.tc : Thread Cert.KernelEven.nD Cert.KernelEven.τ).loc Cert.KernelEven.main_arg8)
      ∧ r.2.mem ((c.tc : Thread Cert.KernelEven.nD Cert.KernelEven.τ).loc Cert.KernelEven.main_arg9) = m ((c.tc : Thread Cert.KernelEven.nD Cert.KernelEven.τ).loc Cert.KernelEven.main_arg9))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
      ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
      ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
      ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7)
      ∧ r.2.mem ((c.tc : Thread Cert.KernelEvenIdeal.nD Cert.KernelEvenIdeal.τ).loc Cert.KernelEvenIdeal.main_arg8) = m ((c.tc : Thread Cert.KernelEvenIdeal.nD Cert.KernelEvenIdeal.τ).loc Cert.KernelEvenIdeal.main_arg8)
      ∧ r.2.mem ((c.tc : Thread Cert.KernelEvenIdeal.nD Cert.KernelEvenIdeal.τ).loc Cert.KernelEvenIdeal.main_arg9) = m ((c.tc : Thread Cert.KernelEvenIdeal.nD Cert.KernelEvenIdeal.τ).loc Cert.KernelEvenIdeal.main_arg9))
      ∧ r.2.sem = fun _ => 0)

def quiescent_KernelEvenIdeal_pre_finite_even [hKernelEvenIdeal : Cert.KernelEvenIdeal.Facts] [hPre_finite_even : Cert.Pre_finite_even.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal_finite_even m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
      ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
      ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
      ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7)
      ∧ r.2.mem ((c.tc : Thread Cert.KernelEvenIdeal.nD Cert.KernelEvenIdeal.τ).loc Cert.KernelEvenIdeal.main_arg8) = m ((c.tc : Thread Cert.KernelEvenIdeal.nD Cert.KernelEvenIdeal.τ).loc Cert.KernelEvenIdeal.main_arg8)
      ∧ r.2.mem ((c.tc : Thread Cert.KernelEvenIdeal.nD Cert.KernelEvenIdeal.τ).loc Cert.KernelEvenIdeal.main_arg9) = m ((c.tc : Thread Cert.KernelEvenIdeal.nD Cert.KernelEvenIdeal.τ).loc Cert.KernelEvenIdeal.main_arg9))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7)
      ∧ r.2.mem ((c.tc : Thread Cert.ReferenceEvenIdeal.nD Cert.ReferenceEvenIdeal.τ).loc Cert.ReferenceEvenIdeal.main_arg8) = m ((c.tc : Thread Cert.ReferenceEvenIdeal.nD Cert.ReferenceEvenIdeal.τ).loc Cert.ReferenceEvenIdeal.main_arg8)
      ∧ r.2.mem ((c.tc : Thread Cert.ReferenceEvenIdeal.nD Cert.ReferenceEvenIdeal.τ).loc Cert.ReferenceEvenIdeal.main_arg9) = m ((c.tc : Thread Cert.ReferenceEvenIdeal.nD Cert.ReferenceEvenIdeal.τ).loc Cert.ReferenceEvenIdeal.main_arg9))
      ∧ r.2.sem = fun _ => 0)

def quiescent_ReferenceEvenIdeal_pre_finite_even [hReferenceEvenIdeal : Cert.ReferenceEvenIdeal.Facts] [hPre_finite_even : Cert.Pre_finite_even.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal_finite_even m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7)
      ∧ r.2.mem ((c.tc : Thread Cert.ReferenceEvenIdeal.nD Cert.ReferenceEvenIdeal.τ).loc Cert.ReferenceEvenIdeal.main_arg8) = m ((c.tc : Thread Cert.ReferenceEvenIdeal.nD Cert.ReferenceEvenIdeal.τ).loc Cert.ReferenceEvenIdeal.main_arg8)
      ∧ r.2.mem ((c.tc : Thread Cert.ReferenceEvenIdeal.nD Cert.ReferenceEvenIdeal.τ).loc Cert.ReferenceEvenIdeal.main_arg9) = m ((c.tc : Thread Cert.ReferenceEvenIdeal.nD Cert.ReferenceEvenIdeal.τ).loc Cert.ReferenceEvenIdeal.main_arg9))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2)
      ∧ r.2.mem ((c.tc : Thread Cert.KernelOdd.nD Cert.KernelOdd.τ).loc Cert.KernelOdd.main_arg3) = m ((c.tc : Thread Cert.KernelOdd.nD Cert.KernelOdd.τ).loc Cert.KernelOdd.main_arg3)
      ∧ r.2.mem ((c.tc : Thread Cert.KernelOdd.nD Cert.KernelOdd.τ).loc Cert.KernelOdd.main_arg4) = m ((c.tc : Thread Cert.KernelOdd.nD Cert.KernelOdd.τ).loc Cert.KernelOdd.main_arg4)
      ∧ r.2.mem ((c.tc : Thread Cert.KernelOdd.nD Cert.KernelOdd.τ).loc Cert.KernelOdd.main_arg5) = m ((c.tc : Thread Cert.KernelOdd.nD Cert.KernelOdd.τ).loc Cert.KernelOdd.main_arg5)
      ∧ r.2.mem ((c.tc : Thread Cert.KernelOdd.nD Cert.KernelOdd.τ).loc Cert.KernelOdd.main_arg6) = m ((c.tc : Thread Cert.KernelOdd.nD Cert.KernelOdd.τ).loc Cert.KernelOdd.main_arg6)
      ∧ r.2.mem ((c.tc : Thread Cert.KernelOdd.nD Cert.KernelOdd.τ).loc Cert.KernelOdd.main_arg7) = m ((c.tc : Thread Cert.KernelOdd.nD Cert.KernelOdd.τ).loc Cert.KernelOdd.main_arg7))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
      ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
      ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
      ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5)
      ∧ r.2.mem ((c.tc : Thread Cert.KernelOddIdeal.nD Cert.KernelOddIdeal.τ).loc Cert.KernelOddIdeal.main_arg6) = m ((c.tc : Thread Cert.KernelOddIdeal.nD Cert.KernelOddIdeal.τ).loc Cert.KernelOddIdeal.main_arg6)
      ∧ r.2.mem ((c.tc : Thread Cert.KernelOddIdeal.nD Cert.KernelOddIdeal.τ).loc Cert.KernelOddIdeal.main_arg7) = m ((c.tc : Thread Cert.KernelOddIdeal.nD Cert.KernelOddIdeal.τ).loc Cert.KernelOddIdeal.main_arg7))
      ∧ r.2.sem = fun _ => 0)

def quiescent_KernelOddIdeal_pre_finite_odd [hKernelOddIdeal : Cert.KernelOddIdeal.Facts] [hPre_finite_odd : Cert.Pre_finite_odd.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal_finite_odd m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
      ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
      ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
      ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5)
      ∧ r.2.mem ((c.tc : Thread Cert.KernelOddIdeal.nD Cert.KernelOddIdeal.τ).loc Cert.KernelOddIdeal.main_arg6) = m ((c.tc : Thread Cert.KernelOddIdeal.nD Cert.KernelOddIdeal.τ).loc Cert.KernelOddIdeal.main_arg6)
      ∧ r.2.mem ((c.tc : Thread Cert.KernelOddIdeal.nD Cert.KernelOddIdeal.τ).loc Cert.KernelOddIdeal.main_arg7) = m ((c.tc : Thread Cert.KernelOddIdeal.nD Cert.KernelOddIdeal.τ).loc Cert.KernelOddIdeal.main_arg7))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3)
      ∧ r.2.mem ((c.tc : Thread Cert.ReferenceOddIdeal.nD Cert.ReferenceOddIdeal.τ).loc Cert.ReferenceOddIdeal.main_arg4) = m ((c.tc : Thread Cert.ReferenceOddIdeal.nD Cert.ReferenceOddIdeal.τ).loc Cert.ReferenceOddIdeal.main_arg4)
      ∧ r.2.mem ((c.tc : Thread Cert.ReferenceOddIdeal.nD Cert.ReferenceOddIdeal.τ).loc Cert.ReferenceOddIdeal.main_arg5) = m ((c.tc : Thread Cert.ReferenceOddIdeal.nD Cert.ReferenceOddIdeal.τ).loc Cert.ReferenceOddIdeal.main_arg5)
      ∧ r.2.mem ((c.tc : Thread Cert.ReferenceOddIdeal.nD Cert.ReferenceOddIdeal.τ).loc Cert.ReferenceOddIdeal.main_arg6) = m ((c.tc : Thread Cert.ReferenceOddIdeal.nD Cert.ReferenceOddIdeal.τ).loc Cert.ReferenceOddIdeal.main_arg6)
      ∧ r.2.mem ((c.tc : Thread Cert.ReferenceOddIdeal.nD Cert.ReferenceOddIdeal.τ).loc Cert.ReferenceOddIdeal.main_arg7) = m ((c.tc : Thread Cert.ReferenceOddIdeal.nD Cert.ReferenceOddIdeal.τ).loc Cert.ReferenceOddIdeal.main_arg7))
      ∧ r.2.sem = fun _ => 0)

def quiescent_ReferenceOddIdeal_pre_finite_odd [hReferenceOddIdeal : Cert.ReferenceOddIdeal.Facts] [hPre_finite_odd : Cert.Pre_finite_odd.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal_finite_odd m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3)
      ∧ r.2.mem ((c.tc : Thread Cert.ReferenceOddIdeal.nD Cert.ReferenceOddIdeal.τ).loc Cert.ReferenceOddIdeal.main_arg4) = m ((c.tc : Thread Cert.ReferenceOddIdeal.nD Cert.ReferenceOddIdeal.τ).loc Cert.ReferenceOddIdeal.main_arg4)
      ∧ r.2.mem ((c.tc : Thread Cert.ReferenceOddIdeal.nD Cert.ReferenceOddIdeal.τ).loc Cert.ReferenceOddIdeal.main_arg5) = m ((c.tc : Thread Cert.ReferenceOddIdeal.nD Cert.ReferenceOddIdeal.τ).loc Cert.ReferenceOddIdeal.main_arg5)
      ∧ r.2.mem ((c.tc : Thread Cert.ReferenceOddIdeal.nD Cert.ReferenceOddIdeal.τ).loc Cert.ReferenceOddIdeal.main_arg6) = m ((c.tc : Thread Cert.ReferenceOddIdeal.nD Cert.ReferenceOddIdeal.τ).loc Cert.ReferenceOddIdeal.main_arg6)
      ∧ r.2.mem ((c.tc : Thread Cert.ReferenceOddIdeal.nD Cert.ReferenceOddIdeal.τ).loc Cert.ReferenceOddIdeal.main_arg7) = m ((c.tc : Thread Cert.ReferenceOddIdeal.nD Cert.ReferenceOddIdeal.τ).loc Cert.ReferenceOddIdeal.main_arg7))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4)
      ∧ r.2.mem ((c.tc : Thread Cert.KernelFinal.nD Cert.KernelFinal.τ).loc Cert.KernelFinal.main_arg5) = m ((c.tc : Thread Cert.KernelFinal.nD Cert.KernelFinal.τ).loc Cert.KernelFinal.main_arg5)
      ∧ r.2.mem ((c.tc : Thread Cert.KernelFinal.nD Cert.KernelFinal.τ).loc Cert.KernelFinal.main_arg6) = m ((c.tc : Thread Cert.KernelFinal.nD Cert.KernelFinal.τ).loc Cert.KernelFinal.main_arg6)
      ∧ r.2.mem ((c.tc : Thread Cert.KernelFinal.nD Cert.KernelFinal.τ).loc Cert.KernelFinal.main_arg7) = m ((c.tc : Thread Cert.KernelFinal.nD Cert.KernelFinal.τ).loc Cert.KernelFinal.main_arg7)
      ∧ r.2.mem ((c.tc : Thread Cert.KernelFinal.nD Cert.KernelFinal.τ).loc Cert.KernelFinal.main_arg8) = m ((c.tc : Thread Cert.KernelFinal.nD Cert.KernelFinal.τ).loc Cert.KernelFinal.main_arg8))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
      ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
      ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7)
      ∧ r.2.mem ((c.tc : Thread Cert.KernelFinalIdeal.nD Cert.KernelFinalIdeal.τ).loc Cert.KernelFinalIdeal.main_arg8) = m ((c.tc : Thread Cert.KernelFinalIdeal.nD Cert.KernelFinalIdeal.τ).loc Cert.KernelFinalIdeal.main_arg8))
      ∧ r.2.sem = fun _ => 0)

def quiescent_KernelFinalIdeal_pre_finite_final [hKernelFinalIdeal : Cert.KernelFinalIdeal.Facts] [hPre_finite_final : Cert.Pre_finite_final.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal_finite_final m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
      ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
      ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7)
      ∧ r.2.mem ((c.tc : Thread Cert.KernelFinalIdeal.nD Cert.KernelFinalIdeal.τ).loc Cert.KernelFinalIdeal.main_arg8) = m ((c.tc : Thread Cert.KernelFinalIdeal.nD Cert.KernelFinalIdeal.τ).loc Cert.KernelFinalIdeal.main_arg8))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7)
      ∧ r.2.mem ((c.tc : Thread Cert.ReferenceFinalIdeal.nD Cert.ReferenceFinalIdeal.τ).loc Cert.ReferenceFinalIdeal.main_arg8) = m ((c.tc : Thread Cert.ReferenceFinalIdeal.nD Cert.ReferenceFinalIdeal.τ).loc Cert.ReferenceFinalIdeal.main_arg8))
      ∧ r.2.sem = fun _ => 0)

def quiescent_ReferenceFinalIdeal_pre_finite_final [hReferenceFinalIdeal : Cert.ReferenceFinalIdeal.Facts] [hPre_finite_final : Cert.Pre_finite_final.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal_finite_final m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7)
      ∧ r.2.mem ((c.tc : Thread Cert.ReferenceFinalIdeal.nD Cert.ReferenceFinalIdeal.τ).loc Cert.ReferenceFinalIdeal.main_arg8) = m ((c.tc : Thread Cert.ReferenceFinalIdeal.nD Cert.ReferenceFinalIdeal.τ).loc Cert.ReferenceFinalIdeal.main_arg8))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2)
      ∧ r.2.mem ((c.tc : Thread Cert.KernelFirst.nD Cert.KernelFirst.τ).loc Cert.KernelFirst.main_arg3) = m ((c.tc : Thread Cert.KernelFirst.nD Cert.KernelFirst.τ).loc Cert.KernelFirst.main_arg3)
      ∧ r.2.mem ((c.tc : Thread Cert.KernelFirst.nD Cert.KernelFirst.τ).loc Cert.KernelFirst.main_arg4) = m ((c.tc : Thread Cert.KernelFirst.nD Cert.KernelFirst.τ).loc Cert.KernelFirst.main_arg4)
      ∧ r.2.mem ((c.tc : Thread Cert.KernelFirst.nD Cert.KernelFirst.τ).loc Cert.KernelFirst.main_arg5) = m ((c.tc : Thread Cert.KernelFirst.nD Cert.KernelFirst.τ).loc Cert.KernelFirst.main_arg5)
      ∧ r.2.mem ((c.tc : Thread Cert.KernelFirst.nD Cert.KernelFirst.τ).loc Cert.KernelFirst.main_arg6) = m ((c.tc : Thread Cert.KernelFirst.nD Cert.KernelFirst.τ).loc Cert.KernelFirst.main_arg6)
      ∧ r.2.mem ((c.tc : Thread Cert.KernelFirst.nD Cert.KernelFirst.τ).loc Cert.KernelFirst.main_arg7) = m ((c.tc : Thread Cert.KernelFirst.nD Cert.KernelFirst.τ).loc Cert.KernelFirst.main_arg7))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
      ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
      ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6)
      ∧ r.2.mem ((c.tc : Thread Cert.KernelFirstIdeal.nD Cert.KernelFirstIdeal.τ).loc Cert.KernelFirstIdeal.main_arg7) = m ((c.tc : Thread Cert.KernelFirstIdeal.nD Cert.KernelFirstIdeal.τ).loc Cert.KernelFirstIdeal.main_arg7))
      ∧ r.2.sem = fun _ => 0)

def quiescent_KernelFirstIdeal_pre_finite_first [hKernelFirstIdeal : Cert.KernelFirstIdeal.Facts] [hPre_finite_first : Cert.Pre_finite_first.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal_finite_first m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
      ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
      ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6)
      ∧ r.2.mem ((c.tc : Thread Cert.KernelFirstIdeal.nD Cert.KernelFirstIdeal.τ).loc Cert.KernelFirstIdeal.main_arg7) = m ((c.tc : Thread Cert.KernelFirstIdeal.nD Cert.KernelFirstIdeal.τ).loc Cert.KernelFirstIdeal.main_arg7))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5)
      ∧ r.2.mem ((c.tc : Thread Cert.ReferenceFirstIdeal.nD Cert.ReferenceFirstIdeal.τ).loc Cert.ReferenceFirstIdeal.main_arg6) = m ((c.tc : Thread Cert.ReferenceFirstIdeal.nD Cert.ReferenceFirstIdeal.τ).loc Cert.ReferenceFirstIdeal.main_arg6)
      ∧ r.2.mem ((c.tc : Thread Cert.ReferenceFirstIdeal.nD Cert.ReferenceFirstIdeal.τ).loc Cert.ReferenceFirstIdeal.main_arg7) = m ((c.tc : Thread Cert.ReferenceFirstIdeal.nD Cert.ReferenceFirstIdeal.τ).loc Cert.ReferenceFirstIdeal.main_arg7))
      ∧ r.2.sem = fun _ => 0)

def quiescent_ReferenceFirstIdeal_pre_finite_first [hReferenceFirstIdeal : Cert.ReferenceFirstIdeal.Facts] [hPre_finite_first : Cert.Pre_finite_first.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal_finite_first m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5)
      ∧ r.2.mem ((c.tc : Thread Cert.ReferenceFirstIdeal.nD Cert.ReferenceFirstIdeal.τ).loc Cert.ReferenceFirstIdeal.main_arg6) = m ((c.tc : Thread Cert.ReferenceFirstIdeal.nD Cert.ReferenceFirstIdeal.τ).loc Cert.ReferenceFirstIdeal.main_arg6)
      ∧ r.2.mem ((c.tc : Thread Cert.ReferenceFirstIdeal.nD Cert.ReferenceFirstIdeal.τ).loc Cert.ReferenceFirstIdeal.main_arg7) = m ((c.tc : Thread Cert.ReferenceFirstIdeal.nD Cert.ReferenceFirstIdeal.τ).loc Cert.ReferenceFirstIdeal.main_arg7))
      ∧ r.2.sem = fun _ => 0)

def quiescent_KernelProjectEven [hKernelProjectEven : Cert.KernelProjectEven.Facts] : Prop :=
  ∀ (m : (ℓ : Loc Cert.KernelProjectEven.nD Cert.KernelProjectEven.τ Cert.KernelProjectEven.sig) → Buf (Elt Bits) ℓ) (g : Dev Cert.KernelProjectEven.nD → PrngReg), Pre_KernelProjectEven m →
    θ_run (Cert.KernelProjectEven.defs (F := Bits)) (onTc (τ := Cert.KernelProjectEven.τ) (Cert.KernelProjectEven.main (F := Bits))) ⟨m, fun _ => 0, g⟩ (fun r => (∀ c : Dev Cert.KernelProjectEven.nD,
      r.2.mem ((c.tc : Thread Cert.KernelProjectEven.nD Cert.KernelProjectEven.τ).loc Cert.KernelProjectEven.main_arg0) = m ((c.tc : Thread Cert.KernelProjectEven.nD Cert.KernelProjectEven.τ).loc Cert.KernelProjectEven.main_arg0)
      ∧ r.2.mem ((c.tc : Thread Cert.KernelProjectEven.nD Cert.KernelProjectEven.τ).loc Cert.KernelProjectEven.main_arg1) = m ((c.tc : Thread Cert.KernelProjectEven.nD Cert.KernelProjectEven.τ).loc Cert.KernelProjectEven.main_arg1)
      ∧ r.2.mem ((c.tc : Thread Cert.KernelProjectEven.nD Cert.KernelProjectEven.τ).loc Cert.KernelProjectEven.main_arg2) = m ((c.tc : Thread Cert.KernelProjectEven.nD Cert.KernelProjectEven.τ).loc Cert.KernelProjectEven.main_arg2)
      ∧ r.2.mem ((c.tc : Thread Cert.KernelProjectEven.nD Cert.KernelProjectEven.τ).loc Cert.KernelProjectEven.main_arg3) = m ((c.tc : Thread Cert.KernelProjectEven.nD Cert.KernelProjectEven.τ).loc Cert.KernelProjectEven.main_arg3))
      ∧ r.2.sem = fun _ => 0)

def quiescent_KernelProjectEvenIdeal [hKernelProjectEvenIdeal : Cert.KernelProjectEvenIdeal.Facts] : Prop :=
  ∀ (m : (ℓ : Loc Cert.KernelProjectEvenIdeal.nD Cert.KernelProjectEvenIdeal.τ Cert.KernelProjectEvenIdeal.sig) → Buf (Elt Ideal) ℓ) (g : Dev Cert.KernelProjectEvenIdeal.nD → PrngReg), Pre_KernelProjectEvenIdeal m →
    θ_run (Cert.KernelProjectEvenIdeal.defs (F := Ideal)) (onTc (τ := Cert.KernelProjectEvenIdeal.τ) (Cert.KernelProjectEvenIdeal.main (F := Ideal))) ⟨m, fun _ => 0, g⟩ (fun r => (∀ c : Dev Cert.KernelProjectEvenIdeal.nD,
      r.2.mem ((c.tc : Thread Cert.KernelProjectEvenIdeal.nD Cert.KernelProjectEvenIdeal.τ).loc Cert.KernelProjectEvenIdeal.main_arg0) = m ((c.tc : Thread Cert.KernelProjectEvenIdeal.nD Cert.KernelProjectEvenIdeal.τ).loc Cert.KernelProjectEvenIdeal.main_arg0)
      ∧ r.2.mem ((c.tc : Thread Cert.KernelProjectEvenIdeal.nD Cert.KernelProjectEvenIdeal.τ).loc Cert.KernelProjectEvenIdeal.main_arg1) = m ((c.tc : Thread Cert.KernelProjectEvenIdeal.nD Cert.KernelProjectEvenIdeal.τ).loc Cert.KernelProjectEvenIdeal.main_arg1)
      ∧ r.2.mem ((c.tc : Thread Cert.KernelProjectEvenIdeal.nD Cert.KernelProjectEvenIdeal.τ).loc Cert.KernelProjectEvenIdeal.main_arg2) = m ((c.tc : Thread Cert.KernelProjectEvenIdeal.nD Cert.KernelProjectEvenIdeal.τ).loc Cert.KernelProjectEvenIdeal.main_arg2)
      ∧ r.2.mem ((c.tc : Thread Cert.KernelProjectEvenIdeal.nD Cert.KernelProjectEvenIdeal.τ).loc Cert.KernelProjectEvenIdeal.main_arg3) = m ((c.tc : Thread Cert.KernelProjectEvenIdeal.nD Cert.KernelProjectEvenIdeal.τ).loc Cert.KernelProjectEvenIdeal.main_arg3))
      ∧ r.2.sem = fun _ => 0)

def quiescent_ReferenceProjectEvenIdeal [hReferenceProjectEvenIdeal : Cert.ReferenceProjectEvenIdeal.Facts] : Prop :=
  ∀ (m : (ℓ : Loc Cert.ReferenceProjectEvenIdeal.nD Cert.ReferenceProjectEvenIdeal.τ Cert.ReferenceProjectEvenIdeal.sig) → Buf (Elt Ideal) ℓ) (g : Dev Cert.ReferenceProjectEvenIdeal.nD → PrngReg), Pre_ReferenceProjectEvenIdeal m →
    θ_run (Cert.ReferenceProjectEvenIdeal.defs (F := Ideal)) (onTc (τ := Cert.ReferenceProjectEvenIdeal.τ) (Cert.ReferenceProjectEvenIdeal.main (F := Ideal))) ⟨m, fun _ => 0, g⟩ (fun r => (∀ c : Dev Cert.ReferenceProjectEvenIdeal.nD,
      r.2.mem ((c.tc : Thread Cert.ReferenceProjectEvenIdeal.nD Cert.ReferenceProjectEvenIdeal.τ).loc Cert.ReferenceProjectEvenIdeal.main_arg0) = m ((c.tc : Thread Cert.ReferenceProjectEvenIdeal.nD Cert.ReferenceProjectEvenIdeal.τ).loc Cert.ReferenceProjectEvenIdeal.main_arg0)
      ∧ r.2.mem ((c.tc : Thread Cert.ReferenceProjectEvenIdeal.nD Cert.ReferenceProjectEvenIdeal.τ).loc Cert.ReferenceProjectEvenIdeal.main_arg1) = m ((c.tc : Thread Cert.ReferenceProjectEvenIdeal.nD Cert.ReferenceProjectEvenIdeal.τ).loc Cert.ReferenceProjectEvenIdeal.main_arg1)
      ∧ r.2.mem ((c.tc : Thread Cert.ReferenceProjectEvenIdeal.nD Cert.ReferenceProjectEvenIdeal.τ).loc Cert.ReferenceProjectEvenIdeal.main_arg2) = m ((c.tc : Thread Cert.ReferenceProjectEvenIdeal.nD Cert.ReferenceProjectEvenIdeal.τ).loc Cert.ReferenceProjectEvenIdeal.main_arg2)
      ∧ r.2.mem ((c.tc : Thread Cert.ReferenceProjectEvenIdeal.nD Cert.ReferenceProjectEvenIdeal.τ).loc Cert.ReferenceProjectEvenIdeal.main_arg3) = m ((c.tc : Thread Cert.ReferenceProjectEvenIdeal.nD Cert.ReferenceProjectEvenIdeal.τ).loc Cert.ReferenceProjectEvenIdeal.main_arg3))
      ∧ r.2.sem = fun _ => 0)

def quiescent_KernelProjectOdd [hKernelProjectOdd : Cert.KernelProjectOdd.Facts] : Prop :=
  ∀ (m : (ℓ : Loc Cert.KernelProjectOdd.nD Cert.KernelProjectOdd.τ Cert.KernelProjectOdd.sig) → Buf (Elt Bits) ℓ) (g : Dev Cert.KernelProjectOdd.nD → PrngReg), Pre_KernelProjectOdd m →
    θ_run (Cert.KernelProjectOdd.defs (F := Bits)) (onTc (τ := Cert.KernelProjectOdd.τ) (Cert.KernelProjectOdd.main (F := Bits))) ⟨m, fun _ => 0, g⟩ (fun r => (∀ c : Dev Cert.KernelProjectOdd.nD,
      r.2.mem ((c.tc : Thread Cert.KernelProjectOdd.nD Cert.KernelProjectOdd.τ).loc Cert.KernelProjectOdd.main_arg0) = m ((c.tc : Thread Cert.KernelProjectOdd.nD Cert.KernelProjectOdd.τ).loc Cert.KernelProjectOdd.main_arg0)
      ∧ r.2.mem ((c.tc : Thread Cert.KernelProjectOdd.nD Cert.KernelProjectOdd.τ).loc Cert.KernelProjectOdd.main_arg1) = m ((c.tc : Thread Cert.KernelProjectOdd.nD Cert.KernelProjectOdd.τ).loc Cert.KernelProjectOdd.main_arg1)
      ∧ r.2.mem ((c.tc : Thread Cert.KernelProjectOdd.nD Cert.KernelProjectOdd.τ).loc Cert.KernelProjectOdd.main_arg2) = m ((c.tc : Thread Cert.KernelProjectOdd.nD Cert.KernelProjectOdd.τ).loc Cert.KernelProjectOdd.main_arg2)
      ∧ r.2.mem ((c.tc : Thread Cert.KernelProjectOdd.nD Cert.KernelProjectOdd.τ).loc Cert.KernelProjectOdd.main_arg3) = m ((c.tc : Thread Cert.KernelProjectOdd.nD Cert.KernelProjectOdd.τ).loc Cert.KernelProjectOdd.main_arg3))
      ∧ r.2.sem = fun _ => 0)

def quiescent_KernelProjectOddIdeal [hKernelProjectOddIdeal : Cert.KernelProjectOddIdeal.Facts] : Prop :=
  ∀ (m : (ℓ : Loc Cert.KernelProjectOddIdeal.nD Cert.KernelProjectOddIdeal.τ Cert.KernelProjectOddIdeal.sig) → Buf (Elt Ideal) ℓ) (g : Dev Cert.KernelProjectOddIdeal.nD → PrngReg), Pre_KernelProjectOddIdeal m →
    θ_run (Cert.KernelProjectOddIdeal.defs (F := Ideal)) (onTc (τ := Cert.KernelProjectOddIdeal.τ) (Cert.KernelProjectOddIdeal.main (F := Ideal))) ⟨m, fun _ => 0, g⟩ (fun r => (∀ c : Dev Cert.KernelProjectOddIdeal.nD,
      r.2.mem ((c.tc : Thread Cert.KernelProjectOddIdeal.nD Cert.KernelProjectOddIdeal.τ).loc Cert.KernelProjectOddIdeal.main_arg0) = m ((c.tc : Thread Cert.KernelProjectOddIdeal.nD Cert.KernelProjectOddIdeal.τ).loc Cert.KernelProjectOddIdeal.main_arg0)
      ∧ r.2.mem ((c.tc : Thread Cert.KernelProjectOddIdeal.nD Cert.KernelProjectOddIdeal.τ).loc Cert.KernelProjectOddIdeal.main_arg1) = m ((c.tc : Thread Cert.KernelProjectOddIdeal.nD Cert.KernelProjectOddIdeal.τ).loc Cert.KernelProjectOddIdeal.main_arg1)
      ∧ r.2.mem ((c.tc : Thread Cert.KernelProjectOddIdeal.nD Cert.KernelProjectOddIdeal.τ).loc Cert.KernelProjectOddIdeal.main_arg2) = m ((c.tc : Thread Cert.KernelProjectOddIdeal.nD Cert.KernelProjectOddIdeal.τ).loc Cert.KernelProjectOddIdeal.main_arg2)
      ∧ r.2.mem ((c.tc : Thread Cert.KernelProjectOddIdeal.nD Cert.KernelProjectOddIdeal.τ).loc Cert.KernelProjectOddIdeal.main_arg3) = m ((c.tc : Thread Cert.KernelProjectOddIdeal.nD Cert.KernelProjectOddIdeal.τ).loc Cert.KernelProjectOddIdeal.main_arg3))
      ∧ r.2.sem = fun _ => 0)

def quiescent_ReferenceProjectOddIdeal [hReferenceProjectOddIdeal : Cert.ReferenceProjectOddIdeal.Facts] : Prop :=
  ∀ (m : (ℓ : Loc Cert.ReferenceProjectOddIdeal.nD Cert.ReferenceProjectOddIdeal.τ Cert.ReferenceProjectOddIdeal.sig) → Buf (Elt Ideal) ℓ) (g : Dev Cert.ReferenceProjectOddIdeal.nD → PrngReg), Pre_ReferenceProjectOddIdeal m →
    θ_run (Cert.ReferenceProjectOddIdeal.defs (F := Ideal)) (onTc (τ := Cert.ReferenceProjectOddIdeal.τ) (Cert.ReferenceProjectOddIdeal.main (F := Ideal))) ⟨m, fun _ => 0, g⟩ (fun r => (∀ c : Dev Cert.ReferenceProjectOddIdeal.nD,
      r.2.mem ((c.tc : Thread Cert.ReferenceProjectOddIdeal.nD Cert.ReferenceProjectOddIdeal.τ).loc Cert.ReferenceProjectOddIdeal.main_arg0) = m ((c.tc : Thread Cert.ReferenceProjectOddIdeal.nD Cert.ReferenceProjectOddIdeal.τ).loc Cert.ReferenceProjectOddIdeal.main_arg0)
      ∧ r.2.mem ((c.tc : Thread Cert.ReferenceProjectOddIdeal.nD Cert.ReferenceProjectOddIdeal.τ).loc Cert.ReferenceProjectOddIdeal.main_arg1) = m ((c.tc : Thread Cert.ReferenceProjectOddIdeal.nD Cert.ReferenceProjectOddIdeal.τ).loc Cert.ReferenceProjectOddIdeal.main_arg1)
      ∧ r.2.mem ((c.tc : Thread Cert.ReferenceProjectOddIdeal.nD Cert.ReferenceProjectOddIdeal.τ).loc Cert.ReferenceProjectOddIdeal.main_arg2) = m ((c.tc : Thread Cert.ReferenceProjectOddIdeal.nD Cert.ReferenceProjectOddIdeal.τ).loc Cert.ReferenceProjectOddIdeal.main_arg2)
      ∧ r.2.mem ((c.tc : Thread Cert.ReferenceProjectOddIdeal.nD Cert.ReferenceProjectOddIdeal.τ).loc Cert.ReferenceProjectOddIdeal.main_arg3) = m ((c.tc : Thread Cert.ReferenceProjectOddIdeal.nD Cert.ReferenceProjectOddIdeal.τ).loc Cert.ReferenceProjectOddIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelEven_KernelEvenIdeal : Prop :=
  True

def algebraic_KernelEvenIdeal_ReferenceEvenIdeal_pre_finite_even [hKernelEvenIdeal : Cert.KernelEvenIdeal.Facts] [hReferenceEvenIdeal : Cert.ReferenceEvenIdeal.Facts] [hPre_finite_even : Cert.Pre_finite_even.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal_finite_even m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)
      ∧ m' ((c.tc : Thread Cert.ReferenceEvenIdeal.nD Cert.ReferenceEvenIdeal.τ).loc Cert.ReferenceEvenIdeal.main_arg3) = m ((c.tc : Thread Cert.KernelEvenIdeal.nD Cert.KernelEvenIdeal.τ).loc Cert.KernelEvenIdeal.main_arg3)
      ∧ m' ((c.tc : Thread Cert.ReferenceEvenIdeal.nD Cert.ReferenceEvenIdeal.τ).loc Cert.ReferenceEvenIdeal.main_arg4) = m ((c.tc : Thread Cert.KernelEvenIdeal.nD Cert.KernelEvenIdeal.τ).loc Cert.KernelEvenIdeal.main_arg4)
      ∧ m' ((c.tc : Thread Cert.ReferenceEvenIdeal.nD Cert.ReferenceEvenIdeal.τ).loc Cert.ReferenceEvenIdeal.main_arg5) = m ((c.tc : Thread Cert.KernelEvenIdeal.nD Cert.KernelEvenIdeal.τ).loc Cert.KernelEvenIdeal.main_arg5)
      ∧ m' ((c.tc : Thread Cert.ReferenceEvenIdeal.nD Cert.ReferenceEvenIdeal.τ).loc Cert.ReferenceEvenIdeal.main_arg6) = m ((c.tc : Thread Cert.KernelEvenIdeal.nD Cert.KernelEvenIdeal.τ).loc Cert.KernelEvenIdeal.main_arg6)
      ∧ m' ((c.tc : Thread Cert.ReferenceEvenIdeal.nD Cert.ReferenceEvenIdeal.τ).loc Cert.ReferenceEvenIdeal.main_arg7) = m ((c.tc : Thread Cert.KernelEvenIdeal.nD Cert.KernelEvenIdeal.τ).loc Cert.KernelEvenIdeal.main_arg7)
      ∧ m' ((c.tc : Thread Cert.ReferenceEvenIdeal.nD Cert.ReferenceEvenIdeal.τ).loc Cert.ReferenceEvenIdeal.main_arg8) = m ((c.tc : Thread Cert.KernelEvenIdeal.nD Cert.KernelEvenIdeal.τ).loc Cert.KernelEvenIdeal.main_arg8)
      ∧ m' ((c.tc : Thread Cert.ReferenceEvenIdeal.nD Cert.ReferenceEvenIdeal.τ).loc Cert.ReferenceEvenIdeal.main_arg9) = m ((c.tc : Thread Cert.KernelEvenIdeal.nD Cert.KernelEvenIdeal.τ).loc Cert.KernelEvenIdeal.main_arg9)) →
    ∃ (v0 : (c : Dev Cert.KernelEvenIdeal.nD) → Buf (Elt Ideal) ((c.tc : Thread Cert.KernelEvenIdeal.nD Cert.KernelEvenIdeal.τ).loc Cert.KernelEvenIdeal.main_v1)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v1) = v0 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
          ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
          ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
          ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
          ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
          ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7)
          ∧ r.2.mem ((c.tc : Thread Cert.KernelEvenIdeal.nD Cert.KernelEvenIdeal.τ).loc Cert.KernelEvenIdeal.main_arg8) = m ((c.tc : Thread Cert.KernelEvenIdeal.nD Cert.KernelEvenIdeal.τ).loc Cert.KernelEvenIdeal.main_arg8)
          ∧ r.2.mem ((c.tc : Thread Cert.KernelEvenIdeal.nD Cert.KernelEvenIdeal.τ).loc Cert.KernelEvenIdeal.main_arg9) = m ((c.tc : Thread Cert.KernelEvenIdeal.nD Cert.KernelEvenIdeal.τ).loc Cert.KernelEvenIdeal.main_arg9))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v83) = v0 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3)
          ∧ r.2.mem ((c.tc : Thread Cert.ReferenceEvenIdeal.nD Cert.ReferenceEvenIdeal.τ).loc Cert.ReferenceEvenIdeal.main_arg4) = m' ((c.tc : Thread Cert.ReferenceEvenIdeal.nD Cert.ReferenceEvenIdeal.τ).loc Cert.ReferenceEvenIdeal.main_arg4)
          ∧ r.2.mem ((c.tc : Thread Cert.ReferenceEvenIdeal.nD Cert.ReferenceEvenIdeal.τ).loc Cert.ReferenceEvenIdeal.main_arg5) = m' ((c.tc : Thread Cert.ReferenceEvenIdeal.nD Cert.ReferenceEvenIdeal.τ).loc Cert.ReferenceEvenIdeal.main_arg5)
          ∧ r.2.mem ((c.tc : Thread Cert.ReferenceEvenIdeal.nD Cert.ReferenceEvenIdeal.τ).loc Cert.ReferenceEvenIdeal.main_arg6) = m' ((c.tc : Thread Cert.ReferenceEvenIdeal.nD Cert.ReferenceEvenIdeal.τ).loc Cert.ReferenceEvenIdeal.main_arg6)
          ∧ r.2.mem ((c.tc : Thread Cert.ReferenceEvenIdeal.nD Cert.ReferenceEvenIdeal.τ).loc Cert.ReferenceEvenIdeal.main_arg7) = m' ((c.tc : Thread Cert.ReferenceEvenIdeal.nD Cert.ReferenceEvenIdeal.τ).loc Cert.ReferenceEvenIdeal.main_arg7)
          ∧ r.2.mem ((c.tc : Thread Cert.ReferenceEvenIdeal.nD Cert.ReferenceEvenIdeal.τ).loc Cert.ReferenceEvenIdeal.main_arg8) = m' ((c.tc : Thread Cert.ReferenceEvenIdeal.nD Cert.ReferenceEvenIdeal.τ).loc Cert.ReferenceEvenIdeal.main_arg8)
          ∧ r.2.mem ((c.tc : Thread Cert.ReferenceEvenIdeal.nD Cert.ReferenceEvenIdeal.τ).loc Cert.ReferenceEvenIdeal.main_arg9) = m' ((c.tc : Thread Cert.ReferenceEvenIdeal.nD Cert.ReferenceEvenIdeal.τ).loc Cert.ReferenceEvenIdeal.main_arg9))

def preserves_KernelOdd_KernelOddIdeal : Prop :=
  True

def algebraic_KernelOddIdeal_ReferenceOddIdeal_pre_finite_odd [hKernelOddIdeal : Cert.KernelOddIdeal.Facts] [hReferenceOddIdeal : Cert.ReferenceOddIdeal.Facts] [hPre_finite_odd : Cert.Pre_finite_odd.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal_finite_odd m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)
      ∧ m' ((c.tc : Thread Cert.ReferenceOddIdeal.nD Cert.ReferenceOddIdeal.τ).loc Cert.ReferenceOddIdeal.main_arg3) = m ((c.tc : Thread Cert.KernelOddIdeal.nD Cert.KernelOddIdeal.τ).loc Cert.KernelOddIdeal.main_arg3)
      ∧ m' ((c.tc : Thread Cert.ReferenceOddIdeal.nD Cert.ReferenceOddIdeal.τ).loc Cert.ReferenceOddIdeal.main_arg4) = m ((c.tc : Thread Cert.KernelOddIdeal.nD Cert.KernelOddIdeal.τ).loc Cert.KernelOddIdeal.main_arg4)
      ∧ m' ((c.tc : Thread Cert.ReferenceOddIdeal.nD Cert.ReferenceOddIdeal.τ).loc Cert.ReferenceOddIdeal.main_arg5) = m ((c.tc : Thread Cert.KernelOddIdeal.nD Cert.KernelOddIdeal.τ).loc Cert.KernelOddIdeal.main_arg5)
      ∧ m' ((c.tc : Thread Cert.ReferenceOddIdeal.nD Cert.ReferenceOddIdeal.τ).loc Cert.ReferenceOddIdeal.main_arg6) = m ((c.tc : Thread Cert.KernelOddIdeal.nD Cert.KernelOddIdeal.τ).loc Cert.KernelOddIdeal.main_arg6)
      ∧ m' ((c.tc : Thread Cert.ReferenceOddIdeal.nD Cert.ReferenceOddIdeal.τ).loc Cert.ReferenceOddIdeal.main_arg7) = m ((c.tc : Thread Cert.KernelOddIdeal.nD Cert.KernelOddIdeal.τ).loc Cert.KernelOddIdeal.main_arg7)) →
    ∃ (v0 : (c : Dev Cert.KernelOddIdeal.nD) → Buf (Elt Ideal) ((c.tc : Thread Cert.KernelOddIdeal.nD Cert.KernelOddIdeal.τ).loc Cert.KernelOddIdeal.main_v1)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v1) = v0 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
          ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
          ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
          ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5)
          ∧ r.2.mem ((c.tc : Thread Cert.KernelOddIdeal.nD Cert.KernelOddIdeal.τ).loc Cert.KernelOddIdeal.main_arg6) = m ((c.tc : Thread Cert.KernelOddIdeal.nD Cert.KernelOddIdeal.τ).loc Cert.KernelOddIdeal.main_arg6)
          ∧ r.2.mem ((c.tc : Thread Cert.KernelOddIdeal.nD Cert.KernelOddIdeal.τ).loc Cert.KernelOddIdeal.main_arg7) = m ((c.tc : Thread Cert.KernelOddIdeal.nD Cert.KernelOddIdeal.τ).loc Cert.KernelOddIdeal.main_arg7))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v79) = v0 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2)
          ∧ r.2.mem ((c.tc : Thread Cert.ReferenceOddIdeal.nD Cert.ReferenceOddIdeal.τ).loc Cert.ReferenceOddIdeal.main_arg3) = m' ((c.tc : Thread Cert.ReferenceOddIdeal.nD Cert.ReferenceOddIdeal.τ).loc Cert.ReferenceOddIdeal.main_arg3)
          ∧ r.2.mem ((c.tc : Thread Cert.ReferenceOddIdeal.nD Cert.ReferenceOddIdeal.τ).loc Cert.ReferenceOddIdeal.main_arg4) = m' ((c.tc : Thread Cert.ReferenceOddIdeal.nD Cert.ReferenceOddIdeal.τ).loc Cert.ReferenceOddIdeal.main_arg4)
          ∧ r.2.mem ((c.tc : Thread Cert.ReferenceOddIdeal.nD Cert.ReferenceOddIdeal.τ).loc Cert.ReferenceOddIdeal.main_arg5) = m' ((c.tc : Thread Cert.ReferenceOddIdeal.nD Cert.ReferenceOddIdeal.τ).loc Cert.ReferenceOddIdeal.main_arg5)
          ∧ r.2.mem ((c.tc : Thread Cert.ReferenceOddIdeal.nD Cert.ReferenceOddIdeal.τ).loc Cert.ReferenceOddIdeal.main_arg6) = m' ((c.tc : Thread Cert.ReferenceOddIdeal.nD Cert.ReferenceOddIdeal.τ).loc Cert.ReferenceOddIdeal.main_arg6)
          ∧ r.2.mem ((c.tc : Thread Cert.ReferenceOddIdeal.nD Cert.ReferenceOddIdeal.τ).loc Cert.ReferenceOddIdeal.main_arg7) = m' ((c.tc : Thread Cert.ReferenceOddIdeal.nD Cert.ReferenceOddIdeal.τ).loc Cert.ReferenceOddIdeal.main_arg7))

def preserves_KernelFinal_KernelFinalIdeal : Prop :=
  True

def algebraic_KernelFinalIdeal_ReferenceFinalIdeal_pre_finite_final [hKernelFinalIdeal : Cert.KernelFinalIdeal.Facts] [hReferenceFinalIdeal : Cert.ReferenceFinalIdeal.Facts] [hPre_finite_final : Cert.Pre_finite_final.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal_finite_final m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)
      ∧ m' ((c.tc : Thread Cert.ReferenceFinalIdeal.nD Cert.ReferenceFinalIdeal.τ).loc Cert.ReferenceFinalIdeal.main_arg5) = m ((c.tc : Thread Cert.KernelFinalIdeal.nD Cert.KernelFinalIdeal.τ).loc Cert.KernelFinalIdeal.main_arg5)
      ∧ m' ((c.tc : Thread Cert.ReferenceFinalIdeal.nD Cert.ReferenceFinalIdeal.τ).loc Cert.ReferenceFinalIdeal.main_arg6) = m ((c.tc : Thread Cert.KernelFinalIdeal.nD Cert.KernelFinalIdeal.τ).loc Cert.KernelFinalIdeal.main_arg6)
      ∧ m' ((c.tc : Thread Cert.ReferenceFinalIdeal.nD Cert.ReferenceFinalIdeal.τ).loc Cert.ReferenceFinalIdeal.main_arg7) = m ((c.tc : Thread Cert.KernelFinalIdeal.nD Cert.KernelFinalIdeal.τ).loc Cert.KernelFinalIdeal.main_arg7)
      ∧ m' ((c.tc : Thread Cert.ReferenceFinalIdeal.nD Cert.ReferenceFinalIdeal.τ).loc Cert.ReferenceFinalIdeal.main_arg8) = m ((c.tc : Thread Cert.KernelFinalIdeal.nD Cert.KernelFinalIdeal.τ).loc Cert.KernelFinalIdeal.main_arg8)) →
    ∃ (v0 : (c : Dev Cert.KernelFinalIdeal.nD) → Buf (Elt Ideal) ((c.tc : Thread Cert.KernelFinalIdeal.nD Cert.KernelFinalIdeal.τ).loc Cert.KernelFinalIdeal.main_v2_0)) (v1 : (c : Dev Cert.KernelFinalIdeal.nD) → Buf (Elt Ideal) ((c.tc : Thread Cert.KernelFinalIdeal.nD Cert.KernelFinalIdeal.τ).loc Cert.KernelFinalIdeal.main_v2_1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v2_0) = v0 c
          ∧ r.2.mem ((c.tc : Thread Cert.KernelFinalIdeal.nD Cert.KernelFinalIdeal.τ).loc Cert.KernelFinalIdeal.main_v2_1) = v1 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
          ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
          ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
          ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7)
          ∧ r.2.mem ((c.tc : Thread Cert.KernelFinalIdeal.nD Cert.KernelFinalIdeal.τ).loc Cert.KernelFinalIdeal.main_arg8) = m ((c.tc : Thread Cert.KernelFinalIdeal.nD Cert.KernelFinalIdeal.τ).loc Cert.KernelFinalIdeal.main_arg8))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v93) = v0 c
          ∧ r.2.mem ((c.tc : Thread Cert.ReferenceFinalIdeal.nD Cert.ReferenceFinalIdeal.τ).loc Cert.ReferenceFinalIdeal.main_v94) = v1 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5)
          ∧ r.2.mem ((c.tc : Thread Cert.ReferenceFinalIdeal.nD Cert.ReferenceFinalIdeal.τ).loc Cert.ReferenceFinalIdeal.main_arg6) = m' ((c.tc : Thread Cert.ReferenceFinalIdeal.nD Cert.ReferenceFinalIdeal.τ).loc Cert.ReferenceFinalIdeal.main_arg6)
          ∧ r.2.mem ((c.tc : Thread Cert.ReferenceFinalIdeal.nD Cert.ReferenceFinalIdeal.τ).loc Cert.ReferenceFinalIdeal.main_arg7) = m' ((c.tc : Thread Cert.ReferenceFinalIdeal.nD Cert.ReferenceFinalIdeal.τ).loc Cert.ReferenceFinalIdeal.main_arg7)
          ∧ r.2.mem ((c.tc : Thread Cert.ReferenceFinalIdeal.nD Cert.ReferenceFinalIdeal.τ).loc Cert.ReferenceFinalIdeal.main_arg8) = m' ((c.tc : Thread Cert.ReferenceFinalIdeal.nD Cert.ReferenceFinalIdeal.τ).loc Cert.ReferenceFinalIdeal.main_arg8))

def preserves_KernelFirst_KernelFirstIdeal : Prop :=
  True

def algebraic_KernelFirstIdeal_ReferenceFirstIdeal_pre_finite_first [hKernelFirstIdeal : Cert.KernelFirstIdeal.Facts] [hReferenceFirstIdeal : Cert.ReferenceFirstIdeal.Facts] [hPre_finite_first : Cert.Pre_finite_first.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal_finite_first m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)
      ∧ m' ((c.tc : Thread Cert.ReferenceFirstIdeal.nD Cert.ReferenceFirstIdeal.τ).loc Cert.ReferenceFirstIdeal.main_arg3) = m ((c.tc : Thread Cert.KernelFirstIdeal.nD Cert.KernelFirstIdeal.τ).loc Cert.KernelFirstIdeal.main_arg3)
      ∧ m' ((c.tc : Thread Cert.ReferenceFirstIdeal.nD Cert.ReferenceFirstIdeal.τ).loc Cert.ReferenceFirstIdeal.main_arg4) = m ((c.tc : Thread Cert.KernelFirstIdeal.nD Cert.KernelFirstIdeal.τ).loc Cert.KernelFirstIdeal.main_arg4)
      ∧ m' ((c.tc : Thread Cert.ReferenceFirstIdeal.nD Cert.ReferenceFirstIdeal.τ).loc Cert.ReferenceFirstIdeal.main_arg5) = m ((c.tc : Thread Cert.KernelFirstIdeal.nD Cert.KernelFirstIdeal.τ).loc Cert.KernelFirstIdeal.main_arg5)
      ∧ m' ((c.tc : Thread Cert.ReferenceFirstIdeal.nD Cert.ReferenceFirstIdeal.τ).loc Cert.ReferenceFirstIdeal.main_arg6) = m ((c.tc : Thread Cert.KernelFirstIdeal.nD Cert.KernelFirstIdeal.τ).loc Cert.KernelFirstIdeal.main_arg6)
      ∧ m' ((c.tc : Thread Cert.ReferenceFirstIdeal.nD Cert.ReferenceFirstIdeal.τ).loc Cert.ReferenceFirstIdeal.main_arg7) = m ((c.tc : Thread Cert.KernelFirstIdeal.nD Cert.KernelFirstIdeal.τ).loc Cert.KernelFirstIdeal.main_arg7)) →
    ∃ (v0 : (c : Dev Cert.KernelFirstIdeal.nD) → Buf (Elt Ideal) ((c.tc : Thread Cert.KernelFirstIdeal.nD Cert.KernelFirstIdeal.τ).loc Cert.KernelFirstIdeal.main_v1)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v1) = v0 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
          ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
          ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
          ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
          ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6)
          ∧ r.2.mem ((c.tc : Thread Cert.KernelFirstIdeal.nD Cert.KernelFirstIdeal.τ).loc Cert.KernelFirstIdeal.main_arg7) = m ((c.tc : Thread Cert.KernelFirstIdeal.nD Cert.KernelFirstIdeal.τ).loc Cert.KernelFirstIdeal.main_arg7))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v68) = v0 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4)
          ∧ r.2.mem ((c.tc : Thread Cert.ReferenceFirstIdeal.nD Cert.ReferenceFirstIdeal.τ).loc Cert.ReferenceFirstIdeal.main_arg5) = m' ((c.tc : Thread Cert.ReferenceFirstIdeal.nD Cert.ReferenceFirstIdeal.τ).loc Cert.ReferenceFirstIdeal.main_arg5)
          ∧ r.2.mem ((c.tc : Thread Cert.ReferenceFirstIdeal.nD Cert.ReferenceFirstIdeal.τ).loc Cert.ReferenceFirstIdeal.main_arg6) = m' ((c.tc : Thread Cert.ReferenceFirstIdeal.nD Cert.ReferenceFirstIdeal.τ).loc Cert.ReferenceFirstIdeal.main_arg6)
          ∧ r.2.mem ((c.tc : Thread Cert.ReferenceFirstIdeal.nD Cert.ReferenceFirstIdeal.τ).loc Cert.ReferenceFirstIdeal.main_arg7) = m' ((c.tc : Thread Cert.ReferenceFirstIdeal.nD Cert.ReferenceFirstIdeal.τ).loc Cert.ReferenceFirstIdeal.main_arg7))

def preserves_KernelProjectEven_KernelProjectEvenIdeal : Prop :=
  True

def algebraic_KernelProjectEvenIdeal_ReferenceProjectEvenIdeal [hKernelProjectEvenIdeal : Cert.KernelProjectEvenIdeal.Facts] [hReferenceProjectEvenIdeal : Cert.ReferenceProjectEvenIdeal.Facts] : Prop :=
  ∀ (m : (ℓ : Loc Cert.KernelProjectEvenIdeal.nD Cert.KernelProjectEvenIdeal.τ Cert.KernelProjectEvenIdeal.sig) → Buf (Elt Ideal) ℓ) (g : Dev Cert.KernelProjectEvenIdeal.nD → PrngReg)
    (m' : (ℓ : Loc Cert.ReferenceProjectEvenIdeal.nD Cert.ReferenceProjectEvenIdeal.τ Cert.ReferenceProjectEvenIdeal.sig) → Buf (Elt Ideal) ℓ) (g' : Dev Cert.ReferenceProjectEvenIdeal.nD → PrngReg), Pre_KernelProjectEvenIdeal m →
    (∀ c : Dev Cert.KernelProjectEvenIdeal.nD,
      m' ((c.tc : Thread Cert.ReferenceProjectEvenIdeal.nD Cert.ReferenceProjectEvenIdeal.τ).loc Cert.ReferenceProjectEvenIdeal.main_arg0) = m ((c.tc : Thread Cert.KernelProjectEvenIdeal.nD Cert.KernelProjectEvenIdeal.τ).loc Cert.KernelProjectEvenIdeal.main_arg0)
      ∧ m' ((c.tc : Thread Cert.ReferenceProjectEvenIdeal.nD Cert.ReferenceProjectEvenIdeal.τ).loc Cert.ReferenceProjectEvenIdeal.main_arg1) = m ((c.tc : Thread Cert.KernelProjectEvenIdeal.nD Cert.KernelProjectEvenIdeal.τ).loc Cert.KernelProjectEvenIdeal.main_arg1)
      ∧ m' ((c.tc : Thread Cert.ReferenceProjectEvenIdeal.nD Cert.ReferenceProjectEvenIdeal.τ).loc Cert.ReferenceProjectEvenIdeal.main_arg2) = m ((c.tc : Thread Cert.KernelProjectEvenIdeal.nD Cert.KernelProjectEvenIdeal.τ).loc Cert.KernelProjectEvenIdeal.main_arg2)
      ∧ m' ((c.tc : Thread Cert.ReferenceProjectEvenIdeal.nD Cert.ReferenceProjectEvenIdeal.τ).loc Cert.ReferenceProjectEvenIdeal.main_arg3) = m ((c.tc : Thread Cert.KernelProjectEvenIdeal.nD Cert.KernelProjectEvenIdeal.τ).loc Cert.KernelProjectEvenIdeal.main_arg3)) →
    ∃ (v0 : (c : Dev Cert.KernelProjectEvenIdeal.nD) → Buf (Elt Ideal) ((c.tc : Thread Cert.KernelProjectEvenIdeal.nD Cert.KernelProjectEvenIdeal.τ).loc Cert.KernelProjectEvenIdeal.main_v2_0)) (v1 : (c : Dev Cert.KernelProjectEvenIdeal.nD) → Buf (Elt Ideal) ((c.tc : Thread Cert.KernelProjectEvenIdeal.nD Cert.KernelProjectEvenIdeal.τ).loc Cert.KernelProjectEvenIdeal.main_v2_1)) (v2 : (c : Dev Cert.KernelProjectEvenIdeal.nD) → Buf (Elt Ideal) ((c.tc : Thread Cert.KernelProjectEvenIdeal.nD Cert.KernelProjectEvenIdeal.τ).loc Cert.KernelProjectEvenIdeal.main_v2_2)) (v3 : (c : Dev Cert.KernelProjectEvenIdeal.nD) → Buf (Elt Ideal) ((c.tc : Thread Cert.KernelProjectEvenIdeal.nD Cert.KernelProjectEvenIdeal.τ).loc Cert.KernelProjectEvenIdeal.main_v2_3)),
      θ_run (Cert.KernelProjectEvenIdeal.defs (F := Ideal)) (onTc (τ := Cert.KernelProjectEvenIdeal.τ) (Cert.KernelProjectEvenIdeal.main (F := Ideal))) ⟨m, fun _ => 0, g⟩ (fun r => ∀ c : Dev Cert.KernelProjectEvenIdeal.nD,
          r.2.mem ((c.tc : Thread Cert.KernelProjectEvenIdeal.nD Cert.KernelProjectEvenIdeal.τ).loc Cert.KernelProjectEvenIdeal.main_v2_0) = v0 c
          ∧ r.2.mem ((c.tc : Thread Cert.KernelProjectEvenIdeal.nD Cert.KernelProjectEvenIdeal.τ).loc Cert.KernelProjectEvenIdeal.main_v2_1) = v1 c
          ∧ r.2.mem ((c.tc : Thread Cert.KernelProjectEvenIdeal.nD Cert.KernelProjectEvenIdeal.τ).loc Cert.KernelProjectEvenIdeal.main_v2_2) = v2 c
          ∧ r.2.mem ((c.tc : Thread Cert.KernelProjectEvenIdeal.nD Cert.KernelProjectEvenIdeal.τ).loc Cert.KernelProjectEvenIdeal.main_v2_3) = v3 c
          ∧ r.2.mem ((c.tc : Thread Cert.KernelProjectEvenIdeal.nD Cert.KernelProjectEvenIdeal.τ).loc Cert.KernelProjectEvenIdeal.main_arg0) = m ((c.tc : Thread Cert.KernelProjectEvenIdeal.nD Cert.KernelProjectEvenIdeal.τ).loc Cert.KernelProjectEvenIdeal.main_arg0)
          ∧ r.2.mem ((c.tc : Thread Cert.KernelProjectEvenIdeal.nD Cert.KernelProjectEvenIdeal.τ).loc Cert.KernelProjectEvenIdeal.main_arg1) = m ((c.tc : Thread Cert.KernelProjectEvenIdeal.nD Cert.KernelProjectEvenIdeal.τ).loc Cert.KernelProjectEvenIdeal.main_arg1)
          ∧ r.2.mem ((c.tc : Thread Cert.KernelProjectEvenIdeal.nD Cert.KernelProjectEvenIdeal.τ).loc Cert.KernelProjectEvenIdeal.main_arg2) = m ((c.tc : Thread Cert.KernelProjectEvenIdeal.nD Cert.KernelProjectEvenIdeal.τ).loc Cert.KernelProjectEvenIdeal.main_arg2)
          ∧ r.2.mem ((c.tc : Thread Cert.KernelProjectEvenIdeal.nD Cert.KernelProjectEvenIdeal.τ).loc Cert.KernelProjectEvenIdeal.main_arg3) = m ((c.tc : Thread Cert.KernelProjectEvenIdeal.nD Cert.KernelProjectEvenIdeal.τ).loc Cert.KernelProjectEvenIdeal.main_arg3))
      ∧ θ_run (Cert.ReferenceProjectEvenIdeal.defs (F := Ideal)) (onTc (τ := Cert.ReferenceProjectEvenIdeal.τ) (Cert.ReferenceProjectEvenIdeal.main (F := Ideal))) ⟨m', fun _ => 0, g'⟩ (fun r => ∀ c : Dev Cert.ReferenceProjectEvenIdeal.nD,
          r.2.mem ((c.tc : Thread Cert.ReferenceProjectEvenIdeal.nD Cert.ReferenceProjectEvenIdeal.τ).loc Cert.ReferenceProjectEvenIdeal.main_v43) = v0 c
          ∧ r.2.mem ((c.tc : Thread Cert.ReferenceProjectEvenIdeal.nD Cert.ReferenceProjectEvenIdeal.τ).loc Cert.ReferenceProjectEvenIdeal.main_v42) = v1 c
          ∧ r.2.mem ((c.tc : Thread Cert.ReferenceProjectEvenIdeal.nD Cert.ReferenceProjectEvenIdeal.τ).loc Cert.ReferenceProjectEvenIdeal.main_v44) = v2 c
          ∧ r.2.mem ((c.tc : Thread Cert.ReferenceProjectEvenIdeal.nD Cert.ReferenceProjectEvenIdeal.τ).loc Cert.ReferenceProjectEvenIdeal.main_v45) = v3 c
          ∧ r.2.mem ((c.tc : Thread Cert.ReferenceProjectEvenIdeal.nD Cert.ReferenceProjectEvenIdeal.τ).loc Cert.ReferenceProjectEvenIdeal.main_arg0) = m' ((c.tc : Thread Cert.ReferenceProjectEvenIdeal.nD Cert.ReferenceProjectEvenIdeal.τ).loc Cert.ReferenceProjectEvenIdeal.main_arg0)
          ∧ r.2.mem ((c.tc : Thread Cert.ReferenceProjectEvenIdeal.nD Cert.ReferenceProjectEvenIdeal.τ).loc Cert.ReferenceProjectEvenIdeal.main_arg1) = m' ((c.tc : Thread Cert.ReferenceProjectEvenIdeal.nD Cert.ReferenceProjectEvenIdeal.τ).loc Cert.ReferenceProjectEvenIdeal.main_arg1)
          ∧ r.2.mem ((c.tc : Thread Cert.ReferenceProjectEvenIdeal.nD Cert.ReferenceProjectEvenIdeal.τ).loc Cert.ReferenceProjectEvenIdeal.main_arg2) = m' ((c.tc : Thread Cert.ReferenceProjectEvenIdeal.nD Cert.ReferenceProjectEvenIdeal.τ).loc Cert.ReferenceProjectEvenIdeal.main_arg2)
          ∧ r.2.mem ((c.tc : Thread Cert.ReferenceProjectEvenIdeal.nD Cert.ReferenceProjectEvenIdeal.τ).loc Cert.ReferenceProjectEvenIdeal.main_arg3) = m' ((c.tc : Thread Cert.ReferenceProjectEvenIdeal.nD Cert.ReferenceProjectEvenIdeal.τ).loc Cert.ReferenceProjectEvenIdeal.main_arg3))

def preserves_KernelProjectOdd_KernelProjectOddIdeal : Prop :=
  True

def algebraic_KernelProjectOddIdeal_ReferenceProjectOddIdeal [hKernelProjectOddIdeal : Cert.KernelProjectOddIdeal.Facts] [hReferenceProjectOddIdeal : Cert.ReferenceProjectOddIdeal.Facts] : Prop :=
  ∀ (m : (ℓ : Loc Cert.KernelProjectOddIdeal.nD Cert.KernelProjectOddIdeal.τ Cert.KernelProjectOddIdeal.sig) → Buf (Elt Ideal) ℓ) (g : Dev Cert.KernelProjectOddIdeal.nD → PrngReg)
    (m' : (ℓ : Loc Cert.ReferenceProjectOddIdeal.nD Cert.ReferenceProjectOddIdeal.τ Cert.ReferenceProjectOddIdeal.sig) → Buf (Elt Ideal) ℓ) (g' : Dev Cert.ReferenceProjectOddIdeal.nD → PrngReg), Pre_KernelProjectOddIdeal m →
    (∀ c : Dev Cert.KernelProjectOddIdeal.nD,
      m' ((c.tc : Thread Cert.ReferenceProjectOddIdeal.nD Cert.ReferenceProjectOddIdeal.τ).loc Cert.ReferenceProjectOddIdeal.main_arg0) = m ((c.tc : Thread Cert.KernelProjectOddIdeal.nD Cert.KernelProjectOddIdeal.τ).loc Cert.KernelProjectOddIdeal.main_arg0)
      ∧ m' ((c.tc : Thread Cert.ReferenceProjectOddIdeal.nD Cert.ReferenceProjectOddIdeal.τ).loc Cert.ReferenceProjectOddIdeal.main_arg1) = m ((c.tc : Thread Cert.KernelProjectOddIdeal.nD Cert.KernelProjectOddIdeal.τ).loc Cert.KernelProjectOddIdeal.main_arg1)
      ∧ m' ((c.tc : Thread Cert.ReferenceProjectOddIdeal.nD Cert.ReferenceProjectOddIdeal.τ).loc Cert.ReferenceProjectOddIdeal.main_arg2) = m ((c.tc : Thread Cert.KernelProjectOddIdeal.nD Cert.KernelProjectOddIdeal.τ).loc Cert.KernelProjectOddIdeal.main_arg2)
      ∧ m' ((c.tc : Thread Cert.ReferenceProjectOddIdeal.nD Cert.ReferenceProjectOddIdeal.τ).loc Cert.ReferenceProjectOddIdeal.main_arg3) = m ((c.tc : Thread Cert.KernelProjectOddIdeal.nD Cert.KernelProjectOddIdeal.τ).loc Cert.KernelProjectOddIdeal.main_arg3)) →
    ∃ (v0 : (c : Dev Cert.KernelProjectOddIdeal.nD) → Buf (Elt Ideal) ((c.tc : Thread Cert.KernelProjectOddIdeal.nD Cert.KernelProjectOddIdeal.τ).loc Cert.KernelProjectOddIdeal.main_v1_0)) (v1 : (c : Dev Cert.KernelProjectOddIdeal.nD) → Buf (Elt Ideal) ((c.tc : Thread Cert.KernelProjectOddIdeal.nD Cert.KernelProjectOddIdeal.τ).loc Cert.KernelProjectOddIdeal.main_v1_1)),
      θ_run (Cert.KernelProjectOddIdeal.defs (F := Ideal)) (onTc (τ := Cert.KernelProjectOddIdeal.τ) (Cert.KernelProjectOddIdeal.main (F := Ideal))) ⟨m, fun _ => 0, g⟩ (fun r => ∀ c : Dev Cert.KernelProjectOddIdeal.nD,
          r.2.mem ((c.tc : Thread Cert.KernelProjectOddIdeal.nD Cert.KernelProjectOddIdeal.τ).loc Cert.KernelProjectOddIdeal.main_v1_0) = v0 c
          ∧ r.2.mem ((c.tc : Thread Cert.KernelProjectOddIdeal.nD Cert.KernelProjectOddIdeal.τ).loc Cert.KernelProjectOddIdeal.main_v1_1) = v1 c
          ∧ r.2.mem ((c.tc : Thread Cert.KernelProjectOddIdeal.nD Cert.KernelProjectOddIdeal.τ).loc Cert.KernelProjectOddIdeal.main_arg0) = m ((c.tc : Thread Cert.KernelProjectOddIdeal.nD Cert.KernelProjectOddIdeal.τ).loc Cert.KernelProjectOddIdeal.main_arg0)
          ∧ r.2.mem ((c.tc : Thread Cert.KernelProjectOddIdeal.nD Cert.KernelProjectOddIdeal.τ).loc Cert.KernelProjectOddIdeal.main_arg1) = m ((c.tc : Thread Cert.KernelProjectOddIdeal.nD Cert.KernelProjectOddIdeal.τ).loc Cert.KernelProjectOddIdeal.main_arg1)
          ∧ r.2.mem ((c.tc : Thread Cert.KernelProjectOddIdeal.nD Cert.KernelProjectOddIdeal.τ).loc Cert.KernelProjectOddIdeal.main_arg2) = m ((c.tc : Thread Cert.KernelProjectOddIdeal.nD Cert.KernelProjectOddIdeal.τ).loc Cert.KernelProjectOddIdeal.main_arg2)
          ∧ r.2.mem ((c.tc : Thread Cert.KernelProjectOddIdeal.nD Cert.KernelProjectOddIdeal.τ).loc Cert.KernelProjectOddIdeal.main_arg3) = m ((c.tc : Thread Cert.KernelProjectOddIdeal.nD Cert.KernelProjectOddIdeal.τ).loc Cert.KernelProjectOddIdeal.main_arg3))
      ∧ θ_run (Cert.ReferenceProjectOddIdeal.defs (F := Ideal)) (onTc (τ := Cert.ReferenceProjectOddIdeal.τ) (Cert.ReferenceProjectOddIdeal.main (F := Ideal))) ⟨m', fun _ => 0, g'⟩ (fun r => ∀ c : Dev Cert.ReferenceProjectOddIdeal.nD,
          r.2.mem ((c.tc : Thread Cert.ReferenceProjectOddIdeal.nD Cert.ReferenceProjectOddIdeal.τ).loc Cert.ReferenceProjectOddIdeal.main_v42) = v0 c
          ∧ r.2.mem ((c.tc : Thread Cert.ReferenceProjectOddIdeal.nD Cert.ReferenceProjectOddIdeal.τ).loc Cert.ReferenceProjectOddIdeal.main_v43) = v1 c
          ∧ r.2.mem ((c.tc : Thread Cert.ReferenceProjectOddIdeal.nD Cert.ReferenceProjectOddIdeal.τ).loc Cert.ReferenceProjectOddIdeal.main_arg0) = m' ((c.tc : Thread Cert.ReferenceProjectOddIdeal.nD Cert.ReferenceProjectOddIdeal.τ).loc Cert.ReferenceProjectOddIdeal.main_arg0)
          ∧ r.2.mem ((c.tc : Thread Cert.ReferenceProjectOddIdeal.nD Cert.ReferenceProjectOddIdeal.τ).loc Cert.ReferenceProjectOddIdeal.main_arg1) = m' ((c.tc : Thread Cert.ReferenceProjectOddIdeal.nD Cert.ReferenceProjectOddIdeal.τ).loc Cert.ReferenceProjectOddIdeal.main_arg1)
          ∧ r.2.mem ((c.tc : Thread Cert.ReferenceProjectOddIdeal.nD Cert.ReferenceProjectOddIdeal.τ).loc Cert.ReferenceProjectOddIdeal.main_arg2) = m' ((c.tc : Thread Cert.ReferenceProjectOddIdeal.nD Cert.ReferenceProjectOddIdeal.τ).loc Cert.ReferenceProjectOddIdeal.main_arg2)
          ∧ r.2.mem ((c.tc : Thread Cert.ReferenceProjectOddIdeal.nD Cert.ReferenceProjectOddIdeal.τ).loc Cert.ReferenceProjectOddIdeal.main_arg3) = m' ((c.tc : Thread Cert.ReferenceProjectOddIdeal.nD Cert.ReferenceProjectOddIdeal.τ).loc Cert.ReferenceProjectOddIdeal.main_arg3))

def Claim : Prop :=
  ∃ (hKernel : Cert.Kernel.Facts) (hKernelIdeal : Cert.KernelIdeal.Facts) (hReferenceIdeal : Cert.ReferenceIdeal.Facts) (hKernelEven : Cert.KernelEven.Facts) (hKernelEvenIdeal : Cert.KernelEvenIdeal.Facts) (hReferenceEvenIdeal : Cert.ReferenceEvenIdeal.Facts) (hKernelOdd : Cert.KernelOdd.Facts) (hKernelOddIdeal : Cert.KernelOddIdeal.Facts) (hReferenceOddIdeal : Cert.ReferenceOddIdeal.Facts) (hKernelFinal : Cert.KernelFinal.Facts) (hKernelFinalIdeal : Cert.KernelFinalIdeal.Facts) (hReferenceFinalIdeal : Cert.ReferenceFinalIdeal.Facts) (hKernelFirst : Cert.KernelFirst.Facts) (hKernelFirstIdeal : Cert.KernelFirstIdeal.Facts) (hReferenceFirstIdeal : Cert.ReferenceFirstIdeal.Facts) (hKernelProjectEven : Cert.KernelProjectEven.Facts) (hKernelProjectEvenIdeal : Cert.KernelProjectEvenIdeal.Facts) (hReferenceProjectEvenIdeal : Cert.ReferenceProjectEvenIdeal.Facts) (hKernelProjectOdd : Cert.KernelProjectOdd.Facts) (hKernelProjectOddIdeal : Cert.KernelProjectOddIdeal.Facts) (hReferenceProjectOddIdeal : Cert.ReferenceProjectOddIdeal.Facts) (hPre_finite : Cert.Pre_finite.Facts) (hPre_finite_even : Cert.Pre_finite_even.Facts) (hPre_finite_odd : Cert.Pre_finite_odd.Facts) (hPre_finite_final : Cert.Pre_finite_final.Facts) (hPre_finite_first : Cert.Pre_finite_first.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelEven (hKernelEven := hKernelEven)
    ∧ quiescent_KernelEvenIdeal (hKernelEvenIdeal := hKernelEvenIdeal)
    ∧ quiescent_KernelEvenIdeal_pre_finite_even (hKernelEvenIdeal := hKernelEvenIdeal) (hPre_finite_even := hPre_finite_even)
    ∧ quiescent_ReferenceEvenIdeal (hReferenceEvenIdeal := hReferenceEvenIdeal)
    ∧ quiescent_ReferenceEvenIdeal_pre_finite_even (hReferenceEvenIdeal := hReferenceEvenIdeal) (hPre_finite_even := hPre_finite_even)
    ∧ quiescent_KernelOdd (hKernelOdd := hKernelOdd)
    ∧ quiescent_KernelOddIdeal (hKernelOddIdeal := hKernelOddIdeal)
    ∧ quiescent_KernelOddIdeal_pre_finite_odd (hKernelOddIdeal := hKernelOddIdeal) (hPre_finite_odd := hPre_finite_odd)
    ∧ quiescent_ReferenceOddIdeal (hReferenceOddIdeal := hReferenceOddIdeal)
    ∧ quiescent_ReferenceOddIdeal_pre_finite_odd (hReferenceOddIdeal := hReferenceOddIdeal) (hPre_finite_odd := hPre_finite_odd)
    ∧ quiescent_KernelFinal (hKernelFinal := hKernelFinal)
    ∧ quiescent_KernelFinalIdeal (hKernelFinalIdeal := hKernelFinalIdeal)
    ∧ quiescent_KernelFinalIdeal_pre_finite_final (hKernelFinalIdeal := hKernelFinalIdeal) (hPre_finite_final := hPre_finite_final)
    ∧ quiescent_ReferenceFinalIdeal (hReferenceFinalIdeal := hReferenceFinalIdeal)
    ∧ quiescent_ReferenceFinalIdeal_pre_finite_final (hReferenceFinalIdeal := hReferenceFinalIdeal) (hPre_finite_final := hPre_finite_final)
    ∧ quiescent_KernelFirst (hKernelFirst := hKernelFirst)
    ∧ quiescent_KernelFirstIdeal (hKernelFirstIdeal := hKernelFirstIdeal)
    ∧ quiescent_KernelFirstIdeal_pre_finite_first (hKernelFirstIdeal := hKernelFirstIdeal) (hPre_finite_first := hPre_finite_first)
    ∧ quiescent_ReferenceFirstIdeal (hReferenceFirstIdeal := hReferenceFirstIdeal)
    ∧ quiescent_ReferenceFirstIdeal_pre_finite_first (hReferenceFirstIdeal := hReferenceFirstIdeal) (hPre_finite_first := hPre_finite_first)
    ∧ quiescent_KernelProjectEven (hKernelProjectEven := hKernelProjectEven)
    ∧ quiescent_KernelProjectEvenIdeal (hKernelProjectEvenIdeal := hKernelProjectEvenIdeal)
    ∧ quiescent_ReferenceProjectEvenIdeal (hReferenceProjectEvenIdeal := hReferenceProjectEvenIdeal)
    ∧ quiescent_KernelProjectOdd (hKernelProjectOdd := hKernelProjectOdd)
    ∧ quiescent_KernelProjectOddIdeal (hKernelProjectOddIdeal := hKernelProjectOddIdeal)
    ∧ quiescent_ReferenceProjectOddIdeal (hReferenceProjectOddIdeal := hReferenceProjectOddIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelEven_KernelEvenIdeal
    ∧ algebraic_KernelEvenIdeal_ReferenceEvenIdeal_pre_finite_even (hKernelEvenIdeal := hKernelEvenIdeal) (hReferenceEvenIdeal := hReferenceEvenIdeal) (hPre_finite_even := hPre_finite_even)
    ∧ preserves_KernelOdd_KernelOddIdeal
    ∧ algebraic_KernelOddIdeal_ReferenceOddIdeal_pre_finite_odd (hKernelOddIdeal := hKernelOddIdeal) (hReferenceOddIdeal := hReferenceOddIdeal) (hPre_finite_odd := hPre_finite_odd)
    ∧ preserves_KernelFinal_KernelFinalIdeal
    ∧ algebraic_KernelFinalIdeal_ReferenceFinalIdeal_pre_finite_final (hKernelFinalIdeal := hKernelFinalIdeal) (hReferenceFinalIdeal := hReferenceFinalIdeal) (hPre_finite_final := hPre_finite_final)
    ∧ preserves_KernelFirst_KernelFirstIdeal
    ∧ algebraic_KernelFirstIdeal_ReferenceFirstIdeal_pre_finite_first (hKernelFirstIdeal := hKernelFirstIdeal) (hReferenceFirstIdeal := hReferenceFirstIdeal) (hPre_finite_first := hPre_finite_first)
    ∧ preserves_KernelProjectEven_KernelProjectEvenIdeal
    ∧ algebraic_KernelProjectEvenIdeal_ReferenceProjectEvenIdeal (hKernelProjectEvenIdeal := hKernelProjectEvenIdeal) (hReferenceProjectEvenIdeal := hReferenceProjectEvenIdeal)
    ∧ preserves_KernelProjectOdd_KernelProjectOddIdeal
    ∧ algebraic_KernelProjectOddIdeal_ReferenceProjectOddIdeal (hKernelProjectOddIdeal := hKernelProjectOddIdeal) (hReferenceProjectOddIdeal := hReferenceProjectOddIdeal)
-- ==== Pre_finite.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S_ : Shape := ⟨0, ![]⟩
abbrev S1 : Shape := ⟨1, ![1]⟩
abbrev S4 : Shape := ⟨1, ![4]⟩

class Facts : Prop where
  bcast_S_S6144x1024 : S_.BroadcastsInDim S6144x1024 (![] : Fin 0 → Fin S6144x1024.rank)
  reducesTo_S6144x1024_S_d0_1 : S6144x1024.ReducesTo [0, 1] S_
  h_S_ : 0 < S_.numel
  bcast_S_S4x9x3x1x1024 : S_.BroadcastsInDim S4x9x3x1x1024 (![] : Fin 0 → Fin S4x9x3x1x1024.rank)
  reducesTo_S4x9x3x1x1024_S_d0_1_2_3_4 : S4x9x3x1x1024.ReducesTo [0, 1, 2, 3, 4] S_
  bcast_S_S4x1024 : S_.BroadcastsInDim S4x1024 (![] : Fin 0 → Fin S4x1024.rank)
  reducesTo_S4x1024_S_d0_1 : S4x1024.ReducesTo [0, 1] S_
  bcast_S_S4x1024x2816 : S_.BroadcastsInDim S4x1024x2816 (![] : Fin 0 → Fin S4x1024x2816.rank)
  reducesTo_S4x1024x2816_S_d0_1_2 : S4x1024x2816.ReducesTo [0, 1, 2] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S6144x1024 .f32) (main_arg1 : FVec F S4x9x3x1x1024 .f32) (main_arg2 : FVec F S4x1024 .f32) (main_arg3 : FVec F S4x1024x2816 .f32) (main_arg4 : FVec F S4x1024x2816 .f32) (main_arg5 : FVec F S4x2816x1024 .f32) : IVec S4 1 :=
  let main_v0 : FVec F S6144x1024 .f32 := Host.absf main_arg0
  let main_cst : FVec F S_ .f32 := constant S_ .f32 0x7F800000#32
  let main_v1 : FVec F S6144x1024 .f32 := broadcastInDim S6144x1024 ![] bcast_S_S6144x1024 main_cst
  let main_v2 : IVec S6144x1024 1 := cmpf .olt main_v0 main_v1
  let main_c : IVec S_ 1 := constantI S_ 1 1#1
  let main_v3 : IVec S_ 1 := (fun x v => Host.reduce IntOp.andi x v reducesTo_S6144x1024_S_d0_1 h_S_) main_v2 main_c
  let main_v4 : FVec F S4x9x3x1x1024 .f32 := Host.absf main_arg1
  let main_cst_0 : FVec F S_ .f32 := constant S_ .f32 0x7F800000#32
  let main_v5 : FVec F S4x9x3x1x1024 .f32 := broadcastInDim S4x9x3x1x1024 ![] bcast_S_S4x9x3x1x1024 main_cst_0
  let main_v6 : IVec S4x9x3x1x1024 1 := cmpf .olt main_v4 main_v5
  let main_c_1 : IVec S_ 1 := constantI S_ 1 1#1
  let main_v7 : IVec S_ 1 := (fun x v => Host.reduce IntOp.andi x v reducesTo_S4x9x3x1x1024_S_d0_1_2_3_4 h_S_) main_v6 main_c_1
  let main_v8 : FVec F S4x1024 .f32 := Host.absf main_arg2
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S4x1024x2816 .f32 := Host.absf main_arg3
  let main_cst_4 : FVec F S_ .f32 := constant S_ .f32 0x7F800000#32
  let main_v13 : FVec F S4x1024x2816 .f32 := broadcastInDim S4x1024x2816 ![] bcast_S_S4x1024x2816 main_cst_4
  let main_v14 : IVec S4x1024x2816 1 := cmpf .olt main_v12 main_v13
  let main_c_5 : IVec S_ 1 := constantI S_ 1 1#1
  let main_v15 : IVec S_ 1 := (fun x v => Host.reduce IntOp.andi x v reducesTo_S4x1024x2816_S_d0_1_2 h_S_) main_v14 main_c_5
  fn_part1 (F := F) main_v3 main_v7 main_v11 main_v15
-- ==== Pre_finite_even.lean ====
abbrev S6144x1024 : Shape := ⟨2, ![6144, 1024]⟩
abbrev S6144x256 : Shape := ⟨2, ![6144, 256]⟩
abbrev S4096x768 : Shape := ⟨2, ![4096, 768]⟩
abbrev S2048x768 : Shape := ⟨2, ![2048, 768]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S_ : Shape := ⟨0, ![]⟩
abbrev S1 : Shape := ⟨1, ![1]⟩
abbrev S8 : Shape := ⟨1, ![8]⟩

class Facts : Prop where
  bcast_S_S6144x1024 : S_.BroadcastsInDim S6144x1024 (![] : Fin 0 → Fin S6144x1024.rank)
  reducesTo_S6144x1024_S_d0_1 : S6144x1024.ReducesTo [0, 1] S_
  h_S_ : 0 < S_.numel
  bitsLt_bf16_f32 : FTy.bits .bf16 < FTy.bits .f32
  bcast_S_S6144x256 : S_.BroadcastsInDim S6144x256 (![] : Fin 0 → Fin S6144x256.rank)
  reducesTo_S6144x256_S_d0_1 : S6144x256.ReducesTo [0, 1] S_
  bcast_S_S4096x768 : S_.BroadcastsInDim S4096x768 (![] : Fin 0 → Fin S4096x768.rank)
  reducesTo_S4096x768_S_d0_1 : S4096x768.ReducesTo [0, 1] S_
  bcast_S_S2048x768 : S_.BroadcastsInDim S2048x768 (![] : Fin 0 → Fin S2048x768.rank)
  reducesTo_S2048x768_S_d0_1 : S2048x768.ReducesTo [0, 1] S_
  bcast_S_S4x9x3x1x1024 : S_.BroadcastsInDim S4x9x3x1x1024 (![] : Fin 0 → Fin S4x9x3x1x1024.rank)
  reducesTo_S4x9x3x1x1024_S_d0_1_2_3_4 : S4x9x3x1x1024.ReducesTo [0, 1, 2, 3, 4] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x2816 : S_.BroadcastsInDim S4x1024x2816 (![] : Fin 0 → Fin S4x1024x2816.rank)
  reducesTo_S4x1024x2816_S_d0_1_2 : S4x1024x2816.ReducesTo [0, 1, 2] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v3 : IVec S_ 1) (main_v8 : IVec S_ 1) (main_v13 : IVec S_ 1) (main_v18 : IVec S_ 1) (main_v22 : IVec S_ 1) (main_v26 : IVec S_ 1) (main_v30 : IVec S_ 1) (main_v31 : FVec F S4x1024x2816 .f32) (main_v32 : FVec F S4x1024x2816 .f32) : IVec S8 1 :=
  let main_v33 : IVec S4x1024x2816 1 := cmpf .olt main_v31 main_v32
  let main_c_13 : IVec S_ 1 := constantI S_ 1 1#1
  let main_v34 : IVec S_ 1 := (fun x v => Host.reduce IntOp.andi x v reducesTo_S4x1024x2816_S_d0_1_2 h_S_) main_v33 main_c_13
  let main_v35 : IVec S1 1 := broadcastInDim S1 ![] bcast_S_S1 main_v3
  let main_v36 : IVec S1 1 := broadcastInDim S1 ![] bcast_S_S1 main_v8
  let main_v37 : IVec S1 1 := broadcastInDim S1 ![] bcast_S_S1 main_v13
  let main_v38 : IVec S1 1 := broadcastInDim S1 ![] bcast_S_S1 main_v18
  let main_v39 : IVec S1 1 := broadcastInDim S1 ![] bcast_S_S1 main_v22
  let main_v40 : IVec S1 1 := broadcastInDim S1 ![] bcast_S_S1 main_v26
  let main_v41 : IVec S1 1 := broadcastInDim S1 ![] bcast_S_S1 main_v30
  let main_v42 : IVec S1 1 := broadcastInDim S1 ![] bcast_S_S1 main_v34
  let main_v43 : IVec S8 1 := concatenate S8 0 [⟨S1, main_v35⟩, ⟨S1, main_v36⟩, ⟨S1, main_v37⟩, ⟨S1, main_v38⟩, ⟨S1, main_v39⟩, ⟨S1, main_v40⟩, ⟨S1, main_v41⟩, ⟨S1, main_v42⟩] concatenates_S1_S1_S1_S1_S1_S1_S1_S1_S8_d0
  main_v43

def fn_part1 {F : FTy → Type} [FloatOps F] (main_arg4 : FVec F S4x9x3x1x1024 .f32) (main_arg5 : FVec F S2x1024x1024 .f32) (main_arg6 : FVec F S4x1024 .f32) (main_arg7 : FVec F S4x1024x2816 .f32) (main_v3 : IVec S_ 1) (main_v8 : IVec S_ 1) (main_v13 : IVec S_ 1) (main_v15 : FVec F S2048x768 .f32) (main_v16 : FVec F S2048x768 .f32) : IVec S8 1 :=
  let main_v17 : IVec S2048x768 1 := cmpf .olt main_v15 main_v16
  let main_c_5 : IVec S_ 1 := constantI S_ 1 1#1
  let main_v18 : IVec S_ 1 := (fun x v => Host.reduce IntOp.andi x v reducesTo_S2048x768_S_d0_1 h_S_) main_v17 main_c_5
  let main_v19 : FVec F S4x9x3x1x1024 .f32 := Host.absf main_arg4
  let main_cst_6 : FVec F S_ .f32 := constant S_ .f32 0x7F800000#32
  let main_v20 : FVec F S4x9x3x1x1024 .f32 := broadcastInDim S4x9x3x1x1024 ![] bcast_S_S4x9x3x1x1024 main_cst_6
  let main_v21 : IVec S4x9x3x1x1024 1 := cmpf .olt main_v19 main_v20
  let main_c_7 : IVec S_ 1 := constantI S_ 1 1#1
  let main_v22 : IVec S_ 1 := (fun x v => Host.reduce IntOp.andi x v reducesTo_S4x9x3x1x1024_S_d0_1_2_3_4 h_S_) main_v21 main_c_7
  let main_v23 : FVec F S2x1024x1024 .f32 := Host.absf main_arg5
  let main_cst_8 : FVec F S_ .f32 := constant S_ .f32 0x7F800000#32
  let main_v24 : FVec F S2x1024x1024 .f32 := broadcastInDim S2x1024x1024 ![] bcast_S_S2x1024x1024 main_cst_8
  let main_v25 : IVec S2x1024x1024 1 := cmpf .olt main_v23 main_v24
  let main_c_9 : IVec S_ 1 := constantI S_ 1 1#1
  let main_v26 : IVec S_ 1 := (fun x v => Host.reduce IntOp.andi x v reducesTo_S2x1024x1024_S_d0_1_2 h_S_) main_v25 main_c_9
  let main_v27 : FVec F S4x1024 .f32 := Host.absf main_arg6
  let main_cst_10 : FVec F S_ .f32 := constant S_ .f32 0x7F800000#32
  let main_v28 : FVec F S4x1024 .f32 := broadcastInDim S4x1024 ![] bcast_S_S4x1024 main_cst_10
  let main_v29 : IVec S4x1024 1 := cmpf .olt main_v27 main_v28
  let main_c_11 : IVec S_ 1 := constantI S_ 1 1#1
  let main_v30 : IVec S_ 1 := (fun x v => Host.reduce IntOp.andi x v reducesTo_S4x1024_S_d0_1 h_S_) main_v29 main_c_11
  let main_v31 : FVec F S4x1024x2816 .f32 := Host.absf main_arg7
  let main_cst_12 : FVec F S_ .f32 := constant S_ .f32 0x7F800000#32
  let main_v32 : FVec F S4x1024x2816 .f32 := broadcastInDim S4x1024x2816 ![] bcast_S_S4x1024x2816 main_cst_12
  fn_part2 (F := F) main_v3 main_v8 main_v13 main_v18 main_v22 main_v26 main_v30 main_v31 main_v32

def fn {F : FTy → Type} [FloatOps F] (main_arg0 : FVec F S6144x1024 .f32) (main_arg1 : FVec F S6144x256 .bf16) (main_arg2 : FVec F S4096x768 .bf16) (main_arg3 : FVec F S2048x768 .bf16) (main_arg4 : FVec F S4x9x3x1x1024 .f32) (main_arg5 : FVec F S2x1024x1024 .f32) (main_arg6 : FVec F S4x1024 .f32) (main_arg7 : FVec F S4x1024x2816 .f32) (main_arg8 : FVec F S4x1024x2816 .f32) (main_arg9 : FVec F S4x2816x1024 .f32) : IVec S8 1 :=
  let main_v0 : FVec F S6144x1024 .f32 := Host.absf main_arg0
  let main_cst : FVec F S_ .f32 := constant S_ .f32 0x7F800000#32
  let main_v1 : FVec F S6144x1024 .f32 := broadcastInDim S6144x1024 ![] bcast_S_S6144x1024 main_cst
  let main_v2 : IVec S6144x1024 1 := cmpf .olt main_v0 main_v1
  let main_c : IVec S_ 1 := constantI S_ 1 1#1
  let main_v3 : IVec S_ 1 := (fun x v => Host.reduce IntOp.andi x v reducesTo_S6144x1024_S_d0_1 h_S_) main_v2 main_c
  let main_v4 : FVec F S6144x256 .f32 := (extf .f32 · bitsLt_bf16_f32) main_arg1
  let main_v5 : FVec F S6144x256 .f32 := Host.absf main_v4
  let main_cst_0 : FVec F S_ .f32 := constant S_ .f32 0x7F800000#32
  let main_v6 : FVec F S6144x256 .f32 := broadcastInDim S6144x256 ![] bcast_S_S6144x256 main_cst_0
  let main_v7 : IVec S6144x256 1 := cmpf .olt main_v5 main_v6
  let main_c_1 : IVec S_ 1 := constantI S_ 1 1#1
  let main_v8 : IVec S_ 1 := (fun x v => Host.reduce IntOp.andi x v reducesTo_S6144x256_S_d0_1 h_S_) main_v7 main_c_1
  let main_v9 : FVec F S4096x768 .f32 := (extf .f32 · bitsLt_bf16_f32) main_arg2
  let main_v10 : FVec F S4096x768 .f32 := Host.absf main_v9
  let main_cst_2 : FVec F S_ .f32 := constant S_ .f32 0x7F800000#32
  let main_v11 : FVec F S4096x768 .f32 := broadcastInDim S4096x768 ![] bcast_S_S4096x768 main_cst_2
  let main_v12 : IVec S4096x768 1 := cmpf .olt main_v10 main_v11
  let main_c_3 : IVec S_ 1 := constantI S_ 1 1#1
  let main_v13 : IVec S_ 1 := (fun x v => Host.reduce IntOp.andi x v reducesTo_S4096x768_S_d0_1 h_S_) main_v12 main_c_3
  let main_v14 : FVec F S2048x768 .f32 := (extf .f32 · bitsLt_bf16_f32) main_arg3
  let main_v15 : FVec F S2048x768 .f32 := Host.absf main_v14
  let main_cst_4 : FVec F S_ .f32 := constant S_ .f32 0x7F800000#32
  let main_v16 : FVec F S2048x768 .f32 := broadcastInDim S2048x768 ![] bcast_S_S2048x768 main_cst_4
  fn_part1 (F := F) main_arg4 main_arg5 main_arg6 main_arg7 main_v3 main_v8 main_v13 main_v15 main_v16
-- ==== Pre_finite_final.lean ====
abbrev S6144x1024 : Shape := ⟨2, ![6144, 1024]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S1 : Shape := ⟨1, ![1]⟩
abbrev S6 : Shape := ⟨1, ![6]⟩

class Facts : Prop where
  bcast_S_S6144x1024 : S_.BroadcastsInDim S6144x1024 (![] : Fin 0 → Fin S6144x1024.rank)
  reducesTo_S6144x1024_S_d0_1 : S6144x1024.ReducesTo [0, 1] S_
  h_S_ : 0 < S_.numel
  bitsLt_bf16_f32 : FTy.bits .bf16 < FTy.bits .f32
  bcast_S_S4x9x3x1x1024 : S_.BroadcastsInDim S4x9x3x1x1024 (![] : Fin 0 → Fin S4x9x3x1x1024.rank)
  reducesTo_S4x9x3x1x1024_S_d0_1_2_3_4 : S4x9x3x1x1024.ReducesTo [0, 1, 2, 3, 4] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x2816 : S_.BroadcastsInDim S4x1024x2816 (![] : Fin 0 → Fin S4x1024x2816.rank)
  reducesTo_S4x1024x2816_S_d0_1_2 : S4x1024x2816.ReducesTo [0, 1, 2] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S4x1024 .f32) (main_arg5 : FVec F S4x1024x2816 .f32) (main_v3 : IVec S_ 1) (main_v8 : IVec S_ 1) (main_v12 : IVec S_ 1) (main_v15 : IVec S2x1024x1024 1) (main_c_5 : IVec S_ 1) : IVec S6 1 :=
  let main_v16 : IVec S_ 1 := (fun x v => Host.reduce IntOp.andi x v reducesTo_S2x1024x1024_S_d0_1_2 h_S_) main_v15 main_c_5
  let main_v17 : FVec F S4x1024 .f32 := Host.absf main_arg4
  let main_cst_6 : FVec F S_ .f32 := constant S_ .f32 0x7F800000#32
  let main_v18 : FVec F S4x1024 .f32 := broadcastInDim S4x1024 ![] bcast_S_S4x1024 main_cst_6
  let main_v19 : IVec S4x1024 1 := cmpf .olt main_v17 main_v18
  let main_c_7 : IVec S_ 1 := constantI S_ 1 1#1
  let main_v20 : IVec S_ 1 := (fun x v => Host.reduce IntOp.andi x v reducesTo_S4x1024_S_d0_1 h_S_) main_v19 main_c_7
  let main_v21 : FVec F S4x1024x2816 .f32 := Host.absf main_arg5
  let main_cst_8 : FVec F S_ .f32 := constant S_ .f32 0x7F800000#32
  let main_v22 : FVec F S4x1024x2816 .f32 := broadcastInDim S4x1024x2816 ![] bcast_S_S4x1024x2816 main_cst_8
  let main_v23 : IVec S4x1024x2816 1 := cmpf .olt main_v21 main_v22
  let main_c_9 : IVec S_ 1 := constantI S_ 1 1#1
  let main_v24 : IVec S_ 1 := (fun x v => Host.reduce IntOp.andi x v reducesTo_S4x1024x2816_S_d0_1_2 h_S_) main_v23 main_c_9
  let main_v25 : IVec S1 1 := broadcastInDim S1 ![] bcast_S_S1 main_v3
  let main_v26 : IVec S1 1 := broadcastInDim S1 ![] bcast_S_S1 main_v8
  let main_v27 : IVec S1 1 := broadcastInDim S1 ![] bcast_S_S1 main_v12
  let main_v28 : IVec S1 1 := broadcastInDim S1 ![] bcast_S_S1 main_v16
  let main_v29 : IVec S1 1 := broadcastInDim S1 ![] bcast_S_S1 main_v20
  let main_v30 : IVec S1 1 := broadcastInDim S1 ![] bcast_S_S1 main_v24
  let main_v31 : IVec S6 1 := concatenate S6 0 [⟨S1, main_v25⟩, ⟨S1, main_v26⟩, ⟨S1, main_v27⟩, ⟨S1, main_v28⟩, ⟨S1, main_v29⟩, ⟨S1, main_v30⟩] concatenates_S1_S1_S1_S1_S1_S1_S6_d0
  main_v31

def fn {F : FTy → Type} [FloatOps F] (main_arg0 : FVec F S6144x1024 .f32) (main_arg1 : FVec F S6144x1024 .bf16) (main_arg2 : FVec F S4x9x3x1x1024 .f32) (main_arg3 : FVec F S2x1024x1024 .f32) (main_arg4 : FVec F S4x1024 .f32) (main_arg5 : FVec F S4x1024x2816 .f32) (main_arg6 : FVec F S4x1024x2816 .f32) (main_arg7 : FVec F S4x2816x1024 .f32) (main_arg8 : FVec F S1024 .f32) : IVec S6 1 :=
  let main_v0 : FVec F S6144x1024 .f32 := Host.absf main_arg0
  let main_cst : FVec F S_ .f32 := constant S_ .f32 0x7F800000#32
  let main_v1 : FVec F S6144x1024 .f32 := broadcastInDim S6144x1024 ![] bcast_S_S6144x1024 main_cst
  let main_v2 : IVec S6144x1024 1 := cmpf .olt main_v0 main_v1
  let main_c : IVec S_ 1 := constantI S_ 1 1#1
  let main_v3 : IVec S_ 1 := (fun x v => Host.reduce IntOp.andi x v reducesTo_S6144x1024_S_d0_1 h_S_) main_v2 main_c
  let main_v4 : FVec F S6144x1024 .f32 := (extf .f32 · bitsLt_bf16_f32) main_arg1
  let main_v5 : FVec F S6144x1024 .f32 := Host.absf main_v4
  let main_cst_0 : FVec F S_ .f32 := constant S_ .f32 0x7F800000#32
  let main_v6 : FVec F S6144x1024 .f32 := broadcastInDim S6144x1024 ![] bcast_S_S6144x1024 main_cst_0
  let main_v7 : IVec S6144x1024 1 := cmpf .olt main_v5 main_v6
  let main_c_1 : IVec S_ 1 := constantI S_ 1 1#1
  let main_v8 : IVec S_ 1 := (fun x v => Host.reduce IntOp.andi x v reducesTo_S6144x1024_S_d0_1 h_S_) main_v7 main_c_1
  let main_v9 : FVec F S4x9x3x1x1024 .f32 := Host.absf main_arg2
  let main_cst_2 : FVec F S_ .f32 := constant S_ .f32 0x7F800000#32
  let main_v10 : FVec F S4x9x3x1x1024 .f32 := broadcastInDim S4x9x3x1x1024 ![] bcast_S_S4x9x3x1x1024 main_cst_2
  let main_v11 : IVec S4x9x3x1x1024 1 := cmpf .olt main_v9 main_v10
  let main_c_3 : IVec S_ 1 := constantI S_ 1 1#1
  let main_v12 : IVec S_ 1 := (fun x v => Host.reduce IntOp.andi x v reducesTo_S4x9x3x1x1024_S_d0_1_2_3_4 h_S_) main_v11 main_c_3
  let main_v13 : FVec F S2x1024x1024 .f32 := Host.absf main_arg3
  let main_cst_4 : FVec F S_ .f32 := constant S_ .f32 0x7F800000#32
  let main_v14 : FVec F S2x1024x1024 .f32 := broadcastInDim S2x1024x1024 ![] bcast_S_S2x1024x1024 main_cst_4
  let main_v15 : IVec S2x1024x1024 1 := cmpf .olt main_v13 main_v14
  let main_c_5 : IVec S_ 1 := constantI S_ 1 1#1
  fn_part1 (F := F) main_arg4 main_arg5 main_v3 main_v8 main_v12 main_v15 main_c_5
-- ==== Pre_finite_first.lean ====
abbrev S4096x1024 : Shape := ⟨2, ![4096, 1024]⟩
abbrev S2048x1024 : Shape := ⟨2, ![2048, 1024]⟩
abbrev S1024x1024 : Shape := ⟨2, ![1024, 1024]⟩
abbrev S4x9x3x1x1024 : Shape := ⟨5, ![4, 9, 3, 1, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S_ : Shape := ⟨0, ![]⟩
abbrev S1 : Shape := ⟨1, ![1]⟩
abbrev S6 : Shape := ⟨1, ![6]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x9x3x1x1024 : S_.BroadcastsInDim S4x9x3x1x1024 (![] : Fin 0 → Fin S4x9x3x1x1024.rank)
  reducesTo_S4x9x3x1x1024_S_d0_1_2_3_4 : S4x9x3x1x1024.ReducesTo [0, 1, 2, 3, 4] S_
  bcast_S_S4x1024 : S_.BroadcastsInDim S4x1024 (![] : Fin 0 → Fin S4x1024.rank)
  reducesTo_S4x1024_S_d0_1 : S4x1024.ReducesTo [0, 1] S_
  bcast_S_S4x1024x2816 : S_.BroadcastsInDim S4x1024x2816 (![] : Fin 0 → Fin S4x1024x2816.rank)
  reducesTo_S4x1024x2816_S_d0_1_2 : S4x1024x2816.ReducesTo [0, 1, 2] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S4x1024 .f32) (main_arg5 : FVec F S4x1024x2816 .f32) (main_v3 : IVec S_ 1) (main_v7 : IVec S_ 1) (main_v11 : IVec S_ 1) (main_v15 : IVec S_ 1) : IVec S6 1 :=
  let main_v16 : FVec F S4x1024 .f32 := Host.absf main_arg4
  let main_cst_6 : FVec F S_ .f32 := constant S_ .f32 0x7F800000#32
  let main_v17 : FVec F S4x1024 .f32 := broadcastInDim S4x1024 ![] bcast_S_S4x1024 main_cst_6
  let main_v18 : IVec S4x1024 1 := cmpf .olt main_v16 main_v17
  let main_c_7 : IVec S_ 1 := constantI S_ 1 1#1
  let main_v19 : IVec S_ 1 := (fun x v => Host.reduce IntOp.andi x v reducesTo_S4x1024_S_d0_1 h_S_) main_v18 main_c_7
  let main_v20 : FVec F S4x1024x2816 .f32 := Host.absf main_arg5
  let main_cst_8 : FVec F S_ .f32 := constant S_ .f32 0x7F800000#32
  let main_v21 : FVec F S4x1024x2816 .f32 := broadcastInDim S4x1024x2816 ![] bcast_S_S4x1024x2816 main_cst_8
  let main_v22 : IVec S4x1024x2816 1 := cmpf .olt main_v20 main_v21
  let main_c_9 : IVec S_ 1 := constantI S_ 1 1#1
  let main_v23 : IVec S_ 1 := (fun x v => Host.reduce IntOp.andi x v reducesTo_S4x1024x2816_S_d0_1_2 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S4096x1024 .f32) (main_arg1 : FVec F S2048x1024 .f32) (main_arg2 : FVec F S1024x1024 .f32) (main_arg3 : FVec F S4x9x3x1x1024 .f32) (main_arg4 : FVec F S4x1024 .f32) (main_arg5 : FVec F S4x1024x2816 .f32) (main_arg6 : FVec F S4x1024x2816 .f32) (main_arg7 : FVec F S4x2816x1024 .f32) : IVec S6 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S4x9x3x1x1024 .f32 := Host.absf main_arg3
  let main_cst_4 : FVec F S_ .f32 := constant S_ .f32 0x7F800000#32
  let main_v13 : FVec F S4x9x3x1x1024 .f32 := broadcastInDim S4x9x3x1x1024 ![] bcast_S_S4x9x3x1x1024 main_cst_4
  let main_v14 : IVec S4x9x3x1x1024 1 := cmpf .olt main_v12 main_v13
  let main_c_5 : IVec S_ 1 := constantI S_ 1 1#1
  let main_v15 : IVec S_ 1 := (fun x v => Host.reduce IntOp.andi x v reducesTo_S4x9x3x1x1024_S_d0_1_2_3_4 h_S_) main_v14 main_c_5
  fn_part1 (F := F) main_arg4 main_arg5 main_v3 main_v7 main_v11 main_v15
-- ==== Pre_finite_odd.lean ====
abbrev S6144x1024 : Shape := ⟨2, ![6144, 1024]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S_ : Shape := ⟨0, ![]⟩
abbrev S1 : Shape := ⟨1, ![1]⟩
abbrev S6 : Shape := ⟨1, ![6]⟩

class Facts : Prop where
  bcast_S_S6144x1024 : S_.BroadcastsInDim S6144x1024 (![] : Fin 0 → Fin S6144x1024.rank)
  reducesTo_S6144x1024_S_d0_1 : S6144x1024.ReducesTo [0, 1] S_
  h_S_ : 0 < S_.numel
  bitsLt_bf16_f32 : FTy.bits .bf16 < FTy.bits .f32
  bcast_S_S4x9x3x1x1024 : S_.BroadcastsInDim S4x9x3x1x1024 (![] : Fin 0 → Fin S4x9x3x1x1024.rank)
  reducesTo_S4x9x3x1x1024_S_d0_1_2_3_4 : S4x9x3x1x1024.ReducesTo [0, 1, 2, 3, 4] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x1024x2816 : S_.BroadcastsInDim S4x1024x2816 (![] : Fin 0 → Fin S4x1024x2816.rank)
  reducesTo_S4x1024x2816_S_d0_1_2 : S4x1024x2816.ReducesTo [0, 1, 2] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S4x1024 .f32) (main_arg5 : FVec F S4x1024x2816 .f32) (main_v3 : IVec S_ 1) (main_v8 : IVec S_ 1) (main_v12 : IVec S_ 1) (main_v15 : IVec S2x1024x1024 1) (main_c_5 : IVec S_ 1) : IVec S6 1 :=
  let main_v16 : IVec S_ 1 := (fun x v => Host.reduce IntOp.andi x v reducesTo_S2x1024x1024_S_d0_1_2 h_S_) main_v15 main_c_5
  let main_v17 : FVec F S4x1024 .f32 := Host.absf main_arg4
  let main_cst_6 : FVec F S_ .f32 := constant S_ .f32 0x7F800000#32
  let main_v18 : FVec F S4x1024 .f32 := broadcastInDim S4x1024 ![] bcast_S_S4x1024 main_cst_6
  let main_v19 : IVec S4x1024 1 := cmpf .olt main_v17 main_v18
  let main_c_7 : IVec S_ 1 := constantI S_ 1 1#1
  let main_v20 : IVec S_ 1 := (fun x v => Host.reduce IntOp.andi x v reducesTo_S4x1024_S_d0_1 h_S_) main_v19 main_c_7
  let main_v21 : FVec F S4x1024x2816 .f32 := Host.absf main_arg5
  let main_cst_8 : FVec F S_ .f32 := constant S_ .f32 0x7F800000#32
  let main_v22 : FVec F S4x1024x2816 .f32 := broadcastInDim S4x1024x2816 ![] bcast_S_S4x1024x2816 main_cst_8
  let main_v23 : IVec S4x1024x2816 1 := cmpf .olt main_v21 main_v22
  let main_c_9 : IVec S_ 1 := constantI S_ 1 1#1
  let main_v24 : IVec S_ 1 := (fun x v => Host.reduce IntOp.andi x v reducesTo_S4x1024x2816_S_d0_1_2 h_S_) main_v23 main_c_9
  let main_v25 : IVec S1 1 := broadcastInDim S1 ![] bcast_S_S1 main_v3
  let main_v26 : IVec S1 1 := broadcastInDim S1 ![] bcast_S_S1 main_v8
  let main_v27 : IVec S1 1 := broadcastInDim S1 ![] bcast_S_S1 main_v12
  let main_v28 : IVec S1 1 := broadcastInDim S1 ![] bcast_S_S1 main_v16
  let main_v29 : IVec S1 1 := broadcastInDim S1 ![] bcast_S_S1 main_v20
  let main_v30 : IVec S1 1 := broadcastInDim S1 ![] bcast_S_S1 main_v24
  let main_v31 : IVec S6 1 := concatenate S6 0 [⟨S1, main_v25⟩, ⟨S1, main_v26⟩, ⟨S1, main_v27⟩, ⟨S1, main_v28⟩, ⟨S1, main_v29⟩, ⟨S1, main_v30⟩] concatenates_S1_S1_S1_S1_S1_S1_S6_d0
  main_v31

def fn {F : FTy → Type} [FloatOps F] (main_arg0 : FVec F S6144x1024 .f32) (main_arg1 : FVec F S6144x1024 .bf16) (main_arg2 : FVec F S4x9x3x1x1024 .f32) (main_arg3 : FVec F S2x1024x1024 .f32) (main_arg4 : FVec F S4x1024 .f32) (main_arg5 : FVec F S4x1024x2816 .f32) (main_arg6 : FVec F S4x1024x2816 .f32) (main_arg7 : FVec F S4x2816x1024 .f32) : IVec S6 1 :=
  let main_v0 : FVec F S6144x1024 .f32 := Host.absf main_arg0
  let main_cst : FVec F S_ .f32 := constant S_ .f32 0x7F800000#32
  let main_v1 : FVec F S6144x1024 .f32 := broadcastInDim S6144x1024 ![] bcast_S_S6144x1024 main_cst
  let main_v2 : IVec S6144x1024 1 := cmpf .olt main_v0 main_v1
  let main_c : IVec S_ 1 := constantI S_ 1 1#1
  let main_v3 : IVec S_ 1 := (fun x v => Host.reduce IntOp.andi x v reducesTo_S6144x1024_S_d0_1 h_S_) main_v2 main_c
  let main_v4 : FVec F S6144x1024 .f32 := (extf .f32 · bitsLt_bf16_f32) main_arg1
  let main_v5 : FVec F S6144x1024 .f32 := Host.absf main_v4
  let main_cst_0 : FVec F S_ .f32 := constant S_ .f32 0x7F800000#32
  let main_v6 : FVec F S6144x1024 .f32 := broadcastInDim S6144x1024 ![] bcast_S_S6144x1024 main_cst_0
  let main_v7 : IVec S6144x1024 1 := cmpf .olt main_v5 main_v6
  let main_c_1 : IVec S_ 1 := constantI S_ 1 1#1
  let main_v8 : IVec S_ 1 := (fun x v => Host.reduce IntOp.andi x v reducesTo_S6144x1024_S_d0_1 h_S_) main_v7 main_c_1
  let main_v9 : FVec F S4x9x3x1x1024 .f32 := Host.absf main_arg2
  let main_cst_2 : FVec F S_ .f32 := constant S_ .f32 0x7F800000#32
  let main_v10 : FVec F S4x9x3x1x1024 .f32 := broadcastInDim S4x9x3x1x1024 ![] bcast_S_S4x9x3x1x1024 main_cst_2
  let main_v11 : IVec S4x9x3x1x1024 1 := cmpf .olt main_v9 main_v10
  let main_c_3 : IVec S_ 1 := constantI S_ 1 1#1
  let main_v12 : IVec S_ 1 := (fun x v => Host.reduce IntOp.andi x v reducesTo_S4x9x3x1x1024_S_d0_1_2_3_4 h_S_) main_v11 main_c_3
  let main_v13 : FVec F S2x1024x1024 .f32 := Host.absf main_arg3
  let main_cst_4 : FVec F S_ .f32 := constant S_ .f32 0x7F800000#32
  let main_v14 : FVec F S2x1024x1024 .f32 := broadcastInDim S2x1024x1024 ![] bcast_S_S2x1024x1024 main_cst_4
  let main_v15 : IVec S2x1024x1024 1 := cmpf .olt main_v13 main_v14
  let main_c_5 : IVec S_ 1 := constantI S_ 1 1#1
  fn_part1 (F := F) main_arg4 main_arg5 main_v3 main_v8 main_v12 main_v15 main_c_5
-- ==== Kernel.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S2048x1024 : Shape := ⟨2, ![2048, 1024]⟩
abbrev S1x1x1024 : Shape := ⟨3, ![1, 1, 1024]⟩
abbrev S1x1x1x1x1024 : Shape := ⟨5, ![1, 1, 1, 1, 1024]⟩
abbrev S1x1024x256 : Shape := ⟨3, ![1, 1024, 256]⟩
abbrev S1x256x1024 : Shape := ⟨3, ![1, 256, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S2048x256 : Shape := ⟨2, ![2048, 256]⟩
abbrev S256x1024 : Shape := ⟨2, ![256, 1024]⟩

abbrev nBuf : Space → Nat
  | .hbm => 8
  | .vmem => 30
  | .smem => 0
  | _ => 0

abbrev bufTy : (tb : Table) → Fin (tcTables nBuf tb) → BufTy
  | .hbm, ⟨0, _⟩ => ⟨S6144x1024, .f32⟩
  | .hbm, ⟨1, _⟩ => ⟨S4x9x3x1x1024, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S4x1x1024, .f32⟩
  | .hbm, ⟨7, _⟩ => ⟨S6144x1024, .f32⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x256x1024, .f32⟩
  | .local _ .vmem, ⟨20, _⟩ => ⟨S1x256x1024, .f32⟩
  | .local _ .vmem, ⟨21, _⟩ => ⟨S1x1024x256, .f32⟩
  | .local _ .vmem, ⟨22, _⟩ => ⟨S1x1024x256, .f32⟩
  | .local _ .vmem, ⟨23, _⟩ => ⟨S1x1024x256, .f32⟩
  | .local _ .vmem, ⟨24, _⟩ => ⟨S1x1024x256, .f32⟩
  | .local _ .vmem, ⟨25, _⟩ => ⟨S1x256x1024, .f32⟩
  | .local _ .vmem, ⟨26, _⟩ => ⟨S1x256x1024, .f32⟩
  | .local _ .vmem, ⟨27, _⟩ => ⟨S2048x1024, .f32⟩
  | .local _ .vmem, ⟨28, _⟩ => ⟨S2048x1024, .f32⟩
  | .local _ .vmem, ⟨29, _⟩ => ⟨S2048x1024, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![3, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c5_i32 : BitVec 32 := 5#32
  let v3 : BitVec 1 := Scalar.cmpi .slt arg1 c5_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c5_i32_2 : BitVec 32 := 5#32
  let v6 : BitVec 1 := Scalar.cmpi .eq arg1 c5_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c5_i32_4 : BitVec 32 := 5#32
  let v9 : BitVec 1 := Scalar.cmpi .eq arg1 c5_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c1_i32_9 : BitVec 32 := 1#32
  let c0_i32_10 : BitVec 32 := 0#32
  let c0_i32_11 : BitVec 32 := 0#32
  let c0_i32_12 : BitVec 32 := 0#32
  let c0_i32_13 : BitVec 32 := 0#32
  ![c1_i32_9.toNat, c0_i32_10.toNat, v23.toNat, c0_i32_11.toNat, c0_i32_12.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c1_i32_9 : BitVec 32 := 1#32
  let c1_i32_10 : BitVec 32 := 1#32
  let c0_i32_11 : BitVec 32 := 0#32
  let c0_i32_12 : BitVec 32 := 0#32
  let c0_i32_13 : BitVec 32 := 0#32
  ![c1_i32_9.toNat, c1_i32_10.toNat, v23.toNat, c0_i32_11.toNat, c0_i32_12.toNat]

def cc0_transform_4 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32 : BitVec 32 := 1#32
  let v20 : BitVec 32 := Scalar.subi v5 c1_i32
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c1_i32_9 : BitVec 32 := 1#32
  let c2_i32_10 : BitVec 32 := 2#32
  let c0_i32_11 : BitVec 32 := 0#32
  let c0_i32_12 : BitVec 32 := 0#32
  let c0_i32_13 : BitVec 32 := 0#32
  ![c1_i32_9.toNat, c2_i32_10.toNat, v23.toNat, c0_i32_11.toNat, c0_i32_12.toNat]

def cc0_transform_5 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32 : BitVec 32 := 0#32
  let v6 : BitVec 1 := Scalar.cmpi .sgt v4 c0_i32
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c1024_i32_1 c0_i32_3
  let v12 : BitVec 32 := Scalar.extui v11
  let c0_i32_4 : BitVec 32 := 0#32
  let v13 : BitVec 1 := Scalar.cmpi .slt c1024_i32_1 c0_i32_4
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c1_i32_9 : BitVec 32 := 1#32
  let c0_i32_10 : BitVec 32 := 0#32
  let c0_i32_11 : BitVec 32 := 0#32
  let c0_i32_12 : BitVec 32 := 0#32
  let c0_i32_13 : BitVec 32 := 0#32
  ![c1_i32_9.toNat, c0_i32_10.toNat, v23.toNat, c0_i32_11.toNat, c0_i32_12.toNat]

def cc0_transform_6 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32 : BitVec 32 := 0#32
  let v6 : BitVec 1 := Scalar.cmpi .sgt v4 c0_i32
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c1024_i32_1 c0_i32_3
  let v12 : BitVec 32 := Scalar.extui v11
  let c0_i32_4 : BitVec 32 := 0#32
  let v13 : BitVec 1 := Scalar.cmpi .slt c1024_i32_1 c0_i32_4
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c1_i32_9 : BitVec 32 := 1#32
  let c1_i32_10 : BitVec 32 := 1#32
  let c0_i32_11 : BitVec 32 := 0#32
  let c0_i32_12 : BitVec 32 := 0#32
  let c0_i32_13 : BitVec 32 := 0#32
  ![c1_i32_9.toNat, c1_i32_10.toNat, v23.toNat, c0_i32_11.toNat, c0_i32_12.toNat]

def cc0_transform_7 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi v0 c1_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32 : BitVec 32 := 0#32
  let v6 : BitVec 1 := Scalar.cmpi .sgt v4 c0_i32
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c1024_i32_1 c0_i32_3
  let v12 : BitVec 32 := Scalar.extui v11
  let c0_i32_4 : BitVec 32 := 0#32
  let v13 : BitVec 1 := Scalar.cmpi .slt c1024_i32_1 c0_i32_4
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c1_i32_9 : BitVec 32 := 1#32
  let c2_i32_10 : BitVec 32 := 2#32
  let c0_i32_11 : BitVec 32 := 0#32
  let c0_i32_12 : BitVec 32 := 0#32
  let c0_i32_13 : BitVec 32 := 0#32
  ![c1_i32_9.toNat, c2_i32_10.toNat, v23.toNat, c0_i32_11.toNat, c0_i32_12.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c1_i32 : BitVec 32 := 1#32
  let c0_i32_0 : BitVec 32 := 0#32
  let c0_i32_1 : BitVec 32 := 0#32
  ![c1_i32.toNat, c0_i32_0.toNat, v2.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c1_i32 : BitVec 32 := 1#32
  let c0_i32_0 : BitVec 32 := 0#32
  let c0_i32_1 : BitVec 32 := 0#32
  ![c1_i32.toNat, c0_i32_0.toNat, v2.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c1_i32 : BitVec 32 := 1#32
  let c0_i32_0 : BitVec 32 := 0#32
  let c0_i32_1 : BitVec 32 := 0#32
  ![c1_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c1_i32_0 : BitVec 32 := 1#32
  let c0_i32 : BitVec 32 := 0#32
  let c0_i32_1 : BitVec 32 := 0#32
  ![c1_i32_0.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c1_i32_0 : BitVec 32 := 1#32
  let c0_i32 : BitVec 32 := 0#32
  let c0_i32_1 : BitVec 32 := 0#32
  ![c1_i32_0.toNat, c0_i32.toNat, v2.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c1_i32_0 : BitVec 32 := 1#32
  let c0_i32 : BitVec 32 := 0#32
  let c0_i32_1 : BitVec 32 := 0#32
  ![c1_i32_0.toNat, v2.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S2048x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1x1x1x1024 : Shape := ⟨5, ![1, 1, 1, 1, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S6144 : Shape := ⟨1, ![6144]⟩
abbrev S6144x1 : Shape := ⟨2, ![6144, 1]⟩
abbrev S1x1024x2816 : Shape := ⟨3, ![1, 1024, 2816]⟩
abbrev S1024x2816 : Shape := ⟨2, ![1024, 2816]⟩
abbrev S6144x2816 : Shape := ⟨2, ![6144, 2816]⟩
abbrev S1x2816x1024 : Shape := ⟨3, ![1, 2816, 1024]⟩
abbrev S2816x1024 : Shape := ⟨2, ![2816, 1024]⟩

abbrev nBuf : Space → Nat
  | .hbm => 83
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S4x9x3x1x1024, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x2816x1024, .f32⟩
  | .hbm, ⟨6, _⟩ => ⟨S1x1x1x1x1024, .f32⟩
  | .hbm, ⟨7, _⟩ => ⟨S1x1024, .f32⟩
  | .hbm, ⟨8, _⟩ => ⟨S4096x1024, .f32⟩
  | .hbm, ⟨9, _⟩ => ⟨S1x1x1x1x1024, .f32⟩
  | .hbm, ⟨10, _⟩ => ⟨S1x1024, .f32⟩
  | .hbm, ⟨11, _⟩ => ⟨S1024x1024, .f32⟩
  | .hbm, ⟨12, _⟩ => ⟨S1x1x1x1x1024, .f32⟩
  | .hbm, ⟨13, _⟩ => ⟨S1x1024, .f32⟩
  | .hbm, ⟨14, _⟩ => ⟨S1024x1024, .f32⟩
  | .hbm, ⟨15, _⟩ => ⟨S6144x1024, .f32⟩
  | .hbm, ⟨16, _⟩ => ⟨S1x1x1x1x1024, .f32⟩
  | .hbm, ⟨17, _⟩ => ⟨S1x1024, .f32⟩
  | .hbm, ⟨18, _⟩ => ⟨S4096x1024, .f32⟩
  | .hbm, ⟨19, _⟩ => ⟨S1x1x1x1x1024, .f32⟩
  | .hbm, ⟨20, _⟩ => ⟨S1x1024, .f32⟩
  | .hbm, ⟨21, _⟩ => ⟨S1024x1024, .f32⟩
  | .hbm, ⟨22, _⟩ => ⟨S1x1x1x1x1024, .f32⟩
  | .hbm, ⟨23, _⟩ => ⟨S1x1024, .f32⟩
  | .hbm, ⟨24, _⟩ => ⟨S1024x1024, .f32⟩
  | .hbm, ⟨25, _⟩ => ⟨S6144x1024, .f32⟩
  | .hbm, ⟨26, _⟩ => ⟨S1x1x1x1x1024, .f32⟩
  | .hbm, ⟨27, _⟩ => ⟨S1x1024, .f32⟩
  | .hbm, ⟨28, _⟩ => ⟨S4096x1024, .f32⟩
  | .hbm, ⟨29, _⟩ => ⟨S1x1x1x1x1024, .f32⟩
  | .hbm, ⟨30, _⟩ => ⟨S1x1024, .f32⟩
  | .hbm, ⟨31, _⟩ => ⟨S1024x1024, .f32⟩
  | .hbm, ⟨32, _⟩ => ⟨S1x1x1x1x1024, .f32⟩
  | .hbm, ⟨33, _⟩ => ⟨S1x1024, .f32⟩
  | .hbm, ⟨34, _⟩ => ⟨S1024x1024, .f32⟩
  | .hbm, ⟨35, _⟩ => ⟨S6144x1024, .f32⟩
  | .hbm, ⟨36, _⟩ => ⟨S1x1024, .f32⟩
  | .hbm, ⟨37, _⟩ => ⟨S1024, .f32⟩
  | .hbm, ⟨38, _⟩ => ⟨S6144x1024, .f32⟩
  | .hbm, ⟨39, _⟩ => ⟨S_, .f32⟩
  | .hbm, ⟨40, _⟩ => ⟨S6144, .f32⟩
  | .hbm, ⟨41, _⟩ => ⟨S6144x1, .f32⟩
  | .hbm, ⟨42, _⟩ => ⟨S_, .f32⟩
  | .hbm, ⟨43, _⟩ => ⟨S6144x1, .f32⟩
  | .hbm, ⟨44, _⟩ => ⟨S6144x1, .f32⟩
  | .hbm, ⟨45, _⟩ => ⟨S_, .f32⟩
  | .hbm, ⟨46, _⟩ => ⟨S6144x1, .f32⟩
  | .hbm, ⟨47, _⟩ => ⟨S6144x1, .f32⟩
  | .hbm, ⟨48, _⟩ => ⟨S6144x1, .f32⟩
  | .hbm, ⟨49, _⟩ => ⟨S6144x1024, .f32⟩
  | .hbm, ⟨50, _⟩ => ⟨S6144x1024, .f32⟩
  | .hbm, ⟨51, _⟩ => ⟨S1x1024, .f32⟩
  | .hbm, ⟨52, _⟩ => ⟨S6144x1024, .f32⟩
  | .hbm, ⟨53, _⟩ => ⟨S6144x1024, .f32⟩
  | .hbm, ⟨54, _⟩ => ⟨S_, .f32⟩
  | .hbm, ⟨55, _⟩ => ⟨S6144x1024, .f32⟩
  | .hbm, ⟨56, _⟩ => ⟨S6144x1024, .f32⟩
  | .hbm, ⟨57, _⟩ => ⟨S6144x1024, .f32⟩
  | .hbm, ⟨58, _⟩ => ⟨S6144x1024, .f32⟩
  | .hbm, ⟨59, _⟩ => ⟨S1x1024x2816, .f32⟩
  | .hbm, ⟨60, _⟩ => ⟨S1024x2816, .f32⟩
  | .hbm, ⟨61, _⟩ => ⟨S6144x2816, .f32⟩
  | .hbm, ⟨62, _⟩ => ⟨S6144x2816, .f32⟩
  | .hbm, ⟨63, _⟩ => ⟨S6144x2816, .f32⟩
  | .hbm, ⟨64, _⟩ => ⟨S_, .f32⟩
  | .hbm, ⟨65, _⟩ => ⟨S6144x2816, .f32⟩
  | .hbm, ⟨66, _⟩ => ⟨S6144x2816, .f32⟩
  | .hbm, ⟨67, _⟩ => ⟨S_, .f32⟩
  | .hbm, ⟨68, _⟩ => ⟨S6144x2816, .f32⟩
  | .hbm, ⟨69, _⟩ => ⟨S6144x2816, .f32⟩
  | .hbm, ⟨70, _⟩ => ⟨S6144x2816, .f32⟩
  | .hbm, ⟨71, _⟩ => ⟨S1x1024x2816, .f32⟩
  | .hbm, ⟨72, _⟩ => ⟨S1024x2816, .f32⟩
  | .hbm, ⟨73, _⟩ => ⟨S6144x2816, .f32⟩
  | .hbm, ⟨74, _⟩ => ⟨S6144x2816, .f32⟩
  | .hbm, ⟨75, _⟩ => ⟨S1x2816x1024, .f32⟩
  | .hbm, ⟨76, _⟩ => ⟨S2816x1024, .f32⟩
  | .hbm, ⟨77, _⟩ => ⟨S6144x1024, .f32⟩
  | .hbm, ⟨78, _⟩ => ⟨S_, .f32⟩
  | .hbm, ⟨79, _⟩ => ⟨S6144x1024, .f32⟩
  | .hbm, ⟨80, _⟩ => ⟨S6144x1024, .f32⟩
  | .hbm, ⟨81, _⟩ => ⟨S6144x1024, .f32⟩
  | .hbm, ⟨82, _⟩ => ⟨S6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_3 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== KernelEven.lean ====
abbrev S6144x1024 : Shape := ⟨2, ![6144, 1024]⟩
abbrev S6144x256 : Shape := ⟨2, ![6144, 256]⟩
abbrev S4096x768 : Shape := ⟨2, ![4096, 768]⟩
abbrev S2048x768 : Shape := ⟨2, ![2048, 768]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S1024x1024 : Shape := ⟨2, ![1024, 1024]⟩
abbrev S1024x256 : Shape := ⟨2, ![1024, 256]⟩
abbrev S1024x768 : Shape := ⟨2, ![1024, 768]⟩
abbrev S1x1x1x1x1024 : Shape := ⟨5, ![1, 1, 1, 1, 1024]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S256x1024 : Shape := ⟨2, ![256, 1024]⟩
abbrev S1x768x1024 : Shape := ⟨3, ![1, 768, 1024]⟩
abbrev S768x1024 : Shape := ⟨2, ![768, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 12
  | .vmem => 35
  | .smem => 0
  | _ => 0

abbrev bufTy : (tb : Table) → Fin (tcTables nBuf tb) → BufTy
  | .hbm, ⟨0, _⟩ => ⟨S6144x1024, .f32⟩
  | .hbm, ⟨1, _⟩ => ⟨S6144x256, .bf16⟩
  | .hbm, ⟨2, _⟩ => ⟨S4096x768, .bf16⟩
  | .hbm, ⟨3, _⟩ => ⟨S2048x768, .bf16⟩
  | .hbm, ⟨4, _⟩ => ⟨S4x9x3x1x1024, .f32⟩
  | .hbm, ⟨5, _⟩ => ⟨S2x1024x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S4x1x1024, .f32⟩
  | .hbm, ⟨11, _⟩ => ⟨S6144x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1x1x1x1024, .f32⟩
  | .local _ .vmem, ⟨15, _⟩ => ⟨S1x1x1x1x1024, .f32⟩
  | .local _ .vmem, ⟨16, _⟩ => ⟨S1x1x1x1x1024, .f32⟩
  | .local _ .vmem, ⟨17, _⟩ => ⟨S1x1x1x1x1024, .f32⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | .local _ .vmem, ⟨21, _⟩ => ⟨S1x1024x256, .f32⟩
  | .local _ .vmem, ⟨22, _⟩ => ⟨S1x256x1024, .f32⟩
  | .local _ .vmem, ⟨23, _⟩ => ⟨S1x256x1024, .f32⟩
  | .local _ .vmem, ⟨24, _⟩ => ⟨S1x1024x256, .f32⟩
  | .local _ .vmem, ⟨25, _⟩ => ⟨S1x1024x256, .f32⟩
  | .local _ .vmem, ⟨26, _⟩ => ⟨S1x1024x256, .f32⟩
  | .local _ .vmem, ⟨27, _⟩ => ⟨S1x1024x256, .f32⟩
  | .local _ .vmem, ⟨28, _⟩ => ⟨S1x256x1024, .f32⟩
  | .local _ .vmem, ⟨29, _⟩ => ⟨S1x256x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .f32⟩
  | .local _ .vmem, ⟨34, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![6, 6], ![false, false]⟩

def k0_cond4 (i : grid0.Coords) : BitVec 1 :=
  let arg1 : BitVec 32 := BitVec.ofNat 32 (i 1).val
  let c5_i32_4 : BitVec 32 := 5#32
  let v10 : BitVec 1 := Scalar.cmpi .eq arg1 c5_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c5_i32 : BitVec 32 := 5#32
  let c0_i32_11 : BitVec 32 := 0#32
  let c0_i32_12 : BitVec 32 := 0#32
  let c0_i32_13 : BitVec 32 := 0#32
  ![c0_i32_10.toNat, c5_i32.toNat, v23.toNat, c0_i32_11.toNat, c0_i32_12.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c6_i32 : BitVec 32 := 6#32
  let c0_i32_11 : BitVec 32 := 0#32
  let c0_i32_12 : BitVec 32 := 0#32
  let c0_i32_13 : BitVec 32 := 0#32
  ![c0_i32_10.toNat, c6_i32.toNat, v23.toNat, c0_i32_11.toNat, c0_i32_12.toNat]

def cc0_transform_8 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c7_i32 : BitVec 32 := 7#32
  let c0_i32_11 : BitVec 32 := 0#32
  let c0_i32_12 : BitVec 32 := 0#32
  let c0_i32_13 : BitVec 32 := 0#32
  ![c0_i32_10.toNat, c7_i32.toNat, v23.toNat, c0_i32_11.toNat, c0_i32_12.toNat]

def cc0_transform_9 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c8_i32 : BitVec 32 := 8#32
  let c0_i32_11 : BitVec 32 := 0#32
  let c0_i32_12 : BitVec 32 := 0#32
  let c0_i32_13 : BitVec 32 := 0#32
  ![c0_i32_10.toNat, c8_i32.toNat, v23.toNat, c0_i32_11.toNat, c0_i32_12.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, c0_i32_1.toNat, v2.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, c0_i32_1.toNat, v2.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, v2.toNat, c0_i32_1.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, c0_i32_0.toNat, v2.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, c0_i32_0.toNat, v2.toNat]

def cc0_transform_15 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, v2.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceEvenIdeal.lean ====
abbrev S6144x1024 : Shape := ⟨2, ![6144, 1024]⟩
abbrev S6144x256 : Shape := ⟨2, ![6144, 256]⟩
abbrev S4096x768 : Shape := ⟨2, ![4096, 768]⟩
abbrev S2048x768 : Shape := ⟨2, ![2048, 768]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S6144x768 : Shape := ⟨2, ![6144, 768]⟩
abbrev S1x1024x1024 : Shape := ⟨3, ![1, 1024, 1024]⟩
abbrev S1024x1024 : Shape := ⟨2, ![1024, 1024]⟩
abbrev S1x1x1x1x1024 : Shape := ⟨5, ![1, 1, 1, 1, 1024]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S6144 : Shape := ⟨1, ![6144]⟩
abbrev S6144x1 : Shape := ⟨2, ![6144, 1]⟩
abbrev S1x1024x2816 : Shape := ⟨3, ![1, 1024, 2816]⟩
abbrev S1024x2816 : Shape := ⟨2, ![1024, 2816]⟩
abbrev S6144x2816 : Shape := ⟨2, ![6144, 2816]⟩
abbrev S1x2816x1024 : Shape := ⟨3, ![1, 2816, 1024]⟩
abbrev S2816x1024 : Shape := ⟨2, ![2816, 1024]⟩

abbrev nBuf : Space → Nat
  | .hbm => 107
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S6144x256, .bf16⟩
  | .hbm, ⟨2, _⟩ => ⟨S4096x768, .bf16⟩
  | .hbm, ⟨3, _⟩ => ⟨S2048x768, .bf16⟩
  | .hbm, ⟨4, _⟩ => ⟨S4x9x3x1x1024, .f32⟩
  | .hbm, ⟨5, _⟩ => ⟨S2x1024x1024, .f32⟩
  | .hbm, ⟨6, _⟩ => ⟨S4x1024, .f32⟩
  | .hbm, ⟨7, _⟩ => ⟨S4x1024x2816, .f32⟩
  | .hbm, ⟨8, _⟩ => ⟨S4x1024x2816, .f32⟩
  | .hbm, ⟨9, _⟩ => ⟨S4x2816x1024, .f32⟩
  | .hbm, ⟨10, _⟩ => ⟨S4096x768, .f32⟩
  | .hbm, ⟨11, _⟩ => ⟨S2048x768, .f32⟩
  | .hbm, ⟨12, _⟩ => ⟨S6144x768, .f32⟩
  | .hbm, ⟨13, _⟩ => ⟨S6144x256, .f32⟩
  | .hbm, ⟨14, _⟩ => ⟨S6144x1024, .f32⟩
  | .hbm, ⟨15, _⟩ => ⟨S1x1024x1024, .f32⟩
  | .hbm, ⟨16, _⟩ => ⟨S1024x1024, .f32⟩
  | .hbm, ⟨17, _⟩ => ⟨S6144x1024, .f32⟩
  | .hbm, ⟨18, _⟩ => ⟨S1x1x1x1x1024, .f32⟩
  | .hbm, ⟨19, _⟩ => ⟨S1x1024, .f32⟩
  | .hbm, ⟨20, _⟩ => ⟨S4096x1024, .f32⟩
  | .hbm, ⟨21, _⟩ => ⟨S1x1x1x1x1024, .f32⟩
  | .hbm, ⟨22, _⟩ => ⟨S1x1024, .f32⟩
  | .hbm, ⟨23, _⟩ => ⟨S1024x1024, .f32⟩
  | .hbm, ⟨24, _⟩ => ⟨S1x1x1x1x1024, .f32⟩
  | .hbm, ⟨25, _⟩ => ⟨S1x1024, .f32⟩
  | .hbm, ⟨26, _⟩ => ⟨S1024x1024, .f32⟩
  | .hbm, ⟨27, _⟩ => ⟨S6144x1024, .f32⟩
  | .hbm, ⟨28, _⟩ => ⟨S6144x1024, .f32⟩
  | .hbm, ⟨29, _⟩ => ⟨S6144x1024, .f32⟩
  | .hbm, ⟨30, _⟩ => ⟨S1x1x1x1x1024, .f32⟩
  | .hbm, ⟨31, _⟩ => ⟨S1x1024, .f32⟩
  | .hbm, ⟨32, _⟩ => ⟨S4096x1024, .f32⟩
  | .hbm, ⟨33, _⟩ => ⟨S1x1x1x1x1024, .f32⟩
  | .hbm, ⟨34, _⟩ => ⟨S1x1024, .f32⟩
  | .hbm, ⟨35, _⟩ => ⟨S1024x1024, .f32⟩
  | .hbm, ⟨36, _⟩ => ⟨S1x1x1x1x1024, .f32⟩
  | .hbm, ⟨37, _⟩ => ⟨S1x1024, .f32⟩
  | .hbm, ⟨38, _⟩ => ⟨S1024x1024, .f32⟩
  | .hbm, ⟨39, _⟩ => ⟨S6144x1024, .f32⟩
  | .hbm, ⟨40, _⟩ => ⟨S1x1x1x1x1024, .f32⟩
  | .hbm, ⟨41, _⟩ => ⟨S1x1024, .f32⟩
  | .hbm, ⟨42, _⟩ => ⟨S4096x1024, .f32⟩
  | .hbm, ⟨43, _⟩ => ⟨S1x1x1x1x1024, .f32⟩
  | .hbm, ⟨44, _⟩ => ⟨S1x1024, .f32⟩
  | .hbm, ⟨45, _⟩ => ⟨S1024x1024, .f32⟩
  | .hbm, ⟨46, _⟩ => ⟨S1x1x1x1x1024, .f32⟩
  | .hbm, ⟨47, _⟩ => ⟨S1x1024, .f32⟩
  | .hbm, ⟨48, _⟩ => ⟨S1024x1024, .f32⟩
  | .hbm, ⟨49, _⟩ => ⟨S6144x1024, .f32⟩
  | .hbm, ⟨50, _⟩ => ⟨S1x1x1x1x1024, .f32⟩
  | .hbm, ⟨51, _⟩ => ⟨S1x1024, .f32⟩
  | .hbm, ⟨52, _⟩ => ⟨S4096x1024, .f32⟩
  | .hbm, ⟨53, _⟩ => ⟨S1x1x1x1x1024, .f32⟩
  | .hbm, ⟨54, _⟩ => ⟨S1x1024, .f32⟩
  | .hbm, ⟨55, _⟩ => ⟨S1024x1024, .f32⟩
  | .hbm, ⟨56, _⟩ => ⟨S1x1x1x1x1024, .f32⟩
  | .hbm, ⟨57, _⟩ => ⟨S1x1024, .f32⟩
  | .hbm, ⟨58, _⟩ => ⟨S1024x1024, .f32⟩
  | .hbm, ⟨59, _⟩ => ⟨S6144x1024, .f32⟩
  | .hbm, ⟨60, _⟩ => ⟨S1x1024, .f32⟩
  | .hbm, ⟨61, _⟩ => ⟨S1024, .f32⟩
  | .hbm, ⟨62, _⟩ => ⟨S6144x1024, .f32⟩
  | .hbm, ⟨63, _⟩ => ⟨S_, .f32⟩
  | .hbm, ⟨64, _⟩ => ⟨S6144, .f32⟩
  | .hbm, ⟨65, _⟩ => ⟨S6144x1, .f32⟩
  | .hbm, ⟨66, _⟩ => ⟨S_, .f32⟩
  | .hbm, ⟨67, _⟩ => ⟨S6144x1, .f32⟩
  | .hbm, ⟨68, _⟩ => ⟨S6144x1, .f32⟩
  | .hbm, ⟨69, _⟩ => ⟨S_, .f32⟩
  | .hbm, ⟨70, _⟩ => ⟨S6144x1, .f32⟩
  | .hbm, ⟨71, _⟩ => ⟨S6144x1, .f32⟩
  | .hbm, ⟨72, _⟩ => ⟨S6144x1, .f32⟩
  | .hbm, ⟨73, _⟩ => ⟨S6144x1024, .f32⟩
  | .hbm, ⟨74, _⟩ => ⟨S6144x1024, .f32⟩
  | .hbm, ⟨75, _⟩ => ⟨S1x1024, .f32⟩
  | .hbm, ⟨76, _⟩ => ⟨S6144x1024, .f32⟩
  | .hbm, ⟨77, _⟩ => ⟨S6144x1024, .f32⟩
  | .hbm, ⟨78, _⟩ => ⟨S_, .f32⟩
  | .hbm, ⟨79, _⟩ => ⟨S6144x1024, .f32⟩
  | .hbm, ⟨80, _⟩ => ⟨S6144x1024, .f32⟩
  | .hbm, ⟨81, _⟩ => ⟨S6144x1024, .f32⟩
  | .hbm, ⟨82, _⟩ => ⟨S6144x1024, .f32⟩
  | .hbm, ⟨83, _⟩ => ⟨S1x1024x2816, .f32⟩
  | .hbm, ⟨84, _⟩ => ⟨S1024x2816, .f32⟩
  | .hbm, ⟨85, _⟩ => ⟨S6144x2816, .f32⟩
  | .hbm, ⟨86, _⟩ => ⟨S6144x2816, .f32⟩
  | .hbm, ⟨87, _⟩ => ⟨S6144x2816, .f32⟩
  | .hbm, ⟨88, _⟩ => ⟨S_, .f32⟩
  | .hbm, ⟨89, _⟩ => ⟨S6144x2816, .f32⟩
  | .hbm, ⟨90, _⟩ => ⟨S6144x2816, .f32⟩
  | .hbm, ⟨91, _⟩ => ⟨S_, .f32⟩
  | .hbm, ⟨92, _⟩ => ⟨S6144x2816, .f32⟩
  | .hbm, ⟨93, _⟩ => ⟨S6144x2816, .f32⟩
  | .hbm, ⟨94, _⟩ => ⟨S6144x2816, .f32⟩
  | .hbm, ⟨95, _⟩ => ⟨S1x1024x2816, .f32⟩
  | .hbm, ⟨96, _⟩ => ⟨S1024x2816, .f32⟩
  | .hbm, ⟨97, _⟩ => ⟨S6144x2816, .f32⟩
  | .hbm, ⟨98, _⟩ => ⟨S6144x2816, .f32⟩
  | .hbm, ⟨99, _⟩ => ⟨S1x2816x1024, .f32⟩
  | .hbm, ⟨100, _⟩ => ⟨S2816x1024, .f32⟩
  | .hbm, ⟨101, _⟩ => ⟨S6144x1024, .f32⟩
  | .hbm, ⟨102, _⟩ => ⟨S_, .f32⟩
  | .hbm, ⟨103, _⟩ => ⟨S6144x1024, .f32⟩
  | .hbm, ⟨104, _⟩ => ⟨S6144x1024, .f32⟩
  | .hbm, ⟨105, _⟩ => ⟨S6144x1024, .f32⟩
  | .hbm, ⟨106, _⟩ => ⟨S6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst : Ref sig .tc := ⟨.hbm, 63, rfl⟩
abbrev main_v53 : Ref sig .tc := ⟨.hbm, 64, rfl⟩
abbrev main_v54 : Ref sig .tc := ⟨.hbm, 65, rfl⟩
abbrev main_cst_0 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_2 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_3 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩

abbrev nD : Nat := 1
abbrev τ : Topo := Topo.v7x

variable {F : FTy → Type} [FloatOps F]
-- ==== KernelOdd.lean ====
abbrev S6144x1024 : Shape := ⟨2, ![6144, 1024]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S1024x1024 : Shape := ⟨2, ![1024, 1024]⟩
abbrev S1x1x1x1x1024 : Shape := ⟨5, ![1, 1, 1, 1, 1024]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 31
  | .smem => 0
  | _ => 0

abbrev bufTy : (tb : Table) → Fin (tcTables nBuf tb) → BufTy
  | .hbm, ⟨0, _⟩ => ⟨S6144x1024, .f32⟩
  | .hbm, ⟨1, _⟩ => ⟨S6144x1024, .bf16⟩
  | .hbm, ⟨2, _⟩ => ⟨S4x9x3x1x1024, .f32⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x1x1024, .f32⟩
  | .hbm, ⟨9, _⟩ => ⟨S6144x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x256x1024, .f32⟩
  | .local _ .vmem, ⟨19, _⟩ => ⟨S1x256x1024, .f32⟩
  | .local _ .vmem, ⟨20, _⟩ => ⟨S1x1024x256, .f32⟩
  | .local _ .vmem, ⟨21, _⟩ => ⟨S1x1024x256, .f32⟩
  | .local _ .vmem, ⟨22, _⟩ => ⟨S1x1024x256, .f32⟩
  | .local _ .vmem, ⟨23, _⟩ => ⟨S1x1024x256, .f32⟩
  | .local _ .vmem, ⟨24, _⟩ => ⟨S1x256x1024, .f32⟩
  | .local _ .vmem, ⟨25, _⟩ => ⟨S1x256x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .bf16⟩
  | .local _ .vmem, ⟨29, _⟩ => ⟨S1024x1024, .f32⟩
  | .local _ .vmem, ⟨30, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![6, 6], ![false, false]⟩

def k0_cond4 (i : grid0.Coords) : BitVec 1 :=
  let arg1 : BitVec 32 := BitVec.ofNat 32 (i 1).val
  let c5_i32_4 : BitVec 32 := 5#32
  let v9 : BitVec 1 := Scalar.cmpi .eq arg1 c5_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c1_i32_10 : BitVec 32 := 1#32
  let c5_i32 : BitVec 32 := 5#32
  let c0_i32_11 : BitVec 32 := 0#32
  let c0_i32_12 : BitVec 32 := 0#32
  let c0_i32_13 : BitVec 32 := 0#32
  ![c1_i32_10.toNat, c5_i32.toNat, v23.toNat, c0_i32_11.toNat, c0_i32_12.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c1_i32_10 : BitVec 32 := 1#32
  let c6_i32 : BitVec 32 := 6#32
  let c0_i32_11 : BitVec 32 := 0#32
  let c0_i32_12 : BitVec 32 := 0#32
  let c0_i32_13 : BitVec 32 := 0#32
  ![c1_i32_10.toNat, c6_i32.toNat, v23.toNat, c0_i32_11.toNat, c0_i32_12.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c1_i32_10 : BitVec 32 := 1#32
  let c7_i32 : BitVec 32 := 7#32
  let c0_i32_11 : BitVec 32 := 0#32
  let c0_i32_12 : BitVec 32 := 0#32
  let c0_i32_13 : BitVec 32 := 0#32
  ![c1_i32_10.toNat, c7_i32.toNat, v23.toNat, c0_i32_11.toNat, c0_i32_12.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c1_i32_10 : BitVec 32 := 1#32
  let c8_i32 : BitVec 32 := 8#32
  let c0_i32_11 : BitVec 32 := 0#32
  let c0_i32_12 : BitVec 32 := 0#32
  let c0_i32_13 : BitVec 32 := 0#32
  ![c1_i32_10.toNat, c8_i32.toNat, v23.toNat, c0_i32_11.toNat, c0_i32_12.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c1_i32 : BitVec 32 := 1#32
  let c0_i32_0 : BitVec 32 := 0#32
  let c0_i32_1 : BitVec 32 := 0#32
  ![c1_i32.toNat, c0_i32_0.toNat, v2.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c1_i32 : BitVec 32 := 1#32
  let c0_i32_0 : BitVec 32 := 0#32
  let c0_i32_1 : BitVec 32 := 0#32
  ![c1_i32.toNat, c0_i32_0.toNat, v2.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c1_i32 : BitVec 32 := 1#32
  let c0_i32_0 : BitVec 32 := 0#32
  let c0_i32_1 : BitVec 32 := 0#32
  ![c1_i32.toNat, v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c1_i32_0 : BitVec 32 := 1#32
  let c0_i32 : BitVec 32 := 0#32
  let c0_i32_1 : BitVec 32 := 0#32
  ![c1_i32_0.toNat, c0_i32.toNat, v2.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c1_i32_0 : BitVec 32 := 1#32
  let c0_i32 : BitVec 32 := 0#32
  let c0_i32_1 : BitVec 32 := 0#32
  ![c1_i32_0.toNat, c0_i32.toNat, v2.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c1_i32_0 : BitVec 32 := 1#32
  let c0_i32 : BitVec 32 := 0#32
  let c0_i32_1 : BitVec 32 := 0#32
  ![c1_i32_0.toNat, v2.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceOddIdeal.lean ====
abbrev S6144x1024 : Shape := ⟨2, ![6144, 1024]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1x1x1x1x1024 : Shape := ⟨5, ![1, 1, 1, 1, 1024]⟩
abbrev S1x1024 : Shape := ⟨2, ![1, 1024]⟩
abbrev S4096x1024 : Shape := ⟨2, ![4096, 1024]⟩
abbrev S1024x1024 : Shape := ⟨2, ![1024, 1024]⟩
abbrev S1x1024x1024 : Shape := ⟨3, ![1, 1024, 1024]⟩
abbrev S1024 : Shape := ⟨1, ![1024]⟩
abbrev S_ : Shape := ⟨0, ![]⟩
abbrev S6144 : Shape := ⟨1, ![6144]⟩
abbrev S6144x1 : Shape := ⟨2, ![6144, 1]⟩
abbrev S1x1024x2816 : Shape := ⟨3, ![1, 1024, 2816]⟩
abbrev S1024x2816 : Shape := ⟨2, ![1024, 2816]⟩
abbrev S6144x2816 : Shape := ⟨2, ![6144, 2816]⟩
abbrev S1x2816x1024 : Shape := ⟨3, ![1, 2816, 1024]⟩
abbrev S2816x1024 : Shape := ⟨2, ![2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S6144x1024, .bf16⟩
  | .hbm, ⟨2, _⟩ => ⟨S4x9x3x1x1024, .f32⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1x1x1x1x1024, .f32⟩
  | .hbm, ⟨9, _⟩ => ⟨S1x1024, .f32⟩
  | .hbm, ⟨10, _⟩ => ⟨S4096x1024, .f32⟩
  | .hbm, ⟨11, _⟩ => ⟨S1x1x1x1x1024, .f32⟩
  | .hbm, ⟨12, _⟩ => ⟨S1x1024, .f32⟩
  | .hbm, ⟨13, _⟩ => ⟨S1024x1024, .f32⟩
  | .hbm, ⟨14, _⟩ => ⟨S1x1x1x1x1024, .f32⟩
  | .hbm, ⟨15, _⟩ => ⟨S1x1024, .f32⟩
  | .hbm, ⟨16, _⟩ => ⟨S1024x1024, .f32⟩
  | .hbm, ⟨17, _⟩ => ⟨S6144x1024, .f32⟩
  | .hbm, ⟨18, _⟩ => ⟨S6144x1024, .f32⟩
  | .hbm, ⟨19, _⟩ => ⟨S1x1024x1024, .f32⟩
  | .hbm, ⟨20, _⟩ => ⟨S1024x1024, .f32⟩
  | .hbm, ⟨21, _⟩ => ⟨S6144x1024, .f32⟩
  | .hbm, ⟨22, _⟩ => ⟨S6144x1024, .f32⟩
  | .hbm, ⟨23, _⟩ => ⟨S6144x1024, .f32⟩
  | .hbm, ⟨24, _⟩ => ⟨S1x1x1x1x1024, .f32⟩
  | .hbm, ⟨25, _⟩ => ⟨S1x1024, .f32⟩
  | .hbm, ⟨26, _⟩ => ⟨S4096x1024, .f32⟩
  | .hbm, ⟨27, _⟩ => ⟨S1x1x1x1x1024, .f32⟩
  | .hbm, ⟨28, _⟩ => ⟨S1x1024, .f32⟩
  | .hbm, ⟨29, _⟩ => ⟨S1024x1024, .f32⟩
  | .hbm, ⟨30, _⟩ => ⟨S1x1x1x1x1024, .f32⟩
  | .hbm, ⟨31, _⟩ => ⟨S1x1024, .f32⟩
  | .hbm, ⟨32, _⟩ => ⟨S1024x1024, .f32⟩
  | .hbm, ⟨33, _⟩ => ⟨S6144x1024, .f32⟩
  | .hbm, ⟨34, _⟩ => ⟨S1x1x1x1x1024, .f32⟩
  | .hbm, ⟨35, _⟩ => ⟨S1x1024, .f32⟩
  | .hbm, ⟨36, _⟩ => ⟨S4096x1024, .f32⟩
  | .hbm, ⟨37, _⟩ => ⟨S1x1x1x1x1024, .f32⟩
  | .hbm, ⟨38, _⟩ => ⟨S1x1024, .f32⟩
  | .hbm, ⟨39, _⟩ => ⟨S1024x1024, .f32⟩
  | .hbm, ⟨40, _⟩ => ⟨S1x1x1x1x1024, .f32⟩
  | .hbm, ⟨41, _⟩ => ⟨S1x1024, .f32⟩
  | .hbm, ⟨42, _⟩ => ⟨S1024x1024, .f32⟩
  | .hbm, ⟨43, _⟩ => ⟨S6144x1024, .f32⟩
  | .hbm, ⟨44, _⟩ => ⟨S1x1x1x1x1024, .f32⟩
  | .hbm, ⟨45, _⟩ => ⟨S1x1024, .f32⟩
  | .hbm, ⟨46, _⟩ => ⟨S4096x1024, .f32⟩
  | .hbm, ⟨47, _⟩ => ⟨S1x1x1x1x1024, .f32⟩
  | .hbm, ⟨48, _⟩ => ⟨S1x1024, .f32⟩
  | .hbm, ⟨49, _⟩ => ⟨S1024x1024, .f32⟩
  | .hbm, ⟨50, _⟩ => ⟨S1x1x1x1x1024, .f32⟩
  | .hbm, ⟨51, _⟩ => ⟨S1x1024, .f32⟩
  | .hbm, ⟨52, _⟩ => ⟨S1024x1024, .f32⟩
  | .hbm, ⟨53, _⟩ => ⟨S6144x1024, .f32⟩
  | .hbm, ⟨54, _⟩ => ⟨S1x1024, .f32⟩
  | .hbm, ⟨55, _⟩ => ⟨S1024, .f32⟩
  | .hbm, ⟨56, _⟩ => ⟨S6144x1024, .f32⟩
  | .hbm, ⟨57, _⟩ => ⟨S_, .f32⟩
  | .hbm, ⟨58, _⟩ => ⟨S6144, .f32⟩
  | .hbm, ⟨59, _⟩ => ⟨S6144x1, .f32⟩
  | .hbm, ⟨60, _⟩ => ⟨S_, .f32⟩
  | .hbm, ⟨61, _⟩ => ⟨S6144x1, .f32⟩
  | .hbm, ⟨62, _⟩ => ⟨S6144x1, .f32⟩
  | .hbm, ⟨63, _⟩ => ⟨S_, .f32⟩
  | .hbm, ⟨64, _⟩ => ⟨S6144x1, .f32⟩
  | .hbm, ⟨65, _⟩ => ⟨S6144x1, .f32⟩
  | .hbm, ⟨66, _⟩ => ⟨S6144x1, .f32⟩
  | .hbm, ⟨67, _⟩ => ⟨S6144x1024, .f32⟩
  | .hbm, ⟨68, _⟩ => ⟨S6144x1024, .f32⟩
  | .hbm, ⟨69, _⟩ => ⟨S1x1024, .f32⟩
  | .hbm, ⟨70, _⟩ => ⟨S6144x1024, .f32⟩
  | .hbm, ⟨71, _⟩ => ⟨S6144x1024, .f32⟩
  | .hbm, ⟨72, _⟩ => ⟨S_, .f32⟩
  | .hbm, ⟨73, _⟩ => ⟨S6144x1024, .f32⟩
  | .hbm, ⟨74, _⟩ => ⟨S6144x1024, .f32⟩
  | .hbm, ⟨75, _⟩ => ⟨S6144x1024, .f32⟩
  | .hbm, ⟨76, _⟩ => ⟨S6144x1024, .f32⟩
  | .hbm, ⟨77, _⟩ => ⟨S1x1024x2816, .f32⟩
  | .hbm, ⟨78, _⟩ => ⟨S1024x2816, .f32⟩
  | .hbm, ⟨79, _⟩ => ⟨S6144x2816, .f32⟩
  | .hbm, ⟨80, _⟩ => ⟨S6144x2816, .f32⟩
  | .hbm, ⟨81, _⟩ => ⟨S6144x2816, .f32⟩
  | .hbm, ⟨82, _⟩ => ⟨S_, .f32⟩
  | .hbm, ⟨83, _⟩ => ⟨S6144x2816, .f32⟩
  | .hbm, ⟨84, _⟩ => ⟨S6144x2816, .f32⟩
  | .hbm, ⟨85, _⟩ => ⟨S_, .f32⟩
  | .hbm, ⟨86, _⟩ => ⟨S6144x2816, .f32⟩
  | .hbm, ⟨87, _⟩ => ⟨S6144x2816, .f32⟩
  | .hbm, ⟨88, _⟩ => ⟨S6144x2816, .f32⟩
  | .hbm, ⟨89, _⟩ => ⟨S1x1024x2816, .f32⟩
  | .hbm, ⟨90, _⟩ => ⟨S1024x2816, .f32⟩
  | .hbm, ⟨91, _⟩ => ⟨S6144x2816, .f32⟩
  | .hbm, ⟨92, _⟩ => ⟨S6144x2816, .f32⟩
  | .hbm, ⟨93, _⟩ => ⟨S1x2816x1024, .f32⟩
  | .hbm, ⟨94, _⟩ => ⟨S2816x1024, .f32⟩
  | .hbm, ⟨95, _⟩ => ⟨S6144x1024, .f32⟩
  | .hbm, ⟨96, _⟩ => ⟨S_, .f32⟩
  | .hbm, ⟨97, _⟩ => ⟨S6144x1024, .f32⟩
  | .hbm, ⟨98, _⟩ => ⟨S6144x1024, .f32⟩
  | .hbm, ⟨99, _⟩ => ⟨S6144x1024, .f32⟩
  | .hbm, ⟨100, _⟩ => ⟨S6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst : Ref sig .tc := ⟨.hbm, 57, rfl⟩
abbrev main_v49 : Ref sig .tc := ⟨.hbm, 58, rfl⟩
abbrev main_v50 : Ref sig .tc := ⟨.hbm, 59, rfl⟩
abbrev main_cst_0 : Ref sig .tc := ⟨.hbm, 60, rfl⟩
abbrev main_v51 : Ref sig .tc := ⟨.hbm, 61, rfl⟩
abbrev main_v52 : Ref sig .tc := ⟨.hbm, 62, rfl⟩
abbrev main_cst_1 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_2 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_3 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== KernelFinal.lean ====
abbrev S6144x1024 : Shape := ⟨2, ![6144, 1024]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S4096x1024 : Shape := ⟨2, ![4096, 1024]⟩
abbrev S2048x1024 : Shape := ⟨2, ![2048, 1024]⟩
abbrev S1024x1024 : Shape := ⟨2, ![1024, 1024]⟩
abbrev S1x1x1x1x1024 : Shape := ⟨5, ![1, 1, 1, 1, 1024]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 28
  | .smem => 0
  | _ => 0

abbrev bufTy : (tb : Table) → Fin (tcTables nBuf tb) → BufTy
  | .hbm, ⟨0, _⟩ => ⟨S6144x1024, .f32⟩
  | .hbm, ⟨1, _⟩ => ⟨S6144x1024, .bf16⟩
  | .hbm, ⟨2, _⟩ => ⟨S4x9x3x1x1024, .f32⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S4x1x1024, .f32⟩
  | .hbm, ⟨10, _⟩ => ⟨S1x1024, .f32⟩
  | .hbm, ⟨11, _⟩ => ⟨S4096x1024, .f32⟩
  | .hbm, ⟨12, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1x1x1x1024, .f32⟩
  | .local _ .vmem, ⟨13, _⟩ => ⟨S1x1x1x1x1024, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x256x1024, .f32⟩
  | .local _ .vmem, ⟨19, _⟩ => ⟨S1x256x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .f32⟩
  | .local _ .vmem, ⟨27, _⟩ => ⟨S1024x1024, .f32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![6, 11], ![false, false]⟩

def k0_cond2 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_18 : BitVec 32 := 0#32
  let v31 : BitVec 1 := Scalar.cmpi .ne v30 c0_i32_18
  v31

def k0_cond3 (i : grid0.Coords) : BitVec 1 :=
  let arg0 : BitVec 32 := BitVec.ofNat 32 (i 0).val
  let c4_i32 : BitVec 32 := 4#32
  let v0 : BitVec 1 := Scalar.cmpi .slt arg0 c4_i32
  let v55 : BitVec 32 := Scalar.extui v0
  let c0_i32_34 : BitVec 32 := 0#32
  let v56 : BitVec 1 := Scalar.cmpi .ne v55 c0_i32_34
  v56

def k0_cond4 (i : grid0.Coords) : BitVec 1 :=
  let arg0 : BitVec 32 := BitVec.ofNat 32 (i 0).val
  let c4_i32 : BitVec 32 := 4#32
  let v0 : BitVec 1 := Scalar.cmpi .slt arg0 c4_i32
  let v_true : BitVec 1 := 1#1
  let v57 : BitVec 1 := Scalar.xori v0 v_true
  let v58 : BitVec 32 := Scalar.extui v57
  let c0_i32_35 : BitVec 32 := 0#32
  let v59 : BitVec 1 := Scalar.cmpi .ne v58 c0_i32_35
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c3_i32 : BitVec 32 := 3#32
  let c5_i32 : BitVec 32 := 5#32
  let c0_i32_10 : BitVec 32 := 0#32
  let c0_i32_11 : BitVec 32 := 0#32
  let c0_i32_12 : BitVec 32 := 0#32
  ![c3_i32.toNat, c5_i32.toNat, v23.toNat, c0_i32_10.toNat, c0_i32_11.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c3_i32 : BitVec 32 := 3#32
  let c6_i32 : BitVec 32 := 6#32
  let c0_i32_10 : BitVec 32 := 0#32
  let c0_i32_11 : BitVec 32 := 0#32
  let c0_i32_12 : BitVec 32 := 0#32
  ![c3_i32.toNat, c6_i32.toNat, v23.toNat, c0_i32_10.toNat, c0_i32_11.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c3_i32 : BitVec 32 := 3#32
  let c7_i32 : BitVec 32 := 7#32
  let c0_i32_10 : BitVec 32 := 0#32
  let c0_i32_11 : BitVec 32 := 0#32
  let c0_i32_12 : BitVec 32 := 0#32
  ![c3_i32.toNat, c7_i32.toNat, v23.toNat, c0_i32_10.toNat, c0_i32_11.toNat]

def cc0_transform_7 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c3_i32 : BitVec 32 := 3#32
  let c8_i32 : BitVec 32 := 8#32
  let c0_i32_10 : BitVec 32 := 0#32
  let c0_i32_11 : BitVec 32 := 0#32
  let c0_i32_12 : BitVec 32 := 0#32
  ![c3_i32.toNat, c8_i32.toNat, v23.toNat, c0_i32_10.toNat, c0_i32_11.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi v0 c0_i32
  let c10_i32 : BitVec 32 := 10#32
  let v2 : BitVec 32 := Scalar.minsi v1 c10_i32
  let c3_i32 : BitVec 32 := 3#32
  let c0_i32_0 : BitVec 32 := 0#32
  let c0_i32_1 : BitVec 32 := 0#32
  ![c3_i32.toNat, c0_i32_0.toNat, v2.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi v0 c0_i32
  let c10_i32 : BitVec 32 := 10#32
  let v2 : BitVec 32 := Scalar.minsi v1 c10_i32
  let c3_i32 : BitVec 32 := 3#32
  let c0_i32_0 : BitVec 32 := 0#32
  let c0_i32_1 : BitVec 32 := 0#32
  ![c3_i32.toNat, c0_i32_0.toNat, v2.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg1
  let c0_i32 : BitVec 32 := 0#32
  let v1 : BitVec 32 := Scalar.addi v0 c0_i32
  let c10_i32 : BitVec 32 := 10#32
  let v2 : BitVec 32 := Scalar.minsi v1 c10_i32
  let c3_i32 : BitVec 32 := 3#32
  let c0_i32_0 : BitVec 32 := 0#32
  let c0_i32_1 : BitVec 32 := 0#32
  ![c3_i32.toNat, v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceFinalIdeal.lean ====
abbrev S6144x1024 : Shape := ⟨2, ![6144, 1024]⟩
abbrev S4x9x3x1x1024 : Shape := ⟨5, ![4, 9, 3, 1, 1024]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1x1x1x1024 : Shape := ⟨5, ![1, 1, 1, 1, 1024]⟩
abbrev S1x1024 : Shape := ⟨2, ![1, 1024]⟩
abbrev S4096x1024 : Shape := ⟨2, ![4096, 1024]⟩
abbrev S1024x1024 : Shape := ⟨2, ![1024, 1024]⟩
abbrev S1x1024x1024 : Shape := ⟨3, ![1, 1024, 1024]⟩
abbrev S_ : Shape := ⟨0, ![]⟩
abbrev S6144 : Shape := ⟨1, ![6144]⟩
abbrev S6144x1 : Shape := ⟨2, ![6144, 1]⟩
abbrev S1x1024x2816 : Shape := ⟨3, ![1, 1024, 2816]⟩
abbrev S1024x2816 : Shape := ⟨2, ![1024, 2816]⟩
abbrev S6144x2816 : Shape := ⟨2, ![6144, 2816]⟩
abbrev S1x2816x1024 : Shape := ⟨3, ![1, 2816, 1024]⟩
abbrev S2816x1024 : Shape := ⟨2, ![2816, 1024]⟩
abbrev S2048x1024 : Shape := ⟨2, ![2048, 1024]⟩

abbrev nBuf : Space → Nat
  | .hbm => 120
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S6144x1024, .bf16⟩
  | .hbm, ⟨2, _⟩ => ⟨S4x9x3x1x1024, .f32⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x1x1x1x1024, .f32⟩
  | .hbm, ⟨10, _⟩ => ⟨S1x1024, .f32⟩
  | .hbm, ⟨11, _⟩ => ⟨S4096x1024, .f32⟩
  | .hbm, ⟨12, _⟩ => ⟨S1x1x1x1x1024, .f32⟩
  | .hbm, ⟨13, _⟩ => ⟨S1x1024, .f32⟩
  | .hbm, ⟨14, _⟩ => ⟨S1024x1024, .f32⟩
  | .hbm, ⟨15, _⟩ => ⟨S1x1x1x1x1024, .f32⟩
  | .hbm, ⟨16, _⟩ => ⟨S1x1024, .f32⟩
  | .hbm, ⟨17, _⟩ => ⟨S1024x1024, .f32⟩
  | .hbm, ⟨18, _⟩ => ⟨S6144x1024, .f32⟩
  | .hbm, ⟨19, _⟩ => ⟨S6144x1024, .f32⟩
  | .hbm, ⟨20, _⟩ => ⟨S1x1024x1024, .f32⟩
  | .hbm, ⟨21, _⟩ => ⟨S1024x1024, .f32⟩
  | .hbm, ⟨22, _⟩ => ⟨S6144x1024, .f32⟩
  | .hbm, ⟨23, _⟩ => ⟨S6144x1024, .f32⟩
  | .hbm, ⟨24, _⟩ => ⟨S6144x1024, .f32⟩
  | .hbm, ⟨25, _⟩ => ⟨S1x1x1x1x1024, .f32⟩
  | .hbm, ⟨26, _⟩ => ⟨S1x1024, .f32⟩
  | .hbm, ⟨27, _⟩ => ⟨S4096x1024, .f32⟩
  | .hbm, ⟨28, _⟩ => ⟨S1x1x1x1x1024, .f32⟩
  | .hbm, ⟨29, _⟩ => ⟨S1x1024, .f32⟩
  | .hbm, ⟨30, _⟩ => ⟨S1024x1024, .f32⟩
  | .hbm, ⟨31, _⟩ => ⟨S1x1x1x1x1024, .f32⟩
  | .hbm, ⟨32, _⟩ => ⟨S1x1024, .f32⟩
  | .hbm, ⟨33, _⟩ => ⟨S1024x1024, .f32⟩
  | .hbm, ⟨34, _⟩ => ⟨S6144x1024, .f32⟩
  | .hbm, ⟨35, _⟩ => ⟨S1x1x1x1x1024, .f32⟩
  | .hbm, ⟨36, _⟩ => ⟨S1x1024, .f32⟩
  | .hbm, ⟨37, _⟩ => ⟨S4096x1024, .f32⟩
  | .hbm, ⟨38, _⟩ => ⟨S1x1x1x1x1024, .f32⟩
  | .hbm, ⟨39, _⟩ => ⟨S1x1024, .f32⟩
  | .hbm, ⟨40, _⟩ => ⟨S1024x1024, .f32⟩
  | .hbm, ⟨41, _⟩ => ⟨S1x1x1x1x1024, .f32⟩
  | .hbm, ⟨42, _⟩ => ⟨S1x1024, .f32⟩
  | .hbm, ⟨43, _⟩ => ⟨S1024x1024, .f32⟩
  | .hbm, ⟨44, _⟩ => ⟨S6144x1024, .f32⟩
  | .hbm, ⟨45, _⟩ => ⟨S1x1x1x1x1024, .f32⟩
  | .hbm, ⟨46, _⟩ => ⟨S1x1024, .f32⟩
  | .hbm, ⟨47, _⟩ => ⟨S4096x1024, .f32⟩
  | .hbm, ⟨48, _⟩ => ⟨S1x1x1x1x1024, .f32⟩
  | .hbm, ⟨49, _⟩ => ⟨S1x1024, .f32⟩
  | .hbm, ⟨50, _⟩ => ⟨S1024x1024, .f32⟩
  | .hbm, ⟨51, _⟩ => ⟨S1x1x1x1x1024, .f32⟩
  | .hbm, ⟨52, _⟩ => ⟨S1x1024, .f32⟩
  | .hbm, ⟨53, _⟩ => ⟨S1024x1024, .f32⟩
  | .hbm, ⟨54, _⟩ => ⟨S6144x1024, .f32⟩
  | .hbm, ⟨55, _⟩ => ⟨S1x1024, .f32⟩
  | .hbm, ⟨56, _⟩ => ⟨S1024, .f32⟩
  | .hbm, ⟨57, _⟩ => ⟨S6144x1024, .f32⟩
  | .hbm, ⟨58, _⟩ => ⟨S_, .f32⟩
  | .hbm, ⟨59, _⟩ => ⟨S6144, .f32⟩
  | .hbm, ⟨60, _⟩ => ⟨S6144x1, .f32⟩
  | .hbm, ⟨61, _⟩ => ⟨S_, .f32⟩
  | .hbm, ⟨62, _⟩ => ⟨S6144x1, .f32⟩
  | .hbm, ⟨63, _⟩ => ⟨S6144x1, .f32⟩
  | .hbm, ⟨64, _⟩ => ⟨S_, .f32⟩
  | .hbm, ⟨65, _⟩ => ⟨S6144x1, .f32⟩
  | .hbm, ⟨66, _⟩ => ⟨S6144x1, .f32⟩
  | .hbm, ⟨67, _⟩ => ⟨S6144x1, .f32⟩
  | .hbm, ⟨68, _⟩ => ⟨S6144x1024, .f32⟩
  | .hbm, ⟨69, _⟩ => ⟨S6144x1024, .f32⟩
  | .hbm, ⟨70, _⟩ => ⟨S1x1024, .f32⟩
  | .hbm, ⟨71, _⟩ => ⟨S6144x1024, .f32⟩
  | .hbm, ⟨72, _⟩ => ⟨S6144x1024, .f32⟩
  | .hbm, ⟨73, _⟩ => ⟨S_, .f32⟩
  | .hbm, ⟨74, _⟩ => ⟨S6144x1024, .f32⟩
  | .hbm, ⟨75, _⟩ => ⟨S6144x1024, .f32⟩
  | .hbm, ⟨76, _⟩ => ⟨S6144x1024, .f32⟩
  | .hbm, ⟨77, _⟩ => ⟨S6144x1024, .f32⟩
  | .hbm, ⟨78, _⟩ => ⟨S1x1024x2816, .f32⟩
  | .hbm, ⟨79, _⟩ => ⟨S1024x2816, .f32⟩
  | .hbm, ⟨80, _⟩ => ⟨S6144x2816, .f32⟩
  | .hbm, ⟨81, _⟩ => ⟨S6144x2816, .f32⟩
  | .hbm, ⟨82, _⟩ => ⟨S6144x2816, .f32⟩
  | .hbm, ⟨83, _⟩ => ⟨S_, .f32⟩
  | .hbm, ⟨84, _⟩ => ⟨S6144x2816, .f32⟩
  | .hbm, ⟨85, _⟩ => ⟨S6144x2816, .f32⟩
  | .hbm, ⟨86, _⟩ => ⟨S_, .f32⟩
  | .hbm, ⟨87, _⟩ => ⟨S6144x2816, .f32⟩
  | .hbm, ⟨88, _⟩ => ⟨S6144x2816, .f32⟩
  | .hbm, ⟨89, _⟩ => ⟨S6144x2816, .f32⟩
  | .hbm, ⟨90, _⟩ => ⟨S1x1024x2816, .f32⟩
  | .hbm, ⟨91, _⟩ => ⟨S1024x2816, .f32⟩
  | .hbm, ⟨92, _⟩ => ⟨S6144x2816, .f32⟩
  | .hbm, ⟨93, _⟩ => ⟨S6144x2816, .f32⟩
  | .hbm, ⟨94, _⟩ => ⟨S1x2816x1024, .f32⟩
  | .hbm, ⟨95, _⟩ => ⟨S2816x1024, .f32⟩
  | .hbm, ⟨96, _⟩ => ⟨S6144x1024, .f32⟩
  | .hbm, ⟨97, _⟩ => ⟨S_, .f32⟩
  | .hbm, ⟨98, _⟩ => ⟨S6144x1024, .f32⟩
  | .hbm, ⟨99, _⟩ => ⟨S6144x1024, .f32⟩
  | .hbm, ⟨100, _⟩ => ⟨S6144x1024, .f32⟩
  | .hbm, ⟨101, _⟩ => ⟨S6144x1024, .f32⟩
  | .hbm, ⟨102, _⟩ => ⟨S6144x1024, .f32⟩
  | .hbm, ⟨103, _⟩ => ⟨S_, .f32⟩
  | .hbm, ⟨104, _⟩ => ⟨S6144, .f32⟩
  | .hbm, ⟨105, _⟩ => ⟨S6144x1, .f32⟩
  | .hbm, ⟨106, _⟩ => ⟨S_, .f32⟩
  | .hbm, ⟨107, _⟩ => ⟨S6144x1, .f32⟩
  | .hbm, ⟨108, _⟩ => ⟨S6144x1, .f32⟩
  | .hbm, ⟨109, _⟩ => ⟨S_, .f32⟩
  | .hbm, ⟨110, _⟩ => ⟨S6144x1, .f32⟩
  | .hbm, ⟨111, _⟩ => ⟨S6144x1, .f32⟩
  | .hbm, ⟨112, _⟩ => ⟨S6144x1, .f32⟩
  | .hbm, ⟨113, _⟩ => ⟨S6144x1024, .f32⟩
  | .hbm, ⟨114, _⟩ => ⟨S6144x1024, .f32⟩
  | .hbm, ⟨115, _⟩ => ⟨S1x1024, .f32⟩
  | .hbm, ⟨116, _⟩ => ⟨S6144x1024, .f32⟩
  | .hbm, ⟨117, _⟩ => ⟨S6144x1024, .f32⟩
  | .hbm, ⟨118, _⟩ => ⟨S4096x1024, .f32⟩
  | .hbm, ⟨119, _⟩ => ⟨S2048x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_cst_1 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_2 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_3 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_4 : Ref sig .tc := ⟨.hbm, 103, rfl⟩
abbrev main_v81 : Ref sig .tc := ⟨.hbm, 104, rfl⟩
abbrev main_v82 : Ref sig .tc := ⟨.hbm, 105, rfl⟩
abbrev main_cst_5 : Ref sig .tc := ⟨.hbm, 106, rfl⟩
abbrev main_v83 : Ref sig .tc := ⟨.hbm, 107, rfl⟩
abbrev main_v84 : Ref sig .tc := ⟨.hbm, 108, rfl⟩
abbrev main_cst_6 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== KernelFirst.lean ====
abbrev S4096x1024 : Shape := ⟨2, ![4096, 1024]⟩
abbrev S2048x1024 : Shape := ⟨2, ![2048, 1024]⟩
abbrev S1024x1024 : Shape := ⟨2, ![1024, 1024]⟩
abbrev S4x9x3x1x1024 : Shape := ⟨5, ![4, 9, 3, 1, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S4x1x1024 : Shape := ⟨3, ![4, 1, 1024]⟩
abbrev S6144x1024 : Shape := ⟨2, ![6144, 1024]⟩
abbrev S1x1x1024 : Shape := ⟨3, ![1, 1, 1024]⟩
abbrev S1x1x1x1x1024 : Shape := ⟨5, ![1, 1, 1, 1, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S1024x1024, .f32⟩
  | .hbm, ⟨3, _⟩ => ⟨S4x9x3x1x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S4x1x1024, .f32⟩
  | .hbm, ⟨9, _⟩ => ⟨S6144x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1x1x1024, .f32⟩
  | .local _ .vmem, ⟨9, _⟩ => ⟨S1x1x1x1x1024, .f32⟩
  | .local _ .vmem, ⟨10, _⟩ => ⟨S1x1x1x1x1024, .f32⟩
  | .local _ .vmem, ⟨11, _⟩ => ⟨S1x1x1x1x1024, .f32⟩
  | .local _ .vmem, ⟨12, _⟩ => ⟨S1x1024x256, .f32⟩
  | .local _ .vmem, ⟨13, _⟩ => ⟨S1x1024x256, .f32⟩
  | .local _ .vmem, ⟨14, _⟩ => ⟨S1x1024x256, .f32⟩
  | .local _ .vmem, ⟨15, _⟩ => ⟨S1x1024x256, .f32⟩
  | .local _ .vmem, ⟨16, _⟩ => ⟨S1x256x1024, .f32⟩
  | .local _ .vmem, ⟨17, _⟩ => ⟨S1x256x1024, .f32⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | .local _ .vmem, ⟨21, _⟩ => ⟨S1x1024x256, .f32⟩
  | .local _ .vmem, ⟨22, _⟩ => ⟨S1x256x1024, .f32⟩
  | .local _ .vmem, ⟨23, _⟩ => ⟨S1x256x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .bf16⟩
  | .local _ .vmem, ⟨27, _⟩ => ⟨S1024x1024, .f32⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![6, 6], ![false, false]⟩

def k0_cond6 (i : grid0.Coords) : BitVec 1 :=
  let arg1 : BitVec 32 := BitVec.ofNat 32 (i 1).val
  let c5_i32_4 : BitVec 32 := 5#32
  let v10 : BitVec 1 := Scalar.cmpi .eq arg1 c5_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c0_i32_11 : BitVec 32 := 0#32
  let c0_i32_12 : BitVec 32 := 0#32
  let c0_i32_13 : BitVec 32 := 0#32
  let c0_i32_14 : BitVec 32 := 0#32
  ![c0_i32_10.toNat, c0_i32_11.toNat, v23.toNat, c0_i32_12.toNat, c0_i32_13.toNat]

def cc0_transform_5 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c1_i32_11 : BitVec 32 := 1#32
  let c0_i32_12 : BitVec 32 := 0#32
  let c0_i32_13 : BitVec 32 := 0#32
  let c0_i32_14 : BitVec 32 := 0#32
  ![c0_i32_10.toNat, c1_i32_11.toNat, v23.toNat, c0_i32_12.toNat, c0_i32_13.toNat]

def cc0_transform_6 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c0_i32_10 : BitVec 32 := 0#32
  let c2_i32 : BitVec 32 := 2#32
  let c0_i32_11 : BitVec 32 := 0#32
  let c0_i32_12 : BitVec 32 := 0#32
  let c0_i32_13 : BitVec 32 := 0#32
  ![c0_i32_10.toNat, c2_i32.toNat, v23.toNat, c0_i32_11.toNat, c0_i32_12.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, c0_i32_1.toNat, v2.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, c0_i32_1.toNat, v2.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c0_i32_0 : BitVec 32 := 0#32
  let c0_i32_1 : BitVec 32 := 0#32
  let c0_i32_2 : BitVec 32 := 0#32
  ![c0_i32_0.toNat, v2.toNat, c0_i32_1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, c0_i32_0.toNat, v2.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, c0_i32_0.toNat, v2.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, v2.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceFirstIdeal.lean ====
abbrev S4096x1024 : Shape := ⟨2, ![4096, 1024]⟩
abbrev S2048x1024 : Shape := ⟨2, ![2048, 1024]⟩
abbrev S1024x1024 : Shape := ⟨2, ![1024, 1024]⟩
abbrev S4x9x3x1x1024 : Shape := ⟨5, ![4, 9, 3, 1, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S6144x1024 : Shape := ⟨2, ![6144, 1024]⟩
abbrev S1x1x1x1x1024 : Shape := ⟨5, ![1, 1, 1, 1, 1024]⟩
abbrev S1x1024 : Shape := ⟨2, ![1, 1024]⟩
abbrev S1024 : Shape := ⟨1, ![1024]⟩
abbrev S_ : Shape := ⟨0, ![]⟩
abbrev S6144 : Shape := ⟨1, ![6144]⟩
abbrev S6144x1 : Shape := ⟨2, ![6144, 1]⟩
abbrev S1x1024x2816 : Shape := ⟨3, ![1, 1024, 2816]⟩
abbrev S1024x2816 : Shape := ⟨2, ![1024, 2816]⟩
abbrev S6144x2816 : Shape := ⟨2, ![6144, 2816]⟩
abbrev S1x2816x1024 : Shape := ⟨3, ![1, 2816, 1024]⟩
abbrev S2816x1024 : Shape := ⟨2, ![2816, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S1024x1024, .f32⟩
  | .hbm, ⟨3, _⟩ => ⟨S4x9x3x1x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S6144x1024, .f32⟩
  | .hbm, ⟨13, _⟩ => ⟨S1x1x1x1x1024, .f32⟩
  | .hbm, ⟨14, _⟩ => ⟨S1x1024, .f32⟩
  | .hbm, ⟨15, _⟩ => ⟨S4096x1024, .f32⟩
  | .hbm, ⟨16, _⟩ => ⟨S1x1x1x1x1024, .f32⟩
  | .hbm, ⟨17, _⟩ => ⟨S1x1024, .f32⟩
  | .hbm, ⟨18, _⟩ => ⟨S1024x1024, .f32⟩
  | .hbm, ⟨19, _⟩ => ⟨S1x1x1x1x1024, .f32⟩
  | .hbm, ⟨20, _⟩ => ⟨S1x1024, .f32⟩
  | .hbm, ⟨21, _⟩ => ⟨S1024x1024, .f32⟩
  | .hbm, ⟨22, _⟩ => ⟨S6144x1024, .f32⟩
  | .hbm, ⟨23, _⟩ => ⟨S1x1x1x1x1024, .f32⟩
  | .hbm, ⟨24, _⟩ => ⟨S1x1024, .f32⟩
  | .hbm, ⟨25, _⟩ => ⟨S4096x1024, .f32⟩
  | .hbm, ⟨26, _⟩ => ⟨S1x1x1x1x1024, .f32⟩
  | .hbm, ⟨27, _⟩ => ⟨S1x1024, .f32⟩
  | .hbm, ⟨28, _⟩ => ⟨S1024x1024, .f32⟩
  | .hbm, ⟨29, _⟩ => ⟨S1x1x1x1x1024, .f32⟩
  | .hbm, ⟨30, _⟩ => ⟨S1x1024, .f32⟩
  | .hbm, ⟨31, _⟩ => ⟨S1024x1024, .f32⟩
  | .hbm, ⟨32, _⟩ => ⟨S6144x1024, .f32⟩
  | .hbm, ⟨33, _⟩ => ⟨S1x1x1x1x1024, .f32⟩
  | .hbm, ⟨34, _⟩ => ⟨S1x1024, .f32⟩
  | .hbm, ⟨35, _⟩ => ⟨S4096x1024, .f32⟩
  | .hbm, ⟨36, _⟩ => ⟨S1x1x1x1x1024, .f32⟩
  | .hbm, ⟨37, _⟩ => ⟨S1x1024, .f32⟩
  | .hbm, ⟨38, _⟩ => ⟨S1024x1024, .f32⟩
  | .hbm, ⟨39, _⟩ => ⟨S1x1x1x1x1024, .f32⟩
  | .hbm, ⟨40, _⟩ => ⟨S1x1024, .f32⟩
  | .hbm, ⟨41, _⟩ => ⟨S1024x1024, .f32⟩
  | .hbm, ⟨42, _⟩ => ⟨S6144x1024, .f32⟩
  | .hbm, ⟨43, _⟩ => ⟨S1x1024, .f32⟩
  | .hbm, ⟨44, _⟩ => ⟨S1024, .f32⟩
  | .hbm, ⟨45, _⟩ => ⟨S6144x1024, .f32⟩
  | .hbm, ⟨46, _⟩ => ⟨S_, .f32⟩
  | .hbm, ⟨47, _⟩ => ⟨S6144, .f32⟩
  | .hbm, ⟨48, _⟩ => ⟨S6144x1, .f32⟩
  | .hbm, ⟨49, _⟩ => ⟨S_, .f32⟩
  | .hbm, ⟨50, _⟩ => ⟨S6144x1, .f32⟩
  | .hbm, ⟨51, _⟩ => ⟨S6144x1, .f32⟩
  | .hbm, ⟨52, _⟩ => ⟨S_, .f32⟩
  | .hbm, ⟨53, _⟩ => ⟨S6144x1, .f32⟩
  | .hbm, ⟨54, _⟩ => ⟨S6144x1, .f32⟩
  | .hbm, ⟨55, _⟩ => ⟨S6144x1, .f32⟩
  | .hbm, ⟨56, _⟩ => ⟨S6144x1024, .f32⟩
  | .hbm, ⟨57, _⟩ => ⟨S6144x1024, .f32⟩
  | .hbm, ⟨58, _⟩ => ⟨S1x1024, .f32⟩
  | .hbm, ⟨59, _⟩ => ⟨S6144x1024, .f32⟩
  | .hbm, ⟨60, _⟩ => ⟨S6144x1024, .f32⟩
  | .hbm, ⟨61, _⟩ => ⟨S_, .f32⟩
  | .hbm, ⟨62, _⟩ => ⟨S6144x1024, .f32⟩
  | .hbm, ⟨63, _⟩ => ⟨S6144x1024, .f32⟩
  | .hbm, ⟨64, _⟩ => ⟨S6144x1024, .f32⟩
  | .hbm, ⟨65, _⟩ => ⟨S6144x1024, .f32⟩
  | .hbm, ⟨66, _⟩ => ⟨S1x1024x2816, .f32⟩
  | .hbm, ⟨67, _⟩ => ⟨S1024x2816, .f32⟩
  | .hbm, ⟨68, _⟩ => ⟨S6144x2816, .f32⟩
  | .hbm, ⟨69, _⟩ => ⟨S6144x2816, .f32⟩
  | .hbm, ⟨70, _⟩ => ⟨S6144x2816, .f32⟩
  | .hbm, ⟨71, _⟩ => ⟨S_, .f32⟩
  | .hbm, ⟨72, _⟩ => ⟨S6144x2816, .f32⟩
  | .hbm, ⟨73, _⟩ => ⟨S6144x2816, .f32⟩
  | .hbm, ⟨74, _⟩ => ⟨S_, .f32⟩
  | .hbm, ⟨75, _⟩ => ⟨S6144x2816, .f32⟩
  | .hbm, ⟨76, _⟩ => ⟨S6144x2816, .f32⟩
  | .hbm, ⟨77, _⟩ => ⟨S6144x2816, .f32⟩
  | .hbm, ⟨78, _⟩ => ⟨S1x1024x2816, .f32⟩
  | .hbm, ⟨79, _⟩ => ⟨S1024x2816, .f32⟩
  | .hbm, ⟨80, _⟩ => ⟨S6144x2816, .f32⟩
  | .hbm, ⟨81, _⟩ => ⟨S6144x2816, .f32⟩
  | .hbm, ⟨82, _⟩ => ⟨S1x2816x1024, .f32⟩
  | .hbm, ⟨83, _⟩ => ⟨S2816x1024, .f32⟩
  | .hbm, ⟨84, _⟩ => ⟨S6144x1024, .f32⟩
  | .hbm, ⟨85, _⟩ => ⟨S_, .f32⟩
  | .hbm, ⟨86, _⟩ => ⟨S6144x1024, .f32⟩
  | .hbm, ⟨87, _⟩ => ⟨S6144x1024, .f32⟩
  | .hbm, ⟨88, _⟩ => ⟨S6144x1024, .f32⟩
  | .hbm, ⟨89, _⟩ => ⟨S6144x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_3 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== KernelProjectEven.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S2x1024x3352 : Shape := ⟨3, ![2, 1024, 3352]⟩
abbrev S2x3352x1024 : Shape := ⟨3, ![2, 3352, 1024]⟩
abbrev S4x1x1024 : Shape := ⟨3, ![4, 1, 1024]⟩
abbrev S6144x3072 : Shape := ⟨2, ![6144, 3072]⟩
abbrev S6144x256 : Shape := ⟨2, ![6144, 256]⟩
abbrev S6144x24 : Shape := ⟨2, ![6144, 24]⟩
abbrev S24x6144 : Shape := ⟨2, ![24, 6144]⟩
abbrev S512x1024 : Shape := ⟨2, ![512, 1024]⟩
abbrev S1x1x1024 : Shape := ⟨3, ![1, 1, 1024]⟩
abbrev S1x1x1x1x1024 : Shape := ⟨5, ![1, 1, 1, 1, 1024]⟩
abbrev S1x3352x1024 : Shape := ⟨3, ![1, 3352, 1024]⟩
abbrev S512x3072 : Shape := ⟨2, ![512, 3072]⟩
abbrev S512x256 : Shape := ⟨2, ![512, 256]⟩
abbrev S512x24 : Shape := ⟨2, ![512, 24]⟩
abbrev S24x512 : Shape := ⟨2, ![24, 512]⟩
abbrev S3352x1024 : Shape := ⟨2, ![3352, 1024]⟩
abbrev S1x1024 : Shape := ⟨2, ![1, 1024]⟩
abbrev S512 : Shape := ⟨1, ![512]⟩
abbrev S512x1 : Shape := ⟨2, ![512, 1]⟩
abbrev S3072x1024 : Shape := ⟨2, ![3072, 1024]⟩
abbrev S256x1024 : Shape := ⟨2, ![256, 1024]⟩
abbrev S24x1024 : Shape := ⟨2, ![24, 1024]⟩

abbrev nBuf : Space → Nat
  | .hbm => 10
  | .vmem => 17
  | .smem => 0
  | _ => 0

abbrev bufTy : (tb : Table) → Fin (tcTables nBuf tb) → BufTy
  | .hbm, ⟨0, _⟩ => ⟨S6144x1024, .f32⟩
  | .hbm, ⟨1, _⟩ => ⟨S4x9x3x1x1024, .f32⟩
  | .hbm, ⟨2, _⟩ => ⟨S4x1024, .f32⟩
  | .hbm, ⟨3, _⟩ => ⟨S2x1024x3352, .f32⟩
  | .hbm, ⟨4, _⟩ => ⟨S2x3352x1024, .f32⟩
  | .hbm, ⟨5, _⟩ => ⟨S4x1x1024, .f32⟩
  | .hbm, ⟨6, _⟩ => ⟨S6144x3072, .f32⟩
  | .hbm, ⟨7, _⟩ => ⟨S6144x256, .f32⟩
  | .hbm, ⟨8, _⟩ => ⟨S6144x24, .f32⟩
  | .hbm, ⟨9, _⟩ => ⟨S24x6144, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x3352x1024, .f32⟩
  | .local _ .vmem, ⟨8, _⟩ => ⟨S512x3072, .f32⟩
  | .local _ .vmem, ⟨9, _⟩ => ⟨S512x3072, .f32⟩
  | .local _ .vmem, ⟨10, _⟩ => ⟨S512x256, .f32⟩
  | .local _ .vmem, ⟨11, _⟩ => ⟨S512x256, .f32⟩
  | .local _ .vmem, ⟨12, _⟩ => ⟨S512x24, .f32⟩
  | .local _ .vmem, ⟨13, _⟩ => ⟨S512x24, .f32⟩
  | .local _ .vmem, ⟨14, _⟩ => ⟨S24x512, .f32⟩
  | .local _ .vmem, ⟨15, _⟩ => ⟨S24x512, .f32⟩
  | .local _ .vmem, ⟨16, _⟩ => ⟨S3352x1024, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 5 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c8_i32 : BitVec 32 := 8#32
  let v2 : BitVec 1 := Scalar.cmpi .slt v1 c8_i32
  let c8_i32_0 : BitVec 32 := 8#32
  let v3 : BitVec 32 := Scalar.subi v1 c8_i32_0
  let c512_i32 : BitVec 32 := 512#32
  let v4 : BitVec 32 := Scalar.muli v3 c512_i32
  let c1024_i32 : BitVec 32 := 1024#32
  let v5 : BitVec 32 := Scalar.divsi v4 c1024_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c1024_i32 c0_i32_3
  let v12 : BitVec 32 := Scalar.extui v11
  let c0_i32_4 : BitVec 32 := 0#32
  let v13 : BitVec 1 := Scalar.cmpi .slt c1024_i32 c0_i32_4
  let v14 : BitVec 32 := Scalar.extui v13
  let v15 : BitVec 32 := Scalar.subi v12 v14
  let v16 : BitVec 1 := Scalar.cmpi .ne v10 v15
  let v17 : BitVec 32 := Scalar.remsi v4 c1024_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c0_i32_9 : BitVec 32 := 0#32
  let c3_i32 : BitVec 32 := 3#32
  let c0_i32_10 : BitVec 32 := 0#32
  let c0_i32_11 : BitVec 32 := 0#32
  let c0_i32_12 : BitVec 32 := 0#32
  ![c0_i32_9.toNat, c3_i32.toNat, v23.toNat, c0_i32_10.toNat, c0_i32_11.toNat]

def cc0_transform_3 (i : grid0.Coords) : Fin 5 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c8_i32 : BitVec 32 := 8#32
  let v2 : BitVec 1 := Scalar.cmpi .slt v1 c8_i32
  let c8_i32_0 : BitVec 32 := 8#32
  let v3 : BitVec 32 := Scalar.subi v1 c8_i32_0
  let c512_i32 : BitVec 32 := 512#32
  let v4 : BitVec 32 := Scalar.muli v3 c512_i32
  let c1024_i32 : BitVec 32 := 1024#32
  let v5 : BitVec 32 := Scalar.divsi v4 c1024_i32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c0_i32_3 : BitVec 32 := 0#32
  let v11 : BitVec 1 := Scalar.cmpi .sgt c1024_i32 c0_i32_3
  let v12 : BitVec 32 := Scalar.extui v11
  let c0_i32_4 : BitVec 32 := 0#32
  let v13 : BitVec 1 := Scalar.cmpi .slt c1024_i32 c0_i32_4
  let v14 : BitVec 32 := Scalar.extui v13
  let v15 : BitVec 32 := Scalar.subi v12 v14
  let v16 : BitVec 1 := Scalar.cmpi .ne v10 v15
  let v17 : BitVec 32 := Scalar.remsi v4 c1024_i32
  let c0_i32_5 : BitVec 32 := 0#32
  let v18 : BitVec 1 := Scalar.cmpi .ne v17 c0_i32_5
  let v19 : BitVec 1 := Scalar.andi v16 v18
  let c1_i32_6 : BitVec 32 := 1#32
  let v20 : BitVec 32 := Scalar.subi v5 c1_i32_6
  let v21 : BitVec 32 := Scalar.select v19 v20 v5
  let c1_i32_7 : BitVec 32 := 1#32
  let v22 : BitVec 32 := Scalar.addi c1_i32_7 v21
  let c0_i32_8 : BitVec 32 := 0#32
  let v23 : BitVec 32 := Scalar.select v2 c0_i32_8 v22
  let c0_i32_9 : BitVec 32 := 0#32
  let c4_i32 : BitVec 32 := 4#32
  let c0_i32_10 : BitVec 32 := 0#32
  let c0_i32_11 : BitVec 32 := 0#32
  let c0_i32_12 : BitVec 32 := 0#32
  ![c0_i32_9.toNat, c4_i32.toNat, v23.toNat, c0_i32_10.toNat, c0_i32_11.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x24 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S24x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceProjectEvenIdeal.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S2x1024x3352 : Shape := ⟨3, ![2, 1024, 3352]⟩
abbrev S1x1024x3352 : Shape := ⟨3, ![1, 1024, 3352]⟩
abbrev S1024x3352 : Shape := ⟨2, ![1024, 3352]⟩
abbrev S1x1x1x1x1024 : Shape := ⟨5, ![1, 1, 1, 1, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S6144 : Shape := ⟨1, ![6144]⟩
abbrev S6144x1 : Shape := ⟨2, ![6144, 1]⟩
abbrev S6144x3352 : Shape := ⟨2, ![6144, 3352]⟩
abbrev S6144x256 : Shape := ⟨2, ![6144, 256]⟩
abbrev S6144x3072 : Shape := ⟨2, ![6144, 3072]⟩
abbrev S6144x24 : Shape := ⟨2, ![6144, 24]⟩
abbrev S24x6144 : Shape := ⟨2, ![24, 6144]⟩

abbrev nBuf : Space → Nat
  | .hbm => 54
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S4x9x3x1x1024, .f32⟩
  | .hbm, ⟨2, _⟩ => ⟨S4x1024, .f32⟩
  | .hbm, ⟨3, _⟩ => ⟨S2x1024x3352, .f32⟩
  | .hbm, ⟨4, _⟩ => ⟨S1x1024x3352, .f32⟩
  | .hbm, ⟨5, _⟩ => ⟨S1024x3352, .f32⟩
  | .hbm, ⟨6, _⟩ => ⟨S1x1x1x1x1024, .f32⟩
  | .hbm, ⟨7, _⟩ => ⟨S1x1024, .f32⟩
  | .hbm, ⟨8, _⟩ => ⟨S4096x1024, .f32⟩
  | .hbm, ⟨9, _⟩ => ⟨S1x1x1x1x1024, .f32⟩
  | .hbm, ⟨10, _⟩ => ⟨S1x1024, .f32⟩
  | .hbm, ⟨11, _⟩ => ⟨S1024x1024, .f32⟩
  | .hbm, ⟨12, _⟩ => ⟨S1x1x1x1x1024, .f32⟩
  | .hbm, ⟨13, _⟩ => ⟨S1x1024, .f32⟩
  | .hbm, ⟨14, _⟩ => ⟨S1024x1024, .f32⟩
  | .hbm, ⟨15, _⟩ => ⟨S6144x1024, .f32⟩
  | .hbm, ⟨16, _⟩ => ⟨S1x1x1x1x1024, .f32⟩
  | .hbm, ⟨17, _⟩ => ⟨S1x1024, .f32⟩
  | .hbm, ⟨18, _⟩ => ⟨S4096x1024, .f32⟩
  | .hbm, ⟨19, _⟩ => ⟨S1x1x1x1x1024, .f32⟩
  | .hbm, ⟨20, _⟩ => ⟨S1x1024, .f32⟩
  | .hbm, ⟨21, _⟩ => ⟨S1024x1024, .f32⟩
  | .hbm, ⟨22, _⟩ => ⟨S1x1x1x1x1024, .f32⟩
  | .hbm, ⟨23, _⟩ => ⟨S1x1024, .f32⟩
  | .hbm, ⟨24, _⟩ => ⟨S1024x1024, .f32⟩
  | .hbm, ⟨25, _⟩ => ⟨S6144x1024, .f32⟩
  | .hbm, ⟨26, _⟩ => ⟨S1x1024, .f32⟩
  | .hbm, ⟨27, _⟩ => ⟨S1024, .f32⟩
  | .hbm, ⟨28, _⟩ => ⟨S6144x1024, .f32⟩
  | .hbm, ⟨29, _⟩ => ⟨S_, .f32⟩
  | .hbm, ⟨30, _⟩ => ⟨S6144, .f32⟩
  | .hbm, ⟨31, _⟩ => ⟨S6144x1, .f32⟩
  | .hbm, ⟨32, _⟩ => ⟨S_, .f32⟩
  | .hbm, ⟨33, _⟩ => ⟨S6144x1, .f32⟩
  | .hbm, ⟨34, _⟩ => ⟨S6144x1, .f32⟩
  | .hbm, ⟨35, _⟩ => ⟨S_, .f32⟩
  | .hbm, ⟨36, _⟩ => ⟨S6144x1, .f32⟩
  | .hbm, ⟨37, _⟩ => ⟨S6144x1, .f32⟩
  | .hbm, ⟨38, _⟩ => ⟨S6144x1, .f32⟩
  | .hbm, ⟨39, _⟩ => ⟨S6144x1024, .f32⟩
  | .hbm, ⟨40, _⟩ => ⟨S6144x1024, .f32⟩
  | .hbm, ⟨41, _⟩ => ⟨S1x1024, .f32⟩
  | .hbm, ⟨42, _⟩ => ⟨S6144x1024, .f32⟩
  | .hbm, ⟨43, _⟩ => ⟨S6144x1024, .f32⟩
  | .hbm, ⟨44, _⟩ => ⟨S_, .f32⟩
  | .hbm, ⟨45, _⟩ => ⟨S6144x1024, .f32⟩
  | .hbm, ⟨46, _⟩ => ⟨S6144x1024, .f32⟩
  | .hbm, ⟨47, _⟩ => ⟨S6144x1024, .f32⟩
  | .hbm, ⟨48, _⟩ => ⟨S6144x1024, .f32⟩
  | .hbm, ⟨49, _⟩ => ⟨S6144x3352, .f32⟩
  | .hbm, ⟨50, _⟩ => ⟨S6144x256, .f32⟩
  | .hbm, ⟨51, _⟩ => ⟨S6144x3072, .f32⟩
  | .hbm, ⟨52, _⟩ => ⟨S6144x24, .f32⟩
  | .hbm, ⟨53, _⟩ => ⟨S24x6144, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== KernelProjectOdd.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S2x1024x1792 : Shape := ⟨3, ![2, 1024, 1792]⟩
abbrev S4x1x1024 : Shape := ⟨3, ![4, 1, 1024]⟩
abbrev S6144x1536 : Shape := ⟨2, ![6144, 1536]⟩
abbrev S6144x256 : Shape := ⟨2, ![6144, 256]⟩
abbrev S1024x1024 : Shape := ⟨2, ![1024, 1024]⟩
abbrev S1x1x1024 : Shape := ⟨3, ![1, 1, 1024]⟩
abbrev S1x1x1x1x1024 : Shape := ⟨5, ![1, 1, 1, 1, 1024]⟩
abbrev S1x1024x1792 : Shape := ⟨3, ![1, 1024, 1792]⟩
abbrev S1024x1536 : Shape := ⟨2, ![1024, 1536]⟩
abbrev S1024x256 : Shape := ⟨2, ![1024, 256]⟩
abbrev S1024x1792 : Shape := ⟨2, ![1024, 1792]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S6144x1024, .f32⟩
  | .hbm, ⟨1, _⟩ => ⟨S4x9x3x1x1024, .f32⟩
  | .hbm, ⟨2, _⟩ => ⟨S4x1024, .f32⟩
  | .hbm, ⟨3, _⟩ => ⟨S2x1024x1792, .f32⟩
  | .hbm, ⟨4, _⟩ => ⟨S4x1x1024, .f32⟩
  | .hbm, ⟨5, _⟩ => ⟨S6144x1536, .f32⟩
  | .hbm, ⟨6, _⟩ => ⟨S6144x256, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1x1024x1792, .f32⟩
  | .local _ .vmem, ⟨8, _⟩ => ⟨S1024x1536, .f32⟩
  | .local _ .vmem, ⟨9, _⟩ => ⟨S1024x1536, .f32⟩
  | .local _ .vmem, ⟨10, _⟩ => ⟨S1024x256, .f32⟩
  | .local _ .vmem, ⟨11, _⟩ => ⟨S1024x256, .f32⟩
  | .local _ .vmem, ⟨12, _⟩ => ⟨S1024x1792, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 5 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c1_i32_10 : BitVec 32 := 1#32
  let c3_i32 : BitVec 32 := 3#32
  let c0_i32_11 : BitVec 32 := 0#32
  let c0_i32_12 : BitVec 32 := 0#32
  let c0_i32_13 : BitVec 32 := 0#32
  ![c1_i32_10.toNat, c3_i32.toNat, v23.toNat, c0_i32_11.toNat, c0_i32_12.toNat]

def cc0_transform_3 (i : grid0.Coords) : Fin 5 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c4_i32 : BitVec 32 := 4#32
  let v2 : BitVec 1 := Scalar.cmpi .slt v1 c4_i32
  let c4_i32_0 : BitVec 32 := 4#32
  let v3 : BitVec 32 := Scalar.subi v1 c4_i32_0
  let c1024_i32 : BitVec 32 := 1024#32
  let v4 : BitVec 32 := Scalar.muli v3 c1024_i32
  let c1024_i32_1 : BitVec 32 := 1024#32
  let v5 : BitVec 32 := Scalar.divsi v4 c1024_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c0_i32_4 : BitVec 32 := 0#32
  let v11 : BitVec 1 := Scalar.cmpi .sgt c1024_i32_1 c0_i32_4
  let v12 : BitVec 32 := Scalar.extui v11
  let c0_i32_5 : BitVec 32 := 0#32
  let v13 : BitVec 1 := Scalar.cmpi .slt c1024_i32_1 c0_i32_5
  let v14 : BitVec 32 := Scalar.extui v13
  let v15 : BitVec 32 := Scalar.subi v12 v14
  let v16 : BitVec 1 := Scalar.cmpi .ne v10 v15
  let v17 : BitVec 32 := Scalar.remsi v4 c1024_i32_1
  let c0_i32_6 : BitVec 32 := 0#32
  let v18 : BitVec 1 := Scalar.cmpi .ne v17 c0_i32_6
  let v19 : BitVec 1 := Scalar.andi v16 v18
  let c1_i32_7 : BitVec 32 := 1#32
  let v20 : BitVec 32 := Scalar.subi v5 c1_i32_7
  let v21 : BitVec 32 := Scalar.select v19 v20 v5
  let c1_i32_8 : BitVec 32 := 1#32
  let v22 : BitVec 32 := Scalar.addi c1_i32_8 v21
  let c0_i32_9 : BitVec 32 := 0#32
  let v23 : BitVec 32 := Scalar.select v2 c0_i32_9 v22
  let c1_i32_10 : BitVec 32 := 1#32
  let c4_i32_11 : BitVec 32 := 4#32
  let c0_i32_12 : BitVec 32 := 0#32
  let c0_i32_13 : BitVec 32 := 0#32
  let c0_i32_14 : BitVec 32 := 0#32
  ![c1_i32_10.toNat, c4_i32_11.toNat, v23.toNat, c0_i32_12.toNat, c0_i32_13.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceProjectOddIdeal.lean ====
abbrev S6144x1024 : Shape := ⟨2, ![6144, 1024]⟩
abbrev S4x9x3x1x1024 : Shape := ⟨5, ![4, 9, 3, 1, 1024]⟩
abbrev S4x1024 : Shape := ⟨2, ![4, 1024]⟩
abbrev S2x1024x1792 : Shape := ⟨3, ![2, 1024, 1792]⟩
abbrev S1x1024x1792 : Shape := ⟨3, ![1, 1024, 1792]⟩
abbrev S1024x1792 : Shape := ⟨2, ![1024, 1792]⟩
abbrev S1x1x1x1x1024 : Shape := ⟨5, ![1, 1, 1, 1, 1024]⟩
abbrev S1x1024 : Shape := ⟨2, ![1, 1024]⟩
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S6144 : Shape := ⟨1, ![6144]⟩
abbrev S6144x1 : Shape := ⟨2, ![6144, 1]⟩
abbrev S6144x1792 : Shape := ⟨2, ![6144, 1792]⟩
abbrev S6144x1536 : Shape := ⟨2, ![6144, 1536]⟩
abbrev S6144x256 : Shape := ⟨2, ![6144, 256]⟩

abbrev nBuf : Space → Nat
  | .hbm => 52
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S4x9x3x1x1024, .f32⟩
  | .hbm, ⟨2, _⟩ => ⟨S4x1024, .f32⟩
  | .hbm, ⟨3, _⟩ => ⟨S2x1024x1792, .f32⟩
  | .hbm, ⟨4, _⟩ => ⟨S1x1024x1792, .f32⟩
  | .hbm, ⟨5, _⟩ => ⟨S1024x1792, .f32⟩
  | .hbm, ⟨6, _⟩ => ⟨S1x1x1x1x1024, .f32⟩
  | .hbm, ⟨7, _⟩ => ⟨S1x1024, .f32⟩
  | .hbm, ⟨8, _⟩ => ⟨S4096x1024, .f32⟩
  | .hbm, ⟨9, _⟩ => ⟨S1x1x1x1x1024, .f32⟩
  | .hbm, ⟨10, _⟩ => ⟨S1x1024, .f32⟩
  | .hbm, ⟨11, _⟩ => ⟨S1024x1024, .f32⟩
  | .hbm, ⟨12, _⟩ => ⟨S1x1x1x1x1024, .f32⟩
  | .hbm, ⟨13, _⟩ => ⟨S1x1024, .f32⟩
  | .hbm, ⟨14, _⟩ => ⟨S1024x1024, .f32⟩
  | .hbm, ⟨15, _⟩ => ⟨S6144x1024, .f32⟩
  | .hbm, ⟨16, _⟩ => ⟨S1x1x1x1x1024, .f32⟩
  | .hbm, ⟨17, _⟩ => ⟨S1x1024, .f32⟩
  | .hbm, ⟨18, _⟩ => ⟨S4096x1024, .f32⟩
  | .hbm, ⟨19, _⟩ => ⟨S1x1x1x1x1024, .f32⟩
  | .hbm, ⟨20, _⟩ => ⟨S1x1024, .f32⟩
  | .hbm, ⟨21, _⟩ => ⟨S1024x1024, .f32⟩
  | .hbm, ⟨22, _⟩ => ⟨S1x1x1x1x1024, .f32⟩
  | .hbm, ⟨23, _⟩ => ⟨S1x1024, .f32⟩
  | .hbm, ⟨24, _⟩ => ⟨S1024x1024, .f32⟩
  | .hbm, ⟨25, _⟩ => ⟨S6144x1024, .f32⟩
  | .hbm, ⟨26, _⟩ => ⟨S1x1024, .f32⟩
  | .hbm, ⟨27, _⟩ => ⟨S1024, .f32⟩
  | .hbm, ⟨28, _⟩ => ⟨S6144x1024, .f32⟩
  | .hbm, ⟨29, _⟩ => ⟨S_, .f32⟩
  | .hbm, ⟨30, _⟩ => ⟨S6144, .f32⟩
  | .hbm, ⟨31, _⟩ => ⟨S6144x1, .f32⟩
  | .hbm, ⟨32, _⟩ => ⟨S_, .f32⟩
  | .hbm, ⟨33, _⟩ => ⟨S6144x1, .f32⟩
  | .hbm, ⟨34, _⟩ => ⟨S6144x1, .f32⟩
  | .hbm, ⟨35, _⟩ => ⟨S_, .f32⟩
  | .hbm, ⟨36, _⟩ => ⟨S6144x1, .f32⟩
  | .hbm, ⟨37, _⟩ => ⟨S6144x1, .f32⟩
  | .hbm, ⟨38, _⟩ => ⟨S6144x1, .f32⟩
  | .hbm, ⟨39, _⟩ => ⟨S6144x1024, .f32⟩
  | .hbm, ⟨40, _⟩ => ⟨S6144x1024, .f32⟩
  | .hbm, ⟨41, _⟩ => ⟨S1x1024, .f32⟩
  | .hbm, ⟨42, _⟩ => ⟨S6144x1024, .f32⟩
  | .hbm, ⟨43, _⟩ => ⟨S6144x1024, .f32⟩
  | .hbm, ⟨44, _⟩ => ⟨S_, .f32⟩
  | .hbm, ⟨45, _⟩ => ⟨S6144x1024, .f32⟩
  | .hbm, ⟨46, _⟩ => ⟨S6144x1024, .f32⟩
  | .hbm, ⟨47, _⟩ => ⟨S6144x1024, .f32⟩
  | .hbm, ⟨48, _⟩ => ⟨S6144x1024, .f32⟩
  | .hbm, ⟨49, _⟩ => ⟨S6144x1792, .f32⟩
  | .hbm, ⟨50, _⟩ => ⟨S6144x1536, .f32⟩
  | .hbm, ⟨51, _⟩ => ⟨S6144x256, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Proof.Ideals.lean ====
/- Facts about the extended reals the programs compute in: the values of the printed constants, and SiLU written with a
   hyperbolic tangent against SiLU written with the logistic function. -/
module

public import Idealize.ShloMosaic.Lib.Pointwise
public import Idealize.ShloMosaic.PureOps.Ideal.Laws

@[expose] public section

noncomputable section

namespace Cert.Layer

open Idealize.ShloMosaic

/-- The word of one half. -/
theorem ofBits_half : Ideal.ofBits .f32 0x3F000000#32 = ((1 / 2 : ℝ) : EReal) := by
  simp [Ideal.ofBits, Ideal.ieee, -EReal.coe_mul]; norm_num

/-- The word of one. -/
theorem ofBits_one : Ideal.ofBits .f32 0x3F800000#32 = ((1 : ℝ) : EReal) := by
  simp [Ideal.ofBits, Ideal.ieee, -EReal.coe_mul]; norm_num

/-- The word of 1024. -/
theorem ofBits_1024 : Ideal.ofBits .f32 0x44800000#32 = ((1024 : ℝ) : EReal) := by
  simp [Ideal.ofBits, Ideal.ieee, -EReal.coe_mul]; norm_num

/-- The number added under the root of the norms (the single-precision number next to 1e-6). -/
def eps : ℝ := 8796093 / 8796093022208

theorem ofBits_eps : Ideal.ofBits .f32 0x358637BD#32 = (eps : EReal) := by
  simp [Ideal.ofBits, Ideal.ieee, -EReal.coe_mul, eps]; norm_num

theorem eps_pos : 0 < eps := by unfold eps; norm_num

/-- Half of `x` plus half of `x` times the hyperbolic tangent of half of `x` is `x` times the logistic function of `x`,
    for a finite `x`. -/
theorem silu_tanh (r : ℝ) :
    ((1 / 2 : ℝ) : EReal) * (r : EReal) + ((1 / 2 : ℝ) : EReal) * (r : EReal) * Ideal.tanh (((1 / 2 : ℝ) : EReal) * (r : EReal))
      = (r : EReal) * Ideal.logistic (r : EReal) := by
  have hne : (1 + Real.exp (-r)) ≠ 0 := by positivity
  have ht : Real.tanh (1 / 2 * r) = (1 - Real.exp (-r)) / (1 + Real.exp (-r)) := by
    rw [Real.tanh_eq_sinh_div_cosh, Real.sinh_eq, Real.cosh_eq]
    have e : Real.exp (-r) = Real.exp (-(1 / 2 * r)) / Real.exp (1 / 2 * r) := by
      rw [← Real.exp_sub]; congr 1; ring
    have hp := Real.exp_pos (1 / 2 * r)
    have hq := Real.exp_pos (-(1 / 2 * r))
    rw [e]
    field_simp
  have hl : Ideal.logistic (r : EReal) = ((1 / (1 + Real.exp (-r)) : ℝ) : EReal) := by
    unfold Ideal.logistic
    rw [← EReal.coe_neg, Ideal.exp_coe, ← EReal.coe_one, ← EReal.coe_add, Ideal.div_coe hne, EReal.coe_one, one_mul]
  rw [hl, ← EReal.coe_mul, Ideal.tanh_coe, ht, ← EReal.coe_mul, ← EReal.coe_add, ← EReal.coe_mul]
  congr 1
  field_simp
  ring

end Cert.Layer

end
-- ==== Proof.Finite.lean ====
/- Finite extended reals: sums, products and roots of finite numbers are finite, and the finiteness test of the claims'
   precondition says what it should. -/
module

public import proofs.«01_k».proof.Proof.Ideals
public import Idealize.ShloMosaic.Lib.ReduceAll

@[expose] public section

noncomputable section

namespace Cert.Layer

open Idealize.ShloMosaic

/-- `x` is a real number, neither infinity. -/
def IsReal (x : EReal) : Prop := ∃ r : ℝ, x = r

theorem isReal_coe (r : ℝ) : IsReal r := ⟨r, rfl⟩
theorem isReal_zero : IsReal 0 := ⟨0, rfl⟩
theorem isReal_one : IsReal 1 := ⟨1, rfl⟩

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.neg {x : EReal} : IsReal x → IsReal (-x) := by
  rintro ⟨a, rfl⟩; exact ⟨-a, (EReal.coe_neg a).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))
theorem IsReal.ne_top {x : EReal} : IsReal x → x ≠ ⊤ := by rintro ⟨a, rfl⟩; exact EReal.coe_ne_top a
theorem IsReal.ne_bot {x : EReal} : IsReal x → x ≠ ⊥ := by rintro ⟨a, rfl⟩; exact EReal.coe_ne_bot a
theorem isReal_of_ne {x : EReal} (h : x ≠ ⊥) (h' : x ≠ ⊤) : IsReal x := ⟨x.toReal, (EReal.coe_toReal h' h).symm⟩

theorem coe_sum {n : ℕ} (r : Fin n → ℝ) : ((∑ k, r k : ℝ) : EReal) = ∑ k, (r k : EReal) := by
  classical
  refine Finset.induction_on (Finset.univ : Finset (Fin n)) (by simp) fun a s ha ih => ?_
  rw [Finset.sum_insert ha, Finset.sum_insert ha, EReal.coe_add, ih]

/-- The reciprocal root of the mean square of finite numbers is finite, the number added under the root being positive. -/
theorem isReal_rsqrt_meanSq {n : ℕ} (x : Fin n → EReal) (h : ∀ k, IsReal (x k)) :
    IsReal (Ideal.rsqrt (Ideal.div (∑ k, x k * x k) (Ideal.ofBits .f32 0x44800000#32) + Ideal.ofBits .f32 0x358637BD#32)) := by
  choose r hr using h
  have e : ∑ k, x k * x k = ((∑ k, r k * r k : ℝ) : EReal) := by
    rw [coe_sum]
    exact Finset.sum_congr rfl fun k _ => by rw [hr k, EReal.coe_mul]
  rw [e, ofBits_1024, ofBits_eps, Ideal.div_coe (by norm_num), ← EReal.coe_mul, ← EReal.coe_add]
  have hs : 0 ≤ ∑ k, r k * r k := Finset.sum_nonneg fun k _ => mul_self_nonneg (r k)
  have hp : 0 < (∑ k, r k * r k) * (1 / 1024) + eps := by have := eps_pos; positivity
  refine ⟨(Real.sqrt ((∑ k, r k * r k) * (1 / 1024) + eps))⁻¹, ?_⟩
  show (if _ < 0 then _ else if _ = 0 then _ else _) = _
  rw [if_neg (not_lt.mpr hp.le), if_neg hp.ne']

/-- The test's word of infinity. -/
theorem ofBits_inf : Ideal.ofBits .f32 0x7F800000#32 = ⊤ := by
  simp [Ideal.ofBits, Ideal.ieee]

/-- A number whose absolute value is below infinity is finite. -/
theorem isReal_of_test (x : EReal) {inst : Decidable (FloatOps.absf (F := Ideal) (φ := .f32) x < Ideal.ofBits .f32 0x7F800000#32)}
    (h : BitVec.ofBool (@decide _ inst) = 1#1) : IsReal x := by
  have h' : (FloatOps.absf (F := Ideal) (φ := .f32) x : EReal) < ⊤ := by
    by_contra hn
    rw [← ofBits_inf] at hn
    rw [decide_eq_false hn] at h
    exact absurd h (by decide)
  have h'' : max x (-x) < ⊤ := h'
  have ⟨h1, h2⟩ := max_lt_iff.1 h''
  refine isReal_of_ne (fun e => ?_) h1.ne
  rw [e] at h2
  exact absurd h2 (by simp)

/-- A conjunction of bits is one only when each bit is. -/
theorem all_of_fold {ι : Type} (s : Finset ι) (f : ι → BitVec 1) (h : Finset.fold IntOp.andi (1#1) f s = 1#1) : ∀ i ∈ s, f i = 1#1 := by
  classical
  induction s using Finset.induction_on with
  | empty => exact fun i hi => absurd hi (Finset.notMem_empty i)
  | insert a s ha ih =>
    rw [Finset.fold_insert ha] at h
    obtain ⟨h1, h2⟩ := IntOp.andi_eq_one.1 h
    intro i hi
    rcases Finset.mem_insert.1 hi with rfl | hi
    · exact h1
    · exact ih h2 i hi

theorem all_of_fold_univ {ι : Type} {inst : Fintype ι} (f : ι → BitVec 1)
    (h : Finset.fold IntOp.andi (1#1) f (@Finset.univ ι inst) = 1#1) (i : ι) : f i = 1#1 :=
  all_of_fold _ f h i (@Finset.mem_univ ι inst i)

end Cert.Layer

end
-- ==== Proof.Ffn.Row.lean ====
/- One row of a half feed-forward layer, as a function of the row and of the layer's weights: the normalised and modulated
   row, its gated activation, and the row with the layer's output added. The sum over the inner width is met block by
   block, 256 columns at a time. -/
module

public import proofs.«01_k».proof.Proof.Finite

@[expose] public section

noncomputable section

namespace Cert.Layer

open Idealize.ShloMosaic

/-- Entry `d` of the row `x`, divided by the root of its mean square, times the norm weight `nw` and one plus the scale
    `sc`, plus the shift `sh`. -/
def normRow (x nw sc sh : Fin 1024 → EReal) (d : Fin 1024) : EReal :=
  x d * Ideal.rsqrt (Ideal.div (∑ k, x k * x k) (Ideal.ofBits .f32 0x44800000#32) + Ideal.ofBits .f32 0x358637BD#32)
    * (nw d * (1 + sc d)) + sh d

/-- SiLU of `g` written with the hyperbolic tangent, times `u`. -/
def gated (g u : EReal) : EReal :=
  (Ideal.ofBits .f32 0x3F000000#32 * g + Ideal.ofBits .f32 0x3F000000#32 * g * Ideal.tanh (Ideal.ofBits .f32 0x3F000000#32 * g)) * u

/-- Inner column `f` of the normalised row `h`: the gated activation of its two projections. -/
def inner (h : Fin 1024 → EReal) (wg wu : Fin 1024 → Fin 2816 → EReal) (f : Fin 2816) : EReal :=
  gated (∑ k, h k * wg k f) (∑ k, h k * wu k f)

/-- Column `256 b + x` of the inner width. -/
abbrev col (b : Fin 11) (x : Fin 256) : Fin 2816 := ⟨256 * b.val + x.val, by omega⟩

/-- What the inner columns of block `b` add to entry `d` of the row. -/
def blockSum (h : Fin 1024 → EReal) (wg wu : Fin 1024 → Fin 2816 → EReal) (wd : Fin 2816 → Fin 1024 → EReal)
    (d : Fin 1024) (b : Fin 11) : EReal :=
  ∑ x : Fin 256, inner h wg wu (col b x) * wd (col b x) d

/-- What all the inner columns add to entry `d` of the row. -/
def innerSum (h : Fin 1024 → EReal) (wg wu : Fin 1024 → Fin 2816 → EReal) (wd : Fin 2816 → Fin 1024 → EReal)
    (d : Fin 1024) : EReal :=
  ∑ f : Fin 2816, inner h wg wu f * wd f d

/-- A sum over the inner width is the sum over the 11 blocks of the sums over a block's 256 columns. -/
theorem sum_blocks (g : Fin 2816 → EReal) : ∑ b : Fin 11, ∑ x : Fin 256, g (col b x) = ∑ f, g f := by
  rw [← Fintype.sum_prod_type' (f := fun b x => g (col b x))]
  refine Fintype.sum_equiv (finProdFinEquiv.trans (finCongr (by norm_num))) _ _ fun p => ?_
  congr 1
  apply Fin.ext
  simp [finProdFinEquiv]
  omega

theorem innerSum_eq (h : Fin 1024 → EReal) (wg wu : Fin 1024 → Fin 2816 → EReal) (wd : Fin 2816 → Fin 1024 → EReal)
    (d : Fin 1024) : ∑ b, blockSum h wg wu wd d b = innerSum h wg wu wd d :=
  sum_blocks fun f => inner h wg wu f * wd f d

/-- Entry `d` of the row after the layer: the row plus half of the gate times the sum over the inner width. -/
def ffnRow (x h gt : Fin 1024 → EReal) (wg wu : Fin 1024 → Fin 2816 → EReal) (wd : Fin 2816 → Fin 1024 → EReal)
    (d : Fin 1024) : EReal :=
  x d + Ideal.ofBits .f32 0x3F000000#32 * gt d * innerSum h wg wu wd d

/-- With a finite gate projection the activation is `g` times its logistic function, times `u`. -/
theorem gated_eq (g u : EReal) (hg : ∃ r : ℝ, g = r) : gated g u = g * Ideal.logistic g * u := by
  obtain ⟨r, rfl⟩ := hg
  unfold gated
  rw [ofBits_half, silu_tanh]

/-- The row after the layer as the mathematics has it, SiLU written with the logistic function: `x` normalised and modulated,
    projected twice, the one projection times its logistic function times the other projected back, and half of the gate
    times this added to `x`. -/
def halfFfn (x nw sc sh gt : Fin 1024 → EReal) (wg wu : Fin 1024 → Fin 2816 → EReal) (wd : Fin 2816 → Fin 1024 → EReal)
    (d : Fin 1024) : EReal :=
  x d + Ideal.ofBits .f32 0x3F000000#32 * gt d * ∑ f, (∑ k, normRow x nw sc sh k * wg k f)
    * Ideal.logistic (∑ k, normRow x nw sc sh k * wg k f) * (∑ k, normRow x nw sc sh k * wu k f) * wd f d

theorem isReal_normRow {x nw sc sh : Fin 1024 → EReal} (hx : ∀ k, IsReal (x k)) (hn : ∀ k, IsReal (nw k)) (hc : ∀ k, IsReal (sc k))
    (hs : ∀ k, IsReal (sh k)) (d : Fin 1024) : IsReal (normRow x nw sc sh d) :=
  (((hx d).mul (isReal_rsqrt_meanSq x hx)).mul ((hn d).mul (isReal_one.add (hc d)))).add (hs d)

/-- On finite rows, modulation and gate weights the two agree. -/
theorem ffnRow_eq {x nw sc sh gt : Fin 1024 → EReal} {wg wu : Fin 1024 → Fin 2816 → EReal} {wd : Fin 2816 → Fin 1024 → EReal}
    (hx : ∀ k, IsReal (x k)) (hn : ∀ k, IsReal (nw k)) (hc : ∀ k, IsReal (sc k)) (hs : ∀ k, IsReal (sh k))
    (hw : ∀ k f, IsReal (wg k f)) (d : Fin 1024) :
    ffnRow x (normRow x nw sc sh) gt wg wu wd d = halfFfn x nw sc sh gt wg wu wd d := by
  unfold ffnRow halfFfn innerSum inner
  congr 2
  refine Finset.sum_congr rfl fun f _ => ?_
  rw [gated_eq _ _ (IsReal.sum _ _ fun k _ => (isReal_normRow hx hn hc hs k).mul (hw k f))]

end Cert.Layer

end
-- ==== Proof.Ffn.Blocks.lean ====
/- What the blocks of the first half feed-forward layer of layer 1 hold at each grid point: the rows of the token array, the
   norm weights, the conditioning vectors of the tile's two halves, and the columns of the weights. -/
module

public import proofs.«01_k».proof.Proof.Gen.KernelIdeal.Frame
public import proofs.«01_k».proof.Proof.Ffn.Row

@[expose] public section

noncomputable section

namespace Cert.KernelIdeal.Ffn

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The conditioning vector of the tile of 1024 tokens number `s`: number 0 for the context's four tiles, then one each. -/
abbrev cond (s : ℕ) : ℕ := s - 3

theorem at0 : ∀ t : Fin cfg0.N, win0_0.index t 0 = t.val / 6 ∧ win0_0.index t 1 = 0 := by decide +kernel
theorem at1 : ∀ t : Fin cfg0.N, win0_1.index t 0 = 1 ∧ win0_1.index t 1 = 0 ∧ win0_1.index t 2 = 0 := by decide +kernel
theorem at2 : ∀ t : Fin cfg0.N, win0_2.index t 0 = 1 ∧ win0_2.index t 1 = 0 ∧ win0_2.index t 2 = cond (2 * (t.val / 6))
    ∧ win0_2.index t 3 = 0 ∧ win0_2.index t 4 = 0 := by decide +kernel
theorem at3 : ∀ t : Fin cfg0.N, win0_3.index t 0 = 1 ∧ win0_3.index t 1 = 1 ∧ win0_3.index t 2 = cond (2 * (t.val / 6))
    ∧ win0_3.index t 3 = 0 ∧ win0_3.index t 4 = 0 := by decide +kernel
theorem at4 : ∀ t : Fin cfg0.N, win0_4.index t 0 = 1 ∧ win0_4.index t 1 = 2 ∧ win0_4.index t 2 = cond (2 * (t.val / 6))
    ∧ win0_4.index t 3 = 0 ∧ win0_4.index t 4 = 0 := by decide +kernel
theorem at5 : ∀ t : Fin cfg0.N, win0_5.index t 0 = 1 ∧ win0_5.index t 1 = 0 ∧ win0_5.index t 2 = cond (2 * (t.val / 6) + 1)
    ∧ win0_5.index t 3 = 0 ∧ win0_5.index t 4 = 0 := by decide +kernel
theorem at6 : ∀ t : Fin cfg0.N, win0_6.index t 0 = 1 ∧ win0_6.index t 1 = 1 ∧ win0_6.index t 2 = cond (2 * (t.val / 6) + 1)
    ∧ win0_6.index t 3 = 0 ∧ win0_6.index t 4 = 0 := by decide +kernel
theorem at7 : ∀ t : Fin cfg0.N, win0_7.index t 0 = 1 ∧ win0_7.index t 1 = 2 ∧ win0_7.index t 2 = cond (2 * (t.val / 6) + 1)
    ∧ win0_7.index t 3 = 0 ∧ win0_7.index t 4 = 0 := by decide +kernel
theorem at8 : ∀ t : Fin cfg0.N, win0_8.index t 0 = 1 ∧ win0_8.index t 1 = 0 ∧ win0_8.index t 2 = min (2 * (t.val % 6)) 10 := by
  decide +kernel
theorem at9 : ∀ t : Fin cfg0.N, win0_9.index t 0 = 1 ∧ win0_9.index t 1 = 0 ∧ win0_9.index t 2 = min (2 * (t.val % 6)) 10 := by
  decide +kernel
theorem at10 : ∀ t : Fin cfg0.N, win0_10.index t 0 = 1 ∧ win0_10.index t 1 = min (2 * (t.val % 6)) 10 ∧ win0_10.index t 2 = 0 := by
  decide +kernel
theorem at11 : ∀ t : Fin cfg0.N, win0_11.index t 0 = 1 ∧ win0_11.index t 1 = 0
    ∧ win0_11.index t 2 = min (2 * (t.val % 6) + 1) 10 := by decide +kernel
theorem at12 : ∀ t : Fin cfg0.N, win0_12.index t 0 = 1 ∧ win0_12.index t 1 = 0
    ∧ win0_12.index t 2 = min (2 * (t.val % 6) + 1) 10 := by decide +kernel
theorem at13 : ∀ t : Fin cfg0.N, win0_13.index t 0 = 1 ∧ win0_13.index t 1 = min (2 * (t.val % 6) + 1) 10
    ∧ win0_13.index t 2 = 0 := by decide +kernel

theorem lt_N : t.val < 18 := lt_of_lt_of_eq t.isLt N_0

/-- The first and the second block of inner columns of the point. -/
abbrev even : Fin 11 := ⟨min (2 * (t.val % 6)) 10, by omega⟩
abbrev odd : Fin 11 := ⟨min (2 * (t.val % 6) + 1) 10, by omega⟩

/-- Row `r` of the point's tile of tokens, and the conditioning vectors of the tile's two halves. -/
abbrev tok (r : Fin 2048) : Fin 6144 := ⟨2048 * (t.val / 6) + r.val, by have := lt_N t; omega⟩
abbrev condA : Fin 3 := ⟨cond (2 * (t.val / 6)), by have := lt_N t; unfold cond; omega⟩
abbrev condB : Fin 3 := ⟨cond (2 * (t.val / 6) + 1), by have := lt_N t; unfold cond; omega⟩

theorem V_main_v0 : V m c main_v0 = shapeCast S4x1x1024 (m (c.tc.loc main_arg2)) shapeCasts_S4x1024_S4x1x1024 := by
  show StableHlo.after hostOps0 _ (Proc.devRef .tc main_v0) = _
  after_results
  rfl

theorem blk0 (r : Fin 2048) (d : Fin 1024) :
    (iblk m c 0 t : Vec Ideal S2048x1024 .f32) (ix2 r d) = m (c.tc.loc main_arg0) (ix2 (tok t r) d) := by
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 6) + r.val; rw [(at0 t).1]; omega
  | ⟨1, _⟩ => show win0_0.index t 1 * 1024 + 1 * d.val = d.val; rw [(at0 t).2]; omega

theorem blk1 (d : Fin 1024) :
    (iblk m c 1 t : Vec Ideal S1x1x1024 .f32) (ix3 0 0 d) = m (c.tc.loc main_arg2) (ix2 1 d) := by
  unfold iblk
  rw [View.read_apply]
  show V m c main_v0 _ = _
  rw [V_main_v0]
  have e : ((cfg0.win 1).blk t).view.emb (ix3 0 0 d) = (ix3 1 0 d : S4x1x1024.Idx) := by
    funext a
    apply Fin.ext
    match a with
    | ⟨0, _⟩ => show win0_1.index t 0 * 1 + 1 * 0 = 1; rw [(at1 t).1]
    | ⟨1, _⟩ => show win0_1.index t 1 * 1 + 1 * 0 = 0; rw [(at1 t).2.1]
    | ⟨2, _⟩ => show win0_1.index t 2 * 1024 + 1 * d.val = d.val; rw [(at1 t).2.2]; omega
  rw [e]
  pointwise

/-- A block of the conditioning vectors, whose place in the array is known, holds the vector at that place. -/
theorem modBlk (w : Fin 3) (b : Fin 3) (off : Fin 5 → ℕ) (h : off 0 = 1 ∧ off 1 = w.val ∧ off 2 = b.val ∧ off 3 = 0 ∧ off 4 = 0)
    (e : S4x9x3x1x1024.Idx) (d : Fin 1024) (he : ∀ a, (e a).val = off a * S1x1x1x1x1024.size a + 1 * ((ix5 0 0 0 0 d : S1x1x1x1x1024.Idx) a).val) :
    e = (ix5 1 ⟨w.val, by omega⟩ b 0 d : S4x9x3x1x1024.Idx) := by
  obtain ⟨h0, h1, h2, h3, h4⟩ := h
  funext a
  apply Fin.ext
  rw [he a]
  match a with
  | ⟨0, _⟩ => show off 0 * 1 + 1 * 0 = 1; rw [h0]
  | ⟨1, _⟩ => show off 1 * 1 + 1 * 0 = w.val; rw [h1]; omega
  | ⟨2, _⟩ => show off 2 * 1 + 1 * 0 = b.val; rw [h2]; omega
  | ⟨3, _⟩ => show off 3 * 1 + 1 * 0 = 0; rw [h3]
  | ⟨4, _⟩ => show off 4 * 1024 + 1 * d.val = d.val; rw [h4]; omega

theorem blk2 (d : Fin 1024) : (iblk m c 2 t : Vec Ideal S1x1x1x1x1024 .f32) (ix5 0 0 0 0 d)
    = m (c.tc.loc main_arg1) (ix5 1 0 (condA t) 0 d) := by
  unfold iblk
  rw [View.read_apply]
  show V m c main_arg1 _ = _
  rw [V_main_arg1]
  exact congrArg _ (modBlk 0 (condA t) (win0_2.index t) (at2 t) _ d fun _ => rfl)
theorem blk3 (d : Fin 1024) : (iblk m c 3 t : Vec Ideal S1x1x1x1x1024 .f32) (ix5 0 0 0 0 d)
    = m (c.tc.loc main_arg1) (ix5 1 1 (condA t) 0 d) := by
  unfold iblk
  rw [View.read_apply]
  show V m c main_arg1 _ = _
  rw [V_main_arg1]
  exact congrArg _ (modBlk 1 (condA t) (win0_3.index t) (at3 t) _ d fun _ => rfl)
theorem blk4 (d : Fin 1024) : (iblk m c 4 t : Vec Ideal S1x1x1x1x1024 .f32) (ix5 0 0 0 0 d)
    = m (c.tc.loc main_arg1) (ix5 1 2 (condA t) 0 d) := by
  unfold iblk
  rw [View.read_apply]
  show V m c main_arg1 _ = _
  rw [V_main_arg1]
  exact congrArg _ (modBlk 2 (condA t) (win0_4.index t) (at4 t) _ d fun _ => rfl)
theorem blk5 (d : Fin 1024) : (iblk m c 5 t : Vec Ideal S1x1x1x1x1024 .f32) (ix5 0 0 0 0 d)
    = m (c.tc.loc main_arg1) (ix5 1 0 (condB t) 0 d) := by
  unfold iblk
  rw [View.read_apply]
  show V m c main_arg1 _ = _
  rw [V_main_arg1]
  exact congrArg _ (modBlk 0 (condB t) (win0_5.index t) (at5 t) _ d fun _ => rfl)
theorem blk6 (d : Fin 1024) : (iblk m c 6 t : Vec Ideal S1x1x1x1x1024 .f32) (ix5 0 0 0 0 d)
    = m (c.tc.loc main_arg1) (ix5 1 1 (condB t) 0 d) := by
  unfold iblk
  rw [View.read_apply]
  show V m c main_arg1 _ = _
  rw [V_main_arg1]
  exact congrArg _ (modBlk 1 (condB t) (win0_6.index t) (at6 t) _ d fun _ => rfl)
theorem blk7 (d : Fin 1024) : (iblk m c 7 t : Vec Ideal S1x1x1x1x1024 .f32) (ix5 0 0 0 0 d)
    = m (c.tc.loc main_arg1) (ix5 1 2 (condB t) 0 d) := by
  unfold iblk
  rw [View.read_apply]
  show V m c main_arg1 _ = _
  rw [V_main_arg1]
  exact congrArg _ (modBlk 2 (condB t) (win0_7.index t) (at7 t) _ d fun _ => rfl)

/-- A block of 256 columns of layer 1's gate or up weights, by its place. -/
theorem inBlk (b : Fin 11) (off : Fin 3 → ℕ) (h : off 0 = 1 ∧ off 1 = 0 ∧ off 2 = b.val) (e : S4x1024x2816.Idx) (k : Fin 1024) (x : Fin 256)
    (he : ∀ a, (e a).val = off a * S1x1024x256.size a + 1 * ((ix3 0 k x : S1x1024x256.Idx) a).val) :
    e = (ix3 1 k (Layer.col b x) : S4x1024x2816.Idx) := by
  obtain ⟨h0, h1, h2⟩ := h
  funext a
  apply Fin.ext
  rw [he a]
  match a with
  | ⟨0, _⟩ => show off 0 * 1 + 1 * 0 = 1; rw [h0]
  | ⟨1, _⟩ => show off 1 * 1024 + 1 * k.val = k.val; rw [h1]; omega
  | ⟨2, _⟩ => show off 2 * 256 + 1 * x.val = 256 * b.val + x.val; rw [h2]; omega
/-- A block of 256 rows of layer 1's down weights, by its place. -/
theorem downBlk (b : Fin 11) (off : Fin 3 → ℕ) (h : off 0 = 1 ∧ off 1 = b.val ∧ off 2 = 0) (e : S4x2816x1024.Idx) (x : Fin 256) (d : Fin 1024)
    (he : ∀ a, (e a).val = off a * S1x256x1024.size a + 1 * ((ix3 0 x d : S1x256x1024.Idx) a).val) :
    e = (ix3 1 (Layer.col b x) d : S4x2816x1024.Idx) := by
  obtain ⟨h0, h1, h2⟩ := h
  funext a
  apply Fin.ext
  rw [he a]
  match a with
  | ⟨0, _⟩ => show off 0 * 1 + 1 * 0 = 1; rw [h0]
  | ⟨1, _⟩ => show off 1 * 256 + 1 * x.val = 256 * b.val + x.val; rw [h1]; omega
  | ⟨2, _⟩ => show off 2 * 1024 + 1 * d.val = d.val; rw [h2]; omega

theorem blk8 (k : Fin 1024) (x : Fin 256) : (iblk m c 8 t : Vec Ideal S1x1024x256 .f32) (ix3 0 k x)
    = m (c.tc.loc main_arg3) (ix3 1 k (Layer.col (even t) x)) := by
  unfold iblk
  rw [View.read_apply]
  show V m c main_arg3 _ = _
  rw [V_main_arg3]
  exact congrArg _ (inBlk (even t) (win0_8.index t) (at8 t) _ k x fun _ => rfl)
theorem blk9 (k : Fin 1024) (x : Fin 256) : (iblk m c 9 t : Vec Ideal S1x1024x256 .f32) (ix3 0 k x)
    = m (c.tc.loc main_arg4) (ix3 1 k (Layer.col (even t) x)) := by
  unfold iblk
  rw [View.read_apply]
  show V m c main_arg4 _ = _
  rw [V_main_arg4]
  exact congrArg _ (inBlk (even t) (win0_9.index t) (at9 t) _ k x fun _ => rfl)
theorem blk10 (x : Fin 256) (d : Fin 1024) : (iblk m c 10 t : Vec Ideal S1x256x1024 .f32) (ix3 0 x d)
    = m (c.tc.loc main_arg5) (ix3 1 (Layer.col (even t) x) d) := by
  unfold iblk
  rw [View.read_apply]
  show V m c main_arg5 _ = _
  rw [V_main_arg5]
  exact congrArg _ (downBlk (even t) (win0_10.index t) (at10 t) _ x d fun _ => rfl)
theorem blk11 (k : Fin 1024) (x : Fin 256) : (iblk m c 11 t : Vec Ideal S1x1024x256 .f32) (ix3 0 k x)
    = m (c.tc.loc main_arg3) (ix3 1 k (Layer.col (odd t) x)) := by
  unfold iblk
  rw [View.read_apply]
  show V m c main_arg3 _ = _
  rw [V_main_arg3]
  exact congrArg _ (inBlk (odd t) (win0_11.index t) (at11 t) _ k x fun _ => rfl)
theorem blk12 (k : Fin 1024) (x : Fin 256) : (iblk m c 12 t : Vec Ideal S1x1024x256 .f32) (ix3 0 k x)
    = m (c.tc.loc main_arg4) (ix3 1 k (Layer.col (odd t) x)) := by
  unfold iblk
  rw [View.read_apply]
  show V m c main_arg4 _ = _
  rw [V_main_arg4]
  exact congrArg _ (inBlk (odd t) (win0_12.index t) (at12 t) _ k x fun _ => rfl)
theorem blk13 (x : Fin 256) (d : Fin 1024) : (iblk m c 13 t : Vec Ideal S1x256x1024 .f32) (ix3 0 x d)
    = m (c.tc.loc main_arg5) (ix3 1 (Layer.col (odd t) x) d) := by
  unfold iblk
  rw [View.read_apply]
  show V m c main_arg5 _ = _
  rw [V_main_arg5]
  exact congrArg _ (downBlk (odd t) (win0_13.index t) (at13 t) _ x d fun _ => rfl)

end Cert.KernelIdeal.Ffn

end
-- ==== Proof.Halves.lean ====
/- A buffer of 2048 rows written, or read, one half of 1024 rows at a time. -/
module

public import Idealize.ShloMosaic.Lib.Pipeline.ValueKit
public import Idealize.ShloMosaic.Lib.Pointwise

@[expose] public section

namespace Cert.Layer

open Idealize.ShloMosaic

/-- The shape of a tile of tokens and of one of its halves. -/
abbrev Tile : Shape := ⟨2, ![2048, 1024]⟩
abbrev Half : Shape := ⟨2, ![1024, 1024]⟩

variable {Val : EltTy → Type} {e : EltTy}

/-- A load of the first half of the rows. -/
theorem ld_lo (X : Tile.Idx → Val e) (inb : ∀ a, (![0, 0] : Fin 2 → ℕ) a + (![1024, 1024] : Fin 2 → ℕ) a ≤ Tile.size a) (r : Fin 1024)
    (d : Fin 1024) : View.ld X (Rect.unit ![0, 0] ![1024, 1024] inb) (ix2 r d) = X (ix2 ⟨r.val, by omega⟩ d) :=
  View.ld_unit_apply_of X _ _ inb (ix2 r d) (ix2 ⟨r.val, by omega⟩ d) fun a => by
    match a with
    | ⟨0, _⟩ => show r.val = 0 + r.val; omega
    | ⟨1, _⟩ => show d.val = 0 + d.val; omega

/-- A load of the second half of the rows. -/
theorem ld_hi (X : Tile.Idx → Val e) (inb : ∀ a, (![1024, 0] : Fin 2 → ℕ) a + (![1024, 1024] : Fin 2 → ℕ) a ≤ Tile.size a) (r : Fin 1024)
    (d : Fin 1024) : View.ld X (Rect.unit ![1024, 0] ![1024, 1024] inb) (ix2 r d) = X (ix2 ⟨1024 + r.val, by omega⟩ d) :=
  View.ld_unit_apply_of X _ _ inb (ix2 r d) (ix2 ⟨1024 + r.val, by omega⟩ d) fun a => by
    match a with
    | ⟨0, _⟩ => show 1024 + r.val = 1024 + r.val; omega
    | ⟨1, _⟩ => show d.val = 0 + d.val; omega

variable [∀ e, Nonempty (Val e)]

/-- After a store to the second half, a row of the second half holds what was stored. -/
theorem canon_hi (inb : ∀ a, (![1024, 0] : Fin 2 → ℕ) a + (![1024, 1024] : Fin 2 → ℕ) a ≤ Tile.size a) (w : Half.Idx → Val e)
    (L : List (View.Piece Val Tile e)) (r : Fin 2048) (d : Fin 1024) (h : 1024 ≤ r.val) :
    View.canon ((⟨Rect.unit ![1024, 0] ![1024, 1024] inb, w⟩ : View.Piece Val Tile e) :: L) (ix2 r d) = w (ix2 ⟨r.val - 1024, by omega⟩ d) := by
  have e1 : (ix2 r d : Tile.Idx) = (Rect.unit (s := Tile) ![1024, 0] ![1024, 1024] inb).emb (ix2 ⟨r.val - 1024, by omega⟩ d : Half.Idx) := by
    funext a
    apply Fin.ext
    match a with
    | ⟨0, _⟩ => show r.val = 1024 + 1 * (r.val - 1024); omega
    | ⟨1, _⟩ => show d.val = 0 + 1 * d.val; omega
  rw [e1]
  exact View.canon_cons_emb (Rect.unit (s := Tile) ![1024, 0] ![1024, 1024] inb) w L _

/-- After a store to the second half, a row of the first half holds what it held. -/
theorem canon_hi_lo (inb : ∀ a, (![1024, 0] : Fin 2 → ℕ) a + (![1024, 1024] : Fin 2 → ℕ) a ≤ Tile.size a) (w : Half.Idx → Val e)
    (L : List (View.Piece Val Tile e)) (r : Fin 2048) (d : Fin 1024) (h : r.val < 1024) :
    View.canon ((⟨Rect.unit ![1024, 0] ![1024, 1024] inb, w⟩ : View.Piece Val Tile e) :: L) (ix2 r d) = View.canon L (ix2 r d) := by
  refine View.canon_cons_of_not_mem _ L ?_
  rw [Rect.mem_set_unit]
  intro hm
  have := (hm 0).1
  have h' : 1024 ≤ r.val := this
  omega

/-- After a store to the first half, a row of the first half holds what was stored. -/
theorem canon_lo (inb : ∀ a, (![0, 0] : Fin 2 → ℕ) a + (![1024, 1024] : Fin 2 → ℕ) a ≤ Tile.size a) (w : Half.Idx → Val e)
    (L : List (View.Piece Val Tile e)) (r : Fin 2048) (d : Fin 1024) (h : r.val < 1024) :
    View.canon ((⟨Rect.unit ![0, 0] ![1024, 1024] inb, w⟩ : View.Piece Val Tile e) :: L) (ix2 r d) = w (ix2 ⟨r.val, h⟩ d) := by
  have e1 : (ix2 r d : Tile.Idx) = (Rect.unit (s := Tile) ![0, 0] ![1024, 1024] inb).emb (ix2 ⟨r.val, h⟩ d : Half.Idx) := by
    funext a
    apply Fin.ext
    match a with
    | ⟨0, _⟩ => show r.val = 0 + 1 * r.val; omega
    | ⟨1, _⟩ => show d.val = 0 + 1 * d.val; omega
  rw [e1]
  exact View.canon_cons_emb (Rect.unit (s := Tile) ![0, 0] ![1024, 1024] inb) w L _

/-- After a store to the first half, a row of the second half holds what it held. -/
theorem canon_lo_hi (inb : ∀ a, (![0, 0] : Fin 2 → ℕ) a + (![1024, 1024] : Fin 2 → ℕ) a ≤ Tile.size a) (w : Half.Idx → Val e)
    (L : List (View.Piece Val Tile e)) (r : Fin 2048) (d : Fin 1024) (h : 1024 ≤ r.val) :
    View.canon ((⟨Rect.unit ![0, 0] ![1024, 1024] inb, w⟩ : View.Piece Val Tile e) :: L) (ix2 r d) = View.canon L (ix2 r d) := by
  refine View.canon_cons_of_not_mem _ L ?_
  rw [Rect.mem_set_unit]
  intro hm
  have := (hm 0).2
  have h' : r.val < 0 + 1024 := this
  omega

/-- A store of all the rows leaves what was stored. -/
theorem canon_all (inb : ∀ a, (![0, 0] : Fin 2 → ℕ) a + (![2048, 1024] : Fin 2 → ℕ) a ≤ Tile.size a) (w : Tile.Idx → Val e)
    (L : List (View.Piece Val Tile e)) :
    View.canon ((⟨Rect.unit ![0, 0] ![2048, 1024] inb, w⟩ : View.Piece Val Tile e) :: L) = w :=
  View.canon_cons_unit_zero (S := Tile) (by funext a; match a with | ⟨0, _⟩ => rfl | ⟨1, _⟩ => rfl) inb w L

section
variable {sig : RefSig} {κ : Kind} {sp : Space} (v : View sig κ sp Tile e)

/-- Loads of the first half, the second half and all the rows of what stores left. -/
theorem readCov_lo (L : List (View.Piece Val Tile e)) (inb : ∀ a, (![0, 0] : Fin 2 → ℕ) a + (![1024, 1024] : Fin 2 → ℕ) a ≤ Tile.size a)
    (r : Fin 1024) (d : Fin 1024) :
    v.readCov L (Rect.unit (s := Tile) ![0, 0] ![1024, 1024] inb).toLoadRect (ix2 r d) = View.canon L (ix2 ⟨r.val, by omega⟩ d) := by
  rw [View.readCov_eq_canon']
  exact ld_lo (View.canon L) inb r d
theorem readCov_hi (L : List (View.Piece Val Tile e)) (inb : ∀ a, (![1024, 0] : Fin 2 → ℕ) a + (![1024, 1024] : Fin 2 → ℕ) a ≤ Tile.size a)
    (r : Fin 1024) (d : Fin 1024) :
    v.readCov L (Rect.unit (s := Tile) ![1024, 0] ![1024, 1024] inb).toLoadRect (ix2 r d) = View.canon L (ix2 ⟨1024 + r.val, by omega⟩ d) := by
  rw [View.readCov_eq_canon']
  exact ld_hi (View.canon L) inb r d
theorem readCov_all (L : List (View.Piece Val Tile e)) (inb : ∀ a, (![0, 0] : Fin 2 → ℕ) a + (![2048, 1024] : Fin 2 → ℕ) a ≤ Tile.size a) :
    v.readCov L (Rect.unit (s := Tile) ![0, 0] ![2048, 1024] inb).toLoadRect = View.canon L := by
  rw [View.readCov_eq_canon']
  exact View.ld_unit_zero (S := Tile) (by funext a; match a with | ⟨0, _⟩ => rfl | ⟨1, _⟩ => rfl) inb (View.canon L)
end

end Cert.Layer

end
-- ==== Proof.Ffn.Steps.lean ====
/- What the output block and the carried rows hold after each grid point of the first half feed-forward layer of layer 1:
   after the first point of a tile the normalised rows and two blocks of the inner sum, after each of the next four two more
   blocks, after the last one the tile's rows of the result. -/
module

public import proofs.«01_k».proof.Proof.Ffn.Blocks
public import proofs.«01_k».proof.Proof.Halves

@[expose] public section

set_option maxRecDepth 16384

noncomputable section

namespace Cert.KernelIdeal.Ffn

open Cert.KernelIdeal Cert.KernelIdeal.Gen Cert.Layer Idealize.ShloMosaic Idealize.ShloMosaic.TcCoe Idealize.SL.Sem

variable (m : (ℓ : Loc nD τ sig) → Buf (Elt Ideal) ℓ) (c : Dev nD)

/-- The conditioning vector of token `s`: the context's 4096 tokens share number 0, each latent request's 1024 have their own. -/
abbrev condOf (s : Fin 6144) : Fin 3 := ⟨s.val / 1024 - 3, by omega⟩

/-- Token `s`, and conditioning vector `k` at it. -/
abbrev tokRow (s : Fin 6144) : Fin 1024 → EReal := fun d => m (c.tc.loc main_arg0) (ix2 s d)
abbrev modRow (k : Fin 9) (s : Fin 6144) : Fin 1024 → EReal := fun d => m (c.tc.loc main_arg1) (ix5 1 k (condOf s) 0 d)
/-- Layer 1's weights. -/
abbrev wGate : Fin 1024 → Fin 2816 → EReal := fun k f => m (c.tc.loc main_arg3) (ix3 1 k f)
abbrev wUp : Fin 1024 → Fin 2816 → EReal := fun k f => m (c.tc.loc main_arg4) (ix3 1 k f)
abbrev wDown : Fin 2816 → Fin 1024 → EReal := fun f d => m (c.tc.loc main_arg5) (ix3 1 f d)
/-- Token `s` normalised and modulated. -/
def hRow (s : Fin 6144) : Fin 1024 → EReal :=
  normRow (tokRow m c s) (fun d => m (c.tc.loc main_arg2) (ix2 1 d)) (modRow m c 1 s) (modRow m c 0 s)

/-- What block `b` of the inner columns adds to entry `d` of token `s`, and what the first `n` blocks add. -/
def blkAt (s : Fin 6144) (d : Fin 1024) (b : ℕ) : EReal :=
  blockSum (hRow m c s) (wGate m c) (wUp m c) (wDown m c) d ⟨min b 10, by omega⟩
def part (n : ℕ) (s : Fin 6144) (d : Fin 1024) : EReal := ∑ b ∈ Finset.range n, blkAt m c s d b

variable (t : Fin cfg0.N)

theorem condOf_lo (r : Fin 2048) (h : r.val < 1024) : condOf (tok t r) = condA t := by
  apply Fin.ext
  show (2048 * (t.val / 6) + r.val) / 1024 - 3 = 2 * (t.val / 6) - 3
  omega
theorem condOf_hi (r : Fin 2048) (h : 1024 ≤ r.val) : condOf (tok t r) = condB t := by
  apply Fin.ext
  show (2048 * (t.val / 6) + r.val) / 1024 - 3 = 2 * (t.val / 6) + 1 - 3
  omega

/-- The carried rows after the first point of a tile are the tile's normalised rows. -/
theorem scratch_A (h0 : t.val % 6 = 0) (h1 : t.val % 6 ≤ 4) (h2 : ¬t.val % 6 = 5) (h3 : ¬t.val % 6 = 5) (r : Fin 2048) (d : Fin 1024) :
    (outsAt0 m c t.val t.isLt).2 (ix2 r d) = hRow m c (tok t r) d := by
  rw [outsAt0_A m c t h0 h1 h2 h3]
  dsimp only
  frame_out
  rcases lt_or_ge r.val 1024 with h | h
  · rw [canon_hi_lo _ _ _ r d h, canon_lo _ _ _ r d h]
    pointwise [k0_pay7]
    simp only [ld_lo, blk0, blk1, blk2, blk3]
    unfold hRow normRow modRow
    rw [condOf_lo t r h]
  · rw [canon_hi _ _ _ r d h]
    pointwise [k0_pay1, k0_pay8]
    simp only [ld_hi, blk0, blk1, blk5, blk6]
    unfold hRow normRow modRow
    rw [condOf_hi t r h]
    have e : (⟨1024 + (r.val - 1024), by omega⟩ : Fin 2048) = r := Fin.ext (by dsimp only; omega)
    simp only [e]

/-- After the first point of a tile the output block holds the first two blocks of the inner sum. -/
theorem out_A (h0 : t.val % 6 = 0) (h1 : t.val % 6 ≤ 4) (h2 : ¬t.val % 6 = 5) (h3 : ¬t.val % 6 = 5) (r : Fin 2048) (d : Fin 1024) :
    (outsAt0 m c t.val t.isLt).1 (ix2 r d) = part m c (2 * (t.val % 6) + 2) (tok t r) d := by
  have hS : (outsAt0 m c t.val t.isLt).2 = fun i : S2048x1024.Idx => hRow m c (tok t (i 0)) (i 1) :=
    funext fun i => (congrArg _ (eq_ix2 i)).trans (scratch_A m c t h0 h1 h2 h3 (i 0) (i 1))
  rw [outsAt0_A m c t h0 h1 h2 h3] at hS ⊢
  dsimp only at hS ⊢
  frame_out at hS
  frame_out
  rw [readCov_all, hS]
  pointwise [k0_pay3, k0_pay9, k0_pay10, k0_pay2]
  simp only [blk8, blk9, blk10, blk11, blk12, blk13]
  unfold part
  rw [Finset.sum_range_succ, Finset.sum_range_succ, show Finset.range (2 * (t.val % 6)) = ∅ by rw [h0]; rfl, Finset.sum_empty, zero_add]
  rfl

/-- The carried rows do not change at the later points of a tile. -/
theorem scratch_B (h0 : ¬t.val % 6 = 0) (h1 : t.val % 6 ≤ 4) (h2 : ¬t.val % 6 = 5) (h3 : ¬t.val % 6 = 5) :
    (outsAt0 m c t.val t.isLt).2 = (outsAt0 m c (t.val - 1) (by omega)).2 := by
  rw [outsAt0_B m c t h0 h1 h2 h3]
  dsimp only
  rfl

/-- A point in the middle of a tile adds two more blocks of the inner sum. -/
theorem out_B (h0 : ¬t.val % 6 = 0) (h1 : t.val % 6 ≤ 4) (h2 : ¬t.val % 6 = 5) (h3 : ¬t.val % 6 = 5) (r : Fin 2048) (d : Fin 1024)
    (hs : (outsAt0 m c (t.val - 1) (by omega)).2 = fun i : S2048x1024.Idx => hRow m c (tok t (i 0)) (i 1)) :
    (outsAt0 m c t.val t.isLt).1 (ix2 r d) = (outsAt0 m c (t.val - 1) (by omega)).1 (ix2 r d)
      + (blkAt m c (tok t r) d (2 * (t.val % 6)) + blkAt m c (tok t r) d (2 * (t.val % 6) + 1)) := by
  rw [outsAt0_B m c t h0 h1 h2 h3]
  dsimp only
  frame_out
  rw [show View.read (Elt Ideal) (View.whole cc0_scratch0) ((Memref.isWhole_whole cc0_scratch0).unread _) = _ from
    (Memref.isWhole_whole cc0_scratch0).read_unread _, hs]
  pointwise [k0_pay3, k0_pay9, k0_pay10]
  simp only [blk8, blk9, blk10, blk11, blk12, blk13]
  rfl

/-- The last point of a tile adds the last block of the inner sum and leaves the tile's rows of the result. -/
theorem out_C (h0 : ¬t.val % 6 = 0) (h1 : ¬t.val % 6 ≤ 4) (h2 : t.val % 6 = 5) (h3 : t.val % 6 = 5) (r : Fin 2048) (d : Fin 1024)
    (hs : (outsAt0 m c (t.val - 1) (by omega)).2 = fun i : S2048x1024.Idx => hRow m c (tok t (i 0)) (i 1)) :
    (outsAt0 m c t.val t.isLt).1 (ix2 r d) = tokRow m c (tok t r) d + Ideal.ofBits .f32 0x3F000000#32 * modRow m c 2 (tok t r) d
      * ((outsAt0 m c (t.val - 1) (by omega)).1 (ix2 r d) + blkAt m c (tok t r) d 10) := by
  rw [outsAt0_C m c t h0 h1 h2 h3]
  dsimp only
  frame_out
  rw [show View.read (Elt Ideal) (View.whole cc0_scratch0) ((Memref.isWhole_whole cc0_scratch0).unread _) = _ from
    (Memref.isWhole_whole cc0_scratch0).read_unread _, hs]
  have e10 : even t = ⟨min 10 10, by omega⟩ := Fin.ext (by show min (2 * (t.val % 6)) 10 = min 10 10; rw [h2])
  have hl : ∀ r', k0_pay4 (fun i : S2048x1024.Idx => hRow m c (tok t (i 0)) (i 1)) (iblk m c 8 t) (iblk m c 9 t) (iblk m c 10 t)
      (outsAt0 m c (t.val - 1) (by omega)).1 (ix2 r' d)
        = (outsAt0 m c (t.val - 1) (by omega)).1 (ix2 r' d) + blkAt m c (tok t r') d 10 := by
    intro r'
    pointwise [k0_pay4]
    simp only [blk8, blk9, blk10, e10]
    rfl
  rcases lt_or_ge r.val 1024 with h | h
  · rw [canon_hi_lo _ _ _ r d h, canon_lo _ _ _ r d h]
    pointwise [k0_pay5]
    simp only [readCov_lo, canon_all, ld_lo, blk0, blk4]
    rw [hl]
    unfold modRow
    rw [condOf_lo t r h]
  · have e : (⟨1024 + (r.val - 1024), by omega⟩ : Fin 2048) = r := Fin.ext (by dsimp only; omega)
    rw [canon_hi _ _ _ r d h]
    pointwise [k0_pay6]
    simp only [readCov_hi, ld_hi, e, blk0, blk7]
    rw [canon_lo_hi _ _ _ r d h, canon_all, hl]
    unfold modRow
    rw [condOf_hi t r h]

end Cert.KernelIdeal.Ffn

end
-- ==== Proof.Ffn.Kernel.lean ====
/- The run of the first half feed-forward layer of layer 1: it ends with every token's row of the result in the output array
   and its arguments unchanged. -/
module

public import proofs.«01_k».proof.Proof.Ffn.Steps

@[expose] public section

set_option maxRecDepth 16384

noncomputable section

namespace Cert.KernelIdeal.Ffn

open Cert.KernelIdeal Cert.KernelIdeal.Gen Cert.Layer Idealize.ShloMosaic Idealize.ShloMosaic.TcCoe Idealize.SL.Sem

variable (m : (ℓ : Loc nD τ sig) → Buf (Elt Ideal) ℓ) (c : Dev nD)

/-- Up to the fifth point of a tile the carried rows are the tile's normalised rows, and the output block holds the blocks of
    the inner sum met so far. -/
theorem running : ∀ (n : ℕ) (h : n < cfg0.N), n % 6 ≤ 4 →
    (outsAt0 m c n h).2 = (fun i : S2048x1024.Idx => hRow m c (tok ⟨n, h⟩ (i 0)) (i 1))
    ∧ ∀ r d, (outsAt0 m c n h).1 (ix2 r d) = part m c (2 * (n % 6) + 2) (tok ⟨n, h⟩ r) d
  | n, h, h4 => by
    by_cases h0 : n % 6 = 0
    · exact ⟨funext fun i => (congrArg _ (eq_ix2 i)).trans (scratch_A m c ⟨n, h⟩ h0 h4 (by dsimp only; omega) (by dsimp only; omega) (i 0) (i 1)),
        fun r d => out_A m c ⟨n, h⟩ h0 h4 (by dsimp only; omega) (by dsimp only; omega) r d⟩
    · match n, h, h4, h0 with
      | 0, _, _, h0 => exact absurd rfl h0
      | k + 1, h, h4, h0 =>
        obtain ⟨ihS, ihO⟩ := running k (Nat.lt_of_succ_lt h) (by omega)
        have et : ∀ r, tok ⟨k, Nat.lt_of_succ_lt h⟩ r = tok ⟨k + 1, h⟩ r := fun r => Fin.ext (by
          show 2048 * (k / 6) + r.val = 2048 * ((k + 1) / 6) + r.val
          rw [show (k + 1) / 6 = k / 6 by omega])
        replace ihS := ihS.trans (funext fun i : S2048x1024.Idx => congrArg (fun s => hRow m c s (i 1)) (et (i 0)))
        simp only [et] at ihO
        refine ⟨?_, fun r d => ?_⟩
        · rw [scratch_B m c ⟨k + 1, h⟩ h0 h4 (by dsimp only; omega) (by dsimp only; omega)]
          exact ihS
        · rw [out_B m c ⟨k + 1, h⟩ h0 h4 (by dsimp only; omega) (by dsimp only; omega) r d ihS]
          show (outsAt0 m c k _).1 (ix2 r d) + (blkAt m c _ d (2 * ((k + 1) % 6)) + blkAt m c _ d (2 * ((k + 1) % 6) + 1)) = _
          rw [ihO, show 2 * (k % 6) + 2 = 2 * ((k + 1) % 6) by omega]
          unfold part
          rw [Finset.sum_range_succ, Finset.sum_range_succ, add_assoc]

/-- The result: each token's row after the layer. -/
def result : Buf (Elt Ideal) ((c : Thread nD τ).loc main_v1) := fun i : S6144x1024.Idx =>
  ffnRow (tokRow m c (i 0)) (hRow m c (i 0)) (modRow m c 2 (i 0)) (wGate m c) (wUp m c) (wDown m c) (i 1)

/-- All eleven blocks together are the sum over the inner width. -/
theorem part_all (s : Fin 6144) (d : Fin 1024) :
    part m c 10 s d + blkAt m c s d 10 = innerSum (hRow m c s) (wGate m c) (wUp m c) (wDown m c) d := by
  unfold part
  rw [← Finset.sum_range_succ, Finset.sum_range, ← innerSum_eq]
  refine Finset.sum_congr rfl fun b _ => ?_
  unfold blkAt
  congr 1
  apply Fin.ext
  show min b.val 10 = b.val
  omega

/-- After the last point of a tile the output block holds the tile's rows of the result. -/
theorem out_last (t : Fin cfg0.N) (h5 : t.val % 6 = 5) (r : Fin 2048) (d : Fin 1024) :
    (outsAt0 m c t.val t.isLt).1 (ix2 r d) = result m c (ix2 (tok t r) d) := by
  obtain ⟨hS, hO⟩ := running m c (t.val - 1) (by omega) (by omega)
  have et : ∀ r, tok ⟨t.val - 1, by omega⟩ r = tok t r := fun r => Fin.ext (by
    show 2048 * ((t.val - 1) / 6) + r.val = 2048 * (t.val / 6) + r.val
    rw [show (t.val - 1) / 6 = t.val / 6 by omega])
  replace hS := hS.trans (funext fun i : S2048x1024.Idx => congrArg (fun s => hRow m c s (i 1)) (et (i 0)))
  simp only [et] at hO
  rw [out_C m c t (by omega) (by omega) h5 h5 r d hS, hO, show 2 * ((t.val - 1) % 6) + 2 = 10 by omega, part_all]
  rfl

theorem at14 : ∀ t : Fin cfg0.N, win0_14.index t 0 = t.val / 6 ∧ win0_14.index t 1 = 0 := by decide +kernel

/-- What the last point of a tile writes back is the tile of the result. -/
theorem flushed (t : Fin cfg0.N) (hf : (cfg0.win 14).flush t = true) :
    (dats m 0 c).flushed 14 t = ((cfg0.win 14).blk t).view.read (Elt Ideal) (result m c) := by
  have h5 : t.val % 6 = 5 := (flush0_14 t).mp hf
  show (cfg0.win 14).cut (grid0.coords t) ((dats m 0 c).after 14 t) = _
  rw [after0_14]
  funext y
  rw [View.read_apply]
  show (outsAt0 m c t.val t.isLt).1 ((cfg0.win 14).xinj (grid0.coords t) y) = _
  have e1 : ((cfg0.win 14).xinj (grid0.coords t) y : S2048x1024.Idx) = ix2 (⟨(y 0).val, (y 0).isLt⟩ : Fin 2048) (⟨(y 1).val, (y 1).isLt⟩ : Fin 1024) := by
    funext a
    match a with
    | ⟨0, _⟩ => rfl
    | ⟨1, _⟩ => rfl
  rw [e1]
  refine (out_last m c t h5 _ _).trans (congrArg _ ?_)
  funext a
  apply Fin.ext
  match a with
  | ⟨0, _⟩ => show 2048 * (t.val / 6) + (y 0).val = win0_14.index t 0 * 2048 + 1 * (y 0).val; rw [(at14 t).1]; omega
  | ⟨1, _⟩ => show (y 1).val = win0_14.index t 1 * 1024 + 1 * (y 1).val; rw [(at14 t).2]; omega

/-- The tiles written back fill the output array. -/
theorem filled : (dats m 0 c).arrAt 14 cfg0.N = result m c :=
  (dats m 0 c).arrAt_eq_of_cover 14 _ (fun t hf => flushed m c t hf) fun i => by
    have h0 : (i 0).val < 6144 := (i 0).isLt
    have h1 : (i 1).val < 1024 := (i 1).isLt
    let t : Fin cfg0.N := ⟨6 * ((i 0).val / 2048) + 5, by rw [show cfg0.N = 18 from N_0]; omega⟩
    refine ⟨t, (flush0_14 t).mpr (by show (6 * ((i 0).val / 2048) + 5) % 6 = 5; omega), ?_⟩
    show i ∈ ((View.whole main_v1).slice (win0_14.rect t)).set
    rw [View.set_slice_whole, Rect.mem_set_unit]
    intro a
    match a with
    | ⟨0, _⟩ =>
      show win0_14.index t 0 * 2048 ≤ (i 0).val ∧ (i 0).val < win0_14.index t 0 * 2048 + 2048
      rw [(at14 t).1]
      show (6 * ((i 0).val / 2048) + 5) / 6 * 2048 ≤ (i 0).val ∧ (i 0).val < (6 * ((i 0).val / 2048) + 5) / 6 * 2048 + 2048
      omega
    | ⟨1, _⟩ =>
      show win0_14.index t 1 * 1024 ≤ (i 1).val ∧ (i 1).val < win0_14.index t 1 * 1024 + 1024
      rw [(at14 t).2]
      omega

variable (ρ : Dev nD → PrngReg)

/-- The kernel's run ends with `result` in its output array and its arguments as they were. -/
theorem run : θ_run defs (onTc (τ := τ) (main (F := Ideal))) ⟨m, fun _ => 0, ρ⟩ fun r => ∀ c : Dev nD,
    r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine (θ_run defs _ _).mono (fun r h c => ?_) (run_main m ρ)
  exact ⟨((h c).1 14).trans (filled m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).1 8).trans (((dats m 0 c).arrAt_in 8 rfl _).trans ((A_eq m c 8).trans (V_main_arg3 m c))),
    ((h c).1 9).trans (((dats m 0 c).arrAt_in 9 rfl _).trans ((A_eq m c 9).trans (V_main_arg4 m c))),
    ((h c).1 10).trans (((dats m 0 c).arrAt_in 10 rfl _).trans ((A_eq m c 10).trans (V_main_arg5 m c)))⟩

end Cert.KernelIdeal.Ffn

end
-- ==== Proof.Ffn.Reference.lean ====
/- What the reference of the first half feed-forward layer of layer 1 computes, row by row. -/
module

public import proofs.«01_k».proof.Proof.Gen.ReferenceIdeal.Read
public import proofs.«01_k».proof.Proof.Ffn.Row
public import Idealize.ShloMosaic.Lib.Pointwise

@[expose] public section

set_option maxRecDepth 16384

noncomputable section

namespace Cert.ReferenceIdeal.Ffn

open Cert.ReferenceIdeal Cert.ReferenceIdeal.Read Cert.Layer Idealize.ShloMosaic

/-- The conditioning vector of token `s`: the context's 4096 tokens share number 0, each latent request's 1024 have their own. -/
abbrev cond (s : Fin 6144) : Fin 3 := ⟨s.val / 1024 - 3, by omega⟩

theorem cond_eq (s : Fin 6144) (n : Fin 3) (h : s.val / 1024 - 3 = n.val) : cond s = n := Fin.ext h

variable (x0 : (⟨S6144x1024, .f32⟩ : BufTy).Contents (Elt Ideal)) (x1 : (⟨S4x9x3x1x1024, .f32⟩ : BufTy).Contents (Elt Ideal))
  (x2 : (⟨S4x1024, .f32⟩ : BufTy).Contents (Elt Ideal)) (x3 x4 : (⟨S4x1024x2816, .f32⟩ : BufTy).Contents (Elt Ideal))
  (x5 : (⟨S4x2816x1024, .f32⟩ : BufTy).Contents (Elt Ideal))

theorem shift (s : Fin 6144) (d : Fin 1024) : val_main_v9 (F := Ideal) x1 (ix2 s d) = x1 (ix5 1 0 (cond s) 0 d) := by
  pointwise [val_main_v9, val_main_v8, val_main_v7, val_main_v6, val_main_v5, val_main_v4, val_main_v3, val_main_v2, val_main_v1, val_main_v0]
  split_ifs
  · rw [cond_eq s 0 (by show _ = 0; omega)]
  · rw [cond_eq s 1 (by show _ = 1; omega)]
  · rw [cond_eq s 2 (by show _ = 2; omega)]

theorem scale (s : Fin 6144) (d : Fin 1024) : val_main_v19 (F := Ideal) x1 (ix2 s d) = x1 (ix5 1 1 (cond s) 0 d) := by
  pointwise [val_main_v19, val_main_v18, val_main_v17, val_main_v16, val_main_v15, val_main_v14, val_main_v13, val_main_v12, val_main_v11, val_main_v10]
  split_ifs
  · rw [cond_eq s 0 (by show _ = 0; omega)]
  · rw [cond_eq s 1 (by show _ = 1; omega)]
  · rw [cond_eq s 2 (by show _ = 2; omega)]

theorem gate (s : Fin 6144) (d : Fin 1024) : val_main_v29 (F := Ideal) x1 (ix2 s d) = x1 (ix5 1 2 (cond s) 0 d) := by
  pointwise [val_main_v29, val_main_v28, val_main_v27, val_main_v26, val_main_v25, val_main_v24, val_main_v23, val_main_v22, val_main_v21, val_main_v20]
  split_ifs
  · rw [cond_eq s 0 (by show _ = 0; omega)]
  · rw [cond_eq s 1 (by show _ = 1; omega)]
  · rw [cond_eq s 2 (by show _ = 2; omega)]

/-- Entry `(s, d)` of the reference's result. -/
theorem row (s : Fin 6144) (d : Fin 1024) : val_main_v63 (F := Ideal) x0 x1 x2 x3 x4 x5 (ix2 s d)
    = halfFfn (fun k => x0 (ix2 s k)) (fun k => x2 (ix2 1 k)) (fun k => x1 (ix5 1 1 (cond s) 0 k)) (fun k => x1 (ix5 1 0 (cond s) 0 k))
        (fun k => x1 (ix5 1 2 (cond s) 0 k)) (fun k f => x3 (ix3 1 k f)) (fun k f => x4 (ix3 1 k f)) (fun f k => x5 (ix3 1 f k)) d := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst, val_main_cst_0, val_main_cst_1, val_main_cst_2, val_main_cst_3,
    val_main_call0_v5, val_main_call0_v4, val_main_call0_v3, val_main_call0_v2, val_main_call0_v1, val_main_call0_v0, val_main_call0_cst, val_main_call0_cst_0]
  simp only [shift, scale, gate]
  unfold halfFfn normRow Ideal.logistic
  simp only [mul_assoc]

end Cert.ReferenceIdeal.Ffn
-- ==== Proof.Ffn.Pre.lean ====
/- The precondition of the value claim of the half feed-forward layer, read: the tokens, the conditioning vectors, the norm
   weights and the gate projections are finite. -/
module

public import proofs.«01_k».proof.Pre_finite
public import proofs.«01_k».proof.Proof.Finite

@[expose] public section

set_option maxRecDepth 16384

noncomputable section

namespace Cert.Pre_finite

open Idealize.ShloMosaic Cert.Layer

/-- The shapes of the precondition's program fit together. -/
theorem facts : Facts := by
  constructor <;> decide

instance : Facts := facts

/-- The precondition says of four arguments that every entry is finite. -/
theorem finite_of_fn (x : FVec Ideal S6144x1024 .f32) (mods : FVec Ideal S4x9x3x1x1024 .f32) (nw : FVec Ideal S4x1024 .f32)
    (wg wu : FVec Ideal S4x1024x2816 .f32) (wd : FVec Ideal S4x2816x1024 .f32)
    (h : fn (F := Ideal) x mods nw wg wu wd = fun _ => 1#1) :
    (∀ s d, IsReal (x (ix2 s d))) ∧ (∀ i, IsReal (mods i)) ∧ (∀ l d, IsReal (nw (ix2 l d)))
      ∧ (∀ l d f, IsReal (wg (ix3 l d f))) := by
  have h0 := congrFun h (ix1 0)
  have h1 := congrFun h (ix1 1)
  have h2 := congrFun h (ix1 2)
  have h3 := congrFun h (ix1 3)
  unfold fn fn_part1 at h0 h1 h2 h3
  dsimp only at h0 h1 h2 h3
  pointwise at h0
  pointwise at h1
  pointwise at h2
  pointwise at h3
  replace h0 := all_of_fold_univ _ h0
  replace h1 := all_of_fold _ _ h1
  replace h2 := all_of_fold_univ _ h2
  replace h3 := all_of_fold_univ _ h3
  refine ⟨fun s d => ?_, fun i => ?_, fun l d => ?_, fun l d f => ?_⟩
  · exact isReal_of_test _ (h0 (s, d))
  · exact isReal_of_test _ (h1 i (Finset.mem_filter.2 ⟨Finset.mem_univ _, funext fun a => a.elim0⟩))
  · exact isReal_of_test _ (h2 (l, d))
  · exact isReal_of_test _ (h3 (l, d, f))

end Cert.Pre_finite

end
-- ==== Proof.Tile.Places.lean ====
/- Where the blocks of the half feed-forward calls lie in their arrays: an entry of a block at place `off` of an array, block by
   block, is the array's entry named here. The tokens come in 6 tiles of 1024 rows, each met at 6 grid points, and each grid
   point has two of the 11 blocks of 256 inner columns. -/
module

public import proofs.«01_k».proof.Proof.Ffn.Row

@[expose] public section

noncomputable section

namespace Cert.Layer

open Idealize.ShloMosaic

/-- The shapes of the arrays and of their blocks. -/
abbrev Mods : Shape := ⟨5, ![4, 9, 3, 1, 1024]⟩
abbrev Mods1 : Shape := ⟨5, ![1, 1, 1, 1, 1024]⟩
abbrev In : Shape := ⟨3, ![4, 1024, 2816]⟩
abbrev In1 : Shape := ⟨3, ![1, 1024, 256]⟩
abbrev Down : Shape := ⟨3, ![4, 2816, 1024]⟩
abbrev Down1 : Shape := ⟨3, ![1, 256, 1024]⟩
abbrev Mat (n : ℕ) : Shape := ⟨2, ![n, 1024]⟩
abbrev Rows (n w : ℕ) : Shape := ⟨2, ![n, w]⟩

/-- Row `r` of the tile met at point `t`, the tile's conditioning vector, and the point's two blocks of inner columns. -/
abbrev tok (t : ℕ) (ht : t < 36) (r : Fin 1024) : Fin 6144 := ⟨1024 * (t / 6) + r.val, by omega⟩
abbrev condT (t : ℕ) (ht : t < 36) : Fin 3 := ⟨t / 6 - 3, by omega⟩
abbrev evenB (t : ℕ) : Fin 11 := ⟨min (2 * (t % 6)) 10, by omega⟩
abbrev oddB (t : ℕ) : Fin 11 := ⟨min (2 * (t % 6) + 1) 10, by omega⟩

/-- The conditioning vector of token `s`: the context's 4096 tokens share number 0, each latent request's 1024 have their own. -/
abbrev condOf (s : Fin 6144) : Fin 3 := ⟨s.val / 1024 - 3, by omega⟩

theorem condOf_eq (s : Fin 6144) (n : Fin 3) (h : s.val / 1024 - 3 = n.val) : condOf s = n := Fin.ext h

theorem condOf_tok (t : ℕ) (ht : t < 36) (r : Fin 1024) : condOf (tok t ht r) = condT t ht := by
  apply Fin.ext
  show (1024 * (t / 6) + r.val) / 1024 - 3 = t / 6 - 3
  omega

/-- A block of one conditioning vector. -/
theorem place_mods (l : Fin 4) (w : Fin 9) (b : Fin 3) (off : Fin 5 → ℕ)
    (h : off 0 = l.val ∧ off 1 = w.val ∧ off 2 = b.val ∧ off 3 = 0 ∧ off 4 = 0) (e : Mods.Idx) (d : Fin 1024)
    (he : ∀ a, (e a).val = off a * Mods1.size a + 1 * ((ix5 0 0 0 0 d : Mods1.Idx) a).val) : e = (ix5 l w b 0 d : Mods.Idx) := by
  obtain ⟨h0, h1, h2, h3, h4⟩ := h
  funext a
  apply Fin.ext
  rw [he a]
  match a with
  | ⟨0, _⟩ => show off 0 * 1 + 1 * 0 = l.val; rw [h0]; omega
  | ⟨1, _⟩ => show off 1 * 1 + 1 * 0 = w.val; rw [h1]; omega
  | ⟨2, _⟩ => show off 2 * 1 + 1 * 0 = b.val; rw [h2]; omega
  | ⟨3, _⟩ => show off 3 * 1 + 1 * 0 = 0; rw [h3]
  | ⟨4, _⟩ => show off 4 * 1024 + 1 * d.val = d.val; rw [h4]; omega

/-- A block of 256 columns of a gate or up weight. -/
theorem place_in (l : Fin 4) (b : Fin 11) (off : Fin 3 → ℕ) (h : off 0 = l.val ∧ off 1 = 0 ∧ off 2 = b.val) (e : In.Idx)
    (k : Fin 1024) (x : Fin 256) (he : ∀ a, (e a).val = off a * In1.size a + 1 * ((ix3 0 k x : In1.Idx) a).val) :
    e = (ix3 l k (col b x) : In.Idx) := by
  obtain ⟨h0, h1, h2⟩ := h
  funext a
  apply Fin.ext
  rw [he a]
  match a with
  | ⟨0, _⟩ => show off 0 * 1 + 1 * 0 = l.val; rw [h0]; omega
  | ⟨1, _⟩ => show off 1 * 1024 + 1 * k.val = k.val; rw [h1]; omega
  | ⟨2, _⟩ => show off 2 * 256 + 1 * x.val = 256 * b.val + x.val; rw [h2]; omega

/-- A block of 256 rows of a down weight. -/
theorem place_down (l : Fin 4) (b : Fin 11) (off : Fin 3 → ℕ) (h : off 0 = l.val ∧ off 1 = b.val ∧ off 2 = 0) (e : Down.Idx)
    (x : Fin 256) (d : Fin 1024) (he : ∀ a, (e a).val = off a * Down1.size a + 1 * ((ix3 0 x d : Down1.Idx) a).val) :
    e = (ix3 l (col b x) d : Down.Idx) := by
  obtain ⟨h0, h1, h2⟩ := h
  funext a
  apply Fin.ext
  rw [he a]
  match a with
  | ⟨0, _⟩ => show off 0 * 1 + 1 * 0 = l.val; rw [h0]; omega
  | ⟨1, _⟩ => show off 1 * 256 + 1 * x.val = 256 * b.val + x.val; rw [h1]; omega
  | ⟨2, _⟩ => show off 2 * 1024 + 1 * d.val = d.val; rw [h2]; omega

/-- A whole matrix or vector of a stack. -/
theorem place_layer {n p q : ℕ} (l : Fin n) (off : Fin 3 → ℕ) (h : off 0 = l.val ∧ off 1 = 0 ∧ off 2 = 0) (e : (⟨3, ![n, p, q]⟩ : Shape).Idx)
    (k : Fin p) (d : Fin q)
    (he : ∀ a, (e a).val = off a * (⟨3, ![1, p, q]⟩ : Shape).size a + 1 * ((ix3 0 k d : (⟨3, ![1, p, q]⟩ : Shape).Idx) a).val) :
    e = (ix3 l k d : (⟨3, ![n, p, q]⟩ : Shape).Idx) := by
  obtain ⟨h0, h1, h2⟩ := h
  funext a
  apply Fin.ext
  rw [he a]
  match a with
  | ⟨0, _⟩ => show off 0 * 1 + 1 * 0 = l.val; rw [h0]; omega
  | ⟨1, _⟩ => show off 1 * p + 1 * k.val = k.val; rw [h1]; omega
  | ⟨2, _⟩ => show off 2 * q + 1 * d.val = d.val; rw [h2]; omega

/-- A tile of `p` rows of an array of `n` rows. -/
theorem place_rows {n p w : ℕ} (i : ℕ) (off : Fin 2 → ℕ) (h : off 0 = i ∧ off 1 = 0) (e : (Rows n w).Idx)
    (r : Fin p) (d : Fin w) (he : ∀ a, (e a).val = off a * (Rows p w).size a + 1 * ((ix2 r d : (Rows p w).Idx) a).val) (hi : p * i + r.val < n) :
    e = (ix2 ⟨p * i + r.val, hi⟩ d : (Rows n w).Idx) := by
  obtain ⟨h0, h1⟩ := h
  funext a
  apply Fin.ext
  rw [he a]
  match a with
  | ⟨0, _⟩ => show off 0 * p + 1 * r.val = p * i + r.val; rw [h0, mul_comm]; omega
  | ⟨1, _⟩ => show off 1 * w + 1 * d.val = d.val; rw [h1]; omega

end Cert.Layer

end
-- ==== Proof.Tile.Blocks.lean ====
/- How the half feed-forward layer of a tile of 1024 tokens is gathered over the tile's six grid points: the rows and the
   normalised rows stay, the inner sum grows by two blocks of columns a point, and the last block completes it. -/
module

public import proofs.«01_k».proof.Proof.Tile.Places

@[expose] public section

noncomputable section

namespace Cert.Layer

open Idealize.ShloMosaic

/-- A tile of rows, laid out as the grid points hold it. -/
abbrev TileV : Type := (Mat 1024).Idx → EReal

/-- What block `b` of the inner columns adds to entry `d` of a row, and what the first `n` blocks add. -/
def blockAt (h : Fin 1024 → EReal) (wg wu : Fin 1024 → Fin 2816 → EReal) (wd : Fin 2816 → Fin 1024 → EReal) (d : Fin 1024) (b : ℕ) : EReal :=
  blockSum h wg wu wd d ⟨min b 10, by omega⟩
def firstBlocks (h : Fin 1024 → EReal) (wg wu : Fin 1024 → Fin 2816 → EReal) (wd : Fin 2816 → Fin 1024 → EReal) (d : Fin 1024) (n : ℕ) : EReal :=
  ∑ b ∈ Finset.range n, blockAt h wg wu wd d b

variable (h : Fin 1024 → EReal) (wg wu : Fin 1024 → Fin 2816 → EReal) (wd : Fin 2816 → Fin 1024 → EReal) (d : Fin 1024)

theorem firstBlocks_two : firstBlocks h wg wu wd d 2 = blockAt h wg wu wd d 0 + blockAt h wg wu wd d 1 := by
  unfold firstBlocks
  rw [Finset.sum_range_succ, Finset.sum_range_one]

theorem firstBlocks_add (n : ℕ) : firstBlocks h wg wu wd d (n + 2)
    = firstBlocks h wg wu wd d n + (blockAt h wg wu wd d n + blockAt h wg wu wd d (n + 1)) := by
  unfold firstBlocks
  rw [Finset.sum_range_succ, Finset.sum_range_succ, add_assoc]

/-- All eleven blocks together are the sum over the inner width. -/
theorem firstBlocks_all : firstBlocks h wg wu wd d 10 + blockAt h wg wu wd d 10 = innerSum h wg wu wd d := by
  unfold firstBlocks
  rw [← Finset.sum_range_succ, Finset.sum_range, ← innerSum_eq]
  refine Finset.sum_congr rfl fun b _ => ?_
  unfold blockAt
  congr 1
  apply Fin.ext
  show min b.val 10 = b.val
  omega

/-- The rows of point `t`'s tile, of a function of the token. -/
abbrev tileOf (f : Fin 6144 → Fin 1024 → EReal) (t : ℕ) (ht : t < 36) : TileV := fun i => f (tok t ht (i 0)) (i 1)

theorem tok_pred (t : ℕ) (ht : t < 36) (h0 : ¬t % 6 = 0) (r : Fin 1024) : tok (t - 1) (by omega) r = tok t ht r :=
  Fin.ext (by
    show 1024 * ((t - 1) / 6) + r.val = 1024 * (t / 6) + r.val
    rw [show (t - 1) / 6 = t / 6 by omega])

theorem tileOf_pred (f : Fin 6144 → Fin 1024 → EReal) (t : ℕ) (ht : t < 36) (h0 : ¬t % 6 = 0) :
    tileOf f (t - 1) (by omega) = tileOf f t ht :=
  funext fun i => congrArg (fun s => f s (i 1)) (tok_pred t ht h0 (i 0))

/-- What the carried tiles hold up to the fifth point of a tile: `S` the normalised rows, `X` the rows, `A` the blocks of the
    inner sum met so far, if the first point of a tile leaves that and each later one carries it on. -/
theorem gathered {N : ℕ} (hN : N = 36) (S A X : (t : ℕ) → t < N → TileV) (hr xr : Fin 6144 → Fin 1024 → EReal)
    (first : ∀ t (ht : t < N), t % 6 = 0 → S t ht = tileOf hr t (hN ▸ ht) ∧ X t ht = tileOf xr t (hN ▸ ht)
      ∧ ∀ r d, A t ht (ix2 r d) = firstBlocks (hr (tok t (hN ▸ ht) r)) wg wu wd d 2)
    (later : ∀ t (ht : t < N), ¬t % 6 = 0 → t % 6 ≤ 4 → S t ht = S (t - 1) (by omega) ∧ X t ht = X (t - 1) (by omega)
      ∧ (S (t - 1) (by omega) = tileOf hr t (hN ▸ ht) → ∀ r d, A t ht (ix2 r d) = A (t - 1) (by omega) (ix2 r d)
          + (blockAt (hr (tok t (hN ▸ ht) r)) wg wu wd d (2 * (t % 6)) + blockAt (hr (tok t (hN ▸ ht) r)) wg wu wd d (2 * (t % 6) + 1)))) :
    ∀ t (ht : t < N), t % 6 ≤ 4 → S t ht = tileOf hr t (hN ▸ ht) ∧ X t ht = tileOf xr t (hN ▸ ht)
      ∧ ∀ r d, A t ht (ix2 r d) = firstBlocks (hr (tok t (hN ▸ ht) r)) wg wu wd d (2 * (t % 6) + 2) := by
  subst hN
  intro t
  induction t with
  | zero => intro ht _; exact first 0 ht rfl
  | succ t ih =>
    intro ht h4
    by_cases h0 : (t + 1) % 6 = 0
    · obtain ⟨a, b, c⟩ := first (t + 1) ht h0
      exact ⟨a, b, fun r d => by rw [c, h0]⟩
    · obtain ⟨iS, iX, iA⟩ := ih (by omega) (by omega)
      obtain ⟨a, b, c⟩ := later (t + 1) ht h0 h4
      have eS := iS.trans (tileOf_pred hr (t + 1) ht h0)
      refine ⟨a.trans eS, b.trans (iX.trans (tileOf_pred xr (t + 1) ht h0)), fun r d => ?_⟩
      rw [c eS r d]
      show A t _ (ix2 r d) + _ = _
      rw [iA, show 2 * (t % 6) + 2 = 2 * ((t + 1) % 6) by omega, firstBlocks_add, show tok t _ r = tok (t + 1) ht r from tok_pred (t + 1) ht h0 r]

end Cert.Layer

end
-- ==== Proof.Even.Blocks.lean ====
/- What the blocks of the second half feed-forward call of layer 0 hold at each grid point. -/
module

public import proofs.«01_k».proof.Proof.Gen.KernelEvenIdeal.Frame
public import proofs.«01_k».proof.Proof.Tile.Blocks

@[expose] public section

noncomputable section

namespace Cert.KernelEvenIdeal.Tile

open Cert.KernelEvenIdeal Cert.KernelEvenIdeal.Gen Cert.Layer Idealize.ShloMosaic Idealize.ShloMosaic.TcCoe Idealize.SL.Sem

theorem at0 : ∀ t : Fin cfg0.N, win0_0.index t 0 = t.val / 6 ∧ win0_0.index t 1 = 0 := by decide +kernel
theorem at1 : ∀ t : Fin cfg0.N, win0_1.index t 0 = t.val / 6 ∧ win0_1.index t 1 = 0 := by decide +kernel
theorem at2 : ∀ t : Fin cfg0.N, win0_2.index t 0 = min (t.val / 6) 3 ∧ win0_2.index t 1 = 0 := by decide +kernel
theorem at3 : ∀ t : Fin cfg0.N, win0_3.index t 0 = t.val / 6 - 4 ∧ win0_3.index t 1 = 0 := by decide +kernel
theorem at4 : ∀ t : Fin cfg0.N, win0_4.index t 0 = 0 ∧ win0_4.index t 1 = 5 ∧ win0_4.index t 2 = t.val / 6 - 3
    ∧ win0_4.index t 3 = 0 ∧ win0_4.index t 4 = 0 := by decide +kernel
theorem at5 : ∀ t : Fin cfg0.N, win0_5.index t 0 = 0 ∧ win0_5.index t 1 = 0 ∧ win0_5.index t 2 = 0 := by decide +kernel
theorem at6 : ∀ t : Fin cfg0.N, win0_6.index t 0 = 0 ∧ win0_6.index t 1 = 0 ∧ win0_6.index t 2 = 0 := by decide +kernel
theorem at7 : ∀ t : Fin cfg0.N, win0_7.index t 0 = 0 ∧ win0_7.index t 1 = 6 ∧ win0_7.index t 2 = t.val / 6 - 3
    ∧ win0_7.index t 3 = 0 ∧ win0_7.index t 4 = 0 := by decide +kernel
theorem at8 : ∀ t : Fin cfg0.N, win0_8.index t 0 = 0 ∧ win0_8.index t 1 = 7 ∧ win0_8.index t 2 = t.val / 6 - 3
    ∧ win0_8.index t 3 = 0 ∧ win0_8.index t 4 = 0 := by decide +kernel
theorem at9 : ∀ t : Fin cfg0.N, win0_9.index t 0 = 0 ∧ win0_9.index t 1 = 8 ∧ win0_9.index t 2 = t.val / 6 - 3
    ∧ win0_9.index t 3 = 0 ∧ win0_9.index t 4 = 0 := by decide +kernel
theorem at10 : ∀ t : Fin cfg0.N, win0_10.index t 0 = 0 ∧ win0_10.index t 1 = 0 ∧ win0_10.index t 2 = (evenB t.val).val := by decide +kernel
theorem at11 : ∀ t : Fin cfg0.N, win0_11.index t 0 = 0 ∧ win0_11.index t 1 = 0 ∧ win0_11.index t 2 = (evenB t.val).val := by decide +kernel
theorem at12 : ∀ t : Fin cfg0.N, win0_12.index t 0 = 0 ∧ win0_12.index t 1 = (evenB t.val).val ∧ win0_12.index t 2 = 0 := by decide +kernel
theorem at13 : ∀ t : Fin cfg0.N, win0_13.index t 0 = 0 ∧ win0_13.index t 1 = 0 ∧ win0_13.index t 2 = (oddB t.val).val := by decide +kernel
theorem at14 : ∀ t : Fin cfg0.N, win0_14.index t 0 = 0 ∧ win0_14.index t 1 = 0 ∧ win0_14.index t 2 = (oddB t.val).val := by decide +kernel
theorem at15 : ∀ t : Fin cfg0.N, win0_15.index t 0 = 0 ∧ win0_15.index t 1 = (oddB t.val).val ∧ win0_15.index t 2 = 0 := by decide +kernel
theorem at16 : ∀ t : Fin cfg0.N, win0_16.index t 0 = t.val / 6 ∧ win0_16.index t 1 = 0 := by decide +kernel

variable (m : (ℓ : Loc nD τ sig) → Buf (Elt Ideal) ℓ) (c : Dev nD) (t : Fin cfg0.N)

theorem lt36 : t.val < 36 := lt_of_lt_of_eq t.isLt N_0

theorem V_main_v0 : V m c main_v0 = shapeCast S4x1x1024 (m (c.tc.loc main_arg6)) shapeCasts_S4x1024_S4x1x1024 := by
  show StableHlo.after hostOps0 _ (Proc.devRef .tc main_v0) = _
  after_results
  rfl

theorem blk0 (r d : Fin 1024) : (iblk m c 0 t : Vec Ideal S1024x1024 .f32) (ix2 r d) = m (c.tc.loc main_arg0) (ix2 (tok t.val (lt36 t) r) d) := by
  unfold iblk
  rw [View.read_apply]
  show V m c main_arg0 _ = _
  rw [V_main_arg0]
  exact congrArg _ (place_rows _ (win0_0.index t) (at0 t) _ r d (fun _ => rfl) _)
theorem blk1 (r : Fin 1024) (d : Fin 256) : (iblk m c 1 t : Vec Ideal S1024x256 .bf16) (ix2 r d) = m (c.tc.loc main_arg1) (ix2 (tok t.val (lt36 t) r) d) := by
  unfold iblk
  rw [View.read_apply]
  show V m c main_arg1 _ = _
  rw [V_main_arg1]
  exact congrArg _ (place_rows _ (win0_1.index t) (at1 t) _ r d (fun _ => rfl) _)
theorem blk2 (h : t.val < 24) (r : Fin 1024) (k : Fin 768) : (iblk m c 2 t : Vec Ideal S1024x768 .bf16) (ix2 r k)
    = m (c.tc.loc main_arg2) (ix2 ⟨(tok t.val (lt36 t) r).val, by show 1024 * (t.val / 6) + r.val < 4096; have := lt36 t; omega⟩ k) := by
  unfold iblk
  rw [View.read_apply]
  show V m c main_arg2 _ = _
  rw [V_main_arg2]
  exact congrArg _ ((place_rows _ (win0_2.index t) (at2 t) _ r k (fun _ => rfl) (by have := lt36 t; omega)).trans
    (congrArg (ix2 · k) (Fin.ext (by show 1024 * min (t.val / 6) 3 + r.val = 1024 * (t.val / 6) + r.val; omega))))
theorem blk3 (h : 24 ≤ t.val) (r : Fin 1024) (k : Fin 768) : (iblk m c 3 t : Vec Ideal S1024x768 .bf16) (ix2 r k)
    = m (c.tc.loc main_arg3) (ix2 ⟨(tok t.val (lt36 t) r).val - 4096, by show 1024 * (t.val / 6) + r.val - 4096 < 2048; have := lt36 t; omega⟩ k) := by
  unfold iblk
  rw [View.read_apply]
  show V m c main_arg3 _ = _
  rw [V_main_arg3]
  exact congrArg _ ((place_rows _ (win0_3.index t) (at3 t) _ r k (fun _ => rfl) (by have := lt36 t; omega)).trans
    (congrArg (ix2 · k) (Fin.ext (by show 1024 * (t.val / 6 - 4) + r.val = 1024 * (t.val / 6) + r.val - 4096; omega))))
theorem blk4 (d : Fin 1024) : (iblk m c 4 t : Vec Ideal S1x1x1x1x1024 .f32) (ix5 0 0 0 0 d) = m (c.tc.loc main_arg4) (ix5 0 5 (condT t.val (lt36 t)) 0 d) := by
  unfold iblk
  rw [View.read_apply]
  show V m c main_arg4 _ = _
  rw [V_main_arg4]
  exact congrArg _ (place_mods 0 5 (condT t.val (lt36 t)) (win0_4.index t) (at4 t) _ d fun _ => rfl)
theorem blk5 (k d : Fin 1024) : (iblk m c 5 t : Vec Ideal S1x1024x1024 .f32) (ix3 0 k d) = m (c.tc.loc main_arg5) (ix3 0 k d) := by
  unfold iblk
  rw [View.read_apply]
  show V m c main_arg5 _ = _
  rw [V_main_arg5]
  exact congrArg _ (place_layer 0 (win0_5.index t) (at5 t) _ k d fun _ => rfl)
theorem blk6 (d : Fin 1024) : (iblk m c 6 t : Vec Ideal S1x1x1024 .f32) (ix3 0 0 d) = m (c.tc.loc main_arg6) (ix2 0 d) := by
  unfold iblk
  rw [View.read_apply]
  show V m c main_v0 _ = _
  rw [V_main_v0]
  refine (congrArg _ (place_layer 0 (win0_6.index t) (at6 t) _ 0 d fun _ => rfl)).trans ?_
  pointwise
theorem blk7 (d : Fin 1024) : (iblk m c 7 t : Vec Ideal S1x1x1x1x1024 .f32) (ix5 0 0 0 0 d) = m (c.tc.loc main_arg4) (ix5 0 6 (condT t.val (lt36 t)) 0 d) := by
  unfold iblk
  rw [View.read_apply]
  show V m c main_arg4 _ = _
  rw [V_main_arg4]
  exact congrArg _ (place_mods 0 6 (condT t.val (lt36 t)) (win0_7.index t) (at7 t) _ d fun _ => rfl)
theorem blk8 (d : Fin 1024) : (iblk m c 8 t : Vec Ideal S1x1x1x1x1024 .f32) (ix5 0 0 0 0 d) = m (c.tc.loc main_arg4) (ix5 0 7 (condT t.val (lt36 t)) 0 d) := by
  unfold iblk
  rw [View.read_apply]
  show V m c main_arg4 _ = _
  rw [V_main_arg4]
  exact congrArg _ (place_mods 0 7 (condT t.val (lt36 t)) (win0_8.index t) (at8 t) _ d fun _ => rfl)
theorem blk9 (d : Fin 1024) : (iblk m c 9 t : Vec Ideal S1x1x1x1x1024 .f32) (ix5 0 0 0 0 d) = m (c.tc.loc main_arg4) (ix5 0 8 (condT t.val (lt36 t)) 0 d) := by
  unfold iblk
  rw [View.read_apply]
  show V m c main_arg4 _ = _
  rw [V_main_arg4]
  exact congrArg _ (place_mods 0 8 (condT t.val (lt36 t)) (win0_9.index t) (at9 t) _ d fun _ => rfl)
theorem blk10 (k : Fin 1024) (x : Fin 256) : (iblk m c 10 t : Vec Ideal S1x1024x256 .f32) (ix3 0 k x) = m (c.tc.loc main_arg7) (ix3 0 k (col (evenB t.val) x)) := by
  unfold iblk
  rw [View.read_apply]
  show V m c main_arg7 _ = _
  rw [V_main_arg7]
  exact congrArg _ (place_in 0 (evenB t.val) (win0_10.index t) (at10 t) _ k x fun _ => rfl)
theorem blk11 (k : Fin 1024) (x : Fin 256) : (iblk m c 11 t : Vec Ideal S1x1024x256 .f32) (ix3 0 k x) = m (c.tc.loc main_arg8) (ix3 0 k (col (evenB t.val) x)) := by
  unfold iblk
  rw [View.read_apply]
  show V m c main_arg8 _ = _
  rw [V_main_arg8]
  exact congrArg _ (place_in 0 (evenB t.val) (win0_11.index t) (at11 t) _ k x fun _ => rfl)
theorem blk12 (x : Fin 256) (d : Fin 1024) : (iblk m c 12 t : Vec Ideal S1x256x1024 .f32) (ix3 0 x d) = m (c.tc.loc main_arg9) (ix3 0 (col (evenB t.val) x) d) := by
  unfold iblk
  rw [View.read_apply]
  show V m c main_arg9 _ = _
  rw [V_main_arg9]
  exact congrArg _ (place_down 0 (evenB t.val) (win0_12.index t) (at12 t) _ x d fun _ => rfl)
theorem blk13 (k : Fin 1024) (x : Fin 256) : (iblk m c 13 t : Vec Ideal S1x1024x256 .f32) (ix3 0 k x) = m (c.tc.loc main_arg7) (ix3 0 k (col (oddB t.val) x)) := by
  unfold iblk
  rw [View.read_apply]
  show V m c main_arg7 _ = _
  rw [V_main_arg7]
  exact congrArg _ (place_in 0 (oddB t.val) (win0_13.index t) (at13 t) _ k x fun _ => rfl)
theorem blk14 (k : Fin 1024) (x : Fin 256) : (iblk m c 14 t : Vec Ideal S1x1024x256 .f32) (ix3 0 k x) = m (c.tc.loc main_arg8) (ix3 0 k (col (oddB t.val) x)) := by
  unfold iblk
  rw [View.read_apply]
  show V m c main_arg8 _ = _
  rw [V_main_arg8]
  exact congrArg _ (place_in 0 (oddB t.val) (win0_14.index t) (at14 t) _ k x fun _ => rfl)
theorem blk15 (x : Fin 256) (d : Fin 1024) : (iblk m c 15 t : Vec Ideal S1x256x1024 .f32) (ix3 0 x d) = m (c.tc.loc main_arg9) (ix3 0 (col (oddB t.val) x) d) := by
  unfold iblk
  rw [View.read_apply]
  show V m c main_arg9 _ = _
  rw [V_main_arg9]
  exact congrArg _ (place_down 0 (oddB t.val) (win0_15.index t) (at15 t) _ x d fun _ => rfl)

end Cert.KernelEvenIdeal.Tile

end
-- ==== Proof.Tile.Mix.lean ====
/- A row with the gated output projection of the mixers added. -/
module

public import proofs.«01_k».proof.Proof.Ffn.Row

@[expose] public section

noncomputable section

namespace Cert.Layer

/-- Row `x` plus `g` times the product of row `y` with the matrix `w`. -/
def mixRow {n : ℕ} (x g : Fin 1024 → EReal) (y : Fin n → EReal) (w : Fin n → Fin 1024 → EReal) (d : Fin 1024) : EReal :=
  x d + g d * ∑ k : Fin n, y k * w k d

theorem isReal_mixRow {n : ℕ} {x g : Fin 1024 → EReal} {y : Fin n → EReal} {w : Fin n → Fin 1024 → EReal} (hx : ∀ d, IsReal (x d))
    (hg : ∀ d, IsReal (g d)) (hy : ∀ k, IsReal (y k)) (hw : ∀ k d, IsReal (w k d)) (d : Fin 1024) : IsReal (mixRow x g y w d) :=
  (hx d).add ((hg d).mul (.sum _ _ fun k _ => (hy k).mul (hw k d)))

/-- Row `s` of two arrays laid one after the other: 4096 context rows, then 2048 latent rows. -/
def pickRow {w : ℕ} (a : Fin 4096 → Fin w → EReal) (b : Fin 2048 → Fin w → EReal) (s : Fin 6144) (k : Fin w) : EReal :=
  if h : s.val < 4096 then a ⟨s.val, h⟩ k else b ⟨s.val - 4096, by omega⟩ k

theorem pickRow_ctx {w : ℕ} (a : Fin 4096 → Fin w → EReal) (b : Fin 2048 → Fin w → EReal) (s : Fin 6144) (k : Fin w) (h : s.val < 4096) :
    pickRow a b s k = a ⟨s.val, h⟩ k := dif_pos h
theorem pickRow_lat {w : ℕ} (a : Fin 4096 → Fin w → EReal) (b : Fin 2048 → Fin w → EReal) (s : Fin 6144) (k : Fin w) (h : ¬s.val < 4096) :
    pickRow a b s k = b ⟨s.val - 4096, by omega⟩ k := dif_neg h

theorem isReal_pickRow {w : ℕ} {a : Fin 4096 → Fin w → EReal} {b : Fin 2048 → Fin w → EReal} (ha : ∀ s k, IsReal (a s k))
    (hb : ∀ s k, IsReal (b s k)) (s : Fin 6144) (k : Fin w) : IsReal (pickRow a b s k) := by
  unfold pickRow
  split_ifs
  · exact ha _ _
  · exact hb _ _

/-- Row `s` of the context, or of the latents with the position table `q` added. -/
def enterRow (a : Fin 4096 → Fin 1024 → EReal) (b : Fin 2048 → Fin 1024 → EReal) (q : Fin 1024 → Fin 1024 → EReal) (s : Fin 6144) (d : Fin 1024) : EReal :=
  if h : s.val < 4096 then a ⟨s.val, h⟩ d else b ⟨s.val - 4096, by omega⟩ d + q ⟨(s.val - 4096) % 1024, by omega⟩ d

theorem enterRow_ctx (a : Fin 4096 → Fin 1024 → EReal) (b : Fin 2048 → Fin 1024 → EReal) (q : Fin 1024 → Fin 1024 → EReal) (s : Fin 6144)
    (d : Fin 1024) (h : s.val < 4096) : enterRow a b q s d = a ⟨s.val, h⟩ d := dif_pos h
theorem enterRow_lat (a : Fin 4096 → Fin 1024 → EReal) (b : Fin 2048 → Fin 1024 → EReal) (q : Fin 1024 → Fin 1024 → EReal) (s : Fin 6144)
    (d : Fin 1024) (h : ¬s.val < 4096) :
    enterRow a b q s d = b ⟨s.val - 4096, by omega⟩ d + q ⟨(s.val - 4096) % 1024, by omega⟩ d := dif_neg h

theorem isReal_enterRow {a : Fin 4096 → Fin 1024 → EReal} {b : Fin 2048 → Fin 1024 → EReal} {q : Fin 1024 → Fin 1024 → EReal}
    (ha : ∀ s d, IsReal (a s d)) (hb : ∀ s d, IsReal (b s d)) (hq : ∀ s d, IsReal (q s d)) (s : Fin 6144) (d : Fin 1024) :
    IsReal (enterRow a b q s d) := by
  unfold enterRow
  split_ifs
  · exact ha _ _
  · exact (hb _ _).add (hq _ _)

/-- Row `x` plus `g` times the product of the joined rows `y` and `z` with the matrix `w`. -/
def mixTwo (x g : Fin 1024 → EReal) (y : Fin 256 → EReal) (z : Fin 768 → EReal) (w : Fin 1024 → Fin 1024 → EReal) (d : Fin 1024) : EReal :=
  x d + g d * ((∑ k : Fin 256, y k * w ⟨k.val, by omega⟩ d) + ∑ k : Fin 768, z k * w ⟨256 + k.val, by omega⟩ d)

theorem isReal_mixTwo {x g : Fin 1024 → EReal} {y : Fin 256 → EReal} {z : Fin 768 → EReal} {w : Fin 1024 → Fin 1024 → EReal}
    (hx : ∀ d, IsReal (x d)) (hg : ∀ d, IsReal (g d)) (hy : ∀ k, IsReal (y k)) (hz : ∀ k, IsReal (z k)) (hw : ∀ k d, IsReal (w k d))
    (d : Fin 1024) : IsReal (mixTwo x g y z w d) :=
  (hx d).add ((hg d).mul ((IsReal.sum _ _ fun k _ => (hy k).mul (hw _ d)).add (IsReal.sum _ _ fun k _ => (hz k).mul (hw _ d))))

/-- A sum over 1024 places as the sum over the first 256 and over the other 768. -/
theorem sum_joined (f : Fin 1024 → EReal) : ∑ k, f k = (∑ k : Fin 256, f ⟨k.val, by omega⟩) + ∑ k : Fin 768, f ⟨256 + k.val, by omega⟩ :=
  Fin.sum_univ_add (a := 256) (b := 768) f

end Cert.Layer

end
-- ==== Proof.Even.Kernel.lean ====
/- The second half feed-forward call of layer 0: each token's row with the gated output projection of the mixers added, then
   the half feed-forward layer of that row. The run ends with this in the output array and its arguments unchanged. -/
module

public import proofs.«01_k».proof.Proof.Even.Blocks
public import proofs.«01_k».proof.Proof.Tile.Mix
public import Idealize.ShloMosaic.Lib.Pipeline.ValueKit

@[expose] public section

set_option maxRecDepth 16384

noncomputable section

namespace Cert.KernelEvenIdeal.Tile

open Cert.KernelEvenIdeal Cert.KernelEvenIdeal.Gen Cert.Layer Idealize.ShloMosaic Idealize.ShloMosaic.TcCoe Idealize.SL.Sem

variable (m : (ℓ : Loc nD τ sig) → Buf (Elt Ideal) ℓ) (c : Dev nD)

/-- Conditioning vector `k` at token `s`, and layer 0's weights. -/
abbrev modRow (k : Fin 9) (s : Fin 6144) : Fin 1024 → EReal := fun d => m (c.tc.loc main_arg4) (ix5 0 k (condOf s) 0 d)
abbrev nW : Fin 1024 → EReal := fun d => m (c.tc.loc main_arg6) (ix2 0 d)
abbrev wGate : Fin 1024 → Fin 2816 → EReal := fun k f => m (c.tc.loc main_arg7) (ix3 0 k f)
abbrev wUp : Fin 1024 → Fin 2816 → EReal := fun k f => m (c.tc.loc main_arg8) (ix3 0 k f)
abbrev wDown : Fin 2816 → Fin 1024 → EReal := fun f d => m (c.tc.loc main_arg9) (ix3 0 f d)
/-- Token `s` with the mixers' output added, and that row normalised and modulated. -/
def xRow (s : Fin 6144) : Fin 1024 → EReal :=
  mixTwo (fun d => m (c.tc.loc main_arg0) (ix2 s d)) (modRow m c 5 s) (fun k => m (c.tc.loc main_arg1) (ix2 s k))
    (pickRow (fun s k => m (c.tc.loc main_arg2) (ix2 s k)) (fun s k => m (c.tc.loc main_arg3) (ix2 s k)) s) fun k d => m (c.tc.loc main_arg5) (ix3 0 k d)
def hRow (s : Fin 6144) : Fin 1024 → EReal := normRow (xRow m c s) (nW m c) (modRow m c 7 s) (modRow m c 6 s)

/-- The kernel's test of whether the tile is of the context. -/
theorem isCtx : ∀ t : Fin cfg0.N, Scalar.cmpi CmpIPredicate.slt (BitVec.ofNat 32 (grid0.coords t 0).val) 4#32 = if t.val < 24 then 1#1 else 0#1 := by
  decide +kernel

/-- The row after the mixers, as the first point of a tile computes it. -/
abbrev mixedTile (t : Fin cfg0.N) : FVec Ideal S1024x1024 .f32 :=
  k0_pay6 (Scalar.cmpi CmpIPredicate.slt (BitVec.ofNat 32 (grid0.coords t 0).val) 4#32) (iblk m c 1 t)
    (View.ld (iblk m c 5 t) (Rect.unit ![0, 0, 0] ![1, 256, 1024] inb_S1x1024x1024_S1x256x1024_0_0_0)) (iblk m c 2 t) (iblk m c 3 t)
    (View.ld (iblk m c 5 t) (Rect.unit ![0, 256, 0] ![1, 768, 1024] inb_S1x1024x1024_S1x768x1024_0_256_0)) (iblk m c 0 t) (iblk m c 4 t)

theorem mixed_at (t : Fin cfg0.N) (r d : Fin 1024) : mixedTile m c t (ix2 r d) = xRow m c (tok t.val (lt36 t) r) d := by
  have e0 : (tok t.val (lt36 t) r).val = 1024 * (t.val / 6) + r.val := rfl
  unfold mixedTile
  rw [isCtx]
  by_cases h : t.val < 24
  · rw [if_pos h]
    pointwise [k0_pay6, Scalar.select]
    rw [if_pos (show (1#1 : BitVec 1) = 1 from rfl)]
    simp only [blk0, blk1, blk2 m c t h, blk4, blk5]
    unfold xRow mixTwo modRow
    rw [condOf_tok]
    simp only [pickRow_ctx _ _ (tok t.val (lt36 t) r) _ (by omega)]
  · rw [if_neg h]
    pointwise [k0_pay6, Scalar.select]
    rw [if_neg (show ¬(0#1 : BitVec 1) = 1 by decide)]
    simp only [blk0, blk1, blk3 m c t (by omega), blk4, blk5]
    unfold xRow mixTwo modRow
    rw [condOf_tok]
    simp only [pickRow_lat _ _ (tok t.val (lt36 t) r) _ (by omega)]

theorem mixed (t : Fin cfg0.N) : mixedTile m c t = tileOf (xRow m c) t.val (lt36 t) :=
  funext fun i => (congrArg _ (eq_ix2 i)).trans (mixed_at m c t (i 0) (i 1))

/-- The normalised rows, as the first point of a tile computes them. -/
theorem normed (t : Fin cfg0.N) (r d : Fin 1024) : k0_pay1 (tileOf (xRow m c) t.val (lt36 t)) (k0_pay7 (iblk m c 6 t)) (iblk m c 8 t)
    (iblk m c 7 t) (ix2 r d) = hRow m c (tok t.val (lt36 t) r) d := by
  pointwise [k0_pay1, k0_pay7]
  simp only [blk6, blk7, blk8]
  unfold hRow normRow modRow nW
  rw [condOf_tok]
  rfl

theorem normed' (t : Fin cfg0.N) : k0_pay1 (tileOf (xRow m c) t.val (lt36 t)) (k0_pay7 (iblk m c 6 t)) (iblk m c 8 t)
    (iblk m c 7 t) = tileOf (hRow m c) t.val (lt36 t) :=
  funext fun i => (congrArg _ (eq_ix2 i)).trans (normed m c t (i 0) (i 1))

/-- Two more blocks of the inner sum. -/
theorem grown (t : Fin cfg0.N) (a : Vec Ideal S1024x1024 .f32) (r d : Fin 1024) :
    k0_pay3 (k0_pay8 (tileOf (hRow m c) t.val (lt36 t)) (iblk m c 10 t) (iblk m c 11 t) (iblk m c 12 t))
      (k0_pay9 (tileOf (hRow m c) t.val (lt36 t)) (iblk m c 13 t) (iblk m c 14 t)) (iblk m c 15 t) a (ix2 r d)
    = a (ix2 r d) + (blockAt (hRow m c (tok t.val (lt36 t) r)) (wGate m c) (wUp m c) (wDown m c) d (2 * (t.val % 6))
        + blockAt (hRow m c (tok t.val (lt36 t) r)) (wGate m c) (wUp m c) (wDown m c) d (2 * (t.val % 6) + 1)) := by
  pointwise [k0_pay3, k0_pay8, k0_pay9]
  simp only [blk10, blk11, blk12, blk13, blk14, blk15]
  rfl

theorem first (t : ℕ) (ht : t < cfg0.N) (h0 : t % 6 = 0) :
    (outsAt0 m c t ht).2.1 = tileOf (hRow m c) t (N_0 ▸ ht) ∧ (outsAt0 m c t ht).2.2.2 = tileOf (xRow m c) t (N_0 ▸ ht)
    ∧ ∀ r d, (outsAt0 m c t ht).2.2.1 (ix2 r d) = firstBlocks (hRow m c (tok t (N_0 ▸ ht) r)) (wGate m c) (wUp m c) (wDown m c) d 2 := by
  have key : ∀ X, X = tileOf (xRow m c) t (N_0 ▸ ht) → k0_pay1 X (k0_pay7 (iblk m c 6 ⟨t, ht⟩)) (iblk m c 8 ⟨t, ht⟩) (iblk m c 7 ⟨t, ht⟩)
        = tileOf (hRow m c) t (N_0 ▸ ht) ∧ X = tileOf (xRow m c) t (N_0 ▸ ht) ∧ ∀ r d, k0_pay3
          (k0_pay8 (k0_pay1 X (k0_pay7 (iblk m c 6 ⟨t, ht⟩)) (iblk m c 8 ⟨t, ht⟩) (iblk m c 7 ⟨t, ht⟩)) (iblk m c 10 ⟨t, ht⟩)
            (iblk m c 11 ⟨t, ht⟩) (iblk m c 12 ⟨t, ht⟩))
          (k0_pay9 (k0_pay1 X (k0_pay7 (iblk m c 6 ⟨t, ht⟩)) (iblk m c 8 ⟨t, ht⟩) (iblk m c 7 ⟨t, ht⟩)) (iblk m c 13 ⟨t, ht⟩)
            (iblk m c 14 ⟨t, ht⟩)) (iblk m c 15 ⟨t, ht⟩) (k0_pay2 (F := Ideal)) (ix2 r d)
          = firstBlocks (hRow m c (tok t (N_0 ▸ ht) r)) (wGate m c) (wUp m c) (wDown m c) d 2 := by
    rintro X rfl
    rw [normed' m c ⟨t, ht⟩]
    refine ⟨rfl, rfl, fun r d => (grown m c ⟨t, ht⟩ _ r d).trans ?_⟩
    rw [firstBlocks_two]
    show k0_pay2 (F := Ideal) (ix2 r d) + (blockAt _ _ _ _ d (2 * (t % 6)) + blockAt _ _ _ _ d (2 * (t % 6) + 1)) = _
    rw [h0]
    pointwise [k0_pay2]
  rw [outsAt0_A m c ⟨t, ht⟩ h0 (by dsimp only; omega) (by dsimp only; omega) (by dsimp only; omega)]
  dsimp only
  frame_out
  exact key _ (mixed m c ⟨t, ht⟩)

theorem later (t : ℕ) (ht : t < cfg0.N) (h0 : ¬t % 6 = 0) (h4 : t % 6 ≤ 4) :
    (outsAt0 m c t ht).2.1 = (outsAt0 m c (t - 1) (by omega)).2.1 ∧ (outsAt0 m c t ht).2.2.2 = (outsAt0 m c (t - 1) (by omega)).2.2.2
    ∧ ((outsAt0 m c (t - 1) (by omega)).2.1 = tileOf (hRow m c) t (N_0 ▸ ht) → ∀ r d, (outsAt0 m c t ht).2.2.1 (ix2 r d)
        = (outsAt0 m c (t - 1) (by omega)).2.2.1 (ix2 r d)
          + (blockAt (hRow m c (tok t (N_0 ▸ ht) r)) (wGate m c) (wUp m c) (wDown m c) d (2 * (t % 6))
            + blockAt (hRow m c (tok t (N_0 ▸ ht) r)) (wGate m c) (wUp m c) (wDown m c) d (2 * (t % 6) + 1))) := by
  rw [outsAt0_B m c ⟨t, ht⟩ h0 h4 (by dsimp only; omega) (by dsimp only; omega)]
  refine ⟨rfl, rfl, fun hs r d => ?_⟩
  dsimp only
  frame_out
  rw [show View.read (Elt Ideal) (View.whole cc0_scratch0) ((Memref.isWhole_whole cc0_scratch0).unread _) = _ from
    (Memref.isWhole_whole cc0_scratch0).read_unread _, show View.read (Elt Ideal) (View.whole cc0_scratch1) ((Memref.isWhole_whole cc0_scratch1).unread _) = _ from
    (Memref.isWhole_whole cc0_scratch1).read_unread _, hs]
  exact grown m c ⟨t, ht⟩ _ r d

/-- The result: each token's row after the call. -/
def result : Buf (Elt Ideal) ((c : Thread nD τ).loc main_v1) := fun i : S6144x1024.Idx =>
  ffnRow (xRow m c (i 0)) (hRow m c (i 0)) (modRow m c 8 (i 0)) (wGate m c) (wUp m c) (wDown m c) (i 1)

theorem result_apply (s : Fin 6144) (d : Fin 1024) : result m c (ix2 s d)
    = ffnRow (xRow m c s) (hRow m c s) (modRow m c 8 s) (wGate m c) (wUp m c) (wDown m c) d := rfl

/-- After the last point of a tile the output block holds the tile's rows of the result. -/
theorem out_last (t : Fin cfg0.N) (h5 : t.val % 6 = 5) (r d : Fin 1024) :
    (outsAt0 m c t.val t.isLt).1 (ix2 r d) = result m c (ix2 (tok t.val (lt36 t) r) d) := by
  obtain ⟨hS, hX, hA⟩ := gathered (wGate m c) (wUp m c) (wDown m c) N_0 (fun n h => (outsAt0 m c n h).2.1) (fun n h => (outsAt0 m c n h).2.2.1)
    (fun n h => (outsAt0 m c n h).2.2.2) (hRow m c) (xRow m c) (first m c) (later m c) (t.val - 1)
    (lt_of_le_of_lt (Nat.sub_le _ _) t.isLt) (by omega)
  have h0 : ¬t.val % 6 = 0 := by omega
  replace hS := hS.trans (tileOf_pred (hRow m c) t.val (lt36 t) h0)
  replace hX := hX.trans (tileOf_pred (xRow m c) t.val (lt36 t) h0)
  rw [outsAt0_C m c t h0 (by omega) h5 h5]
  dsimp only at hS hX hA ⊢
  frame_out
  rw [show View.read (Elt Ideal) (View.whole cc0_scratch0) ((Memref.isWhole_whole cc0_scratch0).unread _) = _ from
    (Memref.isWhole_whole cc0_scratch0).read_unread _, show View.read (Elt Ideal) (View.whole cc0_scratch1) ((Memref.isWhole_whole cc0_scratch1).unread _) = _ from
    (Memref.isWhole_whole cc0_scratch1).read_unread _, show View.read (Elt Ideal) (View.whole cc0_scratch2) ((Memref.isWhole_whole cc0_scratch2).unread _) = _ from
    (Memref.isWhole_whole cc0_scratch2).read_unread _, hS, hX]
  have e10 : evenB t.val = ⟨min 10 10, by omega⟩ := Fin.ext (by show min (2 * (t.val % 6)) 10 = min 10 10; rw [h5])
  pointwise [k0_pay5, k0_pay4]
  simp only [blk9, blk10, blk11, blk12, e10]
  rw [hA, tok_pred t.val (lt36 t) h0, show 2 * ((t.val - 1) % 6) + 2 = 10 by omega, ← condOf_tok t.val (lt36 t) r]
  rw [result_apply]
  unfold ffnRow
  rw [← firstBlocks_all]
  rfl

/-- What the last point of a tile writes back is the tile of the result. -/
theorem flushed (t : Fin cfg0.N) (hf : (cfg0.win 16).flush t = true) :
    (dats m 0 c).flushed 16 t = ((cfg0.win 16).blk t).view.read (Elt Ideal) (result m c) := by
  have h5 : t.val % 6 = 5 := (flush0_16 t).mp hf
  show (cfg0.win 16).cut (grid0.coords t) ((dats m 0 c).after 16 t) = _
  rw [after0_16]
  funext y
  rw [View.read_apply]
  show (outsAt0 m c t.val t.isLt).1 ((cfg0.win 16).xinj (grid0.coords t) y) = _
  have e1 : ((cfg0.win 16).xinj (grid0.coords t) y : S1024x1024.Idx) = ix2 (⟨(y 0).val, (y 0).isLt⟩ : Fin 1024) (⟨(y 1).val, (y 1).isLt⟩ : Fin 1024) := by
    funext a
    match a with
    | ⟨0, _⟩ => rfl
    | ⟨1, _⟩ => rfl
  rw [e1]
  refine (out_last m c t h5 _ _).trans (congrArg _ ?_)
  funext a
  apply Fin.ext
  match a with
  | ⟨0, _⟩ => show 1024 * (t.val / 6) + (y 0).val = win0_16.index t 0 * 1024 + 1 * (y 0).val; rw [(at16 t).1]; omega
  | ⟨1, _⟩ => show (y 1).val = win0_16.index t 1 * 1024 + 1 * (y 1).val; rw [(at16 t).2]; omega

/-- The tiles written back fill the output array. -/
theorem filled : (dats m 0 c).arrAt 16 cfg0.N = result m c :=
  (dats m 0 c).arrAt_eq_of_cover 16 _ (fun t hf => flushed m c t hf) fun i => by
    have h0 : (i 0).val < 6144 := (i 0).isLt
    have h1 : (i 1).val < 1024 := (i 1).isLt
    let t : Fin cfg0.N := ⟨6 * ((i 0).val / 1024) + 5, by rw [show cfg0.N = 36 from N_0]; omega⟩
    refine ⟨t, (flush0_16 t).mpr (by show (6 * ((i 0).val / 1024) + 5) % 6 = 5; omega), ?_⟩
    show i ∈ ((View.whole main_v1).slice (win0_16.rect t)).set
    rw [View.set_slice_whole, Rect.mem_set_unit]
    intro a
    match a with
    | ⟨0, _⟩ =>
      show win0_16.index t 0 * 1024 ≤ (i 0).val ∧ (i 0).val < win0_16.index t 0 * 1024 + 1024
      rw [(at16 t).1]
      show (6 * ((i 0).val / 1024) + 5) / 6 * 1024 ≤ (i 0).val ∧ (i 0).val < (6 * ((i 0).val / 1024) + 5) / 6 * 1024 + 1024
      omega
    | ⟨1, _⟩ =>
      show win0_16.index t 1 * 1024 ≤ (i 1).val ∧ (i 1).val < win0_16.index t 1 * 1024 + 1024
      rw [(at16 t).2]
      omega

/-- The kernel's run ends with `result` in its output array and its arguments as they were. -/
theorem run (ρ : Dev nD → PrngReg) : θ_run defs (onTc (τ := τ) (main (F := Ideal))) ⟨m, fun _ => 0, ρ⟩ fun r => ∀ c : Dev nD,
    r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) := by
  refine (θ_run defs _ _).mono (fun r h c => ?_) (run_main m ρ)
  exact ⟨((h c).1 16).trans (filled m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).1 10).trans (((dats m 0 c).arrAt_in 10 rfl _).trans ((A_eq m c 10).trans (V_main_arg7 m c))),
    ((h c).1 11).trans (((dats m 0 c).arrAt_in 11 rfl _).trans ((A_eq m c 11).trans (V_main_arg8 m c))),
    ((h c).1 12).trans (((dats m 0 c).arrAt_in 12 rfl _).trans ((A_eq m c 12).trans (V_main_arg9 m c)))⟩

end Cert.KernelEvenIdeal.Tile

end
-- ==== Proof.Even.Reference.lean ====
/- What the reference of the second half feed-forward layer of layer 0 computes, row by row. -/
module

public import proofs.«01_k».proof.Proof.Gen.ReferenceEvenIdeal.Read
public import proofs.«01_k».proof.Proof.Tile.Places
public import proofs.«01_k».proof.Proof.Tile.Mix
public import Idealize.ShloMosaic.Lib.Pointwise

@[expose] public section

set_option maxRecDepth 16384

noncomputable section

namespace Cert.ReferenceEvenIdeal.Rows

open Cert.ReferenceEvenIdeal Cert.ReferenceEvenIdeal.Read Cert.Layer Idealize.ShloMosaic

variable (x0 : (⟨S6144x1024, .f32⟩ : BufTy).Contents (Elt Ideal)) (x1 : (⟨S6144x256, .bf16⟩ : BufTy).Contents (Elt Ideal))
  (x2 : (⟨S4096x768, .bf16⟩ : BufTy).Contents (Elt Ideal)) (x3 : (⟨S2048x768, .bf16⟩ : BufTy).Contents (Elt Ideal))
  (x4 : (⟨S4x9x3x1x1024, .f32⟩ : BufTy).Contents (Elt Ideal)) (x5 : (⟨S2x1024x1024, .f32⟩ : BufTy).Contents (Elt Ideal))
  (x6 : (⟨S4x1024, .f32⟩ : BufTy).Contents (Elt Ideal)) (x7 x8 : (⟨S4x1024x2816, .f32⟩ : BufTy).Contents (Elt Ideal))
  (x9 : (⟨S4x2816x1024, .f32⟩ : BufTy).Contents (Elt Ideal))

theorem mixGate (s : Fin 6144) (d : Fin 1024) : val_main_v17 (F := Ideal) x4 (ix2 s d) = x4 (ix5 0 5 (condOf s) 0 d) := by
  pointwise [val_main_v17, val_main_v16, val_main_v15, val_main_v14, val_main_v13, val_main_v12, val_main_v11, val_main_v10, val_main_v9, val_main_v8]
  split_ifs
  · rw [condOf_eq s 0 (by show _ = 0; omega)]
  · rw [condOf_eq s 1 (by show _ = 1; omega)]
  · rw [condOf_eq s 2 (by show _ = 2; omega)]

theorem shift (s : Fin 6144) (d : Fin 1024) : val_main_v29 (F := Ideal) x4 (ix2 s d) = x4 (ix5 0 6 (condOf s) 0 d) := by
  pointwise [val_main_v29, val_main_v28, val_main_v27, val_main_v26, val_main_v25, val_main_v24, val_main_v23, val_main_v22, val_main_v21, val_main_v20]
  split_ifs
  · rw [condOf_eq s 0 (by show _ = 0; omega)]
  · rw [condOf_eq s 1 (by show _ = 1; omega)]
  · rw [condOf_eq s 2 (by show _ = 2; omega)]

theorem scale (s : Fin 6144) (d : Fin 1024) : val_main_v39 (F := Ideal) x4 (ix2 s d) = x4 (ix5 0 7 (condOf s) 0 d) := by
  pointwise [val_main_v39, val_main_v38, val_main_v37, val_main_v36, val_main_v35, val_main_v34, val_main_v33, val_main_v32, val_main_v31, val_main_v30]
  split_ifs
  · rw [condOf_eq s 0 (by show _ = 0; omega)]
  · rw [condOf_eq s 1 (by show _ = 1; omega)]
  · rw [condOf_eq s 2 (by show _ = 2; omega)]

theorem gate (s : Fin 6144) (d : Fin 1024) : val_main_v49 (F := Ideal) x4 (ix2 s d) = x4 (ix5 0 8 (condOf s) 0 d) := by
  pointwise [val_main_v49, val_main_v48, val_main_v47, val_main_v46, val_main_v45, val_main_v44, val_main_v43, val_main_v42, val_main_v41, val_main_v40]
  split_ifs
  · rw [condOf_eq s 0 (by show _ = 0; omega)]
  · rw [condOf_eq s 1 (by show _ = 1; omega)]
  · rw [condOf_eq s 2 (by show _ = 2; omega)]

/-- The rows of the two mixers, joined. -/
theorem left (s : Fin 6144) (k : Fin 256) : val_main_v4 (F := Ideal) x1 x2 x3 (ix2 s ⟨k.val, by omega⟩) = x1 (ix2 s k) := by
  pointwise [val_main_v4, val_main_v3]
theorem right (s : Fin 6144) (k : Fin 768) : val_main_v4 (F := Ideal) x1 x2 x3 (ix2 s ⟨256 + k.val, by omega⟩)
    = pickRow (fun s k => x2 (ix2 s k)) (fun s k => x3 (ix2 s k)) s k := by
  pointwise [val_main_v4, val_main_v2, val_main_v1, val_main_v0]
  unfold pickRow
  split_ifs <;> rfl

/-- A token's row with the mixers' output added. -/
theorem mixed (s : Fin 6144) (d : Fin 1024) : val_main_v19 (F := Ideal) x0 x1 x2 x3 x4 x5 (ix2 s d)
    = mixTwo (fun d => x0 (ix2 s d)) (fun d => x4 (ix5 0 5 (condOf s) 0 d)) (fun k => x1 (ix2 s k))
      (pickRow (fun s k => x2 (ix2 s k)) (fun s k => x3 (ix2 s k)) s) (fun k d => x5 (ix3 0 k d)) d := by
  pointwise [val_main_v19, val_main_v18, val_main_v7, val_main_v6, val_main_v5]
  rw [mixGate, sum_joined]
  simp only [left, right]
  rfl

/-- Entry `(s, d)` of the reference's result. -/
theorem row (s : Fin 6144) (d : Fin 1024) : val_main_v83 (F := Ideal) x0 x1 x2 x3 x4 x5 x6 x7 x8 x9 (ix2 s d)
    = halfFfn (mixTwo (fun d => x0 (ix2 s d)) (fun d => x4 (ix5 0 5 (condOf s) 0 d)) (fun k => x1 (ix2 s k))
      (pickRow (fun s k => x2 (ix2 s k)) (fun s k => x3 (ix2 s k)) s) fun k d => x5 (ix3 0 k d))
        (fun k => x6 (ix2 0 k)) (fun k => x4 (ix5 0 7 (condOf s) 0 k)) (fun k => x4 (ix5 0 6 (condOf s) 0 k))
        (fun k => x4 (ix5 0 8 (condOf s) 0 k)) (fun k f => x7 (ix3 0 k f)) (fun k f => x8 (ix3 0 k f)) (fun f k => x9 (ix3 0 f k)) d := by
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst, val_main_cst_0, val_main_cst_1, val_main_cst_2, val_main_cst_3,
    val_main_call0_v5, val_main_call0_v4, val_main_call0_v3, val_main_call0_v2, val_main_call0_v1, val_main_call0_v0, val_main_call0_cst, val_main_call0_cst_0]
  simp only [shift, scale, gate, mixed]
  unfold halfFfn normRow Ideal.logistic
  simp only [mul_assoc]

end Cert.ReferenceEvenIdeal.Rows

end
-- ==== Proof.Even.Pre.lean ====
/- The precondition of the value claim of layer 0's second half feed-forward layer, read: every argument the rows and the gate
   projections come from is finite. -/
module

public import proofs.«01_k».proof.Proof.Gen.Pre_finite_even
public import proofs.«01_k».proof.Proof.Finite

@[expose] public section

set_option maxRecDepth 16384

noncomputable section

namespace Cert.Pre_finite_even

open Idealize.ShloMosaic Cert.Layer

attribute [local instance] Gen.facts

theorem finite_of_fn (x : FVec Ideal S6144x1024 .f32) (ya : FVec Ideal S6144x256 .bf16) (yc : FVec Ideal S4096x768 .bf16)
    (yl : FVec Ideal S2048x768 .bf16) (mods : FVec Ideal S4x9x3x1x1024 .f32) (wo : FVec Ideal S2x1024x1024 .f32) (nw : FVec Ideal S4x1024 .f32)
    (wg wu : FVec Ideal S4x1024x2816 .f32) (wd : FVec Ideal S4x2816x1024 .f32)
    (h : fn (F := Ideal) x ya yc yl mods wo nw wg wu wd = fun _ => 1#1) :
    (∀ s d, IsReal (x (ix2 s d))) ∧ (∀ s d, IsReal (ya (ix2 s d))) ∧ (∀ s d, IsReal (yc (ix2 s d))) ∧ (∀ s d, IsReal (yl (ix2 s d)))
      ∧ (∀ i, IsReal (mods i)) ∧ (∀ l k d, IsReal (wo (ix3 l k d))) ∧ (∀ l d, IsReal (nw (ix2 l d))) ∧ (∀ l k d, IsReal (wg (ix3 l k d))) := by
  have h0 := congrFun h (ix1 0)
  have h1 := congrFun h (ix1 1)
  have h2 := congrFun h (ix1 2)
  have h3 := congrFun h (ix1 3)
  have h4 := congrFun h (ix1 4)
  have h5 := congrFun h (ix1 5)
  have h6 := congrFun h (ix1 6)
  have h7 := congrFun h (ix1 7)
  unfold fn fn_part1 fn_part2 at h0 h1 h2 h3 h4 h5 h6 h7
  dsimp only at h0 h1 h2 h3 h4 h5 h6 h7
  pointwise at h0
  pointwise at h1
  pointwise at h2
  pointwise at h3
  pointwise at h4
  pointwise at h5
  pointwise at h6
  pointwise at h7
  replace h0 := all_of_fold_univ _ h0
  replace h1 := all_of_fold_univ _ h1
  replace h2 := all_of_fold_univ _ h2
  replace h3 := all_of_fold_univ _ h3
  replace h4 := all_of_fold _ _ h4
  replace h5 := all_of_fold_univ _ h5
  replace h6 := all_of_fold_univ _ h6
  replace h7 := all_of_fold_univ _ h7
  refine ⟨fun s d => ?_, fun s d => ?_, fun s d => ?_, fun s d => ?_, fun i => ?_, fun l k d => ?_, fun s d => ?_, fun l k d => ?_⟩
  · exact isReal_of_test _ (h0 (s, d))
  · exact isReal_of_test _ (h1 (s, d))
  · exact isReal_of_test _ (h2 (s, d))
  · exact isReal_of_test _ (h3 (s, d))
  · exact isReal_of_test _ (h4 i (Finset.mem_filter.2 ⟨Finset.mem_univ _, funext fun a => a.elim0⟩))
  · exact isReal_of_test _ (h5 (l, k, d))
  · exact isReal_of_test _ (h6 (s, d))
  · exact isReal_of_test _ (h7 (l, k, d))

end Cert.Pre_finite_even

end
-- ==== Proof.Odd.Blocks.lean ====
/- What the blocks of the second half feed-forward call of layer 1 hold at each grid point. -/
module

public import proofs.«01_k».proof.Proof.Gen.KernelOddIdeal.Frame
public import proofs.«01_k».proof.Proof.Tile.Blocks

@[expose] public section

noncomputable section

namespace Cert.KernelOddIdeal.Tile

open Cert.KernelOddIdeal Cert.KernelOddIdeal.Gen Cert.Layer Idealize.ShloMosaic Idealize.ShloMosaic.TcCoe Idealize.SL.Sem

theorem at0 : ∀ t : Fin cfg0.N, win0_0.index t 0 = t.val / 6 ∧ win0_0.index t 1 = 0 := by decide +kernel
theorem at1 : ∀ t : Fin cfg0.N, win0_1.index t 0 = t.val / 6 ∧ win0_1.index t 1 = 0 := by decide +kernel
theorem at2 : ∀ t : Fin cfg0.N, win0_2.index t 0 = 1 ∧ win0_2.index t 1 = 5 ∧ win0_2.index t 2 = t.val / 6 - 3
    ∧ win0_2.index t 3 = 0 ∧ win0_2.index t 4 = 0 := by decide +kernel
theorem at3 : ∀ t : Fin cfg0.N, win0_3.index t 0 = 0 ∧ win0_3.index t 1 = 0 ∧ win0_3.index t 2 = 0 := by decide +kernel
theorem at4 : ∀ t : Fin cfg0.N, win0_4.index t 0 = 1 ∧ win0_4.index t 1 = 0 ∧ win0_4.index t 2 = 0 := by decide +kernel
theorem at5 : ∀ t : Fin cfg0.N, win0_5.index t 0 = 1 ∧ win0_5.index t 1 = 6 ∧ win0_5.index t 2 = t.val / 6 - 3
    ∧ win0_5.index t 3 = 0 ∧ win0_5.index t 4 = 0 := by decide +kernel
theorem at6 : ∀ t : Fin cfg0.N, win0_6.index t 0 = 1 ∧ win0_6.index t 1 = 7 ∧ win0_6.index t 2 = t.val / 6 - 3
    ∧ win0_6.index t 3 = 0 ∧ win0_6.index t 4 = 0 := by decide +kernel
theorem at7 : ∀ t : Fin cfg0.N, win0_7.index t 0 = 1 ∧ win0_7.index t 1 = 8 ∧ win0_7.index t 2 = t.val / 6 - 3
    ∧ win0_7.index t 3 = 0 ∧ win0_7.index t 4 = 0 := by decide +kernel
theorem at8 : ∀ t : Fin cfg0.N, win0_8.index t 0 = 1 ∧ win0_8.index t 1 = 0 ∧ win0_8.index t 2 = (evenB t.val).val := by decide +kernel
theorem at9 : ∀ t : Fin cfg0.N, win0_9.index t 0 = 1 ∧ win0_9.index t 1 = 0 ∧ win0_9.index t 2 = (evenB t.val).val := by decide +kernel
theorem at10 : ∀ t : Fin cfg0.N, win0_10.index t 0 = 1 ∧ win0_10.index t 1 = (evenB t.val).val ∧ win0_10.index t 2 = 0 := by decide +kernel
theorem at11 : ∀ t : Fin cfg0.N, win0_11.index t 0 = 1 ∧ win0_11.index t 1 = 0 ∧ win0_11.index t 2 = (oddB t.val).val := by decide +kernel
theorem at12 : ∀ t : Fin cfg0.N, win0_12.index t 0 = 1 ∧ win0_12.index t 1 = 0 ∧ win0_12.index t 2 = (oddB t.val).val := by decide +kernel
theorem at13 : ∀ t : Fin cfg0.N, win0_13.index t 0 = 1 ∧ win0_13.index t 1 = (oddB t.val).val ∧ win0_13.index t 2 = 0 := by decide +kernel
theorem at14 : ∀ t : Fin cfg0.N, win0_14.index t 0 = t.val / 6 ∧ win0_14.index t 1 = 0 := by decide +kernel

variable (m : (ℓ : Loc nD τ sig) → Buf (Elt Ideal) ℓ) (c : Dev nD) (t : Fin cfg0.N)

theorem lt36 : t.val < 36 := lt_of_lt_of_eq t.isLt N_0

theorem V_main_v0 : V m c main_v0 = shapeCast S4x1x1024 (m (c.tc.loc main_arg4)) shapeCasts_S4x1024_S4x1x1024 := by
  show StableHlo.after hostOps0 _ (Proc.devRef .tc main_v0) = _
  after_results
  rfl

theorem blk0 (r d : Fin 1024) : (iblk m c 0 t : Vec Ideal S1024x1024 .f32) (ix2 r d) = m (c.tc.loc main_arg0) (ix2 (tok t.val (lt36 t) r) d) := by
  unfold iblk
  rw [View.read_apply]
  show V m c main_arg0 _ = _
  rw [V_main_arg0]
  exact congrArg _ (place_rows _ (win0_0.index t) (at0 t) _ r d (fun _ => rfl) _)
theorem blk1 (r d : Fin 1024) : (iblk m c 1 t : Vec Ideal S1024x1024 .bf16) (ix2 r d) = m (c.tc.loc main_arg1) (ix2 (tok t.val (lt36 t) r) d) := by
  unfold iblk
  rw [View.read_apply]
  show V m c main_arg1 _ = _
  rw [V_main_arg1]
  exact congrArg _ (place_rows _ (win0_1.index t) (at1 t) _ r d (fun _ => rfl) _)
theorem blk2 (d : Fin 1024) : (iblk m c 2 t : Vec Ideal S1x1x1x1x1024 .f32) (ix5 0 0 0 0 d) = m (c.tc.loc main_arg2) (ix5 1 5 (condT t.val (lt36 t)) 0 d) := by
  unfold iblk
  rw [View.read_apply]
  show V m c main_arg2 _ = _
  rw [V_main_arg2]
  exact congrArg _ (place_mods 1 5 (condT t.val (lt36 t)) (win0_2.index t) (at2 t) _ d fun _ => rfl)
theorem blk3 (k d : Fin 1024) : (iblk m c 3 t : Vec Ideal S1x1024x1024 .f32) (ix3 0 k d) = m (c.tc.loc main_arg3) (ix3 0 k d) := by
  unfold iblk
  rw [View.read_apply]
  show V m c main_arg3 _ = _
  rw [V_main_arg3]
  exact congrArg _ (place_layer 0 (win0_3.index t) (at3 t) _ k d fun _ => rfl)
theorem blk4 (d : Fin 1024) : (iblk m c 4 t : Vec Ideal S1x1x1024 .f32) (ix3 0 0 d) = m (c.tc.loc main_arg4) (ix2 1 d) := by
  unfold iblk
  rw [View.read_apply]
  show V m c main_v0 _ = _
  rw [V_main_v0]
  refine (congrArg _ (place_layer 1 (win0_4.index t) (at4 t) _ 0 d fun _ => rfl)).trans ?_
  pointwise
theorem blk5 (d : Fin 1024) : (iblk m c 5 t : Vec Ideal S1x1x1x1x1024 .f32) (ix5 0 0 0 0 d) = m (c.tc.loc main_arg2) (ix5 1 6 (condT t.val (lt36 t)) 0 d) := by
  unfold iblk
  rw [View.read_apply]
  show V m c main_arg2 _ = _
  rw [V_main_arg2]
  exact congrArg _ (place_mods 1 6 (condT t.val (lt36 t)) (win0_5.index t) (at5 t) _ d fun _ => rfl)
theorem blk6 (d : Fin 1024) : (iblk m c 6 t : Vec Ideal S1x1x1x1x1024 .f32) (ix5 0 0 0 0 d) = m (c.tc.loc main_arg2) (ix5 1 7 (condT t.val (lt36 t)) 0 d) := by
  unfold iblk
  rw [View.read_apply]
  show V m c main_arg2 _ = _
  rw [V_main_arg2]
  exact congrArg _ (place_mods 1 7 (condT t.val (lt36 t)) (win0_6.index t) (at6 t) _ d fun _ => rfl)
theorem blk7 (d : Fin 1024) : (iblk m c 7 t : Vec Ideal S1x1x1x1x1024 .f32) (ix5 0 0 0 0 d) = m (c.tc.loc main_arg2) (ix5 1 8 (condT t.val (lt36 t)) 0 d) := by
  unfold iblk
  rw [View.read_apply]
  show V m c main_arg2 _ = _
  rw [V_main_arg2]
  exact congrArg _ (place_mods 1 8 (condT t.val (lt36 t)) (win0_7.index t) (at7 t) _ d fun _ => rfl)
theorem blk8 (k : Fin 1024) (x : Fin 256) : (iblk m c 8 t : Vec Ideal S1x1024x256 .f32) (ix3 0 k x) = m (c.tc.loc main_arg5) (ix3 1 k (col (evenB t.val) x)) := by
  unfold iblk
  rw [View.read_apply]
  show V m c main_arg5 _ = _
  rw [V_main_arg5]
  exact congrArg _ (place_in 1 (evenB t.val) (win0_8.index t) (at8 t) _ k x fun _ => rfl)
theorem blk9 (k : Fin 1024) (x : Fin 256) : (iblk m c 9 t : Vec Ideal S1x1024x256 .f32) (ix3 0 k x) = m (c.tc.loc main_arg6) (ix3 1 k (col (evenB t.val) x)) := by
  unfold iblk
  rw [View.read_apply]
  show V m c main_arg6 _ = _
  rw [V_main_arg6]
  exact congrArg _ (place_in 1 (evenB t.val) (win0_9.index t) (at9 t) _ k x fun _ => rfl)
theorem blk10 (x : Fin 256) (d : Fin 1024) : (iblk m c 10 t : Vec Ideal S1x256x1024 .f32) (ix3 0 x d) = m (c.tc.loc main_arg7) (ix3 1 (col (evenB t.val) x) d) := by
  unfold iblk
  rw [View.read_apply]
  show V m c main_arg7 _ = _
  rw [V_main_arg7]
  exact congrArg _ (place_down 1 (evenB t.val) (win0_10.index t) (at10 t) _ x d fun _ => rfl)
theorem blk11 (k : Fin 1024) (x : Fin 256) : (iblk m c 11 t : Vec Ideal S1x1024x256 .f32) (ix3 0 k x) = m (c.tc.loc main_arg5) (ix3 1 k (col (oddB t.val) x)) := by
  unfold iblk
  rw [View.read_apply]
  show V m c main_arg5 _ = _
  rw [V_main_arg5]
  exact congrArg _ (place_in 1 (oddB t.val) (win0_11.index t) (at11 t) _ k x fun _ => rfl)
theorem blk12 (k : Fin 1024) (x : Fin 256) : (iblk m c 12 t : Vec Ideal S1x1024x256 .f32) (ix3 0 k x) = m (c.tc.loc main_arg6) (ix3 1 k (col (oddB t.val) x)) := by
  unfold iblk
  rw [View.read_apply]
  show V m c main_arg6 _ = _
  rw [V_main_arg6]
  exact congrArg _ (place_in 1 (oddB t.val) (win0_12.index t) (at12 t) _ k x fun _ => rfl)
theorem blk13 (x : Fin 256) (d : Fin 1024) : (iblk m c 13 t : Vec Ideal S1x256x1024 .f32) (ix3 0 x d) = m (c.tc.loc main_arg7) (ix3 1 (col (oddB t.val) x) d) := by
  unfold iblk
  rw [View.read_apply]
  show V m c main_arg7 _ = _
  rw [V_main_arg7]
  exact congrArg _ (place_down 1 (oddB t.val) (win0_13.index t) (at13 t) _ x d fun _ => rfl)

end Cert.KernelOddIdeal.Tile

end
-- ==== Proof.Odd.Kernel.lean ====
/- The second half feed-forward call of layer 1: each token's row with the gated output projection of the mixers added, then
   the half feed-forward layer of that row. The run ends with this in the output array and its arguments unchanged. -/
module

public import proofs.«01_k».proof.Proof.Odd.Blocks
public import proofs.«01_k».proof.Proof.Tile.Mix
public import Idealize.ShloMosaic.Lib.Pipeline.ValueKit

@[expose] public section

set_option maxRecDepth 16384

noncomputable section

namespace Cert.KernelOddIdeal.Tile

open Cert.KernelOddIdeal Cert.KernelOddIdeal.Gen Cert.Layer Idealize.ShloMosaic Idealize.ShloMosaic.TcCoe Idealize.SL.Sem

variable (m : (ℓ : Loc nD τ sig) → Buf (Elt Ideal) ℓ) (c : Dev nD)

/-- Conditioning vector `k` at token `s`, and layer 1's weights. -/
abbrev modRow (k : Fin 9) (s : Fin 6144) : Fin 1024 → EReal := fun d => m (c.tc.loc main_arg2) (ix5 1 k (condOf s) 0 d)
abbrev nW : Fin 1024 → EReal := fun d => m (c.tc.loc main_arg4) (ix2 1 d)
abbrev wGate : Fin 1024 → Fin 2816 → EReal := fun k f => m (c.tc.loc main_arg5) (ix3 1 k f)
abbrev wUp : Fin 1024 → Fin 2816 → EReal := fun k f => m (c.tc.loc main_arg6) (ix3 1 k f)
abbrev wDown : Fin 2816 → Fin 1024 → EReal := fun f d => m (c.tc.loc main_arg7) (ix3 1 f d)
/-- Token `s` with the mixers' output added, and that row normalised and modulated. -/
def xRow (s : Fin 6144) : Fin 1024 → EReal :=
  mixRow (fun d => m (c.tc.loc main_arg0) (ix2 s d)) (modRow m c 5 s) (fun k : Fin 1024 => m (c.tc.loc main_arg1) (ix2 s k))
    fun k d => m (c.tc.loc main_arg3) (ix3 0 k d)
def hRow (s : Fin 6144) : Fin 1024 → EReal := normRow (xRow m c s) (nW m c) (modRow m c 7 s) (modRow m c 6 s)

/-- The row after the mixers, as the first point of a tile computes it. -/
theorem mixed_at (t : Fin cfg0.N) (r d : Fin 1024) :
    k0_pay6 (iblk m c 1 t) (iblk m c 3 t) (iblk m c 0 t) (iblk m c 2 t) (ix2 r d) = xRow m c (tok t.val (lt36 t) r) d := by
  pointwise [k0_pay6]
  simp only [blk0, blk1, blk2, blk3]
  unfold xRow mixRow modRow
  rw [condOf_tok]

theorem mixed (t : Fin cfg0.N) : k0_pay6 (iblk m c 1 t) (iblk m c 3 t) (iblk m c 0 t) (iblk m c 2 t) = tileOf (xRow m c) t.val (lt36 t) :=
  funext fun i => (congrArg _ (eq_ix2 i)).trans (mixed_at m c t (i 0) (i 1))

/-- The normalised rows, as the first point of a tile computes them. -/
theorem normed (t : Fin cfg0.N) (r d : Fin 1024) : k0_pay1 (tileOf (xRow m c) t.val (lt36 t)) (k0_pay7 (iblk m c 4 t)) (k0_pay8 (iblk m c 6 t))
    (k0_pay9 (iblk m c 5 t)) (k0_pay10 (tileOf (xRow m c) t.val (lt36 t))) (FloatOps.ofBits FTy.f32 897988541#32) (ix2 r d)
      = hRow m c (tok t.val (lt36 t) r) d := by
  pointwise [k0_pay1, k0_pay7, k0_pay8, k0_pay9, k0_pay10]
  simp only [blk4, blk5, blk6]
  unfold hRow normRow modRow nW
  rw [condOf_tok]
  rfl

theorem normed' (t : Fin cfg0.N) : k0_pay1 (tileOf (xRow m c) t.val (lt36 t)) (k0_pay7 (iblk m c 4 t)) (k0_pay8 (iblk m c 6 t))
    (k0_pay9 (iblk m c 5 t)) (k0_pay10 (tileOf (xRow m c) t.val (lt36 t))) (FloatOps.ofBits FTy.f32 897988541#32)
      = tileOf (hRow m c) t.val (lt36 t) :=
  funext fun i => (congrArg _ (eq_ix2 i)).trans (normed m c t (i 0) (i 1))

/-- Two more blocks of the inner sum. -/
theorem grown (t : Fin cfg0.N) (a : Vec Ideal S1024x1024 .f32) (r d : Fin 1024) :
    k0_pay3 (k0_pay11 (tileOf (hRow m c) t.val (lt36 t)) (iblk m c 8 t) (iblk m c 9 t) (iblk m c 10 t))
      (k0_pay12 (tileOf (hRow m c) t.val (lt36 t)) (iblk m c 11 t) (iblk m c 12 t)) (iblk m c 13 t) a (ix2 r d)
    = a (ix2 r d) + (blockAt (hRow m c (tok t.val (lt36 t) r)) (wGate m c) (wUp m c) (wDown m c) d (2 * (t.val % 6))
        + blockAt (hRow m c (tok t.val (lt36 t) r)) (wGate m c) (wUp m c) (wDown m c) d (2 * (t.val % 6) + 1)) := by
  pointwise [k0_pay3, k0_pay11, k0_pay12]
  simp only [blk8, blk9, blk10, blk11, blk12, blk13]
  rfl

theorem first (t : ℕ) (ht : t < cfg0.N) (h0 : t % 6 = 0) :
    (outsAt0 m c t ht).2.1 = tileOf (hRow m c) t (N_0 ▸ ht) ∧ (outsAt0 m c t ht).2.2.2 = tileOf (xRow m c) t (N_0 ▸ ht)
    ∧ ∀ r d, (outsAt0 m c t ht).2.2.1 (ix2 r d) = firstBlocks (hRow m c (tok t (N_0 ▸ ht) r)) (wGate m c) (wUp m c) (wDown m c) d 2 := by
  rw [outsAt0_A m c ⟨t, ht⟩ h0 (by dsimp only; omega) (by dsimp only; omega) (by dsimp only; omega)]
  dsimp only
  frame_out
  rw [mixed m c ⟨t, ht⟩, normed' m c ⟨t, ht⟩]
  refine ⟨rfl, rfl, fun r d => (grown m c ⟨t, ht⟩ _ r d).trans ?_⟩
  rw [firstBlocks_two]
  show k0_pay2 (F := Ideal) (ix2 r d) + (blockAt _ _ _ _ d (2 * (t % 6)) + blockAt _ _ _ _ d (2 * (t % 6) + 1)) = _
  rw [h0]
  pointwise [k0_pay2]

theorem later (t : ℕ) (ht : t < cfg0.N) (h0 : ¬t % 6 = 0) (h4 : t % 6 ≤ 4) :
    (outsAt0 m c t ht).2.1 = (outsAt0 m c (t - 1) (by omega)).2.1 ∧ (outsAt0 m c t ht).2.2.2 = (outsAt0 m c (t - 1) (by omega)).2.2.2
    ∧ ((outsAt0 m c (t - 1) (by omega)).2.1 = tileOf (hRow m c) t (N_0 ▸ ht) → ∀ r d, (outsAt0 m c t ht).2.2.1 (ix2 r d)
        = (outsAt0 m c (t - 1) (by omega)).2.2.1 (ix2 r d)
          + (blockAt (hRow m c (tok t (N_0 ▸ ht) r)) (wGate m c) (wUp m c) (wDown m c) d (2 * (t % 6))
            + blockAt (hRow m c (tok t (N_0 ▸ ht) r)) (wGate m c) (wUp m c) (wDown m c) d (2 * (t % 6) + 1))) := by
  rw [outsAt0_B m c ⟨t, ht⟩ h0 h4 (by dsimp only; omega) (by dsimp only; omega)]
  refine ⟨rfl, rfl, fun hs r d => ?_⟩
  dsimp only
  frame_out
  rw [show View.read (Elt Ideal) (View.whole cc0_scratch0) ((Memref.isWhole_whole cc0_scratch0).unread _) = _ from
    (Memref.isWhole_whole cc0_scratch0).read_unread _, show View.read (Elt Ideal) (View.whole cc0_scratch1) ((Memref.isWhole_whole cc0_scratch1).unread _) = _ from
    (Memref.isWhole_whole cc0_scratch1).read_unread _, hs]
  exact grown m c ⟨t, ht⟩ _ r d

/-- The result: each token's row after the call. -/
def result : Buf (Elt Ideal) ((c : Thread nD τ).loc main_v1) := fun i : S6144x1024.Idx =>
  ffnRow (xRow m c (i 0)) (hRow m c (i 0)) (modRow m c 8 (i 0)) (wGate m c) (wUp m c) (wDown m c) (i 1)

theorem result_apply (s : Fin 6144) (d : Fin 1024) : result m c (ix2 s d)
    = ffnRow (xRow m c s) (hRow m c s) (modRow m c 8 s) (wGate m c) (wUp m c) (wDown m c) d := rfl

/-- After the last point of a tile the output block holds the tile's rows of the result. -/
theorem out_last (t : Fin cfg0.N) (h5 : t.val % 6 = 5) (r d : Fin 1024) :
    (outsAt0 m c t.val t.isLt).1 (ix2 r d) = result m c (ix2 (tok t.val (lt36 t) r) d) := by
  obtain ⟨hS, hX, hA⟩ := gathered (wGate m c) (wUp m c) (wDown m c) N_0 (fun n h => (outsAt0 m c n h).2.1) (fun n h => (outsAt0 m c n h).2.2.1)
    (fun n h => (outsAt0 m c n h).2.2.2) (hRow m c) (xRow m c) (first m c) (later m c) (t.val - 1)
    (lt_of_le_of_lt (Nat.sub_le _ _) t.isLt) (by omega)
  have h0 : ¬t.val % 6 = 0 := by omega
  replace hS := hS.trans (tileOf_pred (hRow m c) t.val (lt36 t) h0)
  replace hX := hX.trans (tileOf_pred (xRow m c) t.val (lt36 t) h0)
  rw [outsAt0_C m c t h0 (by omega) h5 h5]
  dsimp only at hS hX hA ⊢
  frame_out
  rw [show View.read (Elt Ideal) (View.whole cc0_scratch0) ((Memref.isWhole_whole cc0_scratch0).unread _) = _ from
    (Memref.isWhole_whole cc0_scratch0).read_unread _, show View.read (Elt Ideal) (View.whole cc0_scratch1) ((Memref.isWhole_whole cc0_scratch1).unread _) = _ from
    (Memref.isWhole_whole cc0_scratch1).read_unread _, show View.read (Elt Ideal) (View.whole cc0_scratch2) ((Memref.isWhole_whole cc0_scratch2).unread _) = _ from
    (Memref.isWhole_whole cc0_scratch2).read_unread _, hS, hX]
  have e10 : evenB t.val = ⟨min 10 10, by omega⟩ := Fin.ext (by show min (2 * (t.val % 6)) 10 = min 10 10; rw [h5])
  pointwise [k0_pay5, k0_pay4]
  simp only [blk7, blk8, blk9, blk10, e10]
  rw [hA, tok_pred t.val (lt36 t) h0, show 2 * ((t.val - 1) % 6) + 2 = 10 by omega, ← condOf_tok t.val (lt36 t) r]
  rw [result_apply]
  unfold ffnRow
  rw [← firstBlocks_all]
  rfl

/-- What the last point of a tile writes back is the tile of the result. -/
theorem flushed (t : Fin cfg0.N) (hf : (cfg0.win 14).flush t = true) :
    (dats m 0 c).flushed 14 t = ((cfg0.win 14).blk t).view.read (Elt Ideal) (result m c) := by
  have h5 : t.val % 6 = 5 := (flush0_14 t).mp hf
  show (cfg0.win 14).cut (grid0.coords t) ((dats m 0 c).after 14 t) = _
  rw [after0_14]
  funext y
  rw [View.read_apply]
  show (outsAt0 m c t.val t.isLt).1 ((cfg0.win 14).xinj (grid0.coords t) y) = _
  have e1 : ((cfg0.win 14).xinj (grid0.coords t) y : S1024x1024.Idx) = ix2 (⟨(y 0).val, (y 0).isLt⟩ : Fin 1024) (⟨(y 1).val, (y 1).isLt⟩ : Fin 1024) := by
    funext a
    match a with
    | ⟨0, _⟩ => rfl
    | ⟨1, _⟩ => rfl
  rw [e1]
  refine (out_last m c t h5 _ _).trans (congrArg _ ?_)
  funext a
  apply Fin.ext
  match a with
  | ⟨0, _⟩ => show 1024 * (t.val / 6) + (y 0).val = win0_14.index t 0 * 1024 + 1 * (y 0).val; rw [(at14 t).1]; omega
  | ⟨1, _⟩ => show (y 1).val = win0_14.index t 1 * 1024 + 1 * (y 1).val; rw [(at14 t).2]; omega

/-- The tiles written back fill the output array. -/
theorem filled : (dats m 0 c).arrAt 14 cfg0.N = result m c :=
  (dats m 0 c).arrAt_eq_of_cover 14 _ (fun t hf => flushed m c t hf) fun i => by
    have h0 : (i 0).val < 6144 := (i 0).isLt
    have h1 : (i 1).val < 1024 := (i 1).isLt
    let t : Fin cfg0.N := ⟨6 * ((i 0).val / 1024) + 5, by rw [show cfg0.N = 36 from N_0]; omega⟩
    refine ⟨t, (flush0_14 t).mpr (by show (6 * ((i 0).val / 1024) + 5) % 6 = 5; omega), ?_⟩
    show i ∈ ((View.whole main_v1).slice (win0_14.rect t)).set
    rw [View.set_slice_whole, Rect.mem_set_unit]
    intro a
    match a with
    | ⟨0, _⟩ =>
      show win0_14.index t 0 * 1024 ≤ (i 0).val ∧ (i 0).val < win0_14.index t 0 * 1024 + 1024
      rw [(at14 t).1]
      show (6 * ((i 0).val / 1024) + 5) / 6 * 1024 ≤ (i 0).val ∧ (i 0).val < (6 * ((i 0).val / 1024) + 5) / 6 * 1024 + 1024
      omega
    | ⟨1, _⟩ =>
      show win0_14.index t 1 * 1024 ≤ (i 1).val ∧ (i 1).val < win0_14.index t 1 * 1024 + 1024
      rw [(at14 t).2]
      omega

/-- The kernel's run ends with `result` in its output array and its arguments as they were. -/
theorem run (ρ : Dev nD → PrngReg) : θ_run defs (onTc (τ := τ) (main (F := Ideal))) ⟨m, fun _ => 0, ρ⟩ fun r => ∀ c : Dev nD,
    r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine (θ_run defs _ _).mono (fun r h c => ?_) (run_main m ρ)
  exact ⟨((h c).1 14).trans (filled m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).1 8).trans (((dats m 0 c).arrAt_in 8 rfl _).trans ((A_eq m c 8).trans (V_main_arg5 m c))),
    ((h c).1 9).trans (((dats m 0 c).arrAt_in 9 rfl _).trans ((A_eq m c 9).trans (V_main_arg6 m c))),
    ((h c).1 10).trans (((dats m 0 c).arrAt_in 10 rfl _).trans ((A_eq m c 10).trans (V_main_arg7 m c)))⟩

end Cert.KernelOddIdeal.Tile

end
-- ==== Proof.Odd.Reference.lean ====
/- What the reference of the second half feed-forward layer of layer 1 computes, row by row. -/
module

public import proofs.«01_k».proof.Proof.Gen.ReferenceOddIdeal.Read
public import proofs.«01_k».proof.Proof.Tile.Places
public import proofs.«01_k».proof.Proof.Tile.Mix
public import Idealize.ShloMosaic.Lib.Pointwise

@[expose] public section

set_option maxRecDepth 16384

noncomputable section

namespace Cert.ReferenceOddIdeal.Rows

open Cert.ReferenceOddIdeal Cert.ReferenceOddIdeal.Read Cert.Layer Idealize.ShloMosaic

variable (x0 : (⟨S6144x1024, .f32⟩ : BufTy).Contents (Elt Ideal)) (x1 : (⟨S6144x1024, .bf16⟩ : BufTy).Contents (Elt Ideal))
  (x2 : (⟨S4x9x3x1x1024, .f32⟩ : BufTy).Contents (Elt Ideal)) (x3 : (⟨S2x1024x1024, .f32⟩ : BufTy).Contents (Elt Ideal))
  (x4 : (⟨S4x1024, .f32⟩ : BufTy).Contents (Elt Ideal)) (x5 x6 : (⟨S4x1024x2816, .f32⟩ : BufTy).Contents (Elt Ideal))
  (x7 : (⟨S4x2816x1024, .f32⟩ : BufTy).Contents (Elt Ideal))

theorem mixGate (s : Fin 6144) (d : Fin 1024) : val_main_v9 (F := Ideal) x2 (ix2 s d) = x2 (ix5 1 5 (condOf s) 0 d) := by
  pointwise [val_main_v9, val_main_v8, val_main_v7, val_main_v6, val_main_v5, val_main_v4, val_main_v3, val_main_v2, val_main_v1, val_main_v0]
  split_ifs
  · rw [condOf_eq s 0 (by show _ = 0; omega)]
  · rw [condOf_eq s 1 (by show _ = 1; omega)]
  · rw [condOf_eq s 2 (by show _ = 2; omega)]

theorem shift (s : Fin 6144) (d : Fin 1024) : val_main_v25 (F := Ideal) x2 (ix2 s d) = x2 (ix5 1 6 (condOf s) 0 d) := by
  pointwise [val_main_v25, val_main_v24, val_main_v23, val_main_v22, val_main_v21, val_main_v20, val_main_v19, val_main_v18, val_main_v17, val_main_v16]
  split_ifs
  · rw [condOf_eq s 0 (by show _ = 0; omega)]
  · rw [condOf_eq s 1 (by show _ = 1; omega)]
  · rw [condOf_eq s 2 (by show _ = 2; omega)]

theorem scale (s : Fin 6144) (d : Fin 1024) : val_main_v35 (F := Ideal) x2 (ix2 s d) = x2 (ix5 1 7 (condOf s) 0 d) := by
  pointwise [val_main_v35, val_main_v34, val_main_v33, val_main_v32, val_main_v31, val_main_v30, val_main_v29, val_main_v28, val_main_v27, val_main_v26]
  split_ifs
  · rw [condOf_eq s 0 (by show _ = 0; omega)]
  · rw [condOf_eq s 1 (by show _ = 1; omega)]
  · rw [condOf_eq s 2 (by show _ = 2; omega)]

theorem gate (s : Fin 6144) (d : Fin 1024) : val_main_v45 (F := Ideal) x2 (ix2 s d) = x2 (ix5 1 8 (condOf s) 0 d) := by
  pointwise [val_main_v45, val_main_v44, val_main_v43, val_main_v42, val_main_v41, val_main_v40, val_main_v39, val_main_v38, val_main_v37, val_main_v36]
  split_ifs
  · rw [condOf_eq s 0 (by show _ = 0; omega)]
  · rw [condOf_eq s 1 (by show _ = 1; omega)]
  · rw [condOf_eq s 2 (by show _ = 2; omega)]

/-- A token's row with the mixers' output added. -/
theorem mixed (s : Fin 6144) (d : Fin 1024) : val_main_v15 (F := Ideal) x0 x1 x2 x3 (ix2 s d)
    = mixRow (fun d => x0 (ix2 s d)) (fun d => x2 (ix5 1 5 (condOf s) 0 d)) (fun k : Fin 1024 => x1 (ix2 s k)) (fun k d => x3 (ix3 0 k d)) d := by
  pointwise [val_main_v15, val_main_v14, val_main_v13, val_main_v12, val_main_v11, val_main_v10]
  simp only [mixGate]
  rfl

/-- Entry `(s, d)` of the reference's result. -/
theorem row (s : Fin 6144) (d : Fin 1024) : val_main_v79 (F := Ideal) x0 x1 x2 x3 x4 x5 x6 x7 (ix2 s d)
    = halfFfn (mixRow (fun d => x0 (ix2 s d)) (fun d => x2 (ix5 1 5 (condOf s) 0 d)) (fun k : Fin 1024 => x1 (ix2 s k)) fun k d => x3 (ix3 0 k d))
        (fun k => x4 (ix2 1 k)) (fun k => x2 (ix5 1 7 (condOf s) 0 k)) (fun k => x2 (ix5 1 6 (condOf s) 0 k))
        (fun k => x2 (ix5 1 8 (condOf s) 0 k)) (fun k f => x5 (ix3 1 k f)) (fun k f => x6 (ix3 1 k f)) (fun f k => x7 (ix3 1 f k)) d := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst, val_main_cst_0, val_main_cst_1, val_main_cst_2, val_main_cst_3,
    val_main_call0_v5, val_main_call0_v4, val_main_call0_v3, val_main_call0_v2, val_main_call0_v1, val_main_call0_v0, val_main_call0_cst, val_main_call0_cst_0]
  simp only [shift, scale, gate, mixed]
  unfold halfFfn normRow Ideal.logistic
  simp only [mul_assoc]

end Cert.ReferenceOddIdeal.Rows

end
-- ==== Proof.Odd.Pre.lean ====
/- The precondition of the value claim of layer 1's second half feed-forward layer, read: every argument the rows and the gate
   projections come from is finite. -/
module

public import proofs.«01_k».proof.Proof.Gen.Pre_finite_odd
public import proofs.«01_k».proof.Proof.Finite

@[expose] public section

set_option maxRecDepth 16384

noncomputable section

namespace Cert.Pre_finite_odd

open Idealize.ShloMosaic Cert.Layer

attribute [local instance] Gen.facts

theorem finite_of_fn (x : FVec Ideal S6144x1024 .f32) (y : FVec Ideal S6144x1024 .bf16) (mods : FVec Ideal S4x9x3x1x1024 .f32)
    (wo : FVec Ideal S2x1024x1024 .f32) (nw : FVec Ideal S4x1024 .f32) (wg wu : FVec Ideal S4x1024x2816 .f32) (wd : FVec Ideal S4x2816x1024 .f32)
    (h : fn (F := Ideal) x y mods wo nw wg wu wd = fun _ => 1#1) :
    (∀ s d, IsReal (x (ix2 s d))) ∧ (∀ s d, IsReal (y (ix2 s d))) ∧ (∀ i, IsReal (mods i)) ∧ (∀ l k d, IsReal (wo (ix3 l k d)))
      ∧ (∀ l d, IsReal (nw (ix2 l d))) ∧ (∀ l d f, IsReal (wg (ix3 l d f))) := by
  have h0 := congrFun h (ix1 0)
  have h1 := congrFun h (ix1 1)
  have h2 := congrFun h (ix1 2)
  have h3 := congrFun h (ix1 3)
  have h4 := congrFun h (ix1 4)
  have h5 := congrFun h (ix1 5)
  unfold fn fn_part1 at h0 h1 h2 h3 h4 h5
  dsimp only at h0 h1 h2 h3 h4 h5
  pointwise at h0
  pointwise at h1
  pointwise at h2
  pointwise at h3
  pointwise at h4
  pointwise at h5
  replace h0 := all_of_fold_univ _ h0
  replace h1 := all_of_fold_univ _ h1
  replace h2 := all_of_fold _ _ h2
  replace h3 := all_of_fold_univ _ h3
  replace h4 := all_of_fold_univ _ h4
  replace h5 := all_of_fold_univ _ h5
  refine ⟨fun s d => ?_, fun s d => ?_, fun i => ?_, fun l k d => ?_, fun l d => ?_, fun l d f => ?_⟩
  · exact isReal_of_test _ (h0 (s, d))
  · exact isReal_of_test _ (h1 (s, d))
  · exact isReal_of_test _ (h2 i (Finset.mem_filter.2 ⟨Finset.mem_univ _, funext fun a => a.elim0⟩))
  · exact isReal_of_test _ (h3 (l, k, d))
  · exact isReal_of_test _ (h4 (l, d))
  · exact isReal_of_test _ (h5 (l, d, f))

end Cert.Pre_finite_odd

end
-- ==== Proof.Final.Runs.lean ====
/- The kernel body of the final call, run once per case of its two `if`s.

   The body reads and writes whole buffers only.  So each run is stated by contents: the inputs go in and come out as
   they were, a buffer the body stores into comes out at the value stored, and a buffer it does not touch is not
   mentioned.  The cases: the first block of a tile, a middle block, and the last block with the tile going to the first
   or to the second output. -/
module

public import proofs.«01_k».proof.Proof.Gen.KernelFinalIdeal.Frame
public import proofs.«01_k».proof.Proof.Gen.KernelFinalIdeal.Skeleton
public import Idealize.ShloMosaic.Lib.Pipeline.FrameBody
public import Idealize.ShloMosaic.Lib.Pipeline.TableIdle
public import Idealize.ShloMosaic.Lib.Pipeline.ValueKit
public import Idealize.ShloMosaic.Lib.Tactic
public import Idealize.ShloMosaic.Lib.WordCmp

@[expose] public section

set_option maxRecDepth 16384

noncomputable section

namespace Cert.KernelFinalIdeal.Tile

open Cert.KernelFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body is at the first block of its tile. -/
abbrev first (i : grid0.Coords) : Prop :=
  (Scalar.cmpi .ne (Scalar.extui (Scalar.cmpi .eq (BitVec.ofNat 32 (i 1).val) 0#32)) 0#32) = 1#1

/-- The block of inner columns that the body adds, on the carried accumulator. -/
abbrev grow (h : Vec F S1024x1024 .bf16) (g u : Vec F S1x1024x256 .f32) (d : Vec F S1x256x1024 .f32)
    (acc : Vec F S1024x1024 .f32) : Vec F S1024x1024 .f32 := k0_pay9 h g u d acc

/-- The normalised, scaled and shifted rows that the first block of a tile stores. -/
abbrev normed (x : Vec F S1024x1024 .f32) (n : Vec F S1x1x1024 .f32) (sh sc : Vec F S1x1x1x1x1024 .f32) :
    Vec F S1024x1024 .bf16 :=
  k0_pay7 x (k0_pay3 n) (k0_pay4 sc) (k0_pay5 sh) (k0_pay6 x) (Scalar.ofBits .f32 0x358637BD#32)

/-- What a buffer reads after a store of the whole of it, whatever was stored before: the value stored. -/
theorem read_top {sp : Space} {s : Shape} {e : EltTy} (v : View sig .tc sp s e) (f : v.ty.Contents (Elt F))
    {off : Fin s.rank → ℕ} (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  funext y
  have h := View.read_writes_cons_emb v f (Rect.unit off s.size inb) w L y
  rwa [show (Rect.unit off s.size inb).emb y = y from funext fun a => Fin.ext (by
    show off a + 1 * (y a).val = (y a).val
    have := inb a; omega)] at h

variable (c : Dev nD) (i : grid0.Coords)
  (arg2 : Memref sig .tc .vmem S1024x1024 .f32) (harg2 : arg2.IsWhole)
  (arg3 : Memref sig .tc .vmem S1024x1024 .bf16) (harg3 : arg3.IsWhole)
  (arg4 : Memref sig .tc .vmem S1x1x1x1x1024 .f32) (harg4 : arg4.IsWhole)
  (arg5 : Memref sig .tc .vmem S1x1024x1024 .f32) (harg5 : arg5.IsWhole)
  (arg6 : Memref sig .tc .vmem S1x1x1024 .f32) (harg6 : arg6.IsWhole)
  (arg7 : Memref sig .tc .vmem S1x1x1x1x1024 .f32) (harg7 : arg7.IsWhole)
  (arg8 : Memref sig .tc .vmem S1x1x1x1x1024 .f32) (harg8 : arg8.IsWhole)
  (arg9 : Memref sig .tc .vmem S1x1x1x1x1024 .f32) (harg9 : arg9.IsWhole)
  (arg10 : Memref sig .tc .vmem S1x1024x256 .f32) (harg10 : arg10.IsWhole)
  (arg11 : Memref sig .tc .vmem S1x1024x256 .f32) (harg11 : arg11.IsWhole)
  (arg12 : Memref sig .tc .vmem S1x256x1024 .f32) (harg12 : arg12.IsWhole)
  (arg13 : Memref sig .tc .vmem S1x1024 .f32) (harg13 : arg13.IsWhole)
  (arg14 : Memref sig .tc .vmem S1024x1024 .f32) (harg14 : arg14.IsWhole)
  (arg15 : Memref sig .tc .vmem S1024x1024 .f32) (harg15 : arg15.IsWhole)
  (arg16 : Memref sig .tc .vmem S1024x1024 .bf16) (harg16 : arg16.IsWhole)
  (arg17 : Memref sig .tc .vmem S1024x1024 .f32) (harg17 : arg17.IsWhole)
  (arg18 : Memref sig .tc .vmem S1024x1024 .f32) (harg18 : arg18.IsWhole)
variable
  (x0 : Vec F S1024x1024 .f32)
  (x1 : Vec F S1024x1024 .bf16)
  (x2 : Vec F S1x1x1x1x1024 .f32)
  (x3 : Vec F S1x1024x1024 .f32)
  (x4 : Vec F S1x1x1024 .f32)
  (x5 : Vec F S1x1x1x1x1024 .f32)
  (x6 : Vec F S1x1x1x1x1024 .f32)
  (x7 : Vec F S1x1x1x1x1024 .f32)
  (x8 : Vec F S1x1024x256 .f32)
  (x9 : Vec F S1x1024x256 .f32)
  (x10 : Vec F S1x256x1024 .f32)
  (x11 : Vec F S1x1024 .f32)

/-- The twelve input buffers at their contents. -/
abbrev Ins : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare x7
    ∗ owns (c : Thread nD τ) arg10 fullShare x8
    ∗ owns (c : Thread nD τ) arg11 fullShare x9
    ∗ owns (c : Thread nD τ) arg12 fullShare x10
    ∗ owns (c : Thread nD τ) arg13 fullShare x11)

set_option maxHeartbeats 1200000 in
/-- The first block of a tile: the three carried buffers are set and the first block is added. -/
theorem run_first (h0 : first i) (h2 : ¬k0_cond2 i = 1#1)
    (E : Set ℕ) (K : PUnit → sProp 𝕄) :
    iprop(Ins c arg2 arg3 arg4 arg5 arg6 arg7 arg8 arg9 arg10 arg11 arg12 arg13 x0 x1 x2 x3 x4 x5 x6 x7 x8 x9 x10 x11
        ∗ (∃ d, owns (c : Thread nD τ) arg16 fullShare d)
        ∗ (∃ d, owns (c : Thread nD τ) arg17 fullShare d)
        ∗ (∃ d, owns (c : Thread nD τ) arg18 fullShare d)
        ∗ (iprop(Ins c arg2 arg3 arg4 arg5 arg6 arg7 arg8 arg9 arg10 arg11 arg12 arg13 x0 x1 x2 x3 x4 x5 x6 x7 x8 x9 x10 x11
            ∗ owns (c : Thread nD τ) arg16 fullShare (normed (k0_pay2 x1 x3 x0 x2) x4 x5 x6)
            ∗ owns (c : Thread nD τ) arg17 fullShare (grow (normed (k0_pay2 x1 x3 x0 x2) x4 x5 x6) x8 x9 x10 k0_pay8)
            ∗ owns (c : Thread nD τ) arg18 fullShare (k0_pay2 x1 x3 x0 x2)
          ) -∗ K ⟨⟩))
      ⊢ wp frame (wpE (defs₀ (F := F)) Variants.none c none) E
        (cc0_ffn2_3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_3_eq_skeleton]; unfold cc0_ffn2_3_skel
  simp only [k0_part2_eq_skeleton, k0_part1_eq_skeleton]
  simp only [Ins, owns_eq_rep]
  iintro ⟨⟨H0, H1, H2, H3, H4, H5, H6, H7, H8, H9, H10, H11⟩, ⟨%d0, S0⟩, ⟨%d1, S1⟩, ⟨%d2, S2⟩, Hk⟩
  sl_exec (disch := first | sl_exact h0 | sl_exact h2)
  sl_step
  iapply Hk
  isplitl [H0 H1 H2 H3 H4 H5 H6 H7 H8 H9 H10 H11]
  · iframe H0 H1 H2 H3 H4 H5 H6 H7 H8 H9 H10 H11
  isplitl [S0]
  · rw [← owns_eq_rep (Val := Elt F) (c : Thread nD τ) arg16 fullShare (normed (k0_pay2 x1 x3 x0 x2) x4 x5 x6)]
    unfold owns
    iexists _
    isplitr
    swap
    · iexact S0
    ipureintro
    frame_out
    simp only [View.read_rep]
    exact read_top (s := S1024x1024) _ _ _ _ _
  isplitl [S1]
  · rw [← owns_eq_rep (Val := Elt F) (c : Thread nD τ) arg17 fullShare (grow (normed (k0_pay2 x1 x3 x0 x2) x4 x5 x6) x8 x9 x10 k0_pay8)]
    unfold owns
    iexists _
    isplitr
    swap
    · iexact S1
    ipureintro
    frame_out
    simp only [View.read_rep]
    exact read_top (s := S1024x1024) _ _ _ _ _
  rw [← owns_eq_rep (Val := Elt F) (c : Thread nD τ) arg18 fullShare (k0_pay2 x1 x3 x0 x2)]
  unfold owns
  iexists _
  isplitr
  swap
  · iexact S2
  ipureintro
  frame_out
  simp only [View.read_rep]
  exact read_top (s := S1024x1024) _ _ _ _ _

set_option maxHeartbeats 1200000 in
/-- A middle block: only the accumulator grows. -/
theorem run_middle (xh : Vec F S1024x1024 .bf16) (xa xr : Vec F S1024x1024 .f32) (h0 : ¬first i) (h2 : ¬k0_cond2 i = 1#1)
    (E : Set ℕ) (K : PUnit → sProp 𝕄) :
    iprop(Ins c arg2 arg3 arg4 arg5 arg6 arg7 arg8 arg9 arg10 arg11 arg12 arg13 x0 x1 x2 x3 x4 x5 x6 x7 x8 x9 x10 x11
        ∗ owns (c : Thread nD τ) arg16 fullShare xh
        ∗ owns (c : Thread nD τ) arg17 fullShare xa
        ∗ (iprop(Ins c arg2 arg3 arg4 arg5 arg6 arg7 arg8 arg9 arg10 arg11 arg12 arg13 x0 x1 x2 x3 x4 x5 x6 x7 x8 x9 x10 x11
            ∗ owns (c : Thread nD τ) arg16 fullShare xh
            ∗ owns (c : Thread nD τ) arg17 fullShare (grow xh x8 x9 x10 xa)
          ) -∗ K ⟨⟩))
      ⊢ wp frame (wpE (defs₀ (F := F)) Variants.none c none) E
        (cc0_ffn2_3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_3_eq_skeleton]; unfold cc0_ffn2_3_skel
  simp only [k0_part2_eq_skeleton]
  simp only [Ins, owns_eq_rep]
  iintro ⟨⟨H0, H1, H2, H3, H4, H5, H6, H7, H8, H9, H10, H11⟩, S0, S1, Hk⟩
  sl_exec (disch := first | sl_exact h0 | sl_exact h2)
  sl_step
  iapply Hk
  isplitl [H0 H1 H2 H3 H4 H5 H6 H7 H8 H9 H10 H11]
  · iframe H0 H1 H2 H3 H4 H5 H6 H7 H8 H9 H10 H11
  isplitl [S0]
  · iexact S0
  rw [← owns_eq_rep (Val := Elt F) (c : Thread nD τ) arg17 fullShare (grow xh x8 x9 x10 xa)]
  unfold owns
  iexists _
  isplitr
  swap
  · iexact S1
  ipureintro
  frame_out
  simp only [View.read_rep]
  exact read_top (s := S1024x1024) _ _ _ _ _

set_option maxHeartbeats 1200000 in
/-- The last block of a tile of context tokens: the accumulator grows and the finished rows go to the first output. -/
theorem run_last_context (xh : Vec F S1024x1024 .bf16) (xa xr : Vec F S1024x1024 .f32) (h0 : ¬first i) (h2 : k0_cond2 i = 1#1) (h3 : k0_cond3 i = 1#1) (h4 : ¬k0_cond4 i = 1#1)
    (E : Set ℕ) (K : PUnit → sProp 𝕄) :
    iprop(Ins c arg2 arg3 arg4 arg5 arg6 arg7 arg8 arg9 arg10 arg11 arg12 arg13 x0 x1 x2 x3 x4 x5 x6 x7 x8 x9 x10 x11
        ∗ (∃ d, owns (c : Thread nD τ) arg14 fullShare d)
        ∗ owns (c : Thread nD τ) arg16 fullShare xh
        ∗ owns (c : Thread nD τ) arg17 fullShare xa
        ∗ owns (c : Thread nD τ) arg18 fullShare xr
        ∗ (iprop(Ins c arg2 arg3 arg4 arg5 arg6 arg7 arg8 arg9 arg10 arg11 arg12 arg13 x0 x1 x2 x3 x4 x5 x6 x7 x8 x9 x10 x11
            ∗ owns (c : Thread nD τ) arg14 fullShare (k0_pay1 xr x7 (grow xh x8 x9 x10 xa) x11)
            ∗ owns (c : Thread nD τ) arg16 fullShare xh
            ∗ owns (c : Thread nD τ) arg17 fullShare (grow xh x8 x9 x10 xa)
            ∗ owns (c : Thread nD τ) arg18 fullShare xr
          ) -∗ K ⟨⟩))
      ⊢ wp frame (wpE (defs₀ (F := F)) Variants.none c none) E
        (cc0_ffn2_3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_3_eq_skeleton]; unfold cc0_ffn2_3_skel
  simp only [k0_part2_eq_skeleton]
  simp only [Ins, owns_eq_rep]
  iintro ⟨⟨H0, H1, H2, H3, H4, H5, H6, H7, H8, H9, H10, H11⟩, ⟨%d, HO⟩, S0, S1, S2, Hk⟩
  sl_exec (disch := first | sl_exact h0 | sl_exact h2 | sl_exact h3 | sl_exact h4)
  sl_step
  iapply Hk
  isplitl [H0 H1 H2 H3 H4 H5 H6 H7 H8 H9 H10 H11]
  · iframe H0 H1 H2 H3 H4 H5 H6 H7 H8 H9 H10 H11
  isplitl [HO]
  · rw [← owns_eq_rep (Val := Elt F) (c : Thread nD τ) arg14 fullShare (k0_pay1 xr x7 (grow xh x8 x9 x10 xa) x11)]
    unfold owns
    iexists _
    isplitr
    swap
    · iexact HO
    ipureintro
    frame_out
    simp only [View.read_rep]
    exact read_top (s := S1024x1024) _ _ _ _ _
  isplitl [S0]
  · iexact S0
  isplitl [S1]
  · rw [← owns_eq_rep (Val := Elt F) (c : Thread nD τ) arg17 fullShare (grow xh x8 x9 x10 xa)]
    unfold owns
    iexists _
    isplitr
    swap
    · iexact S1
    ipureintro
    frame_out
    simp only [View.read_rep]
    exact read_top (s := S1024x1024) _ _ _ _ _
  iexact S2

set_option maxHeartbeats 1200000 in
/-- The last block of a tile of latent tokens: the accumulator grows and the finished rows go to the second output. -/
theorem run_last_latent (xh : Vec F S1024x1024 .bf16) (xa xr : Vec F S1024x1024 .f32) (h0 : ¬first i) (h2 : k0_cond2 i = 1#1) (h3 : ¬k0_cond3 i = 1#1) (h4 : k0_cond4 i = 1#1)
    (E : Set ℕ) (K : PUnit → sProp 𝕄) :
    iprop(Ins c arg2 arg3 arg4 arg5 arg6 arg7 arg8 arg9 arg10 arg11 arg12 arg13 x0 x1 x2 x3 x4 x5 x6 x7 x8 x9 x10 x11
        ∗ (∃ d, owns (c : Thread nD τ) arg15 fullShare d)
        ∗ owns (c : Thread nD τ) arg16 fullShare xh
        ∗ owns (c : Thread nD τ) arg17 fullShare xa
        ∗ owns (c : Thread nD τ) arg18 fullShare xr
        ∗ (iprop(Ins c arg2 arg3 arg4 arg5 arg6 arg7 arg8 arg9 arg10 arg11 arg12 arg13 x0 x1 x2 x3 x4 x5 x6 x7 x8 x9 x10 x11
            ∗ owns (c : Thread nD τ) arg15 fullShare (k0_pay1 xr x7 (grow xh x8 x9 x10 xa) x11)
            ∗ owns (c : Thread nD τ) arg16 fullShare xh
            ∗ owns (c : Thread nD τ) arg17 fullShare (grow xh x8 x9 x10 xa)
            ∗ owns (c : Thread nD τ) arg18 fullShare xr
          ) -∗ K ⟨⟩))
      ⊢ wp frame (wpE (defs₀ (F := F)) Variants.none c none) E
        (cc0_ffn2_3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn2_3_eq_skeleton]; unfold cc0_ffn2_3_skel
  simp only [k0_part2_eq_skeleton]
  simp only [Ins, owns_eq_rep]
  iintro ⟨⟨H0, H1, H2, H3, H4, H5, H6, H7, H8, H9, H10, H11⟩, ⟨%d, HO⟩, S0, S1, S2, Hk⟩
  sl_exec (disch := first | sl_exact h0 | sl_exact h2 | sl_exact h3 | sl_exact h4)
  sl_step
  iapply Hk
  isplitl [H0 H1 H2 H3 H4 H5 H6 H7 H8 H9 H10 H11]
  · iframe H0 H1 H2 H3 H4 H5 H6 H7 H8 H9 H10 H11
  isplitl [HO]
  · rw [← owns_eq_rep (Val := Elt F) (c : Thread nD τ) arg15 fullShare (k0_pay1 xr x7 (grow xh x8 x9 x10 xa) x11)]
    unfold owns
    iexists _
    isplitr
    swap
    · iexact HO
    ipureintro
    frame_out
    simp only [View.read_rep]
    exact read_top (s := S1024x1024) _ _ _ _ _
  isplitl [S0]
  · iexact S0
  isplitl [S1]
  · rw [← owns_eq_rep (Val := Elt F) (c : Thread nD τ) arg17 fullShare (grow xh x8 x9 x10 xa)]
    unfold owns
    iexists _
    isplitr
    swap
    · iexact S1
    ipureintro
    frame_out
    simp only [View.read_rep]
    exact read_top (s := S1024x1024) _ _ _ _ _
  iexact S2

end Cert.KernelFinalIdeal.Tile
-- ==== Proof.Final.Frame.lean ====
/- The frame of the final call: every execution ends, the arguments end as they were, and the outputs end as the blocks
   written back.

   The call has two outputs.  A tile's rows go to the first output for the four context tiles and to the second for the
   two latent tiles, each stored at the tile's last point.  The first output's last block stays in its buffer while the
   latent tiles run and is written back at the very end, at a point where the body stores nothing into it.  So what that
   buffer holds is carried through those points: `context` names the point where it was last stored. -/
module

public import proofs.«01_k».proof.Proof.Final.Runs
public import Idealize.ShloMosaic.Lib.Claim

@[expose] public section

set_option maxRecDepth 16384

noncomputable section

namespace Cert.KernelFinalIdeal.Tile

open Cert.KernelFinalIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem first_iff (t : Fin cfg0.N) : first (grid0.coords t) ↔ t.val % 11 = 0 := by
  have ht : t.val < 66 := Nat.lt_of_lt_of_eq t.isLt N_0
  have e1 : (grid0.coords t 1).val = t.val / 1 % 11 := Pipeline.Grid.coords_val t 1 (by decide) rfl
  simp only [first, e1]
  word_cmp

theorem last_iff (t : Fin cfg0.N) : k0_cond2 (grid0.coords t) = 1#1 ↔ t.val % 11 = 10 := by
  have ht : t.val < 66 := Nat.lt_of_lt_of_eq t.isLt N_0
  have e1 : (grid0.coords t 1).val = t.val / 1 % 11 := Pipeline.Grid.coords_val t 1 (by decide) rfl
  simp only [k0_cond2, e1]
  word_cmp

theorem context_iff : ∀ t : Fin cfg0.N, k0_cond3 (grid0.coords t) = 1#1 ↔ t.val < 44 :=
  (by decide +kernel : ∀ t : Fin grid0.N, k0_cond3 (grid0.coords t) = 1#1 ↔ t.val < 44)

theorem latent_iff : ∀ t : Fin cfg0.N, k0_cond4 (grid0.coords t) = 1#1 ↔ ¬t.val < 44 :=
  (by decide +kernel : ∀ t : Fin grid0.N, k0_cond4 (grid0.coords t) = 1#1 ↔ ¬t.val < 44)

/-- The first output is stored only at a context tile's last point. -/
theorem idle_context : ∀ t : Fin cfg0.N, cfg0.idle 12 (grid0.coords t) = !decide (t.val % 11 = 10 ∧ t.val < 44) := by
  decide +kernel

/-- The second output is stored only at a latent tile's last point. -/
theorem idle_latent : ∀ t : Fin cfg0.N, cfg0.idle 13 (grid0.coords t) = !decide (t.val % 11 = 10 ∧ ¬t.val < 44) := by
  decide +kernel

/-- The first output is written back when its block changes, and at the end. -/
theorem flush_context : ∀ t : Fin cfg0.N,
    (cfg0.win 12).flush t = decide (t.val = 10 ∨ t.val = 21 ∨ t.val = 32 ∨ t.val = 65) := by
  decide +kernel

/-- The second output is written back after each latent tile. -/
theorem flush_latent : ∀ t : Fin cfg0.N, (cfg0.win 13).flush t = decide (t.val = 54 ∨ t.val = 65) := by
  decide +kernel

/-- The first output's buffer holds nothing of use before its fourth block is stored, and after the end. -/
theorem fresh_context : ∀ n, n ≤ cfg0.N → cfg0.fresh 12 n = decide (n < 44 ∨ n = 66) :=
  Cfg.fresh_tab cfg0 12 (fun n => decide (n < 44 ∨ n = 66)) rfl (by decide +kernel)

/-! ## The buffers at a point -/

abbrev buf0 (t : Fin cfg0.N) : Memref sig .tc .vmem S1024x1024 .f32 := win0_0.stage (cfg0.slots t 0)
abbrev buf1 (t : Fin cfg0.N) : Memref sig .tc .vmem S1024x1024 .bf16 := win0_1.stage (cfg0.slots t 1)
abbrev buf2 (t : Fin cfg0.N) : Memref sig .tc .vmem S1x1x1x1x1024 .f32 := win0_2.stage (cfg0.slots t 2)
abbrev buf3 (t : Fin cfg0.N) : Memref sig .tc .vmem S1x1024x1024 .f32 := win0_3.stage (cfg0.slots t 3)
abbrev buf4 (t : Fin cfg0.N) : Memref sig .tc .vmem S1x1x1024 .f32 := win0_4.stage (cfg0.slots t 4)
abbrev buf5 (t : Fin cfg0.N) : Memref sig .tc .vmem S1x1x1x1x1024 .f32 := win0_5.stage (cfg0.slots t 5)
abbrev buf6 (t : Fin cfg0.N) : Memref sig .tc .vmem S1x1x1x1x1024 .f32 := win0_6.stage (cfg0.slots t 6)
abbrev buf7 (t : Fin cfg0.N) : Memref sig .tc .vmem S1x1x1x1x1024 .f32 := win0_7.stage (cfg0.slots t 7)
abbrev buf8 (t : Fin cfg0.N) : Memref sig .tc .vmem S1x1024x256 .f32 := win0_8.stage (cfg0.slots t 8)
abbrev buf9 (t : Fin cfg0.N) : Memref sig .tc .vmem S1x1024x256 .f32 := win0_9.stage (cfg0.slots t 9)
abbrev buf10 (t : Fin cfg0.N) : Memref sig .tc .vmem S1x256x1024 .f32 := win0_10.stage (cfg0.slots t 10)
abbrev buf11 (t : Fin cfg0.N) : Memref sig .tc .vmem S1x1024 .f32 := win0_11.stage (cfg0.slots t 11)
abbrev buf12 (t : Fin cfg0.N) : Memref sig .tc .vmem S1024x1024 .f32 := win0_12.stage (cfg0.slots t 12)
abbrev buf13 (t : Fin cfg0.N) : Memref sig .tc .vmem S1024x1024 .f32 := win0_13.stage (cfg0.slots t 13)
abbrev bufH : Memref sig .tc .vmem S1024x1024 .bf16 := Memref.whole cc0_scratch0
abbrev bufAcc : Memref sig .tc .vmem S1024x1024 .f32 := Memref.whole cc0_scratch1
abbrev bufX : Memref sig .tc .vmem S1024x1024 .f32 := Memref.whole cc0_scratch2

/-! ## What the buffers hold -/

/-- What the first point of a tile leaves in the three carried buffers: the normalised rows, the accumulator after the
    first block, and the rows after the output projection. -/
def start (c : Dev nD) (t : Fin cfg0.N) : Vec F S1024x1024 .bf16 × Vec F S1024x1024 .f32 × Vec F S1024x1024 .f32 :=
  let x := k0_pay2 (iblk m c 1 t) (iblk m c 3 t) (iblk m c 0 t) (iblk m c 2 t)
  let h := normed x (iblk m c 4 t) (iblk m c 5 t) (iblk m c 6 t)
  (h, grow h (iblk m c 8 t) (iblk m c 9 t) (iblk m c 10 t) k0_pay8, x)

/-- What a later point leaves in them, from what the point before left. -/
def next (c : Dev nD) (t : Fin cfg0.N) (s : Vec F S1024x1024 .bf16 × Vec F S1024x1024 .f32 × Vec F S1024x1024 .f32) :
    Vec F S1024x1024 .bf16 × Vec F S1024x1024 .f32 × Vec F S1024x1024 .f32 :=
  (s.1, grow s.1 (iblk m c 8 t) (iblk m c 9 t) (iblk m c 10 t) s.2.1, s.2.2)

/-- The three carried buffers after point `n`. -/
def state (c : Dev nD) : (n : ℕ) → n < cfg0.N → Vec F S1024x1024 .bf16 × Vec F S1024x1024 .f32 × Vec F S1024x1024 .f32
  | 0, h => start m c ⟨0, h⟩
  | n + 1, h => if (n + 1) % 11 = 0 then start m c ⟨n + 1, h⟩ else next m c ⟨n + 1, h⟩ (state c n (Nat.lt_of_succ_lt h))

theorem state_first (c : Dev nD) (t : Fin cfg0.N) (h : t.val % 11 = 0) : state m c t.val t.isLt = start m c t := by
  obtain ⟨n, hn⟩ := t
  cases n with
  | zero => rfl
  | succ n => exact if_pos h

theorem state_later (c : Dev nD) (t : Fin cfg0.N) (h : ¬t.val % 11 = 0) :
    state m c t.val t.isLt = next m c t (state m c (t.val - 1) (by omega)) := by
  obtain ⟨n, hn⟩ := t
  cases n with
  | zero => exact absurd rfl h
  | succ n => exact if_neg h

/-- The finished rows as the last point of a tile computes them. -/
def finished (c : Dev nD) (t : Fin cfg0.N) : Vec F S1024x1024 .f32 :=
  k0_pay1 (state m c t.val t.isLt).2.2 (iblk m c 7 t) (state m c t.val t.isLt).2.1 (iblk m c 11 t)

/-- The point whose rows the first output's buffer holds after point `t`. -/
def context (t : Fin cfg0.N) : Fin cfg0.N := ⟨min t.val 43, lt_of_le_of_lt (Nat.min_le_left _ _) t.isLt⟩

/-- What the carried buffers hold before point `n`: anything at the start, then what the point before left. -/
def Inv (c : Dev nD) : (n : ℕ) → n ≤ cfg0.N → sProp 𝕄
  | 0, _ => Pipeline.ΦA spec0 c
  | n + 1, hn => iprop((owns (c : Thread nD τ) bufH fullShare (state m c n hn).1
      ∗ owns (c : Thread nD τ) bufAcc fullShare (state m c n hn).2.1
      ∗ owns (c : Thread nD τ) bufX fullShare (state m c n hn).2.2) ∗ (∃ r, prngReg c r))

theorem Inv_pos (c : Dev nD) (n : ℕ) (h : n ≤ cfg0.N) (hz : n ≠ 0) :
    Inv m c n h = iprop((owns (c : Thread nD τ) bufH fullShare (state m c (n - 1) (by omega)).1
      ∗ owns (c : Thread nD τ) bufAcc fullShare (state m c (n - 1) (by omega)).2.1
      ∗ owns (c : Thread nD τ) bufX fullShare (state m c (n - 1) (by omega)).2.2) ∗ (∃ r, prngReg c r)) := by
  cases n with
  | zero => exact absurd rfl hz
  | succ n => rfl

theorem Inv_succ (c : Dev nD) (n : ℕ) (hn : n < cfg0.N) :
    Inv m c (n + 1) hn = iprop((owns (c : Thread nD τ) bufH fullShare (state m c n hn).1
      ∗ owns (c : Thread nD τ) bufAcc fullShare (state m c n hn).2.1
      ∗ owns (c : Thread nD τ) bufX fullShare (state m c n hn).2.2) ∗ (∃ r, prngReg c r)) := rfl

/-- Before the first point the carried buffers hold anything. -/
theorem anything (c : Dev nD) :
    (Pipeline.ΦA spec0 c : sProp 𝕄)
      = iprop(((∃ d, owns (c : Thread nD τ) bufH fullShare d) ∗ (∃ d, owns (c : Thread nD τ) bufAcc fullShare d)
          ∗ (∃ d, owns (c : Thread nD τ) bufX fullShare d)) ∗ (∃ r, prngReg c r)) := by
  unfold Pipeline.ΦA; rw [scopedRest0_eq]; simp only [bufH, bufAcc, bufX, owns_whole]; try rfl

/-- The contents of the carried buffers can be forgotten. -/
theorem forget (c : Dev nD) (n : ℕ) (h : n ≤ cfg0.N) : Inv m c n h ⊢ (Pipeline.ΦA spec0 c : sProp 𝕄) := by
  by_cases hz : n = 0
  · subst hz; exact Idealize.SL.BI.Entails.refl _
  rw [Inv_pos m c n h hz, anything]
  iintro ⟨⟨S0, S1, S2⟩, Hg⟩
  isplitl [S0 S1 S2]
  · isplitl [S0]
    · iexists _; iexact S0
    isplitl [S1]
    · iexists _; iexact S1
    iexists _; iexact S2
  iexact Hg

/-- The same, the three buffers listed. -/
theorem forgotten (c : Dev nD) (n : ℕ) (h : n ≤ cfg0.N) :
    Inv m c n h ⊢ (iprop(((∃ d, owns (c : Thread nD τ) bufH fullShare d) ∗ (∃ d, owns (c : Thread nD τ) bufAcc fullShare d)
          ∗ (∃ d, owns (c : Thread nD τ) bufX fullShare d)) ∗ (∃ r, prngReg c r)) : sProp 𝕄) :=
  (forget m c n h).trans (Entails.of_eq (anything c))

/-! ## The pipeline's data -/

/-- The arrays as the region finds them, and what the body leaves in each buffer: an input's block, and the outputs'
    finished rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => finished m c (context t)
    | ⟨13, _⟩ => finished m c t
    | ⟨_ + 14, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = finished m c (context t) := by dsimp only [dats]
theorem after13 (c : Dev nD) (t : Fin cfg0.N) : (dats m 0 c).after 13 t = finished m c t := by dsimp only [dats]

/-- The inputs' buffers at their blocks. -/
abbrev InsAt (c : Dev nD) (t : Fin cfg0.N) : sProp 𝕄 :=
  Ins c (buf0 t) (buf1 t) (buf2 t) (buf3 t) (buf4 t) (buf5 t) (buf6 t) (buf7 t) (buf8 t) (buf9 t) (buf10 t) (buf11 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

/-- An input's buffer is left as it was found. -/
theorem leaves_in (c : Dev nD) (w : Fin cfg0.W) (t : Fin cfg0.N) (h : cfg0.idle w (cfg0.grid.coords t) = false) :
    (dats m 0 c).leavesExact w t
      = owns (c : Thread nD τ) ((cfg0.win w).stage (cfg0.slots t w)) fullShare ((dats m 0 c).after w t) := by
  unfold Dat.leavesExact; rw [h]

/-- A buffer that must end at its final contents, whether the body stores them or they were there before. -/
theorem leaves_flushed (c : Dev nD) (w : Fin cfg0.W) (t : Fin cfg0.N) (h : cfg0.idle w (cfg0.grid.coords t) = true)
    (hf : (cfg0.win w).flush t = true) :
    (dats m 0 c).leavesExact w t
      = owns (c : Thread nD τ) ((cfg0.win w).stage (cfg0.slots t w)) fullShare ((dats m 0 c).after w t) := by
  unfold Dat.leavesExact; rw [h, hf]

/-- While the latent tiles run, the first output's buffer holds its fourth block. -/
theorem before_context (c : Dev nD) (t : Fin cfg0.N) (h : ¬t.val < 44) (d) :
    (dats m 0 c).before 12 t d = finished m c (context t) := by
  have key := (dats m 0 c).before_out_traj 12 rfl (fun _ _ => rfl) (fun t' hz hi hf => by
    have h44 : ¬t'.val < 44 := by
      rw [fresh_context _ (Nat.le_of_lt t'.isLt)] at hf
      exact fun h => of_decide_eq_false hf (Or.inl h)
    rw [after12, after12]
    refine congrArg (finished m c) (Fin.ext ?_)
    show min t'.val 43 = min (t'.val - 1) 43
    omega) t.val t rfl d
  rw [key, fresh_context _ (Nat.le_of_lt t.isLt), decide_eq_false (fun hh => hh.elim h (fun e => absurd t.isLt (by rw [e, show cfg0.N = 66 from N_0]; omega))), if_neg Bool.false_ne_true, after12]
  refine congrArg (finished m c) (Fin.ext ?_)
  show min (t.val - 1) 43 = min t.val 43
  omega

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d)))

/-- What the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- What the body is called with, the inputs at their blocks. -/
theorem pre_ins (c : Dev nD) (t : Fin cfg0.N) :
    bodyPre m c t ⊢ iprop(Inv m c t.val (Nat.le_of_lt t.isLt) ∗ (dats m 0 c).owesAt () t.castSucc ∗ InsAt m c t
      ∗ (∃ d, owns (c : Thread nD τ) (buf12 t) fullShare ((dats m 0 c).before 12 t d))
      ∗ (∃ d, owns (c : Thread nD τ) (buf13 t) fullShare ((dats m 0 c).before 13 t d))) := by
  unfold bodyPre
  rw [show (dats m 0 c).Φ t.castSucc = Inv m c t.val (Nat.le_of_lt t.isLt) from by
    dsimp only [dats]; exact Pipeline.Dat.Φ_castSucc (Inv m c) t]
  simp only [InsAt, Ins, before0_0_of m (dats m 0 c) (A_eq m c 0) (after0 m c),
    before0_1_of m (dats m 0 c) (A_eq m c 1) (after1 m c),
    before0_2_of m (dats m 0 c) (A_eq m c 2) (after2 m c),
    before0_3_of m (dats m 0 c) (A_eq m c 3) (after3 m c),
    before0_4_of m (dats m 0 c) (A_eq m c 4) (after4 m c),
    before0_5_of m (dats m 0 c) (A_eq m c 5) (after5 m c),
    before0_6_of m (dats m 0 c) (A_eq m c 6) (after6 m c),
    before0_7_of m (dats m 0 c) (A_eq m c 7) (after7 m c),
    before0_8_of m (dats m 0 c) (A_eq m c 8) (after8 m c),
    before0_9_of m (dats m 0 c) (A_eq m c 9) (after9 m c),
    before0_10_of m (dats m 0 c) (A_eq m c 10) (after10 m c),
    before0_11_of m (dats m 0 c) (A_eq m c 11) (after11 m c)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13⟩
  isplitl [HI]
  · iexact HI
  isplitl [Ho]
  · iexact Ho
  isplitl [H0 H1 H2 H3 H4 H5 H6 H7 H8 H9 H10 H11]
  · iframe H0 H1 H2 H3 H4 H5 H6 H7 H8 H9 H10 H11
  iframe H12 H13

/-- What the body leaves, from the inputs at their blocks and the two outputs. -/
theorem post_ins (c : Dev nD) (t : Fin cfg0.N) :
    iprop(Inv m c (t.val + 1) t.isLt ∗ (dats m 0 c).owesAt () t.castSucc ∗ InsAt m c t
      ∗ (dats m 0 c).leavesExact 12 t ∗ (dats m 0 c).leavesExact 13 t) ⊢ bodyPost m c t := by
  unfold bodyPost
  rw [show (dats m 0 c).owesAt () t.succ = (dats m 0 c).owesAt () t.castSucc from rfl,
    show (dats m 0 c).Φ t.succ = Inv m c (t.val + 1) t.isLt from rfl]
  rw [leaves_in m c 0 t rfl, after0,
    leaves_in m c 1 t rfl, after1,
    leaves_in m c 2 t rfl, after2,
    leaves_in m c 3 t rfl, after3,
    leaves_in m c 4 t rfl, after4,
    leaves_in m c 5 t rfl, after5,
    leaves_in m c 6 t rfl, after6,
    leaves_in m c 7 t rfl, after7,
    leaves_in m c 8 t rfl, after8,
    leaves_in m c 9 t rfl, after9,
    leaves_in m c 10 t rfl, after10,
    leaves_in m c 11 t rfl, after11]
  simp only [InsAt, Ins]
  iintro ⟨HI, Ho, ⟨H0, H1, H2, H3, H4, H5, H6, H7, H8, H9, H10, H11⟩, H12, H13⟩
  isplitl [HI]
  · iexact HI
  isplitl [Ho]
  · iexact Ho
  iframe H0 H1 H2 H3 H4 H5 H6 H7 H8 H9 H10 H11 H12 H13

/-- An output's buffer that the point does not store and does not write back is handed on. -/
theorem leaves_idle (c : Dev nD) (w : Fin cfg0.W) (t : Fin cfg0.N) (h : cfg0.idle w (cfg0.grid.coords t) = true)
    (hf : (cfg0.win w).flush t = false) :
    iprop(∃ d, owns (c : Thread nD τ) ((cfg0.win w).stage (cfg0.slots t w)) fullShare ((dats m 0 c).before w t d))
      ⊢ ((dats m 0 c).leavesExact w t : sProp 𝕄) := by
  rw [Dat.leavesExact_idle (dats m 0 c) w t h hf]

/-- The first output's buffer at a point that does not store it. -/
theorem context_idle (c : Dev nD) (t : Fin cfg0.N) (h : ¬(t.val % 11 = 10 ∧ t.val < 44)) :
    iprop(∃ d, owns (c : Thread nD τ) (buf12 t) fullShare ((dats m 0 c).before 12 t d))
      ⊢ ((dats m 0 c).leavesExact 12 t : sProp 𝕄) := by
  have hi : cfg0.idle 12 (grid0.coords t) = true := by rw [idle_context, decide_eq_false h]; rfl
  by_cases hf : (cfg0.win 12).flush t = true
  · have h44 : ¬t.val < 44 := by
      rw [flush_context] at hf
      have := of_decide_eq_true hf
      omega
    rw [leaves_flushed m c 12 t hi hf, after12]
    iintro ⟨%d, H⟩
    rw [before_context m c t h44 d]
    iexact H
  · exact leaves_idle m c 12 t hi (Bool.eq_false_of_not_eq_true hf)

/-- The second output's buffer at a point that does not store it. -/
theorem latent_idle (c : Dev nD) (t : Fin cfg0.N) (h : ¬(t.val % 11 = 10 ∧ ¬t.val < 44)) :
    iprop(∃ d, owns (c : Thread nD τ) (buf13 t) fullShare ((dats m 0 c).before 13 t d))
      ⊢ ((dats m 0 c).leavesExact 13 t : sProp 𝕄) := by
  refine leaves_idle m c 13 t (by rw [idle_latent, decide_eq_false h]; rfl) ?_
  rw [flush_latent]
  exact decide_eq_false (by omega)

/-- The body at the first point of a tile. -/
theorem sound_first (c : Dev nD) (t : Fin cfg0.N) (h : t.val % 11 = 0) :
    bodyPre m c t ⊢ wp frame (wpE (defs₀ (F := F)) Variants.none c none) Set.univ (bodyAt0 t) (fun _ => bodyPost m c t) := by
  refine (pre_ins m c t).trans ?_
  iintro ⟨HI, Ho, Hin, H12, H13⟩
  ihave HA := (forgotten m c t.val (Nat.le_of_lt t.isLt)) $$ HI
  icases HA with ⟨⟨S0, S1, S2⟩, Hg⟩
  iapply (run_first c (grid0.coords t) (buf0 t) _ (buf1 t) _ (buf2 t) _ (buf3 t) _ (buf4 t) _ (buf5 t) _ (buf6 t) _ (buf7 t) _
    (buf8 t) _ (buf9 t) _ (buf10 t) _ (buf11 t) _ (buf12 t) _ (buf13 t) _ bufH _ bufAcc _ bufX _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    ((first_iff t).mpr h) (fun hh => by have := (last_iff t).mp hh; omega) Set.univ (fun _ => bodyPost m c t))
  isplitl [Hin]
  · iexact Hin
  iframe S0 S1 S2
  iintro ⟨Hin, S0, S1, S2⟩
  iapply (post_ins m c t)
  isplitl [S0 S1 S2 Hg]
  · rw [Inv_succ, state_first m c t h]
    unfold start
    isplitl [S0 S1 S2]
    · iframe S0 S1 S2
    iexact Hg
  isplitl [Ho]
  · iexact Ho
  isplitl [Hin]
  · iexact Hin
  isplitl [H12]
  · iapply (context_idle m c t (by omega)); iexact H12
  iapply (latent_idle m c t (by omega)); iexact H13

/-- The body at a middle point of a tile. -/
theorem sound_middle (c : Dev nD) (t : Fin cfg0.N) (h : ¬t.val % 11 = 0) (h' : ¬t.val % 11 = 10) :
    bodyPre m c t ⊢ wp frame (wpE (defs₀ (F := F)) Variants.none c none) Set.univ (bodyAt0 t) (fun _ => bodyPost m c t) := by
  refine (pre_ins m c t).trans ?_
  rw [Inv_pos m c t.val _ (fun hz => h (by rw [hz]))]
  iintro ⟨⟨⟨S0, S1, S2⟩, Hg⟩, Ho, Hin, H12, H13⟩
  iapply (run_middle c (grid0.coords t) (buf0 t) _ (buf1 t) _ (buf2 t) _ (buf3 t) _ (buf4 t) _ (buf5 t) _ (buf6 t) _ (buf7 t) _
    (buf8 t) _ (buf9 t) _ (buf10 t) _ (buf11 t) _ (buf12 t) _ (buf13 t) _ bufH _ bufAcc _ bufX _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (state m c (t.val - 1) (by omega)).1 (state m c (t.val - 1) (by omega)).2.1 (state m c (t.val - 1) (by omega)).2.2
    (fun hh => h ((first_iff t).mp hh))
    (fun hh => h' ((last_iff t).mp hh)) Set.univ (fun _ => bodyPost m c t))
  isplitl [Hin]
  · iexact Hin
  iframe S0 S1
  iintro ⟨Hin, S0, S1⟩
  iapply (post_ins m c t)
  isplitl [S0 S1 S2 Hg]
  · rw [Inv_succ, state_later m c t h]
    unfold next
    isplitl [S0 S1 S2]
    · iframe S0 S1 S2
    iexact Hg
  isplitl [Ho]
  · iexact Ho
  isplitl [Hin]
  · iexact Hin
  isplitl [H12]
  · iapply (context_idle m c t (fun hh => h' hh.1)); iexact H12
  iapply (latent_idle m c t (fun hh => h' hh.1)); iexact H13

/-- The finished rows, from what the point before left. -/
theorem finished_later (c : Dev nD) (t : Fin cfg0.N) (h : ¬t.val % 11 = 0) :
    finished m c t = k0_pay1 (state m c (t.val - 1) (by omega)).2.2 (iblk m c 7 t)
      (grow (state m c (t.val - 1) (by omega)).1 (iblk m c 8 t) (iblk m c 9 t) (iblk m c 10 t)
        (state m c (t.val - 1) (by omega)).2.1) (iblk m c 11 t) := by
  unfold finished
  rw [state_later m c t h]
  rfl

/-- The body at the last point of a context tile. -/
theorem sound_last_context (c : Dev nD) (t : Fin cfg0.N) (h : ¬t.val % 11 = 0) (h' : t.val % 11 = 10) (h44 : t.val < 44) :
    bodyPre m c t ⊢ wp frame (wpE (defs₀ (F := F)) Variants.none c none) Set.univ (bodyAt0 t) (fun _ => bodyPost m c t) := by
  refine (pre_ins m c t).trans ?_
  rw [Inv_pos m c t.val _ (fun hz => h (by rw [hz]))]
  iintro ⟨⟨⟨S0, S1, S2⟩, Hg⟩, Ho, Hin, H12, H13⟩
  iapply (run_last_context c (grid0.coords t) (buf0 t) _ (buf1 t) _ (buf2 t) _ (buf3 t) _ (buf4 t) _ (buf5 t) _ (buf6 t) _ (buf7 t) _
    (buf8 t) _ (buf9 t) _ (buf10 t) _ (buf11 t) _ (buf12 t) _ (buf13 t) _ bufH _ bufAcc _ bufX _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (state m c (t.val - 1) (by omega)).1 (state m c (t.val - 1) (by omega)).2.1 (state m c (t.val - 1) (by omega)).2.2
    (fun hh => h ((first_iff t).mp hh))
    ((last_iff t).mpr h') ((context_iff t).mpr h44) (fun hh => (latent_iff t).mp hh h44) Set.univ (fun _ => bodyPost m c t))
  isplitl [Hin]
  · iexact Hin
  isplitl [H12]
  · icases H12 with ⟨%d, H⟩; iexists _; iexact H
  iframe S0 S1 S2
  iintro ⟨Hin, H12, S0, S1, S2⟩
  iapply (post_ins m c t)
  isplitl [S0 S1 S2 Hg]
  · rw [Inv_succ, state_later m c t h]
    unfold next
    isplitl [S0 S1 S2]
    · iframe S0 S1 S2
    iexact Hg
  isplitl [Ho]
  · iexact Ho
  isplitl [Hin]
  · iexact Hin
  isplitl [H12]
  · rw [leaves_in m c 12 t (by show cfg0.idle 12 (grid0.coords t) = false; rw [idle_context, decide_eq_true ⟨h', h44⟩]; rfl),
      after12, show context t = t from Fin.ext (Nat.min_eq_left (by omega)), finished_later m c t h]
    iexact H12
  iapply (latent_idle m c t (fun hh => hh.2 h44)); iexact H13

/-- The body at the last point of a latent tile. -/
theorem sound_last_latent (c : Dev nD) (t : Fin cfg0.N) (h : ¬t.val % 11 = 0) (h' : t.val % 11 = 10) (h44 : ¬t.val < 44) :
    bodyPre m c t ⊢ wp frame (wpE (defs₀ (F := F)) Variants.none c none) Set.univ (bodyAt0 t) (fun _ => bodyPost m c t) := by
  refine (pre_ins m c t).trans ?_
  rw [Inv_pos m c t.val _ (fun hz => h (by rw [hz]))]
  iintro ⟨⟨⟨S0, S1, S2⟩, Hg⟩, Ho, Hin, H12, H13⟩
  iapply (run_last_latent c (grid0.coords t) (buf0 t) _ (buf1 t) _ (buf2 t) _ (buf3 t) _ (buf4 t) _ (buf5 t) _ (buf6 t) _ (buf7 t) _
    (buf8 t) _ (buf9 t) _ (buf10 t) _ (buf11 t) _ (buf12 t) _ (buf13 t) _ bufH _ bufAcc _ bufX _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (state m c (t.val - 1) (by omega)).1 (state m c (t.val - 1) (by omega)).2.1 (state m c (t.val - 1) (by omega)).2.2
    (fun hh => h ((first_iff t).mp hh))
    ((last_iff t).mpr h') (fun hh => h44 ((context_iff t).mp hh)) ((latent_iff t).mpr h44) Set.univ (fun _ => bodyPost m c t))
  isplitl [Hin]
  · iexact Hin
  isplitl [H13]
  · icases H13 with ⟨%d, H⟩; iexists _; iexact H
  iframe S0 S1 S2
  iintro ⟨Hin, H13, S0, S1, S2⟩
  iapply (post_ins m c t)
  isplitl [S0 S1 S2 Hg]
  · rw [Inv_succ, state_later m c t h]
    unfold next
    isplitl [S0 S1 S2]
    · iframe S0 S1 S2
    iexact Hg
  isplitl [Ho]
  · iexact Ho
  isplitl [Hin]
  · iexact Hin
  isplitl [H12]
  · iapply (context_idle m c t (fun hh => h44 hh.2)); iexact H12
  rw [leaves_in m c 13 t (by show cfg0.idle 13 (grid0.coords t) = false; rw [idle_latent, decide_eq_true ⟨h', h44⟩]; rfl),
    after13, finished_later m c t h]
  iexact H13

theorem sound_body (c : Dev nD) (t : Fin cfg0.N) :
    bodyPre m c t ⊢ wp frame (wpE (defs₀ (F := F)) Variants.none c none) Set.univ (bodyAt0 t) (fun _ => bodyPost m c t) := by
  by_cases h : t.val % 11 = 0
  · exact sound_first m c t h
  by_cases h' : t.val % 11 = 10
  · by_cases h44 : t.val < 44
    · exact sound_last_context m c t h h' h44
    · exact sound_last_latent m c t h h' h44
  · exact sound_middle m c t h h'

/-! ## The run -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem enter (c : Dev nD) : Pipeline.ΦA spec0 c ⊢ (dats m 0 c).Φ 0 := by
  rw [show (dats m 0 c).Φ 0 = Inv m c 0 (Nat.zero_le _) from rfl]
  exact Idealize.SL.BI.Entails.refl _

theorem leave (c : Dev nD) : (dats m 0 c).Φ (Fin.last cfg0.N) ⊢ Pipeline.ΦA spec0 c :=
  forget m c cfg0.N (Nat.le_refl _)

-- the launch rule's implicit arguments are found by unifying its conclusion with this one, through plain definitions
set_option backward.isDefEq.respectTransparency.types false in
/-- Every execution ends with every array of the call at what the data says and every semaphore at zero. -/
theorem launched : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (launched m ρ)

/-- The arguments end as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (launched m ρ))

end Cert.KernelFinalIdeal.Tile
-- ==== Proof.Final.Rows.lean ====
/- The final call's tiles: the tokens come in 6 tiles of 1024 rows, each met at 11 grid points, and each grid point has one
   of the 11 blocks of 256 inner columns.  The finished row is normalised once more. -/
module

public import proofs.«01_k».proof.Proof.Tile.Blocks

@[expose] public section

noncomputable section

namespace Cert.Layer

open Idealize.ShloMosaic

/-- Row `r` of the tile met at point `t`, the tile's conditioning vector, and the point's block of inner columns. -/
abbrev tok11 (t : ℕ) (ht : t < 66) (r : Fin 1024) : Fin 6144 := ⟨1024 * (t / 11) + r.val, by omega⟩
abbrev condT11 (t : ℕ) (ht : t < 66) : Fin 3 := ⟨t / 11 - 3, by omega⟩
abbrev block11 (t : ℕ) : Fin 11 := ⟨min (t % 11) 10, by omega⟩

theorem condOf_tok11 (t : ℕ) (ht : t < 66) (r : Fin 1024) : condOf (tok11 t ht r) = condT11 t ht := by
  apply Fin.ext
  show (1024 * (t / 11) + r.val) / 1024 - 3 = t / 11 - 3
  omega

/-- The rows of point `t`'s tile, of a function of the token. -/
abbrev tile11 (f : Fin 6144 → Fin 1024 → EReal) (t : ℕ) (ht : t < 66) : TileV := fun i => f (tok11 t ht (i 0)) (i 1)

theorem tok11_pred (t : ℕ) (ht : t < 66) (h0 : ¬t % 11 = 0) (r : Fin 1024) : tok11 (t - 1) (by omega) r = tok11 t ht r :=
  Fin.ext (by
    show 1024 * ((t - 1) / 11) + r.val = 1024 * (t / 11) + r.val
    rw [show (t - 1) / 11 = t / 11 by omega])

theorem tile11_pred (f : Fin 6144 → Fin 1024 → EReal) (t : ℕ) (ht : t < 66) (h0 : ¬t % 11 = 0) :
    tile11 f (t - 1) (by omega) = tile11 f t ht :=
  funext fun i => congrArg (fun s => f s (i 1)) (tok11_pred t ht h0 (i 0))

variable (h : Fin 1024 → EReal) (wg wu : Fin 1024 → Fin 2816 → EReal) (wd : Fin 2816 → Fin 1024 → EReal) (d : Fin 1024)

theorem firstBlocks_one : firstBlocks h wg wu wd d 1 = blockAt h wg wu wd d 0 := Finset.sum_range_one _

theorem firstBlocks_succ (n : ℕ) : firstBlocks h wg wu wd d (n + 1) = firstBlocks h wg wu wd d n + blockAt h wg wu wd d n :=
  Finset.sum_range_succ _ _

/-- All eleven blocks are the sum over the inner width. -/
theorem firstBlocks_eleven : firstBlocks h wg wu wd d 11 = innerSum h wg wu wd d :=
  (firstBlocks_succ h wg wu wd d 10).trans (firstBlocks_all h wg wu wd d)

/-- Entry `d` of the row `y`, divided by the root of its mean square, times the norm weight `fn`. -/
def lastNorm (y fn : Fin 1024 → EReal) (d : Fin 1024) : EReal :=
  y d * Ideal.rsqrt (Ideal.div (∑ k, y k * y k) (Ideal.ofBits .f32 0x44800000#32) + Ideal.ofBits .f32 0x358637BD#32) * fn d

end Cert.Layer

end
-- ==== Proof.Final.Blocks.lean ====
/- What the blocks of the final call hold at each grid point. -/
module

public import proofs.«01_k».proof.Proof.Final.Frame
public import proofs.«01_k».proof.Proof.Final.Rows

@[expose] public section

noncomputable section

namespace Cert.KernelFinalIdeal.Tile

open Cert.KernelFinalIdeal Cert.KernelFinalIdeal.Gen Cert.Layer Idealize.ShloMosaic Idealize.ShloMosaic.TcCoe Idealize.SL.Sem

theorem at0 : ∀ t : Fin cfg0.N, win0_0.index t 0 = t.val / 11 ∧ win0_0.index t 1 = 0 := by decide +kernel
theorem at1 : ∀ t : Fin cfg0.N, win0_1.index t 0 = t.val / 11 ∧ win0_1.index t 1 = 0 := by decide +kernel
theorem at2 : ∀ t : Fin cfg0.N, win0_2.index t 0 = 3 ∧ win0_2.index t 1 = 5 ∧ win0_2.index t 2 = t.val / 11 - 3
    ∧ win0_2.index t 3 = 0 ∧ win0_2.index t 4 = 0 := by decide +kernel
theorem at3 : ∀ t : Fin cfg0.N, win0_3.index t 0 = 1 ∧ win0_3.index t 1 = 0 ∧ win0_3.index t 2 = 0 := by decide +kernel
theorem at4 : ∀ t : Fin cfg0.N, win0_4.index t 0 = 3 ∧ win0_4.index t 1 = 0 ∧ win0_4.index t 2 = 0 := by decide +kernel
theorem at5 : ∀ t : Fin cfg0.N, win0_5.index t 0 = 3 ∧ win0_5.index t 1 = 6 ∧ win0_5.index t 2 = t.val / 11 - 3
    ∧ win0_5.index t 3 = 0 ∧ win0_5.index t 4 = 0 := by decide +kernel
theorem at6 : ∀ t : Fin cfg0.N, win0_6.index t 0 = 3 ∧ win0_6.index t 1 = 7 ∧ win0_6.index t 2 = t.val / 11 - 3
    ∧ win0_6.index t 3 = 0 ∧ win0_6.index t 4 = 0 := by decide +kernel
theorem at7 : ∀ t : Fin cfg0.N, win0_7.index t 0 = 3 ∧ win0_7.index t 1 = 8 ∧ win0_7.index t 2 = t.val / 11 - 3
    ∧ win0_7.index t 3 = 0 ∧ win0_7.index t 4 = 0 := by decide +kernel
theorem at8 : ∀ t : Fin cfg0.N, win0_8.index t 0 = 3 ∧ win0_8.index t 1 = 0 ∧ win0_8.index t 2 = (block11 t.val).val := by decide +kernel
theorem at9 : ∀ t : Fin cfg0.N, win0_9.index t 0 = 3 ∧ win0_9.index t 1 = 0 ∧ win0_9.index t 2 = (block11 t.val).val := by decide +kernel
theorem at10 : ∀ t : Fin cfg0.N, win0_10.index t 0 = 3 ∧ win0_10.index t 1 = (block11 t.val).val ∧ win0_10.index t 2 = 0 := by decide +kernel
theorem at11 : ∀ t : Fin cfg0.N, win0_11.index t 0 = 0 ∧ win0_11.index t 1 = 0 := by decide +kernel
theorem at12 : ∀ t : Fin cfg0.N, win0_12.index t 0 = min (t.val / 11) 3 ∧ win0_12.index t 1 = 0 := by decide +kernel
theorem at13 : ∀ t : Fin cfg0.N, win0_13.index t 0 = t.val / 11 - 4 ∧ win0_13.index t 1 = 0 := by decide +kernel

variable (m : (ℓ : Loc nD τ sig) → Buf (Elt Ideal) ℓ) (c : Dev nD) (t : Fin cfg0.N)

theorem lt66 : t.val < 66 := lt_of_lt_of_eq t.isLt N_0

theorem V_main_v0 : V m c main_v0 = shapeCast S4x1x1024 (m (c.tc.loc main_arg4)) shapeCasts_S4x1024_S4x1x1024 := by
  show StableHlo.after hostOps0 _ (Proc.devRef .tc main_v0) = _
  after_results
  rfl

theorem blk0 (r d : Fin 1024) : (iblk m c 0 t : Vec Ideal S1024x1024 .f32) (ix2 r d) = m (c.tc.loc main_arg0) (ix2 (tok11 t.val (lt66 t) r) d) := by
  unfold iblk
  rw [View.read_apply]
  show V m c main_arg0 _ = _
  rw [V_main_arg0]
  exact congrArg _ (place_rows _ (win0_0.index t) (at0 t) _ r d (fun _ => rfl) _)
theorem blk1 (r d : Fin 1024) : (iblk m c 1 t : Vec Ideal S1024x1024 .bf16) (ix2 r d) = m (c.tc.loc main_arg1) (ix2 (tok11 t.val (lt66 t) r) d) := by
  unfold iblk
  rw [View.read_apply]
  show V m c main_arg1 _ = _
  rw [V_main_arg1]
  exact congrArg _ (place_rows _ (win0_1.index t) (at1 t) _ r d (fun _ => rfl) _)
theorem blk2 (d : Fin 1024) : (iblk m c 2 t : Vec Ideal S1x1x1x1x1024 .f32) (ix5 0 0 0 0 d) = m (c.tc.loc main_arg2) (ix5 3 5 (condT11 t.val (lt66 t)) 0 d) := by
  unfold iblk
  rw [View.read_apply]
  show V m c main_arg2 _ = _
  rw [V_main_arg2]
  exact congrArg _ (place_mods 3 5 (condT11 t.val (lt66 t)) (win0_2.index t) (at2 t) _ d fun _ => rfl)
theorem blk3 (k d : Fin 1024) : (iblk m c 3 t : Vec Ideal S1x1024x1024 .f32) (ix3 0 k d) = m (c.tc.loc main_arg3) (ix3 1 k d) := by
  unfold iblk
  rw [View.read_apply]
  show V m c main_arg3 _ = _
  rw [V_main_arg3]
  exact congrArg _ (place_layer 1 (win0_3.index t) (at3 t) _ k d fun _ => rfl)
theorem blk4 (d : Fin 1024) : (iblk m c 4 t : Vec Ideal S1x1x1024 .f32) (ix3 0 0 d) = m (c.tc.loc main_arg4) (ix2 3 d) := by
  unfold iblk
  rw [View.read_apply]
  show V m c main_v0 _ = _
  rw [V_main_v0]
  refine (congrArg _ (place_layer 3 (win0_4.index t) (at4 t) _ 0 d fun _ => rfl)).trans ?_
  pointwise
theorem blk5 (d : Fin 1024) : (iblk m c 5 t : Vec Ideal S1x1x1x1x1024 .f32) (ix5 0 0 0 0 d) = m (c.tc.loc main_arg2) (ix5 3 6 (condT11 t.val (lt66 t)) 0 d) := by
  unfold iblk
  rw [View.read_apply]
  show V m c main_arg2 _ = _
  rw [V_main_arg2]
  exact congrArg _ (place_mods 3 6 (condT11 t.val (lt66 t)) (win0_5.index t) (at5 t) _ d fun _ => rfl)
theorem blk6 (d : Fin 1024) : (iblk m c 6 t : Vec Ideal S1x1x1x1x1024 .f32) (ix5 0 0 0 0 d) = m (c.tc.loc main_arg2) (ix5 3 7 (condT11 t.val (lt66 t)) 0 d) := by
  unfold iblk
  rw [View.read_apply]
  show V m c main_arg2 _ = _
  rw [V_main_arg2]
  exact congrArg _ (place_mods 3 7 (condT11 t.val (lt66 t)) (win0_6.index t) (at6 t) _ d fun _ => rfl)
theorem blk7 (d : Fin 1024) : (iblk m c 7 t : Vec Ideal S1x1x1x1x1024 .f32) (ix5 0 0 0 0 d) = m (c.tc.loc main_arg2) (ix5 3 8 (condT11 t.val (lt66 t)) 0 d) := by
  unfold iblk
  rw [View.read_apply]
  show V m c main_arg2 _ = _
  rw [V_main_arg2]
  exact congrArg _ (place_mods 3 8 (condT11 t.val (lt66 t)) (win0_7.index t) (at7 t) _ d fun _ => rfl)
theorem blk8 (k : Fin 1024) (x : Fin 256) : (iblk m c 8 t : Vec Ideal S1x1024x256 .f32) (ix3 0 k x) = m (c.tc.loc main_arg5) (ix3 3 k (col (block11 t.val) x)) := by
  unfold iblk
  rw [View.read_apply]
  show V m c main_arg5 _ = _
  rw [V_main_arg5]
  exact congrArg _ (place_in 3 (block11 t.val) (win0_8.index t) (at8 t) _ k x fun _ => rfl)
theorem blk9 (k : Fin 1024) (x : Fin 256) : (iblk m c 9 t : Vec Ideal S1x1024x256 .f32) (ix3 0 k x) = m (c.tc.loc main_arg6) (ix3 3 k (col (block11 t.val) x)) := by
  unfold iblk
  rw [View.read_apply]
  show V m c main_arg6 _ = _
  rw [V_main_arg6]
  exact congrArg _ (place_in 3 (block11 t.val) (win0_9.index t) (at9 t) _ k x fun _ => rfl)
theorem blk10 (x : Fin 256) (d : Fin 1024) : (iblk m c 10 t : Vec Ideal S1x256x1024 .f32) (ix3 0 x d) = m (c.tc.loc main_arg7) (ix3 3 (col (block11 t.val) x) d) := by
  unfold iblk
  rw [View.read_apply]
  show V m c main_arg7 _ = _
  rw [V_main_arg7]
  exact congrArg _ (place_down 3 (block11 t.val) (win0_10.index t) (at10 t) _ x d fun _ => rfl)
theorem V_main_v1 : V m c main_v1 = broadcastInDim S1x1024 ![1] bcast_S1024_S1x1024_1 (m (c.tc.loc main_arg8)) := by
  show StableHlo.after hostOps0 _ (Proc.devRef .tc main_v1) = _
  after_results
theorem blk11 (d : Fin 1024) : (iblk m c 11 t : Vec Ideal S1x1024 .f32) (ix2 0 d) = m (c.tc.loc main_arg8) (ix1 d) := by
  unfold iblk
  rw [View.read_apply]
  show V m c main_v1 _ = _
  rw [V_main_v1]
  refine (congrArg _ (place_rows (n := 1) (p := 1) 0 (win0_11.index t) (at11 t) _ 0 d (fun _ => rfl) (by decide))).trans ?_
  pointwise

end Cert.KernelFinalIdeal.Tile

end
-- ==== Proof.Final.Kernel.lean ====
/- The final call: each token's row with the gated output projection of the mixers added, then the half feed-forward layer of
   that row, then the last norm. The run ends with the context's rows in the first output array, the latents' in the second,
   and its arguments unchanged. -/
module

public import proofs.«01_k».proof.Proof.Final.Blocks
public import proofs.«01_k».proof.Proof.Tile.Mix
public import Idealize.ShloMosaic.Lib.Pipeline.ValueKit

@[expose] public section

set_option maxRecDepth 16384

noncomputable section

namespace Cert.KernelFinalIdeal.Tile

open Cert.KernelFinalIdeal Cert.KernelFinalIdeal.Gen Cert.Layer Idealize.ShloMosaic Idealize.ShloMosaic.TcCoe Idealize.SL.Sem

variable (m : (ℓ : Loc nD τ sig) → Buf (Elt Ideal) ℓ) (c : Dev nD)

/-- Conditioning vector `k` at token `s`, layer 3's weights, and the last norm's. -/
abbrev modRow (k : Fin 9) (s : Fin 6144) : Fin 1024 → EReal := fun d => m (c.tc.loc main_arg2) (ix5 3 k (condOf s) 0 d)
abbrev nW : Fin 1024 → EReal := fun d => m (c.tc.loc main_arg4) (ix2 3 d)
abbrev wGate : Fin 1024 → Fin 2816 → EReal := fun k f => m (c.tc.loc main_arg5) (ix3 3 k f)
abbrev wUp : Fin 1024 → Fin 2816 → EReal := fun k f => m (c.tc.loc main_arg6) (ix3 3 k f)
abbrev wDown : Fin 2816 → Fin 1024 → EReal := fun f d => m (c.tc.loc main_arg7) (ix3 3 f d)
abbrev fW : Fin 1024 → EReal := fun d => m (c.tc.loc main_arg8) (ix1 d)
/-- Token `s` with the mixers' output added, and that row normalised and modulated. -/
def xRow (s : Fin 6144) : Fin 1024 → EReal :=
  mixRow (fun d => m (c.tc.loc main_arg0) (ix2 s d)) (modRow m c 5 s) (fun k : Fin 1024 => m (c.tc.loc main_arg1) (ix2 s k))
    fun k d => m (c.tc.loc main_arg3) (ix3 1 k d)
def hRow (s : Fin 6144) : Fin 1024 → EReal := normRow (xRow m c s) (nW m c) (modRow m c 7 s) (modRow m c 6 s)
/-- Token `s` after the layer and the last norm. -/
def yRow (s : Fin 6144) : Fin 1024 → EReal :=
  lastNorm (ffnRow (xRow m c s) (hRow m c s) (modRow m c 8 s) (wGate m c) (wUp m c) (wDown m c)) (fW m c)

/-- The row after the mixers, as the first point of a tile computes it. -/
theorem mixed_at (t : Fin cfg0.N) (r d : Fin 1024) :
    k0_pay2 (iblk m c 1 t) (iblk m c 3 t) (iblk m c 0 t) (iblk m c 2 t) (ix2 r d) = xRow m c (tok11 t.val (lt66 t) r) d := by
  pointwise [k0_pay2]
  simp only [blk0, blk1, blk2, blk3]
  unfold xRow mixRow modRow
  rw [condOf_tok11]

theorem mixed (t : Fin cfg0.N) : k0_pay2 (iblk m c 1 t) (iblk m c 3 t) (iblk m c 0 t) (iblk m c 2 t) = tile11 (xRow m c) t.val (lt66 t) :=
  funext fun i => (congrArg _ (eq_ix2 i)).trans (mixed_at m c t (i 0) (i 1))

/-- The normalised rows, as the first point of a tile computes them. -/
theorem normed_at (t : Fin cfg0.N) (r d : Fin 1024) :
    normed (F := Ideal) (tile11 (xRow m c) t.val (lt66 t)) (iblk m c 4 t) (iblk m c 5 t) (iblk m c 6 t) (ix2 r d)
      = hRow m c (tok11 t.val (lt66 t) r) d := by
  unfold normed
  pointwise [k0_pay7, k0_pay3, k0_pay4, k0_pay5, k0_pay6]
  simp only [blk4, blk5, blk6]
  unfold hRow normRow modRow nW
  rw [condOf_tok11]
  rfl

theorem normed_tile (t : Fin cfg0.N) :
    normed (F := Ideal) (tile11 (xRow m c) t.val (lt66 t)) (iblk m c 4 t) (iblk m c 5 t) (iblk m c 6 t) = tile11 (hRow m c) t.val (lt66 t) :=
  funext fun i => (congrArg _ (eq_ix2 i)).trans (normed_at m c t (i 0) (i 1))

/-- One more block of the inner sum. -/
theorem grown (t : Fin cfg0.N) (a : Vec Ideal S1024x1024 .f32) (r d : Fin 1024) :
    grow (F := Ideal) (tile11 (hRow m c) t.val (lt66 t)) (iblk m c 8 t) (iblk m c 9 t) (iblk m c 10 t) a (ix2 r d)
    = a (ix2 r d) + blockAt (hRow m c (tok11 t.val (lt66 t) r)) (wGate m c) (wUp m c) (wDown m c) d (t.val % 11) := by
  unfold grow
  pointwise [k0_pay9]
  simp only [blk8, blk9, blk10]
  rfl

/-- After point `n` the carried buffers hold the tile's normalised rows, the blocks of the inner sum met so far, and its rows. -/
theorem state_at : ∀ (n : ℕ) (hn : n < cfg0.N), (state m c n hn).1 = tile11 (hRow m c) n (N_0 ▸ hn)
    ∧ (state m c n hn).2.2 = tile11 (xRow m c) n (N_0 ▸ hn)
    ∧ ∀ r d, (state m c n hn).2.1 (ix2 r d)
      = firstBlocks (hRow m c (tok11 n (N_0 ▸ hn) r)) (wGate m c) (wUp m c) (wDown m c) d (n % 11 + 1) := by
  intro n
  induction n with
  | zero => intro hn; exact fresh_tile ⟨0, hn⟩ rfl
  | succ n ih =>
    intro hn
    by_cases h0 : (n + 1) % 11 = 0
    · exact fresh_tile ⟨n + 1, hn⟩ h0
    · obtain ⟨hS, hX, hA⟩ := ih (Nat.lt_of_succ_lt hn)
      replace hS := hS.trans (tile11_pred (hRow m c) (n + 1) (N_0 ▸ hn) h0)
      replace hX := hX.trans (tile11_pred (xRow m c) (n + 1) (N_0 ▸ hn) h0)
      rw [state_later m c ⟨n + 1, hn⟩ h0]
      refine ⟨hS, hX, fun r d => ?_⟩
      show grow (state m c n _).1 _ _ _ (state m c n _).2.1 (ix2 r d) = _
      rw [hS]
      refine (grown m c ⟨n + 1, hn⟩ _ r d).trans ?_
      rw [hA, show n % 11 + 1 = (n + 1) % 11 by omega,
        show tok11 n _ r = tok11 (n + 1) (N_0 ▸ hn) r from tok11_pred (n + 1) (N_0 ▸ hn) h0 r]
      exact (firstBlocks_succ _ _ _ _ _ _).symm
where
  fresh_tile (t : Fin cfg0.N) (h0 : t.val % 11 = 0) : (state m c t.val t.isLt).1 = tile11 (hRow m c) t.val (lt66 t)
    ∧ (state m c t.val t.isLt).2.2 = tile11 (xRow m c) t.val (lt66 t)
    ∧ ∀ r d, (state m c t.val t.isLt).2.1 (ix2 r d)
      = firstBlocks (hRow m c (tok11 t.val (lt66 t) r)) (wGate m c) (wUp m c) (wDown m c) d (t.val % 11 + 1) := by
    rw [state_first m c t h0]
    unfold start
    dsimp only
    rw [mixed m c t, normed_tile m c t]
    refine ⟨rfl, rfl, fun r d => (grown m c t _ r d).trans ?_⟩
    rw [h0, firstBlocks_one]
    pointwise [k0_pay8]

/-- At the last point of a tile the finished rows are the tokens' rows after the call. -/
theorem finished_at (t : Fin cfg0.N) (h : t.val % 11 = 10) (r d : Fin 1024) :
    finished m c t (ix2 r d) = yRow m c (tok11 t.val (lt66 t) r) d := by
  obtain ⟨-, hX, hA⟩ := state_at m c t.val t.isLt
  unfold finished
  rw [hX]
  pointwise [k0_pay1]
  simp only [blk7, blk11, hA, h, Nat.reduceAdd, firstBlocks_eleven]
  unfold yRow lastNorm ffnRow modRow fW
  rw [condOf_tok11]
  rfl

theorem context_last (t : Fin cfg0.N) (hf : t.val = 10 ∨ t.val = 21 ∨ t.val = 32 ∨ t.val = 65) :
    (context t).val % 11 = 10 ∧ (context t).val / 11 = min (t.val / 11) 3 := by
  show min t.val 43 % 11 = 10 ∧ min t.val 43 / 11 = min (t.val / 11) 3
  omega

/-- The results: the context's rows and the latents'. -/
def prompt : Buf (Elt Ideal) ((c : Thread nD τ).loc main_v2_0) := fun i : S4096x1024.Idx =>
  yRow m c ⟨(i 0).val, lt_trans (i 0).isLt (by decide)⟩ (i 1)
def sample : Buf (Elt Ideal) ((c : Thread nD τ).loc main_v2_1) := fun i : S2048x1024.Idx =>
  yRow m c ⟨4096 + (i 0).val, Nat.add_lt_add_left (i 0).isLt 4096⟩ (i 1)

/-- What is written back to the first output is its tile of the result. -/
theorem flushed_context (t : Fin cfg0.N) (hf : (cfg0.win 12).flush t = true) :
    (dats m 0 c).flushed 12 t = ((cfg0.win 12).blk t).view.read (Elt Ideal) (prompt m c) := by
  rw [flush_context] at hf
  obtain ⟨h1, h2⟩ := context_last t (of_decide_eq_true hf)
  show (cfg0.win 12).cut (grid0.coords t) ((dats m 0 c).after 12 t) = _
  rw [after12]
  funext y
  rw [View.read_apply]
  show finished m c (context t) ((cfg0.win 12).xinj (grid0.coords t) y) = _
  have e1 : ((cfg0.win 12).xinj (grid0.coords t) y : S1024x1024.Idx) = ix2 (⟨(y 0).val, (y 0).isLt⟩ : Fin 1024) (⟨(y 1).val, (y 1).isLt⟩ : Fin 1024) := by
    funext a
    match a with
    | ⟨0, _⟩ => rfl
    | ⟨1, _⟩ => rfl
  rw [e1]
  refine (finished_at m c (context t) h1 _ _).trans (congrArg₂ (yRow m c) (Fin.ext ?_) (Fin.ext ?_))
  · show 1024 * ((context t).val / 11) + (y 0).val = win0_12.index t 0 * 1024 + 1 * (y 0).val
    rw [(at12 t).1, h2]; omega
  · show (y 1).val = win0_12.index t 1 * 1024 + 1 * (y 1).val
    rw [(at12 t).2]; omega

/-- What is written back to the second output is its tile of the result. -/
theorem flushed_latent (t : Fin cfg0.N) (hf : (cfg0.win 13).flush t = true) :
    (dats m 0 c).flushed 13 t = ((cfg0.win 13).blk t).view.read (Elt Ideal) (sample m c) := by
  rw [flush_latent] at hf
  have h1 : t.val = 54 ∨ t.val = 65 := of_decide_eq_true hf
  show (cfg0.win 13).cut (grid0.coords t) ((dats m 0 c).after 13 t) = _
  rw [after13]
  funext y
  rw [View.read_apply]
  show finished m c t ((cfg0.win 13).xinj (grid0.coords t) y) = _
  have e1 : ((cfg0.win 13).xinj (grid0.coords t) y : S1024x1024.Idx) = ix2 (⟨(y 0).val, (y 0).isLt⟩ : Fin 1024) (⟨(y 1).val, (y 1).isLt⟩ : Fin 1024) := by
    funext a
    match a with
    | ⟨0, _⟩ => rfl
    | ⟨1, _⟩ => rfl
  rw [e1]
  refine (finished_at m c t (by omega) _ _).trans (congrArg₂ (yRow m c) (Fin.ext ?_) (Fin.ext ?_))
  · show 1024 * (t.val / 11) + (y 0).val = 4096 + (win0_13.index t 0 * 1024 + 1 * (y 0).val)
    rw [(at13 t).1]; omega
  · show (y 1).val = win0_13.index t 1 * 1024 + 1 * (y 1).val
    rw [(at13 t).2]; omega

/-- The point at which a context row's tile is written back. -/
theorem met_context (s : ℕ) (h : s < 4096) : ∃ n, (n = 10 ∨ n = 21 ∨ n = 32 ∨ n = 65) ∧ min (n / 11) 3 = s / 1024 := by
  by_cases h3 : s / 1024 = 3
  · exact ⟨65, by omega⟩
  · exact ⟨11 * (s / 1024) + 10, by omega⟩

/-- The tiles written back fill the first output array. -/
theorem filled_context : (dats m 0 c).arrAt 12 cfg0.N = prompt m c :=
  (dats m 0 c).arrAt_eq_of_cover 12 _ (fun t hf => flushed_context m c t hf) fun i => by
    have h0 : (i 0).val < 4096 := (i 0).isLt
    have h1 : (i 1).val < 1024 := (i 1).isLt
    obtain ⟨n, hn⟩ := met_context (i 0).val h0
    let t : Fin cfg0.N := ⟨n, by rw [show cfg0.N = 66 from N_0]; omega⟩
    refine ⟨t, (flush_context t).trans (decide_eq_true hn.1), ?_⟩
    show i ∈ ((View.whole main_v2_0).slice (win0_12.rect t)).set
    rw [View.set_slice_whole, Rect.mem_set_unit]
    intro a
    match a with
    | ⟨0, _⟩ =>
      show win0_12.index t 0 * 1024 ≤ (i 0).val ∧ (i 0).val < win0_12.index t 0 * 1024 + 1024
      rw [(at12 t).1, show min (t.val / 11) 3 = _ from hn.2]
      omega
    | ⟨1, _⟩ =>
      show win0_12.index t 1 * 1024 ≤ (i 1).val ∧ (i 1).val < win0_12.index t 1 * 1024 + 1024
      rw [(at12 t).2]
      omega

/-- The tiles written back fill the second output array. -/
theorem filled_latent : (dats m 0 c).arrAt 13 cfg0.N = sample m c :=
  (dats m 0 c).arrAt_eq_of_cover 13 _ (fun t hf => flushed_latent m c t hf) fun i => by
    have h0 : (i 0).val < 2048 := (i 0).isLt
    have h1 : (i 1).val < 1024 := (i 1).isLt
    let t : Fin cfg0.N := ⟨11 * ((i 0).val / 1024) + 54, by rw [show cfg0.N = 66 from N_0]; omega⟩
    refine ⟨t, (flush_latent t).trans (decide_eq_true (by
      show 11 * ((i 0).val / 1024) + 54 = 54 ∨ 11 * ((i 0).val / 1024) + 54 = 65; omega)), ?_⟩
    show i ∈ ((View.whole main_v2_1).slice (win0_13.rect t)).set
    rw [View.set_slice_whole, Rect.mem_set_unit]
    intro a
    match a with
    | ⟨0, _⟩ =>
      show win0_13.index t 0 * 1024 ≤ (i 0).val ∧ (i 0).val < win0_13.index t 0 * 1024 + 1024
      rw [(at13 t).1]
      show ((11 * ((i 0).val / 1024) + 54) / 11 - 4) * 1024 ≤ (i 0).val ∧ (i 0).val < ((11 * ((i 0).val / 1024) + 54) / 11 - 4) * 1024 + 1024
      omega
    | ⟨1, _⟩ =>
      show win0_13.index t 1 * 1024 ≤ (i 1).val ∧ (i 1).val < win0_13.index t 1 * 1024 + 1024
      rw [(at13 t).2]
      omega

/-- The kernel's run ends with `prompt` and `sample` in its output arrays and its arguments as they were. -/
theorem run (ρ : Dev nD → PrngReg) : θ_run defs (onTc (τ := τ) (main (F := Ideal))) ⟨m, fun _ => 0, ρ⟩ fun r => ∀ c : Dev nD,
    r.2.mem ((c : Thread nD τ).loc main_v2_0) = prompt m c
    ∧ r.2.mem ((c : Thread nD τ).loc main_v2_1) = sample m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) := by
  refine (θ_run defs _ _).mono (fun r h c => ?_) (run_main m ρ)
  exact ⟨((h c).1 12).trans (filled_context m c), ((h c).1 13).trans (filled_latent m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).1 8).trans (((dats m 0 c).arrAt_in 8 rfl _).trans ((A_eq m c 8).trans (V_main_arg5 m c))),
    ((h c).1 9).trans (((dats m 0 c).arrAt_in 9 rfl _).trans ((A_eq m c 9).trans (V_main_arg6 m c))),
    ((h c).1 10).trans (((dats m 0 c).arrAt_in 10 rfl _).trans ((A_eq m c 10).trans (V_main_arg7 m c))),
    ((h c).2 main_arg8 (Pipeline.mem_restRefs_of main_arg8 (by decide) (by decide))).trans (V_main_arg8 m c)⟩

end Cert.KernelFinalIdeal.Tile

end
-- ==== Proof.Final.Reference.lean ====
/- What the reference of the second half feed-forward layer of layer 3 and the final norm computes, row by row. -/
module

public import proofs.«01_k».proof.Proof.Gen.ReferenceFinalIdeal.Read
public import proofs.«01_k».proof.Proof.Final.Rows
public import proofs.«01_k».proof.Proof.Tile.Mix
public import Idealize.ShloMosaic.Lib.Pointwise

@[expose] public section

set_option maxRecDepth 16384

noncomputable section

namespace Cert.ReferenceFinalIdeal.Rows

open Cert.ReferenceFinalIdeal Cert.ReferenceFinalIdeal.Read Cert.Layer Idealize.ShloMosaic

variable (x0 : (⟨S6144x1024, .f32⟩ : BufTy).Contents (Elt Ideal)) (x1 : (⟨S6144x1024, .bf16⟩ : BufTy).Contents (Elt Ideal))
  (x2 : (⟨S4x9x3x1x1024, .f32⟩ : BufTy).Contents (Elt Ideal)) (x3 : (⟨S2x1024x1024, .f32⟩ : BufTy).Contents (Elt Ideal))
  (x4 : (⟨S4x1024, .f32⟩ : BufTy).Contents (Elt Ideal)) (x5 x6 : (⟨S4x1024x2816, .f32⟩ : BufTy).Contents (Elt Ideal))
  (x7 : (⟨S4x2816x1024, .f32⟩ : BufTy).Contents (Elt Ideal)) (x8 : (⟨S1024, .f32⟩ : BufTy).Contents (Elt Ideal))

theorem mixGate (s : Fin 6144) (d : Fin 1024) : val_main_v9 (F := Ideal) x2 (ix2 s d) = x2 (ix5 3 5 (condOf s) 0 d) := by
  pointwise [val_main_v9, val_main_v8, val_main_v7, val_main_v6, val_main_v5, val_main_v4, val_main_v3, val_main_v2, val_main_v1, val_main_v0]
  split_ifs
  · rw [condOf_eq s 0 (by show _ = 0; omega)]
  · rw [condOf_eq s 1 (by show _ = 1; omega)]
  · rw [condOf_eq s 2 (by show _ = 2; omega)]

theorem shift (s : Fin 6144) (d : Fin 1024) : val_main_v25 (F := Ideal) x2 (ix2 s d) = x2 (ix5 3 6 (condOf s) 0 d) := by
  pointwise [val_main_v25, val_main_v24, val_main_v23, val_main_v22, val_main_v21, val_main_v20, val_main_v19, val_main_v18, val_main_v17, val_main_v16]
  split_ifs
  · rw [condOf_eq s 0 (by show _ = 0; omega)]
  · rw [condOf_eq s 1 (by show _ = 1; omega)]
  · rw [condOf_eq s 2 (by show _ = 2; omega)]

theorem scale (s : Fin 6144) (d : Fin 1024) : val_main_v35 (F := Ideal) x2 (ix2 s d) = x2 (ix5 3 7 (condOf s) 0 d) := by
  pointwise [val_main_v35, val_main_v34, val_main_v33, val_main_v32, val_main_v31, val_main_v30, val_main_v29, val_main_v28, val_main_v27, val_main_v26]
  split_ifs
  · rw [condOf_eq s 0 (by show _ = 0; omega)]
  · rw [condOf_eq s 1 (by show _ = 1; omega)]
  · rw [condOf_eq s 2 (by show _ = 2; omega)]

theorem gate (s : Fin 6144) (d : Fin 1024) : val_main_v45 (F := Ideal) x2 (ix2 s d) = x2 (ix5 3 8 (condOf s) 0 d) := by
  pointwise [val_main_v45, val_main_v44, val_main_v43, val_main_v42, val_main_v41, val_main_v40, val_main_v39, val_main_v38, val_main_v37, val_main_v36]
  split_ifs
  · rw [condOf_eq s 0 (by show _ = 0; omega)]
  · rw [condOf_eq s 1 (by show _ = 1; omega)]
  · rw [condOf_eq s 2 (by show _ = 2; omega)]

/-- A token's row with the mixers' output added. -/
theorem mixed (s : Fin 6144) (d : Fin 1024) : val_main_v15 (F := Ideal) x0 x1 x2 x3 (ix2 s d)
    = mixRow (fun d => x0 (ix2 s d)) (fun d => x2 (ix5 3 5 (condOf s) 0 d)) (fun k : Fin 1024 => x1 (ix2 s k)) (fun k d => x3 (ix3 1 k d)) d := by
  pointwise [val_main_v15, val_main_v14, val_main_v13, val_main_v12, val_main_v11, val_main_v10]
  simp only [mixGate]
  rfl

/-- Entry `(s, d)` of the tokens after the layer. -/
theorem row (s : Fin 6144) (d : Fin 1024) : val_main_v79 (F := Ideal) x0 x1 x2 x3 x4 x5 x6 x7 (ix2 s d)
    = halfFfn (mixRow (fun d => x0 (ix2 s d)) (fun d => x2 (ix5 3 5 (condOf s) 0 d)) (fun k : Fin 1024 => x1 (ix2 s k)) fun k d => x3 (ix3 1 k d))
        (fun k => x4 (ix2 3 k)) (fun k => x2 (ix5 3 7 (condOf s) 0 k)) (fun k => x2 (ix5 3 6 (condOf s) 0 k))
        (fun k => x2 (ix5 3 8 (condOf s) 0 k)) (fun k f => x5 (ix3 3 k f)) (fun k f => x6 (ix3 3 k f)) (fun f k => x7 (ix3 3 f k)) d := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst, val_main_cst_0, val_main_cst_1, val_main_cst_2, val_main_cst_3,
    val_main_call0_v5, val_main_call0_v4, val_main_call0_v3, val_main_call0_v2, val_main_call0_v1, val_main_call0_v0, val_main_call0_cst, val_main_call0_cst_0]
  simp only [shift, scale, gate, mixed]
  unfold halfFfn normRow Ideal.logistic
  simp only [mul_assoc]

/-- Entry `(s, d)` of the tokens normalised. -/
theorem last (s : Fin 6144) (d : Fin 1024) : val_main_v92 (F := Ideal) x0 x1 x2 x3 x4 x5 x6 x7 x8 (ix2 s d)
    = lastNorm (fun k => val_main_v79 (F := Ideal) x0 x1 x2 x3 x4 x5 x6 x7 (ix2 s k)) (fun k => x8 (ix1 k)) d := by
  pointwise [val_main_v92, val_main_v91, val_main_v90, val_main_v89, val_main_v88, val_main_v87, val_main_v86, val_main_v85, val_main_v84, val_main_v83, val_main_v82, val_main_v81, val_main_v80, val_main_cst_4, val_main_cst_5, val_main_cst_6]
  rfl

/-- On finite rows, modulation and gate weights that is the last norm of the row after the layer as the kernel's row has it. -/
theorem last_row (f0 : ∀ s d, IsReal (x0 (ix2 s d))) (f1 : ∀ s d, IsReal (x1 (ix2 s d))) (f2 : ∀ i, IsReal (x2 i))
    (f3 : ∀ l k d, IsReal (x3 (ix3 l k d))) (f4 : ∀ l d, IsReal (x4 (ix2 l d))) (f5 : ∀ l d f, IsReal (x5 (ix3 l d f)))
    (s : Fin 6144) (d : Fin 1024) : val_main_v92 (F := Ideal) x0 x1 x2 x3 x4 x5 x6 x7 x8 (ix2 s d)
    = lastNorm (ffnRow (mixRow (fun d => x0 (ix2 s d)) (fun d => x2 (ix5 3 5 (condOf s) 0 d)) (fun k : Fin 1024 => x1 (ix2 s k)) fun k d => x3 (ix3 1 k d))
        (normRow (mixRow (fun d => x0 (ix2 s d)) (fun d => x2 (ix5 3 5 (condOf s) 0 d)) (fun k : Fin 1024 => x1 (ix2 s k)) fun k d => x3 (ix3 1 k d))
          (fun k => x4 (ix2 3 k)) (fun k => x2 (ix5 3 7 (condOf s) 0 k)) (fun k => x2 (ix5 3 6 (condOf s) 0 k)))
        (fun k => x2 (ix5 3 8 (condOf s) 0 k)) (fun k f => x5 (ix3 3 k f)) (fun k f => x6 (ix3 3 k f)) (fun f k => x7 (ix3 3 f k)))
      (fun k => x8 (ix1 k)) d := by
  rw [last]
  refine congrArg (fun y => lastNorm y _ d) (funext fun e => (row x0 x1 x2 x3 x4 x5 x6 x7 s e).trans ?_)
  exact (ffnRow_eq (isReal_mixRow (fun k => f0 s k) (fun _ => f2 _) (fun k => f1 s k) fun k d => f3 1 k d)
    (fun k => f4 3 k) (fun k => f2 _) (fun k => f2 _) (fun k f => f5 3 k f) e).symm

/-- The two results: the context's 4096 tokens and the latents' 2048. -/
theorem context (s : Fin 4096) (d : Fin 1024) : val_main_v93 (F := Ideal) x0 x1 x2 x3 x4 x5 x6 x7 x8 (ix2 s d)
    = val_main_v92 (F := Ideal) x0 x1 x2 x3 x4 x5 x6 x7 x8 (ix2 (⟨s.val, by omega⟩ : Fin 6144) d) := by
  pointwise [val_main_v93]
theorem latent (s : Fin 2048) (d : Fin 1024) : val_main_v94 (F := Ideal) x0 x1 x2 x3 x4 x5 x6 x7 x8 (ix2 s d)
    = val_main_v92 (F := Ideal) x0 x1 x2 x3 x4 x5 x6 x7 x8 (ix2 (⟨4096 + s.val, by omega⟩ : Fin 6144) d) := by
  pointwise [val_main_v94]

end Cert.ReferenceFinalIdeal.Rows

end
-- ==== Proof.Final.Pre.lean ====
/- The precondition of the final call's value claim, read: every argument the rows and the gate
   projections come from is finite. -/
module

public import proofs.«01_k».proof.Proof.Gen.Pre_finite_final
public import proofs.«01_k».proof.Proof.Finite

@[expose] public section

set_option maxRecDepth 16384

noncomputable section

namespace Cert.Pre_finite_final

open Idealize.ShloMosaic Cert.Layer

attribute [local instance] Gen.facts

theorem finite_of_fn (x : FVec Ideal S6144x1024 .f32) (y : FVec Ideal S6144x1024 .bf16) (mods : FVec Ideal S4x9x3x1x1024 .f32)
    (wo : FVec Ideal S2x1024x1024 .f32) (nw : FVec Ideal S4x1024 .f32) (wg wu : FVec Ideal S4x1024x2816 .f32) (wd : FVec Ideal S4x2816x1024 .f32)
    (fin : FVec Ideal S1024 .f32)
    (h : fn (F := Ideal) x y mods wo nw wg wu wd fin = fun _ => 1#1) :
    (∀ s d, IsReal (x (ix2 s d))) ∧ (∀ s d, IsReal (y (ix2 s d))) ∧ (∀ i, IsReal (mods i)) ∧ (∀ l k d, IsReal (wo (ix3 l k d)))
      ∧ (∀ l d, IsReal (nw (ix2 l d))) ∧ (∀ l d f, IsReal (wg (ix3 l d f))) := by
  have h0 := congrFun h (ix1 0)
  have h1 := congrFun h (ix1 1)
  have h2 := congrFun h (ix1 2)
  have h3 := congrFun h (ix1 3)
  have h4 := congrFun h (ix1 4)
  have h5 := congrFun h (ix1 5)
  unfold fn fn_part1 at h0 h1 h2 h3 h4 h5
  dsimp only at h0 h1 h2 h3 h4 h5
  pointwise at h0
  pointwise at h1
  pointwise at h2
  pointwise at h3
  pointwise at h4
  pointwise at h5
  replace h0 := all_of_fold_univ _ h0
  replace h1 := all_of_fold_univ _ h1
  replace h2 := all_of_fold _ _ h2
  replace h3 := all_of_fold_univ _ h3
  replace h4 := all_of_fold_univ _ h4
  replace h5 := all_of_fold_univ _ h5
  refine ⟨fun s d => ?_, fun s d => ?_, fun i => ?_, fun l k d => ?_, fun l d => ?_, fun l d f => ?_⟩
  · exact isReal_of_test _ (h0 (s, d))
  · exact isReal_of_test _ (h1 (s, d))
  · exact isReal_of_test _ (h2 i (Finset.mem_filter.2 ⟨Finset.mem_univ _, funext fun a => a.elim0⟩))
  · exact isReal_of_test _ (h3 (l, k, d))
  · exact isReal_of_test _ (h4 (l, d))
  · exact isReal_of_test _ (h5 (l, d, f))

end Cert.Pre_finite_final

end
-- ==== Proof.First.Blocks.lean ====
/- What the blocks of the first half feed-forward call of layer 0 hold at each grid point. -/
module

public import proofs.«01_k».proof.Proof.Gen.KernelFirstIdeal.Frame
public import proofs.«01_k».proof.Proof.Tile.Blocks

@[expose] public section

noncomputable section

namespace Cert.KernelFirstIdeal.Tile

open Cert.KernelFirstIdeal Cert.KernelFirstIdeal.Gen Cert.Layer Idealize.ShloMosaic Idealize.ShloMosaic.TcCoe Idealize.SL.Sem

theorem at0 : ∀ t : Fin cfg0.N, win0_0.index t 0 = min (t.val / 6) 3 ∧ win0_0.index t 1 = 0 := by decide +kernel
theorem at1 : ∀ t : Fin cfg0.N, win0_1.index t 0 = t.val / 6 - 4 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 ∧ win0_3.index t 2 = 0 := by decide +kernel
theorem at4 : ∀ t : Fin cfg0.N, win0_4.index t 0 = 0 ∧ win0_4.index t 1 = 0 ∧ win0_4.index t 2 = t.val / 6 - 3
    ∧ win0_4.index t 3 = 0 ∧ win0_4.index t 4 = 0 := by decide +kernel
theorem at5 : ∀ t : Fin cfg0.N, win0_5.index t 0 = 0 ∧ win0_5.index t 1 = 1 ∧ win0_5.index t 2 = t.val / 6 - 3
    ∧ win0_5.index t 3 = 0 ∧ win0_5.index t 4 = 0 := by decide +kernel
theorem at6 : ∀ t : Fin cfg0.N, win0_6.index t 0 = 0 ∧ win0_6.index t 1 = 2 ∧ win0_6.index t 2 = t.val / 6 - 3
    ∧ win0_6.index t 3 = 0 ∧ win0_6.index t 4 = 0 := by decide +kernel
theorem at7 : ∀ t : Fin cfg0.N, win0_7.index t 0 = 0 ∧ win0_7.index t 1 = 0 ∧ win0_7.index t 2 = (evenB t.val).val := by decide +kernel
theorem at8 : ∀ t : Fin cfg0.N, win0_8.index t 0 = 0 ∧ win0_8.index t 1 = 0 ∧ win0_8.index t 2 = (evenB t.val).val := by decide +kernel
theorem at9 : ∀ t : Fin cfg0.N, win0_9.index t 0 = 0 ∧ win0_9.index t 1 = (evenB t.val).val ∧ win0_9.index t 2 = 0 := by decide +kernel
theorem at10 : ∀ t : Fin cfg0.N, win0_10.index t 0 = 0 ∧ win0_10.index t 1 = 0 ∧ win0_10.index t 2 = (oddB t.val).val := by decide +kernel
theorem at11 : ∀ t : Fin cfg0.N, win0_11.index t 0 = 0 ∧ win0_11.index t 1 = 0 ∧ win0_11.index t 2 = (oddB t.val).val := by decide +kernel
theorem at12 : ∀ t : Fin cfg0.N, win0_12.index t 0 = 0 ∧ win0_12.index t 1 = (oddB t.val).val ∧ win0_12.index t 2 = 0 := by decide +kernel
theorem at13 : ∀ t : Fin cfg0.N, win0_13.index t 0 = t.val / 6 ∧ win0_13.index t 1 = 0 := by decide +kernel

variable (m : (ℓ : Loc nD τ sig) → Buf (Elt Ideal) ℓ) (c : Dev nD) (t : Fin cfg0.N)

theorem lt36 : t.val < 36 := lt_of_lt_of_eq t.isLt N_0

theorem V_main_v0 : V m c main_v0 = shapeCast S4x1x1024 (m (c.tc.loc main_arg4)) shapeCasts_S4x1024_S4x1x1024 := by
  show StableHlo.after hostOps0 _ (Proc.devRef .tc main_v0) = _
  after_results
  rfl

theorem blk0 (h : t.val < 24) (r : Fin 1024) (k : Fin 1024) : (iblk m c 0 t : Vec Ideal S1024x1024 .f32) (ix2 r k)
    = m (c.tc.loc main_arg0) (ix2 ⟨(tok t.val (lt36 t) r).val, by show 1024 * (t.val / 6) + r.val < 4096; have := lt36 t; omega⟩ k) := by
  unfold iblk
  rw [View.read_apply]
  show V m c main_arg0 _ = _
  rw [V_main_arg0]
  exact congrArg _ ((place_rows _ (win0_0.index t) (at0 t) _ r k (fun _ => rfl) (by have := lt36 t; omega)).trans
    (congrArg (ix2 · k) (Fin.ext (by show 1024 * min (t.val / 6) 3 + r.val = 1024 * (t.val / 6) + r.val; omega))))
theorem blk1 (h : 24 ≤ t.val) (r : Fin 1024) (k : Fin 1024) : (iblk m c 1 t : Vec Ideal S1024x1024 .f32) (ix2 r k)
    = m (c.tc.loc main_arg1) (ix2 ⟨(tok t.val (lt36 t) r).val - 4096, by show 1024 * (t.val / 6) + r.val - 4096 < 2048; have := lt36 t; omega⟩ k) := by
  unfold iblk
  rw [View.read_apply]
  show V m c main_arg1 _ = _
  rw [V_main_arg1]
  exact congrArg _ ((place_rows _ (win0_1.index t) (at1 t) _ r k (fun _ => rfl) (by have := lt36 t; omega)).trans
    (congrArg (ix2 · k) (Fin.ext (by show 1024 * (t.val / 6 - 4) + r.val = 1024 * (t.val / 6) + r.val - 4096; omega))))
theorem blk2 (r d : Fin 1024) : (iblk m c 2 t : Vec Ideal S1024x1024 .f32) (ix2 r d) = m (c.tc.loc main_arg2) (ix2 r d) := by
  unfold iblk
  rw [View.read_apply]
  show V m c main_arg2 _ = _
  rw [V_main_arg2]
  exact congrArg _ ((place_rows _ (win0_2.index t) (at2 t) _ r d (fun _ => rfl) (by omega)).trans
    (congrArg (ix2 · d) (Fin.ext (by show 1024 * 0 + r.val = r.val; omega))))
theorem blk3 (d : Fin 1024) : (iblk m c 3 t : Vec Ideal S1x1x1024 .f32) (ix3 0 0 d) = m (c.tc.loc main_arg4) (ix2 0 d) := by
  unfold iblk
  rw [View.read_apply]
  show V m c main_v0 _ = _
  rw [V_main_v0]
  refine (congrArg _ (place_layer 0 (win0_3.index t) (at3 t) _ 0 d fun _ => rfl)).trans ?_
  pointwise
theorem blk4 (d : Fin 1024) : (iblk m c 4 t : Vec Ideal S1x1x1x1x1024 .f32) (ix5 0 0 0 0 d) = m (c.tc.loc main_arg3) (ix5 0 0 (condT t.val (lt36 t)) 0 d) := by
  unfold iblk
  rw [View.read_apply]
  show V m c main_arg3 _ = _
  rw [V_main_arg3]
  exact congrArg _ (place_mods 0 0 (condT t.val (lt36 t)) (win0_4.index t) (at4 t) _ d fun _ => rfl)
theorem blk5 (d : Fin 1024) : (iblk m c 5 t : Vec Ideal S1x1x1x1x1024 .f32) (ix5 0 0 0 0 d) = m (c.tc.loc main_arg3) (ix5 0 1 (condT t.val (lt36 t)) 0 d) := by
  unfold iblk
  rw [View.read_apply]
  show V m c main_arg3 _ = _
  rw [V_main_arg3]
  exact congrArg _ (place_mods 0 1 (condT t.val (lt36 t)) (win0_5.index t) (at5 t) _ d fun _ => rfl)
theorem blk6 (d : Fin 1024) : (iblk m c 6 t : Vec Ideal S1x1x1x1x1024 .f32) (ix5 0 0 0 0 d) = m (c.tc.loc main_arg3) (ix5 0 2 (condT t.val (lt36 t)) 0 d) := by
  unfold iblk
  rw [View.read_apply]
  show V m c main_arg3 _ = _
  rw [V_main_arg3]
  exact congrArg _ (place_mods 0 2 (condT t.val (lt36 t)) (win0_6.index t) (at6 t) _ d fun _ => rfl)
theorem blk7 (k : Fin 1024) (x : Fin 256) : (iblk m c 7 t : Vec Ideal S1x1024x256 .f32) (ix3 0 k x) = m (c.tc.loc main_arg5) (ix3 0 k (col (evenB t.val) x)) := by
  unfold iblk
  rw [View.read_apply]
  show V m c main_arg5 _ = _
  rw [V_main_arg5]
  exact congrArg _ (place_in 0 (evenB t.val) (win0_7.index t) (at7 t) _ k x fun _ => rfl)
theorem blk8 (k : Fin 1024) (x : Fin 256) : (iblk m c 8 t : Vec Ideal S1x1024x256 .f32) (ix3 0 k x) = m (c.tc.loc main_arg6) (ix3 0 k (col (evenB t.val) x)) := by
  unfold iblk
  rw [View.read_apply]
  show V m c main_arg6 _ = _
  rw [V_main_arg6]
  exact congrArg _ (place_in 0 (evenB t.val) (win0_8.index t) (at8 t) _ k x fun _ => rfl)
theorem blk9 (x : Fin 256) (d : Fin 1024) : (iblk m c 9 t : Vec Ideal S1x256x1024 .f32) (ix3 0 x d) = m (c.tc.loc main_arg7) (ix3 0 (col (evenB t.val) x) d) := by
  unfold iblk
  rw [View.read_apply]
  show V m c main_arg7 _ = _
  rw [V_main_arg7]
  exact congrArg _ (place_down 0 (evenB t.val) (win0_9.index t) (at9 t) _ x d fun _ => rfl)
theorem blk10 (k : Fin 1024) (x : Fin 256) : (iblk m c 10 t : Vec Ideal S1x1024x256 .f32) (ix3 0 k x) = m (c.tc.loc main_arg5) (ix3 0 k (col (oddB t.val) x)) := by
  unfold iblk
  rw [View.read_apply]
  show V m c main_arg5 _ = _
  rw [V_main_arg5]
  exact congrArg _ (place_in 0 (oddB t.val) (win0_10.index t) (at10 t) _ k x fun _ => rfl)
theorem blk11 (k : Fin 1024) (x : Fin 256) : (iblk m c 11 t : Vec Ideal S1x1024x256 .f32) (ix3 0 k x) = m (c.tc.loc main_arg6) (ix3 0 k (col (oddB t.val) x)) := by
  unfold iblk
  rw [View.read_apply]
  show V m c main_arg6 _ = _
  rw [V_main_arg6]
  exact congrArg _ (place_in 0 (oddB t.val) (win0_11.index t) (at11 t) _ k x fun _ => rfl)
theorem blk12 (x : Fin 256) (d : Fin 1024) : (iblk m c 12 t : Vec Ideal S1x256x1024 .f32) (ix3 0 x d) = m (c.tc.loc main_arg7) (ix3 0 (col (oddB t.val) x) d) := by
  unfold iblk
  rw [View.read_apply]
  show V m c main_arg7 _ = _
  rw [V_main_arg7]
  exact congrArg _ (place_down 0 (oddB t.val) (win0_12.index t) (at12 t) _ x d fun _ => rfl)

end Cert.KernelFirstIdeal.Tile

end
-- ==== Proof.First.Kernel.lean ====
/- The first half feed-forward call of layer 0: each token's row, with the position table added to the latents' rows, then the
   half feed-forward layer of that row. The run ends with this in the output array and its arguments unchanged. -/
module

public import proofs.«01_k».proof.Proof.First.Blocks
public import proofs.«01_k».proof.Proof.Tile.Mix
public import Idealize.ShloMosaic.Lib.Pipeline.ValueKit

@[expose] public section

set_option maxRecDepth 16384

noncomputable section

namespace Cert.KernelFirstIdeal.Tile

open Cert.KernelFirstIdeal Cert.KernelFirstIdeal.Gen Cert.Layer Idealize.ShloMosaic Idealize.ShloMosaic.TcCoe Idealize.SL.Sem

variable (m : (ℓ : Loc nD τ sig) → Buf (Elt Ideal) ℓ) (c : Dev nD)

/-- Conditioning vector `k` at token `s`, and layer 0's weights. -/
abbrev modRow (k : Fin 9) (s : Fin 6144) : Fin 1024 → EReal := fun d => m (c.tc.loc main_arg3) (ix5 0 k (condOf s) 0 d)
abbrev nW : Fin 1024 → EReal := fun d => m (c.tc.loc main_arg4) (ix2 0 d)
abbrev wGate : Fin 1024 → Fin 2816 → EReal := fun k f => m (c.tc.loc main_arg5) (ix3 0 k f)
abbrev wUp : Fin 1024 → Fin 2816 → EReal := fun k f => m (c.tc.loc main_arg6) (ix3 0 k f)
abbrev wDown : Fin 2816 → Fin 1024 → EReal := fun f d => m (c.tc.loc main_arg7) (ix3 0 f d)
/-- Token `s` as it enters the layer, and that row normalised and modulated. -/
def xRow (s : Fin 6144) : Fin 1024 → EReal :=
  enterRow (fun s d => m (c.tc.loc main_arg0) (ix2 s d)) (fun s d => m (c.tc.loc main_arg1) (ix2 s d)) (fun s d => m (c.tc.loc main_arg2) (ix2 s d)) s
def hRow (s : Fin 6144) : Fin 1024 → EReal := normRow (xRow m c s) (nW m c) (modRow m c 1 s) (modRow m c 0 s)

/-- The rows of a context tile and of a latent tile, as the first point of a tile computes them. -/
theorem ctx_at (t : Fin cfg0.N) (h : t.val < 24) (r d : Fin 1024) : k0_pay5 (iblk m c 0 t) (ix2 r d) = xRow m c (tok t.val (lt36 t) r) d := by
  have e0 : (tok t.val (lt36 t) r).val = 1024 * (t.val / 6) + r.val := rfl
  pointwise [k0_pay5]
  rw [blk0 m c t h]
  unfold xRow
  rw [enterRow_ctx _ _ _ _ _ (by omega)]
theorem lat_at (t : Fin cfg0.N) (h : 24 ≤ t.val) (r d : Fin 1024) :
    k0_pay6 (iblk m c 1 t) (iblk m c 2 t) (ix2 r d) = xRow m c (tok t.val (lt36 t) r) d := by
  have e0 : (tok t.val (lt36 t) r).val = 1024 * (t.val / 6) + r.val := rfl
  pointwise [k0_pay6]
  rw [blk1 m c t h, blk2]
  unfold xRow
  rw [enterRow_lat _ _ _ _ _ (by omega)]
  rw [show (⟨((tok t.val (lt36 t) r).val - 4096) % 1024, by omega⟩ : Fin 1024) = r from Fin.ext (by show (1024 * (t.val / 6) + r.val - 4096) % 1024 = r.val; omega)]

theorem ctx (t : Fin cfg0.N) (h : t.val < 24) : k0_pay5 (iblk m c 0 t) = tileOf (xRow m c) t.val (lt36 t) :=
  funext fun i => (congrArg _ (eq_ix2 i)).trans (ctx_at m c t h (i 0) (i 1))
theorem lat (t : Fin cfg0.N) (h : 24 ≤ t.val) : k0_pay6 (iblk m c 1 t) (iblk m c 2 t) = tileOf (xRow m c) t.val (lt36 t) :=
  funext fun i => (congrArg _ (eq_ix2 i)).trans (lat_at m c t h (i 0) (i 1))

/-- The normalised rows, as the first point of a tile computes them. -/
theorem normed (t : Fin cfg0.N) (r d : Fin 1024) : k0_pay7 (tileOf (xRow m c) t.val (lt36 t)) (iblk m c 3 t) (iblk m c 5 t)
    (iblk m c 4 t) (ix2 r d) = hRow m c (tok t.val (lt36 t) r) d := by
  pointwise [k0_pay7]
  simp only [blk3, blk4, blk5]
  unfold hRow normRow modRow nW
  rw [condOf_tok]
  rfl

theorem normed' (t : Fin cfg0.N) : k0_pay7 (tileOf (xRow m c) t.val (lt36 t)) (iblk m c 3 t) (iblk m c 5 t)
    (iblk m c 4 t) = tileOf (hRow m c) t.val (lt36 t) :=
  funext fun i => (congrArg _ (eq_ix2 i)).trans (normed m c t (i 0) (i 1))

/-- Two more blocks of the inner sum. -/
theorem grown (t : Fin cfg0.N) (a : Vec Ideal S1024x1024 .f32) (r d : Fin 1024) :
    k0_pay2 (k0_pay8 (tileOf (hRow m c) t.val (lt36 t)) (iblk m c 7 t) (iblk m c 8 t) (iblk m c 9 t))
      (k0_pay9 (tileOf (hRow m c) t.val (lt36 t)) (iblk m c 10 t) (iblk m c 11 t)) (iblk m c 12 t) a (ix2 r d)
    = a (ix2 r d) + (blockAt (hRow m c (tok t.val (lt36 t) r)) (wGate m c) (wUp m c) (wDown m c) d (2 * (t.val % 6))
        + blockAt (hRow m c (tok t.val (lt36 t) r)) (wGate m c) (wUp m c) (wDown m c) d (2 * (t.val % 6) + 1)) := by
  pointwise [k0_pay2, k0_pay8, k0_pay9]
  simp only [blk7, blk8, blk9, blk10, blk11, blk12]
  rfl

theorem first (t : ℕ) (ht : t < cfg0.N) (h0 : t % 6 = 0) :
    (outsAt0 m c t ht).2.1 = tileOf (hRow m c) t (N_0 ▸ ht) ∧ (outsAt0 m c t ht).2.2.2 = tileOf (xRow m c) t (N_0 ▸ ht)
    ∧ ∀ r d, (outsAt0 m c t ht).2.2.1 (ix2 r d) = firstBlocks (hRow m c (tok t (N_0 ▸ ht) r)) (wGate m c) (wUp m c) (wDown m c) d 2 := by
  have key : ∀ r d, k0_pay2 (k0_pay8 (tileOf (hRow m c) t (N_0 ▸ ht)) (iblk m c 7 ⟨t, ht⟩) (iblk m c 8 ⟨t, ht⟩) (iblk m c 9 ⟨t, ht⟩))
      (k0_pay9 (tileOf (hRow m c) t (N_0 ▸ ht)) (iblk m c 10 ⟨t, ht⟩) (iblk m c 11 ⟨t, ht⟩)) (iblk m c 12 ⟨t, ht⟩) (k0_pay1 (F := Ideal)) (ix2 r d)
        = firstBlocks (hRow m c (tok t (N_0 ▸ ht) r)) (wGate m c) (wUp m c) (wDown m c) d 2 := fun r d => by
    refine (grown m c ⟨t, ht⟩ _ r d).trans ?_
    rw [firstBlocks_two]
    show k0_pay1 (F := Ideal) (ix2 r d) + (blockAt _ _ _ _ d (2 * (t % 6)) + blockAt _ _ _ _ d (2 * (t % 6) + 1)) = _
    rw [h0]
    pointwise [k0_pay1]
  by_cases h : t < 24
  · rw [outsAt0_A m c ⟨t, ht⟩ h0 (by dsimp only; omega) (by dsimp only; omega) (by dsimp only; omega) (by dsimp only; omega) (by dsimp only; omega)]
    dsimp only
    frame_out
    rw [ctx m c ⟨t, ht⟩ h, normed' m c ⟨t, ht⟩]
    exact ⟨rfl, rfl, key⟩
  · rw [outsAt0_D m c ⟨t, ht⟩ h0 (by dsimp only; omega) (by dsimp only; omega) (by dsimp only; omega) (by dsimp only; omega) (by dsimp only; omega)]
    dsimp only
    frame_out
    rw [lat m c ⟨t, ht⟩ (by show 24 ≤ t; omega), normed' m c ⟨t, ht⟩]
    exact ⟨rfl, rfl, key⟩

theorem later (t : ℕ) (ht : t < cfg0.N) (h0 : ¬t % 6 = 0) (h4 : t % 6 ≤ 4) :
    (outsAt0 m c t ht).2.1 = (outsAt0 m c (t - 1) (by omega)).2.1 ∧ (outsAt0 m c t ht).2.2.2 = (outsAt0 m c (t - 1) (by omega)).2.2.2
    ∧ ((outsAt0 m c (t - 1) (by omega)).2.1 = tileOf (hRow m c) t (N_0 ▸ ht) → ∀ r d, (outsAt0 m c t ht).2.2.1 (ix2 r d)
        = (outsAt0 m c (t - 1) (by omega)).2.2.1 (ix2 r d)
          + (blockAt (hRow m c (tok t (N_0 ▸ ht) r)) (wGate m c) (wUp m c) (wDown m c) d (2 * (t % 6))
            + blockAt (hRow m c (tok t (N_0 ▸ ht) r)) (wGate m c) (wUp m c) (wDown m c) d (2 * (t % 6) + 1))) := by
  rw [outsAt0_B m c ⟨t, ht⟩ h0 h4 (by dsimp only; omega) (by dsimp only; omega)]
  refine ⟨rfl, rfl, fun hs r d => ?_⟩
  dsimp only
  frame_out
  rw [show View.read (Elt Ideal) (View.whole cc0_scratch0) ((Memref.isWhole_whole cc0_scratch0).unread _) = _ from
    (Memref.isWhole_whole cc0_scratch0).read_unread _, show View.read (Elt Ideal) (View.whole cc0_scratch1) ((Memref.isWhole_whole cc0_scratch1).unread _) = _ from
    (Memref.isWhole_whole cc0_scratch1).read_unread _, hs]
  exact grown m c ⟨t, ht⟩ _ r d

/-- The result: each token's row after the call. -/
def result : Buf (Elt Ideal) ((c : Thread nD τ).loc main_v1) := fun i : S6144x1024.Idx =>
  ffnRow (xRow m c (i 0)) (hRow m c (i 0)) (modRow m c 2 (i 0)) (wGate m c) (wUp m c) (wDown m c) (i 1)

theorem result_apply (s : Fin 6144) (d : Fin 1024) : result m c (ix2 s d)
    = ffnRow (xRow m c s) (hRow m c s) (modRow m c 2 s) (wGate m c) (wUp m c) (wDown m c) d := rfl

/-- After the last point of a tile the output block holds the tile's rows of the result. -/
theorem out_last (t : Fin cfg0.N) (h5 : t.val % 6 = 5) (r d : Fin 1024) :
    (outsAt0 m c t.val t.isLt).1 (ix2 r d) = result m c (ix2 (tok t.val (lt36 t) r) d) := by
  obtain ⟨hS, hX, hA⟩ := gathered (wGate m c) (wUp m c) (wDown m c) N_0 (fun n h => (outsAt0 m c n h).2.1) (fun n h => (outsAt0 m c n h).2.2.1)
    (fun n h => (outsAt0 m c n h).2.2.2) (hRow m c) (xRow m c) (first m c) (later m c) (t.val - 1)
    (lt_of_le_of_lt (Nat.sub_le _ _) t.isLt) (by omega)
  have h0 : ¬t.val % 6 = 0 := by omega
  replace hS := hS.trans (tileOf_pred (hRow m c) t.val (lt36 t) h0)
  replace hX := hX.trans (tileOf_pred (xRow m c) t.val (lt36 t) h0)
  rw [outsAt0_C m c t h0 (by omega) h5 h5]
  dsimp only at hS hX hA ⊢
  frame_out
  rw [show View.read (Elt Ideal) (View.whole cc0_scratch0) ((Memref.isWhole_whole cc0_scratch0).unread _) = _ from
    (Memref.isWhole_whole cc0_scratch0).read_unread _, show View.read (Elt Ideal) (View.whole cc0_scratch1) ((Memref.isWhole_whole cc0_scratch1).unread _) = _ from
    (Memref.isWhole_whole cc0_scratch1).read_unread _, show View.read (Elt Ideal) (View.whole cc0_scratch2) ((Memref.isWhole_whole cc0_scratch2).unread _) = _ from
    (Memref.isWhole_whole cc0_scratch2).read_unread _, hS, hX]
  have e10 : evenB t.val = ⟨min 10 10, by omega⟩ := Fin.ext (by show min (2 * (t.val % 6)) 10 = min 10 10; rw [h5])
  pointwise [k0_pay4, k0_pay3]
  simp only [blk6, blk7, blk8, blk9, e10]
  rw [hA, tok_pred t.val (lt36 t) h0, show 2 * ((t.val - 1) % 6) + 2 = 10 by omega, ← condOf_tok t.val (lt36 t) r]
  rw [result_apply]
  unfold ffnRow
  rw [← firstBlocks_all]
  rfl

/-- What the last point of a tile writes back is the tile of the result. -/
theorem flushed (t : Fin cfg0.N) (hf : (cfg0.win 13).flush t = true) :
    (dats m 0 c).flushed 13 t = ((cfg0.win 13).blk t).view.read (Elt Ideal) (result m c) := by
  have h5 : t.val % 6 = 5 := (flush0_13 t).mp hf
  show (cfg0.win 13).cut (grid0.coords t) ((dats m 0 c).after 13 t) = _
  rw [after0_13]
  funext y
  rw [View.read_apply]
  show (outsAt0 m c t.val t.isLt).1 ((cfg0.win 13).xinj (grid0.coords t) y) = _
  have e1 : ((cfg0.win 13).xinj (grid0.coords t) y : S1024x1024.Idx) = ix2 (⟨(y 0).val, (y 0).isLt⟩ : Fin 1024) (⟨(y 1).val, (y 1).isLt⟩ : Fin 1024) := by
    funext a
    match a with
    | ⟨0, _⟩ => rfl
    | ⟨1, _⟩ => rfl
  rw [e1]
  refine (out_last m c t h5 _ _).trans (congrArg _ ?_)
  funext a
  apply Fin.ext
  match a with
  | ⟨0, _⟩ => show 1024 * (t.val / 6) + (y 0).val = win0_13.index t 0 * 1024 + 1 * (y 0).val; rw [(at13 t).1]; omega
  | ⟨1, _⟩ => show (y 1).val = win0_13.index t 1 * 1024 + 1 * (y 1).val; rw [(at13 t).2]; omega

/-- The tiles written back fill the output array. -/
theorem filled : (dats m 0 c).arrAt 13 cfg0.N = result m c :=
  (dats m 0 c).arrAt_eq_of_cover 13 _ (fun t hf => flushed m c t hf) fun i => by
    have h0 : (i 0).val < 6144 := (i 0).isLt
    have h1 : (i 1).val < 1024 := (i 1).isLt
    let t : Fin cfg0.N := ⟨6 * ((i 0).val / 1024) + 5, by rw [show cfg0.N = 36 from N_0]; omega⟩
    refine ⟨t, (flush0_13 t).mpr (by show (6 * ((i 0).val / 1024) + 5) % 6 = 5; omega), ?_⟩
    show i ∈ ((View.whole main_v1).slice (win0_13.rect t)).set
    rw [View.set_slice_whole, Rect.mem_set_unit]
    intro a
    match a with
    | ⟨0, _⟩ =>
      show win0_13.index t 0 * 1024 ≤ (i 0).val ∧ (i 0).val < win0_13.index t 0 * 1024 + 1024
      rw [(at13 t).1]
      show (6 * ((i 0).val / 1024) + 5) / 6 * 1024 ≤ (i 0).val ∧ (i 0).val < (6 * ((i 0).val / 1024) + 5) / 6 * 1024 + 1024
      omega
    | ⟨1, _⟩ =>
      show win0_13.index t 1 * 1024 ≤ (i 1).val ∧ (i 1).val < win0_13.index t 1 * 1024 + 1024
      rw [(at13 t).2]
      omega

/-- The kernel's run ends with `result` in its output array and its arguments as they were. -/
theorem run (ρ : Dev nD → PrngReg) : θ_run defs (onTc (τ := τ) (main (F := Ideal))) ⟨m, fun _ => 0, ρ⟩ fun r => ∀ c : Dev nD,
    r.2.mem ((c : Thread nD τ).loc main_v1) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine (θ_run defs _ _).mono (fun r h c => ?_) (run_main m ρ)
  exact ⟨((h c).1 13).trans (filled m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 4).trans (((dats m 0 c).arrAt_in 4 rfl _).trans ((A_eq m c 4).trans (V_main_arg3 m c))),
    ((h c).2 main_arg4 (Pipeline.mem_restRefs_of main_arg4 (by decide) (by decide))).trans (V_main_arg4 m c),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).1 9).trans (((dats m 0 c).arrAt_in 9 rfl _).trans ((A_eq m c 9).trans (V_main_arg7 m c)))⟩

end Cert.KernelFirstIdeal.Tile

end
-- ==== Proof.First.Reference.lean ====
/- What the reference of the first half feed-forward layer of layer 0 computes, row by row. -/
module

public import proofs.«01_k».proof.Proof.Gen.ReferenceFirstIdeal.Read
public import proofs.«01_k».proof.Proof.Tile.Places
public import proofs.«01_k».proof.Proof.Tile.Mix
public import Idealize.ShloMosaic.Lib.Pointwise

@[expose] public section

set_option maxRecDepth 16384

noncomputable section

namespace Cert.ReferenceFirstIdeal.Rows

open Cert.ReferenceFirstIdeal Cert.ReferenceFirstIdeal.Read Cert.Layer Idealize.ShloMosaic

variable (x0 : (⟨S4096x1024, .f32⟩ : BufTy).Contents (Elt Ideal)) (x1 : (⟨S2048x1024, .f32⟩ : BufTy).Contents (Elt Ideal))
  (x2 : (⟨S1024x1024, .f32⟩ : BufTy).Contents (Elt Ideal)) (x3 : (⟨S4x9x3x1x1024, .f32⟩ : BufTy).Contents (Elt Ideal))
  (x4 : (⟨S4x1024, .f32⟩ : BufTy).Contents (Elt Ideal)) (x5 x6 : (⟨S4x1024x2816, .f32⟩ : BufTy).Contents (Elt Ideal))
  (x7 : (⟨S4x2816x1024, .f32⟩ : BufTy).Contents (Elt Ideal))

theorem shift (s : Fin 6144) (d : Fin 1024) : val_main_v14 (F := Ideal) x3 (ix2 s d) = x3 (ix5 0 0 (condOf s) 0 d) := by
  pointwise [val_main_v14, val_main_v13, val_main_v12, val_main_v11, val_main_v10, val_main_v9, val_main_v8, val_main_v7, val_main_v6, val_main_v5]
  split_ifs
  · rw [condOf_eq s 0 (by show _ = 0; omega)]
  · rw [condOf_eq s 1 (by show _ = 1; omega)]
  · rw [condOf_eq s 2 (by show _ = 2; omega)]

theorem scale (s : Fin 6144) (d : Fin 1024) : val_main_v24 (F := Ideal) x3 (ix2 s d) = x3 (ix5 0 1 (condOf s) 0 d) := by
  pointwise [val_main_v24, val_main_v23, val_main_v22, val_main_v21, val_main_v20, val_main_v19, val_main_v18, val_main_v17, val_main_v16, val_main_v15]
  split_ifs
  · rw [condOf_eq s 0 (by show _ = 0; omega)]
  · rw [condOf_eq s 1 (by show _ = 1; omega)]
  · rw [condOf_eq s 2 (by show _ = 2; omega)]

theorem gate (s : Fin 6144) (d : Fin 1024) : val_main_v34 (F := Ideal) x3 (ix2 s d) = x3 (ix5 0 2 (condOf s) 0 d) := by
  pointwise [val_main_v34, val_main_v33, val_main_v32, val_main_v31, val_main_v30, val_main_v29, val_main_v28, val_main_v27, val_main_v26, val_main_v25]
  split_ifs
  · rw [condOf_eq s 0 (by show _ = 0; omega)]
  · rw [condOf_eq s 1 (by show _ = 1; omega)]
  · rw [condOf_eq s 2 (by show _ = 2; omega)]

/-- The rows of the two latent requests, the position table added. -/
theorem lat0 (j d : Fin 1024) : val_main_v1 (F := Ideal) x1 x2 (ix2 j d) = x1 (ix2 ⟨j.val, by omega⟩ d) + x2 (ix2 j d) := by
  pointwise [val_main_v1, val_main_v0]
theorem lat1 (j d : Fin 1024) : val_main_v3 (F := Ideal) x1 x2 (ix2 j d) = x1 (ix2 ⟨1024 + j.val, by omega⟩ d) + x2 (ix2 j d) := by
  pointwise [val_main_v3, val_main_v2]

/-- A token's row as it enters the layer. -/
theorem mixed (s : Fin 6144) (d : Fin 1024) : val_main_v4 (F := Ideal) x0 x1 x2 (ix2 s d)
    = enterRow (fun s d => x0 (ix2 s d)) (fun s d => x1 (ix2 s d)) (fun s d => x2 (ix2 s d)) s d := by
  pointwise [val_main_v4]
  by_cases h : s.val < 4096
  · rw [enterRow_ctx _ _ _ _ _ h, dif_pos h]
  · rw [enterRow_lat _ _ _ _ _ h, dif_neg h]
    by_cases g : s.val - 4096 < 1024
    · rw [dif_pos g, lat0]
      exact congrArg (fun j : Fin 1024 => (x1 (ix2 ⟨s.val - 4096, by omega⟩ d) + x2 (ix2 j d) : EReal)) (Fin.ext (by show s.val - 4096 = (s.val - 4096) % 1024; omega))
    · rw [dif_neg g, lat1]
      exact congrArg₂ (fun (i : Fin 2048) (j : Fin 1024) => (x1 (ix2 i d) + x2 (ix2 j d) : EReal)) (Fin.ext (by show 1024 + (s.val - 4096 - 1024) = s.val - 4096; omega))
        (Fin.ext (by show s.val - 4096 - 1024 = (s.val - 4096) % 1024; omega))

/-- Entry `(s, d)` of the reference's result. -/
theorem row (s : Fin 6144) (d : Fin 1024) : val_main_v68 (F := Ideal) x0 x1 x2 x3 x4 x5 x6 x7 (ix2 s d)
    = halfFfn (enterRow (fun s d => x0 (ix2 s d)) (fun s d => x1 (ix2 s d)) (fun s d => x2 (ix2 s d)) s)
        (fun k => x4 (ix2 0 k)) (fun k => x3 (ix5 0 1 (condOf s) 0 k)) (fun k => x3 (ix5 0 0 (condOf s) 0 k))
        (fun k => x3 (ix5 0 2 (condOf s) 0 k)) (fun k f => x5 (ix3 0 k f)) (fun k f => x6 (ix3 0 k f)) (fun f k => x7 (ix3 0 f k)) d := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst, val_main_cst_0, val_main_cst_1, val_main_cst_2, val_main_cst_3,
    val_main_call0_v5, val_main_call0_v4, val_main_call0_v3, val_main_call0_v2, val_main_call0_v1, val_main_call0_v0, val_main_call0_cst, val_main_call0_cst_0]
  simp only [shift, scale, gate, mixed]
  unfold halfFfn normRow Ideal.logistic
  simp only [mul_assoc]

end Cert.ReferenceFirstIdeal.Rows

end
-- ==== Proof.First.Pre.lean ====
/- The precondition of the value claim of layer 0's first half feed-forward layer, read: every argument the rows and the gate
   projections come from is finite. -/
module

public import proofs.«01_k».proof.Proof.Gen.Pre_finite_first
public import proofs.«01_k».proof.Proof.Finite

@[expose] public section

set_option maxRecDepth 16384

noncomputable section

namespace Cert.Pre_finite_first

open Idealize.ShloMosaic Cert.Layer

attribute [local instance] Gen.facts

theorem finite_of_fn (xc : FVec Ideal S4096x1024 .f32) (xl : FVec Ideal S2048x1024 .f32) (pos : FVec Ideal S1024x1024 .f32)
    (mods : FVec Ideal S4x9x3x1x1024 .f32) (nw : FVec Ideal S4x1024 .f32)
    (wg wu : FVec Ideal S4x1024x2816 .f32) (wd : FVec Ideal S4x2816x1024 .f32)
    (h : fn (F := Ideal) xc xl pos mods nw wg wu wd = fun _ => 1#1) :
    (∀ s d, IsReal (xc (ix2 s d))) ∧ (∀ s d, IsReal (xl (ix2 s d))) ∧ (∀ s d, IsReal (pos (ix2 s d)))
      ∧ (∀ i, IsReal (mods i)) ∧ (∀ l d, IsReal (nw (ix2 l d))) ∧ (∀ l k d, IsReal (wg (ix3 l k d))) := by
  have h0 := congrFun h (ix1 0)
  have h1 := congrFun h (ix1 1)
  have h2 := congrFun h (ix1 2)
  have h3 := congrFun h (ix1 3)
  have h4 := congrFun h (ix1 4)
  have h5 := congrFun h (ix1 5)
  unfold fn fn_part1 at h0 h1 h2 h3 h4 h5
  dsimp only at h0 h1 h2 h3 h4 h5
  pointwise at h0
  pointwise at h1
  pointwise at h2
  pointwise at h3
  pointwise at h4
  pointwise at h5
  replace h0 := all_of_fold_univ _ h0
  replace h1 := all_of_fold_univ _ h1
  replace h2 := all_of_fold_univ _ h2
  replace h3 := all_of_fold _ _ h3
  replace h4 := all_of_fold_univ _ h4
  replace h5 := all_of_fold_univ _ h5
  refine ⟨fun s d => ?_, fun s d => ?_, fun s d => ?_, fun i => ?_, fun s d => ?_, fun l k d => ?_⟩
  · exact isReal_of_test _ (h0 (s, d))
  · exact isReal_of_test _ (h1 (s, d))
  · exact isReal_of_test _ (h2 (s, d))
  · exact isReal_of_test _ (h3 i (Finset.mem_filter.2 ⟨Finset.mem_univ _, funext fun a => a.elim0⟩))
  · exact isReal_of_test _ (h4 (s, d))
  · exact isReal_of_test _ (h5 (l, k, d))

end Cert.Pre_finite_first

end
-- ==== Proof.Project.EvenBlocks.lean ====
/- What the blocks of the mixers' input projection of layer 0 hold at each grid point. -/
module

public import proofs.«01_k».proof.Proof.Gen.KernelProjectEvenIdeal.Frame
public import proofs.«01_k».proof.Proof.Tile.Blocks

@[expose] public section

noncomputable section

namespace Cert.KernelProjectEvenIdeal.Tile

open Cert.KernelProjectEvenIdeal Cert.KernelProjectEvenIdeal.Gen Cert.Layer Idealize.ShloMosaic Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = 0 ∧ win0_1.index t 1 = 0 ∧ win0_1.index t 2 = 0 := by decide +kernel
theorem at2 : ∀ t : Fin cfg0.N, win0_2.index t 0 = 0 ∧ win0_2.index t 1 = 3 ∧ win0_2.index t 2 = t.val / 2 - 3
    ∧ win0_2.index t 3 = 0 ∧ win0_2.index t 4 = 0 := by decide +kernel
theorem at3 : ∀ t : Fin cfg0.N, win0_3.index t 0 = 0 ∧ win0_3.index t 1 = 4 ∧ win0_3.index t 2 = t.val / 2 - 3
    ∧ win0_3.index t 3 = 0 ∧ win0_3.index t 4 = 0 := by decide +kernel
theorem at4 : ∀ t : Fin cfg0.N, win0_4.index t 0 = 0 ∧ win0_4.index t 1 = 0 ∧ win0_4.index t 2 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel
theorem at7 : ∀ t : Fin cfg0.N, win0_7.index t 0 = t.val ∧ win0_7.index t 1 = 0 := by decide +kernel
theorem at8 : ∀ t : Fin cfg0.N, win0_8.index t 0 = 0 ∧ win0_8.index t 1 = t.val := by decide +kernel

/-- Row `r` of the tile met at point `t`, and the tile's conditioning vector. -/
abbrev tokP (t : ℕ) (ht : t < 12) (r : Fin 512) : Fin 6144 := ⟨512 * t + r.val, by omega⟩
abbrev condP (t : ℕ) (ht : t < 12) : Fin 3 := ⟨t / 2 - 3, by omega⟩

theorem condOf_tokP (t : ℕ) (ht : t < 12) (r : Fin 512) : condOf (tokP t ht r) = condP t ht :=
  condOf_eq _ _ (by show (512 * t + r.val) / 1024 - 3 = t / 2 - 3; omega)

variable (m : (ℓ : Loc nD τ sig) → Buf (Elt Ideal) ℓ) (c : Dev nD) (t : Fin cfg0.N)

theorem lt12 : t.val < 12 := lt_of_lt_of_eq t.isLt N_0

theorem V_main_v0 : V m c main_v0 = transpose S2x3352x1024 [0, 2, 1] (m (c.tc.loc main_arg3)) transposes_S2x1024x3352_S2x3352x1024_0_2_1 := by
  show StableHlo.after hostOps0 _ (Proc.devRef .tc main_v0) = _
  after_results
theorem V_main_v1 : V m c main_v1 = shapeCast S4x1x1024 (m (c.tc.loc main_arg2)) shapeCasts_S4x1024_S4x1x1024 := by
  show StableHlo.after hostOps0 _ (Proc.devRef .tc main_v1) = _
  after_results
  rfl

theorem blk0 (r : Fin 512) (d : Fin 1024) : (iblk m c 0 t : Vec Ideal S512x1024 .f32) (ix2 r d) = m (c.tc.loc main_arg0) (ix2 (tokP t.val (lt12 t) r) d) := by
  unfold iblk
  rw [View.read_apply]
  show V m c main_arg0 _ = _
  rw [V_main_arg0]
  exact congrArg _ (place_rows _ (win0_0.index t) (at0 t) _ r d (fun _ => rfl) _)
theorem blk1 (d : Fin 1024) : (iblk m c 1 t : Vec Ideal S1x1x1024 .f32) (ix3 0 0 d) = m (c.tc.loc main_arg2) (ix2 0 d) := by
  unfold iblk
  rw [View.read_apply]
  show V m c main_v1 _ = _
  rw [V_main_v1]
  refine (congrArg _ (place_layer 0 (win0_1.index t) (at1 t) _ 0 d fun _ => rfl)).trans ?_
  pointwise
theorem blk2 (d : Fin 1024) : (iblk m c 2 t : Vec Ideal S1x1x1x1x1024 .f32) (ix5 0 0 0 0 d) = m (c.tc.loc main_arg1) (ix5 0 3 (condP t.val (lt12 t)) 0 d) := by
  unfold iblk
  rw [View.read_apply]
  show V m c main_arg1 _ = _
  rw [V_main_arg1]
  exact congrArg _ (place_mods 0 3 (condP t.val (lt12 t)) (win0_2.index t) (at2 t) _ d fun _ => rfl)
theorem blk3 (d : Fin 1024) : (iblk m c 3 t : Vec Ideal S1x1x1x1x1024 .f32) (ix5 0 0 0 0 d) = m (c.tc.loc main_arg1) (ix5 0 4 (condP t.val (lt12 t)) 0 d) := by
  unfold iblk
  rw [View.read_apply]
  show V m c main_arg1 _ = _
  rw [V_main_arg1]
  exact congrArg _ (place_mods 0 4 (condP t.val (lt12 t)) (win0_3.index t) (at3 t) _ d fun _ => rfl)
theorem blk4 (d : Fin 3352) (k : Fin 1024) : (iblk m c 4 t : Vec Ideal S1x3352x1024 .f32) (ix3 0 d k) = m (c.tc.loc main_arg3) (ix3 0 k d) := by
  unfold iblk
  rw [View.read_apply]
  show V m c main_v0 _ = _
  rw [V_main_v0]
  refine (congrArg _ (place_layer 0 (win0_4.index t) (at4 t) _ d k fun _ => rfl)).trans ?_
  pointwise

end Cert.KernelProjectEvenIdeal.Tile

end
-- ==== Proof.Project.EvenKernel.lean ====
/- The mixers' input projection of layer 0: each token's normalised and modulated row times the projection weights, the
   columns written to three arrays, the last 24 of them a second time transposed. The run ends with these in the output arrays and its arguments unchanged. -/
module

public import proofs.«01_k».proof.Proof.Project.EvenBlocks
public import Idealize.ShloMosaic.Lib.Pipeline.ValueKit
public import Idealize.ShloMosaic.Lib.Pipeline.ReadBack

@[expose] public section

set_option maxRecDepth 16384

noncomputable section

namespace Cert.KernelProjectEvenIdeal.Tile

open Cert.KernelProjectEvenIdeal Cert.KernelProjectEvenIdeal.Gen Cert.Layer Idealize.ShloMosaic Idealize.ShloMosaic.TcCoe Idealize.SL.Sem

variable (m : (ℓ : Loc nD τ sig) → Buf (Elt Ideal) ℓ) (c : Dev nD)

/-- Conditioning vector `k` at token `s`, the norm weight and the projection weights. -/
abbrev modRow (k : Fin 9) (s : Fin 6144) : Fin 1024 → EReal := fun d => m (c.tc.loc main_arg1) (ix5 0 k (condOf s) 0 d)
abbrev nW : Fin 1024 → EReal := fun d => m (c.tc.loc main_arg2) (ix2 0 d)
abbrev wIn : Fin 1024 → Fin 3352 → EReal := fun k d => m (c.tc.loc main_arg3) (ix3 0 k d)
/-- Token `s` normalised and modulated, and its projection. -/
def hRow (s : Fin 6144) : Fin 1024 → EReal :=
  normRow (fun d => m (c.tc.loc main_arg0) (ix2 s d)) (nW m c) (modRow m c 4 s) (modRow m c 3 s)
def proj (s : Fin 6144) (d : Fin 3352) : EReal := ∑ k, hRow m c s k * wIn m c k d

/-- The weights, transposed, as the kernel keeps them between grid points. -/
def kept : Vec Ideal S3352x1024 .bf16 := fun i => wIn m c (i 1) (i 0)

theorem kept_apply (d : Fin 3352) (k : Fin 1024) : kept m c (ix2 d k) = wIn m c k d := rfl

theorem stored (t : Fin cfg0.N) : k0_pay4 (iblk m c 4 t) = kept m c := by
  have key : ∀ (d : Fin 3352) (k : Fin 1024), k0_pay4 (iblk m c 4 t) (ix2 d k) = kept m c (ix2 d k) := fun d k => by
    pointwise [k0_pay4]
    rw [blk4]
    rfl
  exact funext fun i => (congrArg _ (eq_ix2 i)).trans ((key (i 0) (i 1)).trans (congrArg (kept m c) (eq_ix2 i).symm))

theorem normed (t : Fin cfg0.N) (r : Fin 512) (d : Fin 1024) :
    k0_pay5 (iblk m c 0 t) (iblk m c 1 t) (iblk m c 3 t) (iblk m c 2 t) (ix2 r d) = hRow m c (tokP t.val (lt12 t) r) d := by
  pointwise [k0_pay5]
  simp only [blk0, blk1, blk2, blk3]
  unfold hRow normRow modRow nW
  rw [condOf_tokP]

/-- The four outputs of a point that has the weights at hand. -/
theorem mixers (t : Fin cfg0.N) (r : Fin 512) (d : Fin 3072) :
    k0_pay6 (iblk m c 0 t) (iblk m c 1 t) (iblk m c 3 t) (iblk m c 2 t)
      (View.ld (kept m c) (Rect.unit (s := S3352x1024) ![256, 0] S3072x1024.size inb_S3352x1024_S3072x1024_256_0)) (ix2 r d)
      = proj m c (tokP t.val (lt12 t) r) ⟨256 + d.val, by omega⟩ := by
  pointwise [k0_pay6]
  simp only [normed, kept_apply]
  rfl
theorem pooled (t : Fin cfg0.N) (r : Fin 512) (d : Fin 256) :
    k0_pay1 (k0_pay5 (iblk m c 0 t) (iblk m c 1 t) (iblk m c 3 t) (iblk m c 2 t))
      (View.ld (kept m c) (Rect.unit (s := S3352x1024) ![0, 0] S256x1024.size inb_S3352x1024_S256x1024_0_0)) (ix2 r d)
      = proj m c (tokP t.val (lt12 t) r) ⟨d.val, by omega⟩ := by
  pointwise [k0_pay1]
  simp only [normed, kept_apply]
  rfl
theorem gates (t : Fin cfg0.N) (r : Fin 512) (d : Fin 24) :
    k0_pay2 (k0_pay5 (iblk m c 0 t) (iblk m c 1 t) (iblk m c 3 t) (iblk m c 2 t))
      (View.ld (kept m c) (Rect.unit (s := S3352x1024) ![3328, 0] S24x1024.size inb_S3352x1024_S24x1024_3328_0)) (ix2 r d)
      = proj m c (tokP t.val (lt12 t) r) ⟨3328 + d.val, by omega⟩ := by
  pointwise [k0_pay2]
  simp only [normed, kept_apply]
  rfl
theorem gatesT (t : Fin cfg0.N) (d : Fin 24) (r : Fin 512) :
    k0_pay3 (k0_pay5 (iblk m c 0 t) (iblk m c 1 t) (iblk m c 3 t) (iblk m c 2 t))
      (View.ld (kept m c) (Rect.unit (s := S3352x1024) ![3328, 0] S24x1024.size inb_S3352x1024_S24x1024_3328_0)) (ix2 d r)
      = proj m c (tokP t.val (lt12 t) r) ⟨3328 + d.val, by omega⟩ := by
  pointwise [k0_pay3]
  simp only [normed, kept_apply]
  exact Finset.sum_congr rfl fun k _ => mul_comm _ _

/-- After each point the kernel still has the weights, and its output blocks hold the tile's projections. -/
theorem point (t : ℕ) (ht : t < cfg0.N) : (outsAt0 m c t ht).2.2.2.2 = kept m c
    ∧ (∀ r d, (outsAt0 m c t ht).1 (ix2 r d) = proj m c (tokP t (N_0 ▸ ht) r) ⟨256 + d.val, by omega⟩)
    ∧ (∀ r d, (outsAt0 m c t ht).2.1 (ix2 r d) = proj m c (tokP t (N_0 ▸ ht) r) ⟨d.val, by omega⟩)
    ∧ (∀ r d, (outsAt0 m c t ht).2.2.1 (ix2 r d) = proj m c (tokP t (N_0 ▸ ht) r) ⟨3328 + d.val, by omega⟩)
    ∧ ∀ d r, (outsAt0 m c t ht).2.2.2.1 (ix2 d r) = proj m c (tokP t (N_0 ▸ ht) r) ⟨3328 + d.val, by omega⟩ := by
  induction t with
  | zero =>
    rw [outsAt0_A m c ⟨0, ht⟩ rfl]
    dsimp only
    frame_out
    rw [stored m c ⟨0, ht⟩]
    exact ⟨rfl, fun r d => (congrArg (fun w => k0_pay6 _ _ _ _ w (ix2 r d)) (View.readCov_fill _ _ _ _ _ (by decide))).trans (mixers m c ⟨0, ht⟩ r d),
      fun r d => (congrArg (fun w => k0_pay1 _ w (ix2 r d)) (View.readCov_fill _ _ _ _ _ (by decide))).trans (pooled m c ⟨0, ht⟩ r d),
      fun r d => (congrArg (fun w => k0_pay2 _ w (ix2 r d)) (View.readCov_fill _ _ _ _ _ (by decide))).trans (gates m c ⟨0, ht⟩ r d),
      fun d r => (congrArg (fun w => k0_pay3 _ w (ix2 d r)) (View.readCov_fill _ _ _ _ _ (by decide))).trans (gatesT m c ⟨0, ht⟩ d r)⟩
  | succ n ih =>
    have hn : ¬(n + 1) % 12 = 0 := by have := lt_of_lt_of_eq ht N_0; omega
    have hk : (outsAt0 m c (n + 1 - 1) (by omega)).2.2.2.2 = kept m c := (ih (by omega)).1
    rw [outsAt0_B m c ⟨n + 1, ht⟩ hn]
    refine ⟨hk, ?_⟩
    dsimp only
    frame_out
    rw [show View.read (Elt Ideal) (View.whole cc0_scratch0) ((Memref.isWhole_whole cc0_scratch0).unread _) = _ from
      (Memref.isWhole_whole cc0_scratch0).read_unread _, hk]
    exact ⟨mixers m c ⟨n + 1, ht⟩, pooled m c ⟨n + 1, ht⟩, gates m c ⟨n + 1, ht⟩, gatesT m c ⟨n + 1, ht⟩⟩

/-- The results: the mixers' columns, the pooled latent's, the gates', and the gates' again, transposed. -/
def result0 : Buf (Elt Ideal) ((c : Thread nD τ).loc main_v2_0) := fun i : S6144x3072.Idx => proj m c (i 0) ⟨256 + (i 1).val, by have : (i 1).val < 3072 := (i 1).isLt; omega⟩
def result1 : Buf (Elt Ideal) ((c : Thread nD τ).loc main_v2_1) := fun i : S6144x256.Idx => proj m c (i 0) ⟨(i 1).val, by have : (i 1).val < 256 := (i 1).isLt; omega⟩
def result2 : Buf (Elt Ideal) ((c : Thread nD τ).loc main_v2_2) := fun i : S6144x24.Idx => proj m c (i 0) ⟨3328 + (i 1).val, by have : (i 1).val < 24 := (i 1).isLt; omega⟩
def result3 : Buf (Elt Ideal) ((c : Thread nD τ).loc main_v2_3) := fun i : S24x6144.Idx => proj m c (i 1) ⟨3328 + (i 0).val, by have : (i 0).val < 24 := (i 0).isLt; omega⟩

theorem result0_apply (s : Fin 6144) (d : Fin 3072) : result0 m c (ix2 s d) = proj m c s ⟨256 + d.val, by omega⟩ := rfl
theorem result1_apply (s : Fin 6144) (d : Fin 256) : result1 m c (ix2 s d) = proj m c s ⟨d.val, by omega⟩ := rfl
theorem result2_apply (s : Fin 6144) (d : Fin 24) : result2 m c (ix2 s d) = proj m c s ⟨3328 + d.val, by omega⟩ := rfl
theorem result3_apply (d : Fin 24) (s : Fin 6144) : result3 m c (ix2 d s) = proj m c s ⟨3328 + d.val, by omega⟩ := rfl

theorem flushed0 (t : Fin cfg0.N) : (dats m 0 c).flushed 5 t = ((cfg0.win 5).blk t).view.read (Elt Ideal) (result0 m c) := by
  show (cfg0.win 5).cut (grid0.coords t) ((dats m 0 c).after 5 t) = _
  rw [after0_5]
  funext y
  rw [View.read_apply]
  show (outsAt0 m c t.val t.isLt).1 ((cfg0.win 5).xinj (grid0.coords t) y) = _
  have e1 : ((cfg0.win 5).xinj (grid0.coords t) y : S512x3072.Idx) = ix2 (⟨(y 0).val, (y 0).isLt⟩ : Fin 512) (⟨(y 1).val, (y 1).isLt⟩ : Fin 3072) := by
    funext a
    match a with
    | ⟨0, _⟩ => rfl
    | ⟨1, _⟩ => rfl
  rw [e1]
  refine ((point m c t.val t.isLt).2.1 _ _).trans ((result0_apply m c _ _).symm.trans (congrArg _ ?_))
  symm
  refine place_rows t.val (win0_5.index t) (at5 t) _ _ _ (fun a => ?_) _
  match a with
  | ⟨0, _⟩ => rfl
  | ⟨1, _⟩ => rfl

theorem flushed1 (t : Fin cfg0.N) : (dats m 0 c).flushed 6 t = ((cfg0.win 6).blk t).view.read (Elt Ideal) (result1 m c) := by
  show (cfg0.win 6).cut (grid0.coords t) ((dats m 0 c).after 6 t) = _
  rw [after0_6]
  funext y
  rw [View.read_apply]
  show (outsAt0 m c t.val t.isLt).2.1 ((cfg0.win 6).xinj (grid0.coords t) y) = _
  have e1 : ((cfg0.win 6).xinj (grid0.coords t) y : S512x256.Idx) = ix2 (⟨(y 0).val, (y 0).isLt⟩ : Fin 512) (⟨(y 1).val, (y 1).isLt⟩ : Fin 256) := by
    funext a
    match a with
    | ⟨0, _⟩ => rfl
    | ⟨1, _⟩ => rfl
  rw [e1]
  refine ((point m c t.val t.isLt).2.2.1 _ _).trans ((result1_apply m c _ _).symm.trans (congrArg _ ?_))
  symm
  refine place_rows t.val (win0_6.index t) (at6 t) _ _ _ (fun a => ?_) _
  match a with
  | ⟨0, _⟩ => rfl
  | ⟨1, _⟩ => rfl

theorem flushed2 (t : Fin cfg0.N) : (dats m 0 c).flushed 7 t = ((cfg0.win 7).blk t).view.read (Elt Ideal) (result2 m c) := by
  show (cfg0.win 7).cut (grid0.coords t) ((dats m 0 c).after 7 t) = _
  rw [after0_7]
  funext y
  rw [View.read_apply]
  show (outsAt0 m c t.val t.isLt).2.2.1 ((cfg0.win 7).xinj (grid0.coords t) y) = _
  have e1 : ((cfg0.win 7).xinj (grid0.coords t) y : S512x24.Idx) = ix2 (⟨(y 0).val, (y 0).isLt⟩ : Fin 512) (⟨(y 1).val, (y 1).isLt⟩ : Fin 24) := by
    funext a
    match a with
    | ⟨0, _⟩ => rfl
    | ⟨1, _⟩ => rfl
  rw [e1]
  refine ((point m c t.val t.isLt).2.2.2.1 _ _).trans ((result2_apply m c _ _).symm.trans (congrArg _ ?_))
  symm
  refine place_rows t.val (win0_7.index t) (at7 t) _ _ _ (fun a => ?_) _
  match a with
  | ⟨0, _⟩ => rfl
  | ⟨1, _⟩ => rfl

theorem flushed3 (t : Fin cfg0.N) : (dats m 0 c).flushed 8 t = ((cfg0.win 8).blk t).view.read (Elt Ideal) (result3 m c) := by
  show (cfg0.win 8).cut (grid0.coords t) ((dats m 0 c).after 8 t) = _
  rw [after0_8]
  funext y
  rw [View.read_apply]
  show (outsAt0 m c t.val t.isLt).2.2.2.1 ((cfg0.win 8).xinj (grid0.coords t) y) = _
  have e1 : ((cfg0.win 8).xinj (grid0.coords t) y : S24x512.Idx) = ix2 (⟨(y 0).val, (y 0).isLt⟩ : Fin 24) (⟨(y 1).val, (y 1).isLt⟩ : Fin 512) := by
    funext a
    match a with
    | ⟨0, _⟩ => rfl
    | ⟨1, _⟩ => rfl
  rw [e1]
  refine ((point m c t.val t.isLt).2.2.2.2 _ _).trans ((result3_apply m c _ _).symm.trans (congrArg _ ?_))
  funext a
  apply Fin.ext
  match a with
  | ⟨0, _⟩ => show (y 0).val = win0_8.index t 0 * 24 + 1 * (y 0).val; rw [(at8 t).1]; omega
  | ⟨1, _⟩ => show 512 * t.val + (y 1).val = win0_8.index t 1 * 512 + 1 * (y 1).val; rw [(at8 t).2]; omega

/-- Tiles of 512 rows fill an array of 6144 rows. -/
theorem rows_cover {w : ℕ} (off : Fin 2 → ℕ) (x : (Rows 6144 w).Idx) (h : off 0 = (x 0).val / 512 ∧ off 1 = 0) (a : Fin 2) :
    off a * (Rows 512 w).size a ≤ (x a).val ∧ (x a).val < off a * (Rows 512 w).size a + (Rows 512 w).size a := by
  have h1 : (x 1).val < w := (x 1).isLt
  match a with
  | ⟨0, _⟩ => show off 0 * 512 ≤ (x 0).val ∧ (x 0).val < off 0 * 512 + 512; rw [h.1]; omega
  | ⟨1, _⟩ => show off 1 * w ≤ (x 1).val ∧ (x 1).val < off 1 * w + w; rw [h.2]; omega

theorem filled0 : (dats m 0 c).arrAt 5 cfg0.N = result0 m c :=
  (dats m 0 c).arrAt_eq_of_cover 5 _ (fun t _ => flushed0 m c t) fun i => by
    have h0 : (i 0).val < 6144 := (i 0).isLt
    let t : Fin cfg0.N := ⟨(i 0).val / 512, by rw [show cfg0.N = 12 from N_0]; omega⟩
    refine ⟨t, flush0_5 t, ?_⟩
    show i ∈ ((View.whole main_v2_0).slice (win0_5.rect t)).set
    rw [View.set_slice_whole, Rect.mem_set_unit]
    exact rows_cover (win0_5.index t) i (at5 t)

theorem filled1 : (dats m 0 c).arrAt 6 cfg0.N = result1 m c :=
  (dats m 0 c).arrAt_eq_of_cover 6 _ (fun t _ => flushed1 m c t) fun i => by
    have h0 : (i 0).val < 6144 := (i 0).isLt
    let t : Fin cfg0.N := ⟨(i 0).val / 512, by rw [show cfg0.N = 12 from N_0]; omega⟩
    refine ⟨t, flush0_6 t, ?_⟩
    show i ∈ ((View.whole main_v2_1).slice (win0_6.rect t)).set
    rw [View.set_slice_whole, Rect.mem_set_unit]
    exact rows_cover (win0_6.index t) i (at6 t)

theorem filled2 : (dats m 0 c).arrAt 7 cfg0.N = result2 m c :=
  (dats m 0 c).arrAt_eq_of_cover 7 _ (fun t _ => flushed2 m c t) fun i => by
    have h0 : (i 0).val < 6144 := (i 0).isLt
    let t : Fin cfg0.N := ⟨(i 0).val / 512, by rw [show cfg0.N = 12 from N_0]; omega⟩
    refine ⟨t, flush0_7 t, ?_⟩
    show i ∈ ((View.whole main_v2_2).slice (win0_7.rect t)).set
    rw [View.set_slice_whole, Rect.mem_set_unit]
    exact rows_cover (win0_7.index t) i (at7 t)

theorem filled3 : (dats m 0 c).arrAt 8 cfg0.N = result3 m c :=
  (dats m 0 c).arrAt_eq_of_cover 8 _ (fun t _ => flushed3 m c t) fun i => by
    have h0 : (i 0).val < 24 := (i 0).isLt
    have h1 : (i 1).val < 6144 := (i 1).isLt
    let t : Fin cfg0.N := ⟨(i 1).val / 512, by rw [show cfg0.N = 12 from N_0]; omega⟩
    refine ⟨t, flush0_8 t, ?_⟩
    show i ∈ ((View.whole main_v2_3).slice (win0_8.rect t)).set
    rw [View.set_slice_whole, Rect.mem_set_unit]
    intro a
    match a with
    | ⟨0, _⟩ =>
      show win0_8.index t 0 * 24 ≤ (i 0).val ∧ (i 0).val < win0_8.index t 0 * 24 + 24
      rw [(at8 t).1]
      omega
    | ⟨1, _⟩ =>
      show win0_8.index t 1 * 512 ≤ (i 1).val ∧ (i 1).val < win0_8.index t 1 * 512 + 512
      rw [(at8 t).2]
      show (i 1).val / 512 * 512 ≤ (i 1).val ∧ (i 1).val < (i 1).val / 512 * 512 + 512
      omega

/-- The kernel's run ends with the projections in its output arrays and its arguments as they were. -/
theorem run (ρ : Dev nD → PrngReg) : θ_run defs (onTc (τ := τ) (main (F := Ideal))) ⟨m, fun _ => 0, ρ⟩ fun r => ∀ c : Dev nD,
    r.2.mem ((c : Thread nD τ).loc main_v2_0) = result0 m c
    ∧ r.2.mem ((c : Thread nD τ).loc main_v2_1) = result1 m c
    ∧ r.2.mem ((c : Thread nD τ).loc main_v2_2) = result2 m c
    ∧ r.2.mem ((c : Thread nD τ).loc main_v2_3) = result3 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (run_main m ρ)
  exact ⟨((h c).1 5).trans (filled0 m c), ((h c).1 6).trans (filled1 m c), ((h c).1 7).trans (filled2 m c), ((h c).1 8).trans (filled3 m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

end Cert.KernelProjectEvenIdeal.Tile

end
-- ==== Proof.Project.EvenReference.lean ====
/- What the reference of the mixers' input projection of layer 0 computes, row by row. -/
module

public import proofs.«01_k».proof.Proof.Gen.ReferenceProjectEvenIdeal.Read
public import proofs.«01_k».proof.Proof.Tile.Places
public import Idealize.ShloMosaic.Lib.Pointwise

@[expose] public section

set_option maxRecDepth 16384

noncomputable section

namespace Cert.ReferenceProjectEvenIdeal.Rows

open Cert.ReferenceProjectEvenIdeal Cert.ReferenceProjectEvenIdeal.Read Cert.Layer Idealize.ShloMosaic

variable (x0 : (⟨S6144x1024, .f32⟩ : BufTy).Contents (Elt Ideal)) (x1 : (⟨S4x9x3x1x1024, .f32⟩ : BufTy).Contents (Elt Ideal))
  (x2 : (⟨S4x1024, .f32⟩ : BufTy).Contents (Elt Ideal)) (x3 : (⟨S2x1024x3352, .f32⟩ : BufTy).Contents (Elt Ideal))

theorem shift (s : Fin 6144) (d : Fin 1024) : val_main_v11 (F := Ideal) x1 (ix2 s d) = x1 (ix5 0 3 (condOf s) 0 d) := by
  pointwise [val_main_v11, val_main_v10, val_main_v9, val_main_v8, val_main_v7, val_main_v6, val_main_v5, val_main_v4, val_main_v3, val_main_v2]
  split_ifs
  · rw [condOf_eq s 0 (by show _ = 0; omega)]
  · rw [condOf_eq s 1 (by show _ = 1; omega)]
  · rw [condOf_eq s 2 (by show _ = 2; omega)]

theorem scale (s : Fin 6144) (d : Fin 1024) : val_main_v21 (F := Ideal) x1 (ix2 s d) = x1 (ix5 0 4 (condOf s) 0 d) := by
  pointwise [val_main_v21, val_main_v20, val_main_v19, val_main_v18, val_main_v17, val_main_v16, val_main_v15, val_main_v14, val_main_v13, val_main_v12]
  split_ifs
  · rw [condOf_eq s 0 (by show _ = 0; omega)]
  · rw [condOf_eq s 1 (by show _ = 1; omega)]
  · rw [condOf_eq s 2 (by show _ = 2; omega)]

/-- A token's row normalised and modulated. -/
theorem normed (s : Fin 6144) (d : Fin 1024) : val_main_v40 (F := Ideal) x0 x1 x2 (ix2 s d)
    = normRow (fun k => x0 (ix2 s k)) (fun k => x2 (ix2 0 k)) (fun k => x1 (ix5 0 4 (condOf s) 0 k))
        (fun k => x1 (ix5 0 3 (condOf s) 0 k)) d := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst, val_main_cst_0, val_main_cst_1, val_main_cst_2]
  simp only [shift, scale]
  unfold normRow
  simp only [mul_assoc]

/-- Column `d` of a token's projection. -/
theorem row (s : Fin 6144) (d : Fin 3352) : val_main_v41 (F := Ideal) x0 x1 x2 x3 (ix2 s d)
    = ∑ k, normRow (fun k => x0 (ix2 s k)) (fun k => x2 (ix2 0 k)) (fun k => x1 (ix5 0 4 (condOf s) 0 k))
        (fun k => x1 (ix5 0 3 (condOf s) 0 k)) k * x3 (ix3 0 k d) := by
  pointwise [val_main_v41, val_main_v1, val_main_v0]
  simp only [normed]

theorem out42 (s : Fin 6144) (d : Fin 256) : val_main_v42 (F := Ideal) x0 x1 x2 x3 (ix2 s d)
    = val_main_v41 (F := Ideal) x0 x1 x2 x3 (ix2 s ⟨d.val, by omega⟩) := by
  pointwise [val_main_v42]
theorem out43 (s : Fin 6144) (d : Fin 3072) : val_main_v43 (F := Ideal) x0 x1 x2 x3 (ix2 s d)
    = val_main_v41 (F := Ideal) x0 x1 x2 x3 (ix2 s ⟨256 + d.val, by omega⟩) := by
  pointwise [val_main_v43]
theorem out44 (s : Fin 6144) (d : Fin 24) : val_main_v44 (F := Ideal) x0 x1 x2 x3 (ix2 s d)
    = val_main_v41 (F := Ideal) x0 x1 x2 x3 (ix2 s ⟨3328 + d.val, by omega⟩) := by
  pointwise [val_main_v44]
theorem out45 (d : Fin 24) (s : Fin 6144) : val_main_v45 (F := Ideal) x0 x1 x2 x3 (ix2 d s)
    = val_main_v41 (F := Ideal) x0 x1 x2 x3 (ix2 s ⟨3328 + d.val, by omega⟩) := by
  pointwise [val_main_v45, val_main_v44]

end Cert.ReferenceProjectEvenIdeal.Rows

end
-- ==== Proof.Project.OddBlocks.lean ====
/- What the blocks of the mixers' input projection of layer 1 hold at each grid point. -/
module

public import proofs.«01_k».proof.Proof.Gen.KernelProjectOddIdeal.Frame
public import proofs.«01_k».proof.Proof.Tile.Blocks

@[expose] public section

noncomputable section

namespace Cert.KernelProjectOddIdeal.Tile

open Cert.KernelProjectOddIdeal Cert.KernelProjectOddIdeal.Gen Cert.Layer Idealize.ShloMosaic Idealize.ShloMosaic.TcCoe Idealize.SL.Sem

theorem at0 : ∀ t : Fin cfg0.N, win0_0.index t 0 = t.val ∧ win0_0.index t 1 = 0 := by decide +kernel
theorem at1 : ∀ t : Fin cfg0.N, win0_1.index t 0 = 1 ∧ win0_1.index t 1 = 0 ∧ win0_1.index t 2 = 0 := by decide +kernel
theorem at2 : ∀ t : Fin cfg0.N, win0_2.index t 0 = 1 ∧ win0_2.index t 1 = 3 ∧ win0_2.index t 2 = t.val - 3
    ∧ win0_2.index t 3 = 0 ∧ win0_2.index t 4 = 0 := by decide +kernel
theorem at3 : ∀ t : Fin cfg0.N, win0_3.index t 0 = 1 ∧ win0_3.index t 1 = 4 ∧ win0_3.index t 2 = t.val - 3
    ∧ win0_3.index t 3 = 0 ∧ win0_3.index t 4 = 0 := by decide +kernel
theorem at4 : ∀ t : Fin cfg0.N, win0_4.index t 0 = 0 ∧ win0_4.index t 1 = 0 ∧ win0_4.index t 2 = 0 := by decide +kernel
theorem at5 : ∀ t : Fin cfg0.N, win0_5.index t 0 = t.val ∧ win0_5.index t 1 = 0 := by decide +kernel
theorem at6 : ∀ t : Fin cfg0.N, win0_6.index t 0 = t.val ∧ win0_6.index t 1 = 0 := by decide +kernel

/-- Row `r` of the tile met at point `t`, and the tile's conditioning vector. -/
abbrev tokP (t : ℕ) (ht : t < 6) (r : Fin 1024) : Fin 6144 := ⟨1024 * t + r.val, by omega⟩
abbrev condP (t : ℕ) (ht : t < 6) : Fin 3 := ⟨t - 3, by omega⟩

theorem condOf_tokP (t : ℕ) (ht : t < 6) (r : Fin 1024) : condOf (tokP t ht r) = condP t ht :=
  condOf_eq _ _ (by show (1024 * t + r.val) / 1024 - 3 = t - 3; omega)

variable (m : (ℓ : Loc nD τ sig) → Buf (Elt Ideal) ℓ) (c : Dev nD) (t : Fin cfg0.N)

theorem lt6 : t.val < 6 := lt_of_lt_of_eq t.isLt N_0

theorem V_main_v0 : V m c main_v0 = shapeCast S4x1x1024 (m (c.tc.loc main_arg2)) shapeCasts_S4x1024_S4x1x1024 := by
  show StableHlo.after hostOps0 _ (Proc.devRef .tc main_v0) = _
  after_results
  rfl

theorem blk0 (r d : Fin 1024) : (iblk m c 0 t : Vec Ideal S1024x1024 .f32) (ix2 r d) = m (c.tc.loc main_arg0) (ix2 (tokP t.val (lt6 t) r) d) := by
  unfold iblk
  rw [View.read_apply]
  show V m c main_arg0 _ = _
  rw [V_main_arg0]
  exact congrArg _ (place_rows _ (win0_0.index t) (at0 t) _ r d (fun _ => rfl) _)
theorem blk1 (d : Fin 1024) : (iblk m c 1 t : Vec Ideal S1x1x1024 .f32) (ix3 0 0 d) = m (c.tc.loc main_arg2) (ix2 1 d) := by
  unfold iblk
  rw [View.read_apply]
  show V m c main_v0 _ = _
  rw [V_main_v0]
  refine (congrArg _ (place_layer 1 (win0_1.index t) (at1 t) _ 0 d fun _ => rfl)).trans ?_
  pointwise
theorem blk2 (d : Fin 1024) : (iblk m c 2 t : Vec Ideal S1x1x1x1x1024 .f32) (ix5 0 0 0 0 d) = m (c.tc.loc main_arg1) (ix5 1 3 (condP t.val (lt6 t)) 0 d) := by
  unfold iblk
  rw [View.read_apply]
  show V m c main_arg1 _ = _
  rw [V_main_arg1]
  exact congrArg _ (place_mods 1 3 (condP t.val (lt6 t)) (win0_2.index t) (at2 t) _ d fun _ => rfl)
theorem blk3 (d : Fin 1024) : (iblk m c 3 t : Vec Ideal S1x1x1x1x1024 .f32) (ix5 0 0 0 0 d) = m (c.tc.loc main_arg1) (ix5 1 4 (condP t.val (lt6 t)) 0 d) := by
  unfold iblk
  rw [View.read_apply]
  show V m c main_arg1 _ = _
  rw [V_main_arg1]
  exact congrArg _ (place_mods 1 4 (condP t.val (lt6 t)) (win0_3.index t) (at3 t) _ d fun _ => rfl)
theorem blk4 (k : Fin 1024) (d : Fin 1792) : (iblk m c 4 t : Vec Ideal S1x1024x1792 .f32) (ix3 0 k d) = m (c.tc.loc main_arg3) (ix3 0 k d) := by
  unfold iblk
  rw [View.read_apply]
  show V m c main_arg3 _ = _
  rw [V_main_arg3]
  exact congrArg _ (place_layer 0 (win0_4.index t) (at4 t) _ k d fun _ => rfl)

end Cert.KernelProjectOddIdeal.Tile

end
-- ==== Proof.Project.OddKernel.lean ====
/- The mixers' input projection of layer 1: each token's normalised and modulated row times the projection weights, the
   columns written to two arrays. The run ends with these in the output arrays and its arguments unchanged. -/
module

public import proofs.«01_k».proof.Proof.Project.OddBlocks
public import Idealize.ShloMosaic.Lib.Pipeline.ValueKit
public import Idealize.ShloMosaic.Lib.Pipeline.ReadBack

@[expose] public section

set_option maxRecDepth 16384

noncomputable section

namespace Cert.KernelProjectOddIdeal.Tile

open Cert.KernelProjectOddIdeal Cert.KernelProjectOddIdeal.Gen Cert.Layer Idealize.ShloMosaic Idealize.ShloMosaic.TcCoe Idealize.SL.Sem

variable (m : (ℓ : Loc nD τ sig) → Buf (Elt Ideal) ℓ) (c : Dev nD)

/-- Conditioning vector `k` at token `s`, the norm weight and the projection weights. -/
abbrev modRow (k : Fin 9) (s : Fin 6144) : Fin 1024 → EReal := fun d => m (c.tc.loc main_arg1) (ix5 1 k (condOf s) 0 d)
abbrev nW : Fin 1024 → EReal := fun d => m (c.tc.loc main_arg2) (ix2 1 d)
abbrev wIn : Fin 1024 → Fin 1792 → EReal := fun k d => m (c.tc.loc main_arg3) (ix3 0 k d)
/-- Token `s` normalised and modulated, and its projection. -/
def hRow (s : Fin 6144) : Fin 1024 → EReal :=
  normRow (fun d => m (c.tc.loc main_arg0) (ix2 s d)) (nW m c) (modRow m c 4 s) (modRow m c 3 s)
def proj (s : Fin 6144) (d : Fin 1792) : EReal := ∑ k, hRow m c s k * wIn m c k d

/-- The weights as the kernel keeps them between grid points. -/
def kept : Vec Ideal S1024x1792 .bf16 := fun i => wIn m c (i 0) (i 1)

theorem kept_apply (k : Fin 1024) (d : Fin 1792) : kept m c (ix2 k d) = wIn m c k d := rfl

theorem stored (t : Fin cfg0.N) : k0_pay2 (iblk m c 4 t) = kept m c := by
  have key : ∀ (k : Fin 1024) (d : Fin 1792), k0_pay2 (iblk m c 4 t) (ix2 k d) = kept m c (ix2 k d) := fun k d => by
    pointwise [k0_pay2]
    rw [blk4]
    rfl
  exact funext fun i => (congrArg _ (eq_ix2 i)).trans ((key (i 0) (i 1)).trans (congrArg (kept m c) (eq_ix2 i).symm))

theorem normed (t : Fin cfg0.N) (r d : Fin 1024) : k0_pay3 (iblk m c 0 t) (iblk m c 1 t) (iblk m c 3 t) (iblk m c 2 t) (ix2 r d)
    = hRow m c (tokP t.val (lt6 t) r) d := by
  pointwise [k0_pay3]
  simp only [blk0, blk1, blk2, blk3]
  unfold hRow normRow modRow nW
  rw [condOf_tokP]

/-- The two outputs of a point that has the weights at hand. -/
theorem left (t : Fin cfg0.N) (r : Fin 1024) (d : Fin 1536) :
    k0_pay4 (iblk m c 0 t) (iblk m c 1 t) (iblk m c 3 t) (iblk m c 2 t)
      (View.ld (kept m c) (Rect.unit (s := S1024x1792) ![0, 0] S1024x1536.size inb_S1024x1792_S1024x1536_0_0)) (ix2 r d)
      = proj m c (tokP t.val (lt6 t) r) ⟨d.val, by omega⟩ := by
  pointwise [k0_pay4]
  simp only [normed, kept_apply]
  rfl
theorem right (t : Fin cfg0.N) (r : Fin 1024) (d : Fin 256) :
    k0_pay1 (k0_pay3 (iblk m c 0 t) (iblk m c 1 t) (iblk m c 3 t) (iblk m c 2 t))
      (View.ld (kept m c) (Rect.unit (s := S1024x1792) ![0, 1536] S1024x256.size inb_S1024x1792_S1024x256_0_1536)) (ix2 r d)
      = proj m c (tokP t.val (lt6 t) r) ⟨1536 + d.val, by omega⟩ := by
  pointwise [k0_pay1]
  simp only [normed, kept_apply]
  rfl

/-- After each point the kernel still has the weights, and its output blocks hold the tile's projections. -/
theorem point (t : ℕ) (ht : t < cfg0.N) : (outsAt0 m c t ht).2.2 = kept m c
    ∧ (∀ r d, (outsAt0 m c t ht).1 (ix2 r d) = proj m c (tokP t (N_0 ▸ ht) r) ⟨d.val, by omega⟩)
    ∧ ∀ r d, (outsAt0 m c t ht).2.1 (ix2 r d) = proj m c (tokP t (N_0 ▸ ht) r) ⟨1536 + d.val, by omega⟩ := by
  induction t with
  | zero =>
    rw [outsAt0_A m c ⟨0, ht⟩ rfl]
    dsimp only
    frame_out
    rw [stored m c ⟨0, ht⟩]
    exact ⟨rfl, fun r d => (congrArg (fun w => k0_pay4 _ _ _ _ w (ix2 r d)) (View.readCov_fill _ _ _ _ _ (by decide))).trans (left m c ⟨0, ht⟩ r d),
      fun r d => (congrArg (fun w => k0_pay1 _ w (ix2 r d)) (View.readCov_fill _ _ _ _ _ (by decide))).trans (right m c ⟨0, ht⟩ r d)⟩
  | succ n ih =>
    have hn : ¬(n + 1) % 6 = 0 := by have := lt_of_lt_of_eq ht N_0; omega
    have hk : (outsAt0 m c (n + 1 - 1) (by omega)).2.2 = kept m c := (ih (by omega)).1
    rw [outsAt0_B m c ⟨n + 1, ht⟩ hn]
    refine ⟨hk, ?_⟩
    dsimp only
    frame_out
    rw [show View.read (Elt Ideal) (View.whole cc0_scratch0) ((Memref.isWhole_whole cc0_scratch0).unread _) = _ from
      (Memref.isWhole_whole cc0_scratch0).read_unread _, hk]
    exact ⟨left m c ⟨n + 1, ht⟩, right m c ⟨n + 1, ht⟩⟩

/-- The results: the projections' first 1536 columns, and the other 256. -/
def result0 : Buf (Elt Ideal) ((c : Thread nD τ).loc main_v1_0) := fun i : S6144x1536.Idx => proj m c (i 0) ⟨(i 1).val, by have : (i 1).val < 1536 := (i 1).isLt; omega⟩
def result1 : Buf (Elt Ideal) ((c : Thread nD τ).loc main_v1_1) := fun i : S6144x256.Idx => proj m c (i 0) ⟨1536 + (i 1).val, by have : (i 1).val < 256 := (i 1).isLt; omega⟩

theorem result0_apply (s : Fin 6144) (d : Fin 1536) : result0 m c (ix2 s d) = proj m c s ⟨d.val, by omega⟩ := rfl
theorem result1_apply (s : Fin 6144) (d : Fin 256) : result1 m c (ix2 s d) = proj m c s ⟨1536 + d.val, by omega⟩ := rfl

theorem flushed0 (t : Fin cfg0.N) : (dats m 0 c).flushed 5 t = ((cfg0.win 5).blk t).view.read (Elt Ideal) (result0 m c) := by
  show (cfg0.win 5).cut (grid0.coords t) ((dats m 0 c).after 5 t) = _
  rw [after0_5]
  funext y
  rw [View.read_apply]
  show (outsAt0 m c t.val t.isLt).1 ((cfg0.win 5).xinj (grid0.coords t) y) = _
  have e1 : ((cfg0.win 5).xinj (grid0.coords t) y : S1024x1536.Idx) = ix2 (⟨(y 0).val, (y 0).isLt⟩ : Fin 1024) (⟨(y 1).val, (y 1).isLt⟩ : Fin 1536) := by
    funext a
    match a with
    | ⟨0, _⟩ => rfl
    | ⟨1, _⟩ => rfl
  rw [e1]
  refine ((point m c t.val t.isLt).2.1 _ _).trans ((result0_apply m c _ _).symm.trans (congrArg _ ?_))
  symm
  refine place_rows t.val (win0_5.index t) (at5 t) _ _ _ (fun a => ?_) _
  match a with
  | ⟨0, _⟩ => rfl
  | ⟨1, _⟩ => rfl

theorem flushed1 (t : Fin cfg0.N) : (dats m 0 c).flushed 6 t = ((cfg0.win 6).blk t).view.read (Elt Ideal) (result1 m c) := by
  show (cfg0.win 6).cut (grid0.coords t) ((dats m 0 c).after 6 t) = _
  rw [after0_6]
  funext y
  rw [View.read_apply]
  show (outsAt0 m c t.val t.isLt).2.1 ((cfg0.win 6).xinj (grid0.coords t) y) = _
  have e1 : ((cfg0.win 6).xinj (grid0.coords t) y : S1024x256.Idx) = ix2 (⟨(y 0).val, (y 0).isLt⟩ : Fin 1024) (⟨(y 1).val, (y 1).isLt⟩ : Fin 256) := by
    funext a
    match a with
    | ⟨0, _⟩ => rfl
    | ⟨1, _⟩ => rfl
  rw [e1]
  refine ((point m c t.val t.isLt).2.2 _ _).trans ((result1_apply m c _ _).symm.trans (congrArg _ ?_))
  symm
  refine place_rows t.val (win0_6.index t) (at6 t) _ _ _ (fun a => ?_) _
  match a with
  | ⟨0, _⟩ => rfl
  | ⟨1, _⟩ => rfl

/-- Tiles of 1024 rows fill an array of 6144 rows. -/
theorem rows_cover {w : ℕ} (off : Fin 2 → ℕ) (x : (Rows 6144 w).Idx) (h : off 0 = (x 0).val / 1024 ∧ off 1 = 0) (a : Fin 2) :
    off a * (Rows 1024 w).size a ≤ (x a).val ∧ (x a).val < off a * (Rows 1024 w).size a + (Rows 1024 w).size a := by
  have h1 : (x 1).val < w := (x 1).isLt
  match a with
  | ⟨0, _⟩ => show off 0 * 1024 ≤ (x 0).val ∧ (x 0).val < off 0 * 1024 + 1024; rw [h.1]; omega
  | ⟨1, _⟩ => show off 1 * w ≤ (x 1).val ∧ (x 1).val < off 1 * w + w; rw [h.2]; omega

theorem filled0 : (dats m 0 c).arrAt 5 cfg0.N = result0 m c :=
  (dats m 0 c).arrAt_eq_of_cover 5 _ (fun t _ => flushed0 m c t) fun i => by
    have h0 : (i 0).val < 6144 := (i 0).isLt
    let t : Fin cfg0.N := ⟨(i 0).val / 1024, by rw [show cfg0.N = 6 from N_0]; omega⟩
    refine ⟨t, flush0_5 t, ?_⟩
    show i ∈ ((View.whole main_v1_0).slice (win0_5.rect t)).set
    rw [View.set_slice_whole, Rect.mem_set_unit]
    exact rows_cover (win0_5.index t) i (at5 t)

theorem filled1 : (dats m 0 c).arrAt 6 cfg0.N = result1 m c :=
  (dats m 0 c).arrAt_eq_of_cover 6 _ (fun t _ => flushed1 m c t) fun i => by
    have h0 : (i 0).val < 6144 := (i 0).isLt
    let t : Fin cfg0.N := ⟨(i 0).val / 1024, by rw [show cfg0.N = 6 from N_0]; omega⟩
    refine ⟨t, flush0_6 t, ?_⟩
    show i ∈ ((View.whole main_v1_1).slice (win0_6.rect t)).set
    rw [View.set_slice_whole, Rect.mem_set_unit]
    exact rows_cover (win0_6.index t) i (at6 t)

/-- The kernel's run ends with the projections in its output arrays and its arguments as they were. -/
theorem run (ρ : Dev nD → PrngReg) : θ_run defs (onTc (τ := τ) (main (F := Ideal))) ⟨m, fun _ => 0, ρ⟩ fun r => ∀ c : Dev nD,
    r.2.mem ((c : Thread nD τ).loc main_v1_0) = result0 m c
    ∧ r.2.mem ((c : Thread nD τ).loc main_v1_1) = result1 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (run_main m ρ)
  exact ⟨((h c).1 5).trans (filled0 m c), ((h c).1 6).trans (filled1 m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c)))⟩

end Cert.KernelProjectOddIdeal.Tile

end
-- ==== Proof.Project.OddReference.lean ====
/- What the reference of the mixers' input projection of layer 1 computes, row by row. -/
module

public import proofs.«01_k».proof.Proof.Gen.ReferenceProjectOddIdeal.Read
public import proofs.«01_k».proof.Proof.Tile.Places
public import Idealize.ShloMosaic.Lib.Pointwise

@[expose] public section

set_option maxRecDepth 16384

noncomputable section

namespace Cert.ReferenceProjectOddIdeal.Rows

open Cert.ReferenceProjectOddIdeal Cert.ReferenceProjectOddIdeal.Read Cert.Layer Idealize.ShloMosaic

variable (x0 : (⟨S6144x1024, .f32⟩ : BufTy).Contents (Elt Ideal)) (x1 : (⟨S4x9x3x1x1024, .f32⟩ : BufTy).Contents (Elt Ideal))
  (x2 : (⟨S4x1024, .f32⟩ : BufTy).Contents (Elt Ideal)) (x3 : (⟨S2x1024x1792, .f32⟩ : BufTy).Contents (Elt Ideal))

theorem shift (s : Fin 6144) (d : Fin 1024) : val_main_v11 (F := Ideal) x1 (ix2 s d) = x1 (ix5 1 3 (condOf s) 0 d) := by
  pointwise [val_main_v11, val_main_v10, val_main_v9, val_main_v8, val_main_v7, val_main_v6, val_main_v5, val_main_v4, val_main_v3, val_main_v2]
  split_ifs
  · rw [condOf_eq s 0 (by show _ = 0; omega)]
  · rw [condOf_eq s 1 (by show _ = 1; omega)]
  · rw [condOf_eq s 2 (by show _ = 2; omega)]

theorem scale (s : Fin 6144) (d : Fin 1024) : val_main_v21 (F := Ideal) x1 (ix2 s d) = x1 (ix5 1 4 (condOf s) 0 d) := by
  pointwise [val_main_v21, val_main_v20, val_main_v19, val_main_v18, val_main_v17, val_main_v16, val_main_v15, val_main_v14, val_main_v13, val_main_v12]
  split_ifs
  · rw [condOf_eq s 0 (by show _ = 0; omega)]
  · rw [condOf_eq s 1 (by show _ = 1; omega)]
  · rw [condOf_eq s 2 (by show _ = 2; omega)]

/-- A token's row normalised and modulated. -/
theorem normed (s : Fin 6144) (d : Fin 1024) : val_main_v40 (F := Ideal) x0 x1 x2 (ix2 s d)
    = normRow (fun k => x0 (ix2 s k)) (fun k => x2 (ix2 1 k)) (fun k => x1 (ix5 1 4 (condOf s) 0 k))
        (fun k => x1 (ix5 1 3 (condOf s) 0 k)) d := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst, val_main_cst_0, val_main_cst_1, val_main_cst_2]
  simp only [shift, scale]
  unfold normRow
  simp only [mul_assoc]

/-- Column `d` of a token's projection. -/
theorem row (s : Fin 6144) (d : Fin 1792) : val_main_v41 (F := Ideal) x0 x1 x2 x3 (ix2 s d)
    = ∑ k, normRow (fun k => x0 (ix2 s k)) (fun k => x2 (ix2 1 k)) (fun k => x1 (ix5 1 4 (condOf s) 0 k))
        (fun k => x1 (ix5 1 3 (condOf s) 0 k)) k * x3 (ix3 0 k d) := by
  pointwise [val_main_v41, val_main_v1, val_main_v0]
  simp only [normed]

theorem out42 (s : Fin 6144) (d : Fin 1536) : val_main_v42 (F := Ideal) x0 x1 x2 x3 (ix2 s d)
    = val_main_v41 (F := Ideal) x0 x1 x2 x3 (ix2 s ⟨d.val, by omega⟩) := by
  pointwise [val_main_v42]
theorem out43 (s : Fin 6144) (d : Fin 256) : val_main_v43 (F := Ideal) x0 x1 x2 x3 (ix2 s d)
    = val_main_v41 (F := Ideal) x0 x1 x2 x3 (ix2 s ⟨1536 + d.val, by omega⟩) := by
  pointwise [val_main_v43]

end Cert.ReferenceProjectOddIdeal.Rows

end
-- ==== Proof.lean ====
module

public import proofs.«01_k».proof.Defs
public import proofs.«01_k».proof.Proof.Gen.Kernel.Frame
public import proofs.«01_k».proof.Proof.Gen.ReferenceIdeal.Run
public import proofs.«01_k».proof.Proof.Gen.KernelEven.Frame
public import proofs.«01_k».proof.Proof.Gen.KernelEvenIdeal.Frame
public import proofs.«01_k».proof.Proof.Gen.ReferenceEvenIdeal.Run
public import proofs.«01_k».proof.Proof.Gen.ReferenceEvenIdeal.Read
public import proofs.«01_k».proof.Proof.Gen.Pre_finite_even
public import proofs.«01_k».proof.Proof.Gen.KernelOdd.Frame
public import proofs.«01_k».proof.Proof.Gen.KernelOddIdeal.Frame
public import proofs.«01_k».proof.Proof.Gen.ReferenceOddIdeal.Run
public import proofs.«01_k».proof.Proof.Gen.ReferenceOddIdeal.Read
public import proofs.«01_k».proof.Proof.Gen.Pre_finite_odd
public import proofs.«01_k».proof.Proof.Gen.KernelFirst.Frame
public import proofs.«01_k».proof.Proof.Gen.KernelFirstIdeal.Frame
public import proofs.«01_k».proof.Proof.Gen.ReferenceFirstIdeal.Run
public import proofs.«01_k».proof.Proof.Gen.ReferenceFirstIdeal.Read
public import proofs.«01_k».proof.Proof.Gen.Pre_finite_first
public import proofs.«01_k».proof.Proof.Gen.KernelProjectEven.Frame
public import proofs.«01_k».proof.Proof.Gen.KernelProjectEvenIdeal.Frame
public import proofs.«01_k».proof.Proof.Gen.ReferenceProjectEvenIdeal.Run
public import proofs.«01_k».proof.Proof.Gen.ReferenceProjectEvenIdeal.Read
public import proofs.«01_k».proof.Proof.Gen.KernelProjectOdd.Frame
public import proofs.«01_k».proof.Proof.Gen.KernelProjectOddIdeal.Frame
public import proofs.«01_k».proof.Proof.Gen.ReferenceProjectOddIdeal.Run
public import proofs.«01_k».proof.Proof.Gen.ReferenceProjectOddIdeal.Read
public import proofs.«01_k».proof.Proof.Gen.Pre_finite
public import proofs.«01_k».proof.Proof.Ffn.Kernel
public import proofs.«01_k».proof.Proof.Ffn.Reference
public import proofs.«01_k».proof.Proof.Ffn.Pre
public import proofs.«01_k».proof.Proof.Even.Kernel
public import proofs.«01_k».proof.Proof.Even.Reference
public import proofs.«01_k».proof.Proof.Even.Pre
public import proofs.«01_k».proof.Proof.Odd.Kernel
public import proofs.«01_k».proof.Proof.Odd.Reference
public import proofs.«01_k».proof.Proof.Odd.Pre
public import proofs.«01_k».proof.Proof.FinalBits.Frame
public import proofs.«01_k».proof.Proof.Final.Kernel
public import proofs.«01_k».proof.Proof.Final.Reference
public import proofs.«01_k».proof.Proof.Final.Pre
public import proofs.«01_k».proof.Proof.First.Kernel
public import proofs.«01_k».proof.Proof.First.Reference
public import proofs.«01_k».proof.Proof.First.Pre
public import proofs.«01_k».proof.Proof.Project.EvenKernel
public import proofs.«01_k».proof.Proof.Project.EvenReference
public import proofs.«01_k».proof.Proof.Project.OddKernel
public import proofs.«01_k».proof.Proof.Project.OddReference
public import Idealize.ShloMosaic.Adequacy
public import Idealize.ShloMosaic.Init
public import Idealize.ShloMosaic.Lib.Quiescent
public import proofs.«01_k».proof.Proof.Gen.KernelFinal.Frame
public import proofs.«01_k».proof.Proof.Gen.KernelFinal.Skeleton
public import proofs.«01_k».proof.Proof.Gen.ReferenceFinalIdeal.Run
public import proofs.«01_k».proof.Proof.Gen.KernelFinalIdeal
public import proofs.«01_k».proof.Proof.Gen.KernelFinalIdeal.Skeleton
public import proofs.«01_k».proof.Proof.Gen.KernelFinalIdeal.Frame
public import proofs.«01_k».proof.Proof.Gen.ReferenceFinalIdeal.Read
public import proofs.«01_k».proof.Proof.Gen.Pre_finite_final

@[expose] public section

noncomputable section

namespace Cert.Proof

open Idealize.ShloMosaic Idealize.SL.Sem Cert.Layer

/-- The reference runs, ends with its counters at zero and its arguments unchanged. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem reference_even_frame : quiescent_ReferenceEvenIdeal := fun m ρ _ =>
  (θ_run Cert.ReferenceEvenIdeal.defs _ _).mono (fun r h => ⟨fun c => (h c).2, sem_eq_zero_of_no_sems (by decide) r.2⟩)
    (Cert.ReferenceEvenIdeal.Value.run (F := Ideal) m ρ)
theorem reference_odd_frame : quiescent_ReferenceOddIdeal := fun m ρ _ =>
  (θ_run Cert.ReferenceOddIdeal.defs _ _).mono (fun r h => ⟨fun c => (h c).2, sem_eq_zero_of_no_sems (by decide) r.2⟩)
    (Cert.ReferenceOddIdeal.Value.run (F := Ideal) m ρ)
theorem reference_final_frame : quiescent_ReferenceFinalIdeal := fun m ρ _ =>
  (θ_run Cert.ReferenceFinalIdeal.defs _ _).mono (fun r h => ⟨fun c => (h c).2.2, sem_eq_zero_of_no_sems (by decide) r.2⟩)
    (Cert.ReferenceFinalIdeal.Value.run (F := Ideal) m ρ)
theorem reference_first_frame : quiescent_ReferenceFirstIdeal := fun m ρ _ =>
  (θ_run Cert.ReferenceFirstIdeal.defs _ _).mono (fun r h => ⟨fun c => (h c).2, sem_eq_zero_of_no_sems (by decide) r.2⟩)
    (Cert.ReferenceFirstIdeal.Value.run (F := Ideal) m ρ)
theorem reference_project_even_frame : quiescent_ReferenceProjectEvenIdeal := fun m ρ _ =>
  (θ_run Cert.ReferenceProjectEvenIdeal.defs _ _).mono (fun r h => ⟨fun c => (h c).2.2.2.2, sem_eq_zero_of_no_sems (by decide) r.2⟩)
    (Cert.ReferenceProjectEvenIdeal.Value.run (F := Ideal) m ρ)
theorem reference_project_odd_frame : quiescent_ReferenceProjectOddIdeal := fun m ρ _ =>
  (θ_run Cert.ReferenceProjectOddIdeal.defs _ _).mono (fun r h => ⟨fun c => (h c).2.2, sem_eq_zero_of_no_sems (by decide) r.2⟩)
    (Cert.ReferenceProjectOddIdeal.Value.run (F := Ideal) m ρ)

/-- On finite tokens, conditioning vectors, norm weights and gate weights the kernel's result is the reference's. -/
theorem ffn_algebraic : algebraic_KernelIdeal_ReferenceIdeal_pre_finite := by
  intro m ρ m' ρ' hpre hagree
  refine ⟨_, Cert.KernelIdeal.Ffn.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v63_eq]
  obtain ⟨e0, e1, e2, e3, e4, e5⟩ := hagree c
  rw [e0, e1, e2, e3, e4, e5]
  obtain ⟨f0, f1, f2, f3⟩ := Cert.Pre_finite.finite_of_fn _ _ _ _ _ _ (hpre c)
  funext i
  refine (congrArg _ (eq_ix2 i)).trans ((Cert.ReferenceIdeal.Ffn.row _ _ _ _ _ _ (i 0) (i 1)).trans ?_)
  exact (ffnRow_eq (fun k => f0 (i 0) k) (fun k => f2 1 k) (fun k => f1 _) (fun k => f1 _) (fun k f => f3 1 k f) (i 1)).symm

/-- The second half feed-forward call of layer 1. -/
theorem odd_algebraic : algebraic_KernelOddIdeal_ReferenceOddIdeal_pre_finite_odd := by
  intro m ρ m' ρ' hpre hagree
  refine ⟨_, Cert.KernelOddIdeal.Tile.run m ρ, ?_⟩
  refine (θ_run Cert.ReferenceOddIdeal.defs _ _).mono (fun _ h c => ⟨?_, (h c).2⟩) (Cert.ReferenceOddIdeal.Value.run (F := Ideal) m' ρ')
  rw [(h c).1, Cert.ReferenceOddIdeal.Read.val_main_v79_eq]
  obtain ⟨e0, e1, e2, e3, e4, e5, e6, e7⟩ := hagree c
  rw [e0, e1, e2, e3, e4, e5, e6, e7]
  obtain ⟨f0, f1, f2, f3, f4, f5⟩ := Cert.Pre_finite_odd.finite_of_fn _ _ _ _ _ _ _ _ (hpre c)
  funext i
  refine (congrArg _ (eq_ix2 i)).trans ((Cert.ReferenceOddIdeal.Rows.row _ _ _ _ _ _ _ _ (i 0) (i 1)).trans ?_)
  exact (ffnRow_eq (isReal_mixRow (fun k => f0 (i 0) k) (fun _ => f2 _) (fun k => f1 (i 0) k) fun k d => f3 0 k d)
    (fun k => f4 1 k) (fun k => f2 _) (fun k => f2 _) (fun k f => f5 1 k f) (i 1)).symm

/-- The final call: the second half feed-forward layer of layer 3, then the last norm. -/
theorem final_algebraic : algebraic_KernelFinalIdeal_ReferenceFinalIdeal_pre_finite_final := by
  intro m ρ m' ρ' hpre hagree
  refine ⟨_, _, Cert.KernelFinalIdeal.Tile.run m ρ, ?_⟩
  refine (θ_run Cert.ReferenceFinalIdeal.defs _ _).mono (fun _ h c => ⟨?_, ?_, (h c).2.2⟩)
    (Cert.ReferenceFinalIdeal.Value.run (F := Ideal) m' ρ')
  all_goals
    obtain ⟨e0, e1, e2, e3, e4, e5, e6, e7, e8⟩ := hagree c
    obtain ⟨f0, f1, f2, f3, f4, f5⟩ := Cert.Pre_finite_final.finite_of_fn _ _ _ _ _ _ _ _ _ (hpre c)
  · rw [(h c).1, Cert.ReferenceFinalIdeal.Read.val_main_v93_eq, e0, e1, e2, e3, e4, e5, e6, e7, e8]
    funext i
    exact (congrArg _ (eq_ix2 i)).trans ((Cert.ReferenceFinalIdeal.Rows.context _ _ _ _ _ _ _ _ _ (i 0) (i 1)).trans
      (Cert.ReferenceFinalIdeal.Rows.last_row _ _ _ _ _ _ _ _ _ f0 f1 f2 f3 f4 f5 _ (i 1)))
  · rw [(h c).2.1, Cert.ReferenceFinalIdeal.Read.val_main_v94_eq, e0, e1, e2, e3, e4, e5, e6, e7, e8]
    funext i
    exact (congrArg _ (eq_ix2 i)).trans ((Cert.ReferenceFinalIdeal.Rows.latent _ _ _ _ _ _ _ _ _ (i 0) (i 1)).trans
      (Cert.ReferenceFinalIdeal.Rows.last_row _ _ _ _ _ _ _ _ _ f0 f1 f2 f3 f4 f5 _ (i 1)))

/-- The second half feed-forward call of layers 0 and 2. -/
theorem even_algebraic : algebraic_KernelEvenIdeal_ReferenceEvenIdeal_pre_finite_even := by
  intro m ρ m' ρ' hpre hagree
  refine ⟨_, Cert.KernelEvenIdeal.Tile.run m ρ, ?_⟩
  refine (θ_run Cert.ReferenceEvenIdeal.defs _ _).mono (fun _ h c => ⟨?_, (h c).2⟩) (Cert.ReferenceEvenIdeal.Value.run (F := Ideal) m' ρ')
  rw [(h c).1, Cert.ReferenceEvenIdeal.Read.val_main_v83_eq]
  obtain ⟨e0, e1, e2, e3, e4, e5, e6, e7, e8, e9⟩ := hagree c
  rw [e0, e1, e2, e3, e4, e5, e6, e7, e8, e9]
  obtain ⟨f0, f1, f2, f3, f4, f5, f6, f7⟩ := Cert.Pre_finite_even.finite_of_fn _ _ _ _ _ _ _ _ _ _ (hpre c)
  funext i
  refine (congrArg _ (eq_ix2 i)).trans ((Cert.ReferenceEvenIdeal.Rows.row _ _ _ _ _ _ _ _ _ _ (i 0) (i 1)).trans ?_)
  exact (ffnRow_eq (isReal_mixTwo (fun k => f0 (i 0) k) (fun _ => f4 _) (fun k => f1 (i 0) k)
      (fun k => isReal_pickRow f2 f3 (i 0) k) fun k d => f5 0 k d)
    (fun k => f6 0 k) (fun k => f4 _) (fun k => f4 _) (fun k f => f7 0 k f) (i 1)).symm

/-- The first half feed-forward call of layer 0, which takes the tokens in. -/
theorem first_algebraic : algebraic_KernelFirstIdeal_ReferenceFirstIdeal_pre_finite_first := by
  intro m ρ m' ρ' hpre hagree
  refine ⟨_, Cert.KernelFirstIdeal.Tile.run m ρ, ?_⟩
  refine (θ_run Cert.ReferenceFirstIdeal.defs _ _).mono (fun _ h c => ⟨?_, (h c).2⟩) (Cert.ReferenceFirstIdeal.Value.run (F := Ideal) m' ρ')
  rw [(h c).1, Cert.ReferenceFirstIdeal.Read.val_main_v68_eq]
  obtain ⟨e0, e1, e2, e3, e4, e5, e6, e7⟩ := hagree c
  rw [e0, e1, e2, e3, e4, e5, e6, e7]
  obtain ⟨f0, f1, f2, f3, f4, f5⟩ := Cert.Pre_finite_first.finite_of_fn _ _ _ _ _ _ _ _ (hpre c)
  funext i
  refine (congrArg _ (eq_ix2 i)).trans ((Cert.ReferenceFirstIdeal.Rows.row _ _ _ _ _ _ _ _ (i 0) (i 1)).trans ?_)
  exact (ffnRow_eq (isReal_enterRow f0 f1 f2 (i 0)) (fun k => f4 0 k) (fun k => f3 _) (fun k => f3 _)
    (fun k f => f5 0 k f) (i 1)).symm

/-- The mixers' input projection of layers 1 and 3. -/
theorem project_odd_algebraic : algebraic_KernelProjectOddIdeal_ReferenceProjectOddIdeal := by
  intro m ρ m' ρ' _ hagree
  refine ⟨_, _, Cert.KernelProjectOddIdeal.Tile.run m ρ, ?_⟩
  refine (θ_run Cert.ReferenceProjectOddIdeal.defs _ _).mono (fun _ h c => ⟨?_, ?_, (h c).2.2⟩)
    (Cert.ReferenceProjectOddIdeal.Value.run (F := Ideal) m' ρ')
  all_goals obtain ⟨e0, e1, e2, e3⟩ := hagree c
  · rw [(h c).1, Cert.ReferenceProjectOddIdeal.Read.val_main_v42_eq, e0, e1, e2, e3]
    funext i
    exact (congrArg _ (eq_ix2 i)).trans ((Cert.ReferenceProjectOddIdeal.Rows.out42 _ _ _ _ (i 0) (i 1)).trans
      (Cert.ReferenceProjectOddIdeal.Rows.row _ _ _ _ (i 0) _))
  · rw [(h c).2.1, Cert.ReferenceProjectOddIdeal.Read.val_main_v43_eq, e0, e1, e2, e3]
    funext i
    exact (congrArg _ (eq_ix2 i)).trans ((Cert.ReferenceProjectOddIdeal.Rows.out43 _ _ _ _ (i 0) (i 1)).trans
      (Cert.ReferenceProjectOddIdeal.Rows.row _ _ _ _ (i 0) _))

/-- The mixers' input projection of layers 0 and 2. -/
theorem project_even_algebraic : algebraic_KernelProjectEvenIdeal_ReferenceProjectEvenIdeal := by
  intro m ρ m' ρ' _ hagree
  refine ⟨_, _, _, _, Cert.KernelProjectEvenIdeal.Tile.run m ρ, ?_⟩
  refine (θ_run Cert.ReferenceProjectEvenIdeal.defs _ _).mono (fun _ h c => ⟨?_, ?_, ?_, ?_, (h c).2.2.2.2⟩)
    (Cert.ReferenceProjectEvenIdeal.Value.run (F := Ideal) m' ρ')
  all_goals obtain ⟨e0, e1, e2, e3⟩ := hagree c
  · rw [(h c).1, Cert.ReferenceProjectEvenIdeal.Read.val_main_v43_eq, e0, e1, e2, e3]
    funext i
    exact (congrArg _ (eq_ix2 i)).trans ((Cert.ReferenceProjectEvenIdeal.Rows.out43 _ _ _ _ (i 0) (i 1)).trans
      (Cert.ReferenceProjectEvenIdeal.Rows.row _ _ _ _ (i 0) _))
  · rw [(h c).2.1, Cert.ReferenceProjectEvenIdeal.Read.val_main_v42_eq, e0, e1, e2, e3]
    funext i
    exact (congrArg _ (eq_ix2 i)).trans ((Cert.ReferenceProjectEvenIdeal.Rows.out42 _ _ _ _ (i 0) (i 1)).trans
      (Cert.ReferenceProjectEvenIdeal.Rows.row _ _ _ _ (i 0) _))
  · rw [(h c).2.2.1, Cert.ReferenceProjectEvenIdeal.Read.val_main_v44_eq, e0, e1, e2, e3]
    funext i
    exact (congrArg _ (eq_ix2 i)).trans ((Cert.ReferenceProjectEvenIdeal.Rows.out44 _ _ _ _ (i 0) (i 1)).trans
      (Cert.ReferenceProjectEvenIdeal.Rows.row _ _ _ _ (i 0) _))
  · rw [(h c).2.2.2.1, Cert.ReferenceProjectEvenIdeal.Read.val_main_v45_eq, e0, e1, e2, e3]
    funext i
    exact (congrArg _ (eq_ix2 i)).trans ((Cert.ReferenceProjectEvenIdeal.Rows.out45 _ _ _ _ (i 0) (i 1)).trans
      (Cert.ReferenceProjectEvenIdeal.Rows.row _ _ _ _ (i 1) _))

theorem claim : Cert.Claim := ⟨Cert.Kernel.Gen.facts, Cert.KernelIdeal.Gen.facts, Cert.ReferenceIdeal.Gen.facts, Cert.KernelEven.Gen.facts, Cert.KernelEvenIdeal.Gen.facts, Cert.ReferenceEvenIdeal.Gen.facts, Cert.KernelOdd.Gen.facts, Cert.KernelOddIdeal.Gen.facts, Cert.ReferenceOddIdeal.Gen.facts, Cert.KernelFinal.Gen.facts, Cert.KernelFinalIdeal.Gen.facts, Cert.ReferenceFinalIdeal.Gen.facts, Cert.KernelFirst.Gen.facts, Cert.KernelFirstIdeal.Gen.facts, Cert.ReferenceFirstIdeal.Gen.facts, Cert.KernelProjectEven.Gen.facts, Cert.KernelProjectEvenIdeal.Gen.facts, Cert.ReferenceProjectEvenIdeal.Gen.facts, Cert.KernelProjectOdd.Gen.facts, Cert.KernelProjectOddIdeal.Gen.facts, Cert.ReferenceProjectOddIdeal.Gen.facts, Cert.Pre_finite.facts, Cert.Pre_finite_even.Gen.facts, Cert.Pre_finite_odd.Gen.facts, Cert.Pre_finite_final.Gen.facts, Cert.Pre_finite_first.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.KernelEven.Gen.frame m ρ,
  fun m ρ _ => Cert.KernelEvenIdeal.Gen.frame m ρ,
  fun m ρ _ => Cert.KernelEvenIdeal.Gen.frame m ρ,
  reference_even_frame,
  fun m ρ _ => reference_even_frame m ρ trivial,
  fun m ρ _ => Cert.KernelOdd.Gen.frame m ρ,
  fun m ρ _ => Cert.KernelOddIdeal.Gen.frame m ρ,
  fun m ρ _ => Cert.KernelOddIdeal.Gen.frame m ρ,
  reference_odd_frame,
  fun m ρ _ => reference_odd_frame m ρ trivial,
  fun m ρ _ => Cert.KernelFinal.Tile.frame m ρ,
  fun m ρ _ => Cert.KernelFinalIdeal.Tile.frame m ρ,
  fun m ρ _ => Cert.KernelFinalIdeal.Tile.frame m ρ,
  reference_final_frame,
  fun m ρ _ => reference_final_frame m ρ trivial,
  fun m ρ _ => Cert.KernelFirst.Gen.frame m ρ,
  fun m ρ _ => Cert.KernelFirstIdeal.Gen.frame m ρ,
  fun m ρ _ => Cert.KernelFirstIdeal.Gen.frame m ρ,
  reference_first_frame,
  fun m ρ _ => reference_first_frame m ρ trivial,
  fun m ρ _ => Cert.KernelProjectEven.Gen.frame m ρ,
  fun m ρ _ => Cert.KernelProjectEvenIdeal.Gen.frame m ρ,
  reference_project_even_frame,
  fun m ρ _ => Cert.KernelProjectOdd.Gen.frame m ρ,
  fun m ρ _ => Cert.KernelProjectOddIdeal.Gen.frame m ρ,
  reference_project_odd_frame,
  (trivial : preserves_Kernel_KernelIdeal),
  ffn_algebraic,
  (trivial : preserves_KernelEven_KernelEvenIdeal),
  even_algebraic,
  (trivial : preserves_KernelOdd_KernelOddIdeal),
  odd_algebraic,
  (trivial : preserves_KernelFinal_KernelFinalIdeal),
  final_algebraic,
  (trivial : preserves_KernelFirst_KernelFirstIdeal),
  first_algebraic,
  (trivial : preserves_KernelProjectEven_KernelProjectEvenIdeal),
  project_even_algebraic,
  (trivial : preserves_KernelProjectOdd_KernelProjectOddIdeal),
  project_odd_algebraic⟩

end Cert.Proof

end
